-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.PackStatement Cert.KernelIdeal.S32x1792
  ∧ IdealRules.bf16_pair.Statement Cert.KernelIdeal.S64x1792 Cert.KernelIdeal.S32x1792

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x1536x3072 : Shape := ⟨3, ![8, 1536, 3072]⟩
abbrev S8x1536x2 : Shape := ⟨3, ![8, 1536, 2]⟩
abbrev S4x1792x3072 : Shape := ⟨3, ![4, 1792, 3072]⟩
abbrev S4x3584x96 : Shape := ⟨3, ![4, 3584, 96]⟩
abbrev S4x3584 : Shape := ⟨2, ![4, 3584]⟩
abbrev S4x1536x1792 : Shape := ⟨3, ![4, 1536, 1792]⟩
abbrev S4x3072x56 : Shape := ⟨3, ![4, 3072, 56]⟩
abbrev S4x3072 : Shape := ⟨2, ![4, 3072]⟩
abbrev S_ : Shape := ⟨0, ![]⟩

class Facts : Prop where
  bcast_S_S8x1536x2 : S_.BroadcastsInDim S8x1536x2 (![] : Fin 0 → Fin S8x1536x2.rank)
  reducesTo_S8x1536x2_S_d0_1_2 : S8x1536x2.ReducesTo [0, 1, 2] S_
  h_S_ : 0 < S_.numel
  bcast_S_S4x3584x96 : S_.BroadcastsInDim S4x3584x96 (![] : Fin 0 → Fin S4x3584x96.rank)
  reducesTo_S4x3584x96_S_d0_1_2 : S4x3584x96.ReducesTo [0, 1, 2] S_
  bcast_S_S4x3072x56 : S_.BroadcastsInDim S4x3072x56 (![] : Fin 0 → Fin S4x3072x56.rank)
  reducesTo_S4x3072x56_S_d0_1_2 : S4x3072x56.ReducesTo [0, 1, 2] S_

variable [Facts]

def fn_part1 {F : FTy → Type} [FloatOps F] (main_arg7 : IVec S4x3072x56 8) (main_v12 : IVec S_ 1) (main_v14 : IVec S4x3072x56 1) (main_v15 : IVec S4x3072x56 8) : IVec S_ 1 :=
  let main_v16 : IVec S4x3072x56 1 := cmpi .ule main_arg7 main_v15
  let main_v17 : IVec S4x3072x56 1 := andi main_v14 main_v16
  let main_c_7 : IVec S_ 1 := constantI S_ 1 1#1
  let main_v18 : IVec S_ 1 := (fun x v => Host.reduce IntOp.andi x v reducesTo_S4x3072x56_S_d0_1_2 h_S_) main_v17 main_c_7
  let main_v19 : IVec S_ 1 := andi main_v12 main_v18
  main_v19

def fn {F : FTy → Type} [FloatOps F] (main_arg0 : FVec F S8x1536x3072 .bf16) (main_arg1 : IVec S8x1536x2 32) (main_arg2 : FVec F S8x1536x2 .f32) (main_arg3 : IVec S4x1792x3072 8) (main_arg4 : IVec S4x3584x96 8) (main_arg5 : FVec F S4x3584 .bf16) (main_arg6 : IVec S4x1536x1792 8) (main_arg7 : IVec S4x3072x56 8) (main_arg8 : FVec F S4x3072 .bf16) : IVec S_ 1 :=
  let main_c : IVec S_ 32 := constantI S_ 32 0#32
  let main_v0 : IVec S8x1536x2 32 := broadcastInDim S8x1536x2 ![] bcast_S_S8x1536x2 main_c
  let main_v1 : IVec S8x1536x2 1 := cmpi .sge main_arg1 main_v0
  let main_c_0 : IVec S_ 32 := constantI S_ 32 4#32
  let main_v2 : IVec S8x1536x2 32 := broadcastInDim S8x1536x2 ![] bcast_S_S8x1536x2 main_c_0
  let main_v3 : IVec S8x1536x2 1 := cmpi .slt main_arg1 main_v2
  let main_v4 : IVec S8x1536x2 1 := andi main_v1 main_v3
  let main_c_1 : IVec S_ 1 := constantI S_ 1 1#1
  let main_v5 : IVec S_ 1 := (fun x v => Host.reduce IntOp.andi x v reducesTo_S8x1536x2_S_d0_1_2 h_S_) main_v4 main_c_1
  let main_c_2 : IVec S_ 8 := constantI S_ 8 1#8
  let main_v6 : IVec S4x3584x96 8 := broadcastInDim S4x3584x96 ![] bcast_S_S4x3584x96 main_c_2
  let main_v7 : IVec S4x3584x96 1 := cmpi .uge main_arg4 main_v6
  let main_c_3 : IVec S_ 8 := constantI S_ 8 254#8
  let main_v8 : IVec S4x3584x96 8 := broadcastInDim S4x3584x96 ![] bcast_S_S4x3584x96 main_c_3
  let main_v9 : IVec S4x3584x96 1 := cmpi .ule main_arg4 main_v8
  let main_v10 : IVec S4x3584x96 1 := andi main_v7 main_v9
  let main_c_4 : IVec S_ 1 := constantI S_ 1 1#1
  let main_v11 : IVec S_ 1 := (fun x v => Host.reduce IntOp.andi x v reducesTo_S4x3584x96_S_d0_1_2 h_S_) main_v10 main_c_4
  let main_v12 : IVec S_ 1 := andi main_v5 main_v11
  let main_c_5 : IVec S_ 8 := constantI S_ 8 1#8
  let main_v13 : IVec S4x3072x56 8 := broadcastInDim S4x3072x56 ![] bcast_S_S4x3072x56 main_c_5
  let main_v14 : IVec S4x3072x56 1 := cmpi .uge main_arg7 main_v13
  let main_c_6 : IVec S_ 8 := constantI S_ 8 254#8
  let main_v15 : IVec S4x3072x56 8 := broadcastInDim S4x3072x56 ![] bcast_S_S4x3072x56 main_c_6
  fn_part1 (F := F) main_arg7 main_v12 main_v14 main_v15
-- ==== Kernel.lean ====
abbrev S8x1536x3072 : Shape := ⟨3, ![8, 1536, 3072]⟩
abbrev S8x1536x2 : Shape := ⟨3, ![8, 1536, 2]⟩
abbrev S4x1792x3072 : Shape := ⟨3, ![4, 1792, 3072]⟩
abbrev S4x3584x96 : Shape := ⟨3, ![4, 3584, 96]⟩
abbrev S4x3584 : Shape := ⟨2, ![4, 3584]⟩
abbrev S4x1536x1792 : Shape := ⟨3, ![4, 1536, 1792]⟩
abbrev S4x3072x56 : Shape := ⟨3, ![4, 3072, 56]⟩
abbrev S4x3072 : Shape := ⟨2, ![4, 3072]⟩
abbrev S24576 : Shape := ⟨1, ![24576]⟩
abbrev S24576x1 : Shape := ⟨2, ![24576, 1]⟩
abbrev S4 : Shape := ⟨1, ![4]⟩
abbrev S1x4 : Shape := ⟨2, ![1, 4]⟩
abbrev S24576x4 : Shape := ⟨2, ![24576, 4]⟩
abbrev S_ : Shape := ⟨0, ![]⟩
abbrev S25600 : Shape := ⟨1, ![25600]⟩
abbrev S100 : Shape := ⟨1, ![100]⟩
abbrev S100x1 : Shape := ⟨2, ![100, 1]⟩
abbrev S100x4 : Shape := ⟨2, ![100, 4]⟩
abbrev S1 : Shape := ⟨1, ![1]⟩
abbrev S99 : Shape := ⟨1, ![99]⟩
abbrev S12288x3072 : Shape := ⟨2, ![12288, 3072]⟩
abbrev S25600x1 : Shape := ⟨2, ![25600, 1]⟩
abbrev S25600x3072 : Shape := ⟨2, ![25600, 3072]⟩
abbrev S4x1792x2x96 : Shape := ⟨4, ![4, 1792, 2, 96]⟩
abbrev S4x1792x2x128 : Shape := ⟨4, ![4, 1792, 2, 128]⟩
abbrev S4x1792x1x128 : Shape := ⟨4, ![4, 1792, 1, 128]⟩
abbrev S4x1792x128 : Shape := ⟨3, ![4, 1792, 128]⟩
abbrev S4x3072x128 : Shape := ⟨3, ![4, 3072, 128]⟩
abbrev S4x1792x2 : Shape := ⟨3, ![4, 1792, 2]⟩
abbrev S4x1792x1 : Shape := ⟨3, ![4, 1792, 1]⟩
abbrev S4x1792 : Shape := ⟨2, ![4, 1792]⟩
abbrev S4x1x1792 : Shape := ⟨3, ![4, 1, 1792]⟩
abbrev S4x1x3072 : Shape := ⟨3, ![4, 1, 3072]⟩
abbrev S256x3072 : Shape := ⟨2, ![256, 3072]⟩
abbrev S1x1792x128 : Shape := ⟨3, ![1, 1792, 128]⟩
abbrev S1x3072x128 : Shape := ⟨3, ![1, 3072, 128]⟩
abbrev S1x1x1792 : Shape := ⟨3, ![1, 1, 1792]⟩
abbrev S1x1x3072 : Shape := ⟨3, ![1, 1, 3072]⟩
abbrev S1792x3072 : Shape := ⟨2, ![1792, 3072]⟩
abbrev S3072x1792 : Shape := ⟨2, ![3072, 1792]⟩
abbrev S1536x1792 : Shape := ⟨2, ![1536, 1792]⟩
abbrev S256x1792 : Shape := ⟨2, ![256, 1792]⟩
abbrev S2 : Shape := ⟨1, ![2]⟩
abbrev S1x1792x3072 : Shape := ⟨3, ![1, 1792, 3072]⟩
abbrev S1x1536x1792 : Shape := ⟨3, ![1, 1536, 1792]⟩
abbrev S32x3072 : Shape := ⟨2, ![32, 3072]⟩
abbrev S8x3072 : Shape := ⟨2, ![8, 3072]⟩
abbrev S1x32x128 : Shape := ⟨3, ![1, 32, 128]⟩
abbrev S32x128 : Shape := ⟨2, ![32, 128]⟩
abbrev S32x128x1 : Shape := ⟨3, ![32, 128, 1]⟩
abbrev S32x1792 : Shape := ⟨2, ![32, 1792]⟩
abbrev S8x1792 : Shape := ⟨2, ![8, 1792]⟩
abbrev S64x1792 : Shape := ⟨2, ![64, 1792]⟩
abbrev S1x64x128 : Shape := ⟨3, ![1, 64, 128]⟩
abbrev S64x128 : Shape := ⟨2, ![64, 128]⟩
abbrev S64x128x1 : Shape := ⟨3, ![64, 128, 1]⟩
abbrev S256x256 : Shape := ⟨2, ![256, 256]⟩
abbrev S1x1x256 : Shape := ⟨3, ![1, 1, 256]⟩
abbrev S1x256 : Shape := ⟨2, ![1, 256]⟩
abbrev S512x1792 : Shape := ⟨2, ![512, 1792]⟩
abbrev S256x512 : Shape := ⟨2, ![256, 512]⟩
abbrev S1x1x512 : Shape := ⟨3, ![1, 1, 512]⟩
abbrev S1x512 : Shape := ⟨2, ![1, 512]⟩
abbrev S24576x3072 : Shape := ⟨2, ![24576, 3072]⟩
abbrev S12288x2x3072 : Shape := ⟨3, ![12288, 2, 3072]⟩
abbrev S12288x2 : Shape := ⟨2, ![12288, 2]⟩
abbrev S12288x1x3072 : Shape := ⟨3, ![12288, 1, 3072]⟩
abbrev S12288x1 : Shape := ⟨2, ![12288, 1]⟩

abbrev nBuf : Space → Nat
  | .hbm => 166
  | .vmem => 22
  | .smem => 2
  | _ => 0

abbrev hbmTy0_0 (i : Nat) : BufTy := match i % 128 with
  | 0 => ⟨S8x1536x3072, .bf16⟩
  | 1 => ⟨S8x1536x2, .i32⟩
  | 2 => ⟨S8x1536x2, .f32⟩
  | 3 => ⟨S4x1792x3072, .i8⟩
  | 4 => ⟨S4x3584x96, .i8⟩
  | 5 => ⟨S4x3584, .bf16⟩
  | 6 => ⟨S4x1536x1792, .i8⟩
  | 7 => ⟨S4x3072x56, .i8⟩
  | 8 => ⟨S4x3072, .bf16⟩
  | 9 => ⟨S24576, .i32⟩
  | 10 => ⟨S24576x1, .i32⟩
  | 11 => ⟨S4, .i32⟩
  | 12 => ⟨S1x4, .i32⟩
  | 13 => ⟨S24576x4, .i32⟩
  | 14 => ⟨S24576x4, .i32⟩
  | 15 => ⟨S24576x4, .i1⟩
  | 16 => ⟨S24576x4, .i32⟩
  | 17 => ⟨S_, .i32⟩
  | 18 => ⟨S4, .i32⟩
  | 19 => ⟨S_, .i32⟩
  | 20 => ⟨S4, .i32⟩
  | 21 => ⟨S4, .i32⟩
  | 22 => ⟨S_, .i32⟩
  | 23 => ⟨S4, .i32⟩
  | 24 => ⟨S4, .i32⟩
  | 25 => ⟨S_, .i32⟩
  | 26 => ⟨S_, .i32⟩
  | 27 => ⟨S4, .i32⟩
  | 28 => ⟨S4, .i32⟩
  | 29 => ⟨S4, .i32⟩
  | 30 => ⟨S_, .i32⟩
  | 31 => ⟨S4, .i32⟩
  | 32 => ⟨S4, .i1⟩
  | 33 => ⟨S4, .i32⟩
  | 34 => ⟨S4, .i32⟩
  | 35 => ⟨S_, .i32⟩
  | 36 => ⟨S4, .i32⟩
  | 37 => ⟨S4, .i1⟩
  | 38 => ⟨S4, .i1⟩
  | 39 => ⟨S_, .i32⟩
  | 40 => ⟨S4, .i32⟩
  | 41 => ⟨S4, .i32⟩
  | 42 => ⟨S4, .i32⟩
  | 43 => ⟨S_, .i32⟩
  | 44 => ⟨S_, .i32⟩
  | 45 => ⟨S4, .i32⟩
  | 46 => ⟨S4, .i32⟩
  | 47 => ⟨S_, .i32⟩
  | 48 => ⟨S_, .i32⟩
  | 49 => ⟨S24576x4, .i32⟩
  | 50 => ⟨S_, .i32⟩
  | 51 => ⟨S24576x4, .i32⟩
  | 52 => ⟨S24576x4, .i32⟩
  | 53 => ⟨S24576x4, .i32⟩
  | 54 => ⟨S_, .i32⟩
  | 55 => ⟨S24576, .i32⟩
  | 56 => ⟨S_, .i32⟩
  | 57 => ⟨S4, .i32⟩
  | 58 => ⟨S4, .i32⟩
  | 59 => ⟨S1x4, .i32⟩
  | 60 => ⟨S24576x4, .i32⟩
  | 61 => ⟨S24576x4, .i32⟩
  | 62 => ⟨S_, .i32⟩
  | 63 => ⟨S24576, .i32⟩
  | 64 => ⟨S24576, .i32⟩
  | 65 => ⟨S_, .i32⟩
  | 66 => ⟨S25600, .i32⟩
  | 67 => ⟨S24576, .i32⟩
  | 68 => ⟨S_, .i32⟩
  | 69 => ⟨S_, .i32⟩
  | 70 => ⟨S24576, .i32⟩
  | 71 => ⟨S24576, .i32⟩
  | 72 => ⟨S24576, .i32⟩
  | 73 => ⟨S_, .i32⟩
  | 74 => ⟨S24576, .i32⟩
  | 75 => ⟨S24576, .i1⟩
  | 76 => ⟨S24576, .i32⟩
  | 77 => ⟨S24576, .i32⟩
  | 78 => ⟨S_, .i32⟩
  | 79 => ⟨S24576, .i32⟩
  | 80 => ⟨S24576, .i1⟩
  | 81 => ⟨S24576, .i1⟩
  | 82 => ⟨S_, .i32⟩
  | 83 => ⟨S24576, .i32⟩
  | 84 => ⟨S24576, .i32⟩
  | 85 => ⟨S24576, .i32⟩
  | 86 => ⟨S_, .i32⟩
  | 87 => ⟨S24576, .i32⟩
  | 88 => ⟨S24576, .i1⟩
  | 89 => ⟨S_, .i32⟩
  | 90 => ⟨S24576, .i32⟩
  | 91 => ⟨S24576, .i32⟩
  | 92 => ⟨S24576, .i32⟩
  | 93 => ⟨S24576x1, .i32⟩
  | 94 => ⟨S25600, .i32⟩
  | 95 => ⟨S100, .i32⟩
  | 96 => ⟨S100x1, .i32⟩
  | 97 => ⟨S1x4, .i32⟩
  | 98 => ⟨S100x4, .i32⟩
  | 99 => ⟨S100x4, .i32⟩
  | 100 => ⟨S100x4, .i1⟩
  | 101 => ⟨S100x4, .i32⟩
  | 102 => ⟨S_, .i32⟩
  | 103 => ⟨S100, .i32⟩
  | 104 => ⟨S_, .i32⟩
  | 105 => ⟨S100, .i32⟩
  | 106 => ⟨S_, .i32⟩
  | 107 => ⟨S1, .i32⟩
  | 108 => ⟨S99, .i32⟩
  | 109 => ⟨S99, .i32⟩
  | 110 => ⟨S99, .i1⟩
  | 111 => ⟨S99, .i32⟩
  | 112 => ⟨S12288x3072, .bf16⟩
  | 113 => ⟨S_, .i32⟩
  | 114 => ⟨S25600, .i32⟩
  | 115 => ⟨S25600, .i1⟩
  | 116 => ⟨S_, .i32⟩
  | 117 => ⟨S25600, .i32⟩
  | 118 => ⟨S25600, .i32⟩
  | 119 => ⟨S25600, .i32⟩
  | 120 => ⟨S25600x1, .i32⟩
  | 121 => ⟨S25600x3072, .bf16⟩
  | 122 => ⟨S4x1792x2x96, .i8⟩
  | 123 => ⟨S_, .i32⟩
  | 124 => ⟨S_, .i8⟩
  | 125 => ⟨S4x1792x2x128, .i8⟩
  | 126 => ⟨S4x1792x1x128, .i8⟩
  | 127 => ⟨S4x1792x128, .i8⟩
  | _ => ⟨S8x1536x3072, .bf16⟩

abbrev hbmTy0_1 (i : Nat) : BufTy := match i % 128 with
  | 0 => ⟨S4x1792x1x128, .i8⟩
  | 1 => ⟨S4x1792x128, .i8⟩
  | 2 => ⟨S_, .i32⟩
  | 3 => ⟨S_, .i8⟩
  | 4 => ⟨S4x3072x128, .i8⟩
  | 5 => ⟨S4x1792x2, .bf16⟩
  | 6 => ⟨S4x1792x1, .bf16⟩
  | 7 => ⟨S4x1792, .bf16⟩
  | 8 => ⟨S4x1x1792, .bf16⟩
  | 9 => ⟨S4x1792x1, .bf16⟩
  | 10 => ⟨S4x1792, .bf16⟩
  | 11 => ⟨S4x1x1792, .bf16⟩
  | 12 => ⟨S4x1x3072, .bf16⟩
  | 13 => ⟨S25600x3072, .f32⟩
  | 14 => ⟨S_, .i32⟩
  | 15 => ⟨S24576, .i32⟩
  | 16 => ⟨S24576, .i1⟩
  | 17 => ⟨S_, .i32⟩
  | 18 => ⟨S24576, .i32⟩
  | 19 => ⟨S24576, .i32⟩
  | 20 => ⟨S24576, .i32⟩
  | 21 => ⟨S24576x1, .i32⟩
  | 22 => ⟨S24576x3072, .f32⟩
  | 23 => ⟨S12288x2x3072, .f32⟩
  | 24 => ⟨S12288x2, .f32⟩
  | 25 => ⟨S12288x1x3072, .f32⟩
  | 26 => ⟨S12288x3072, .f32⟩
  | 27 => ⟨S12288x1, .f32⟩
  | 28 => ⟨S12288x3072, .f32⟩
  | 29 => ⟨S12288x3072, .f32⟩
  | 30 => ⟨S12288x1x3072, .f32⟩
  | 31 => ⟨S12288x3072, .f32⟩
  | 32 => ⟨S12288x1, .f32⟩
  | 33 => ⟨S12288x3072, .f32⟩
  | 34 => ⟨S12288x3072, .f32⟩
  | 35 => ⟨S12288x3072, .f32⟩
  | 36 => ⟨S8x1536x3072, .f32⟩
  | 37 => ⟨S8x1536x3072, .bf16⟩
  | _ => ⟨S8x1536x3072, .bf16⟩

abbrev hbmTy (i : Nat) : BufTy := match i / 128 with
  | 0 => hbmTy0_0 i
  | 1 => hbmTy0_1 i
  | _ => ⟨S8x1536x3072, .bf16⟩

abbrev bufTy : (tb : Table) → Fin (tcTables nBuf tb) → BufTy
  | .hbm, ⟨i, _⟩ => hbmTy i
  | .local _ .vmem, ⟨0, _⟩ => ⟨S256x3072, .bf16⟩
  | .local _ .vmem, ⟨1, _⟩ => ⟨S256x3072, .bf16⟩
  | .local _ .vmem, ⟨2, _⟩ => ⟨S1x1792x128, .i8⟩
  | .local _ .vmem, ⟨3, _⟩ => ⟨S1x1792x128, .i8⟩
  | .local _ .vmem, ⟨4, _⟩ => ⟨S1x1792x128, .i8⟩
  | .local _ .vmem, ⟨5, _⟩ => ⟨S1x1792x128, .i8⟩
  | .local _ .vmem, ⟨6, _⟩ => ⟨S1x3072x128, .i8⟩
  | .local _ .vmem, ⟨7, _⟩ => ⟨S1x3072x128, .i8⟩
  | .local _ .vmem, ⟨8, _⟩ => ⟨S1x1x1792, .bf16⟩
  | .local _ .vmem, ⟨9, _⟩ => ⟨S1x1x1792, .bf16⟩
  | .local _ .vmem, ⟨10, _⟩ => ⟨S1x1x1792, .bf16⟩
  | .local _ .vmem, ⟨11, _⟩ => ⟨S1x1x1792, .bf16⟩
  | .local _ .vmem, ⟨12, _⟩ => ⟨S1x1x3072, .bf16⟩
  | .local _ .vmem, ⟨13, _⟩ => ⟨S1x1x3072, .bf16⟩
  | .local _ .vmem, ⟨14, _⟩ => ⟨S256x3072, .f32⟩
  | .local _ .vmem, ⟨15, _⟩ => ⟨S256x3072, .f32⟩
  | .local _ .vmem, ⟨16, _⟩ => ⟨S1792x3072, .bf16⟩
  | .local _ .vmem, ⟨17, _⟩ => ⟨S1792x3072, .bf16⟩
  | .local _ .vmem, ⟨18, _⟩ => ⟨S3072x1792, .bf16⟩
  | .local _ .vmem, ⟨19, _⟩ => ⟨S1792x3072, .i8⟩
  | .local _ .vmem, ⟨20, _⟩ => ⟨S1536x1792, .i8⟩
  | .local _ .vmem, ⟨21, _⟩ => ⟨S256x1792, .bf16⟩
  | .local _ .smem, ⟨0, _⟩ => ⟨S100, .i32⟩
  | .local _ .smem, ⟨1, _⟩ => ⟨S100, .i32⟩
  | _, _ => ⟨S8x1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v13 : Ref sig .tc := ⟨.hbm, 42, rfl⟩
abbrev main_call1_call0_c : Ref sig .tc := ⟨.hbm, 43, rfl⟩
abbrev main_call1_call0_v0 : Ref sig .tc := ⟨.hbm, 44, rfl⟩
abbrev main_v14 : Ref sig .tc := ⟨.hbm, 45, rfl⟩
abbrev main_v15 : Ref sig .tc := ⟨.hbm, 46, rfl⟩
abbrev main_call2_call0_c : Ref sig .tc := ⟨.hbm, 47, rfl⟩
abbrev main_call2_call0_v0 : Ref sig .tc := ⟨.hbm, 48, rfl⟩
abbrev main_v16 : Ref sig .tc := ⟨.hbm, 49, rfl⟩
abbrev main_c_3 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_c_4 : Ref sig .tc := ⟨.hbm, 54, rfl⟩
abbrev main_v20 : Ref sig .tc := ⟨.hbm, 55, rfl⟩
abbrev main_c_5 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_c_6 : Ref sig .tc := ⟨.hbm, 62, rfl⟩
abbrev main_v26 : Ref sig .tc := ⟨.hbm, 63, rfl⟩
abbrev main_v27 : Ref sig .tc := ⟨.hbm, 64, rfl⟩
abbrev main_c_7 : Ref sig .tc := ⟨.hbm, 65, rfl⟩
abbrev main_v28 : Ref sig .tc := ⟨.hbm, 66, rfl⟩
abbrev main_v29 : Ref sig .tc := ⟨.hbm, 67, rfl⟩
abbrev main_c_8 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_c : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_c_0 : Ref sig .tc := ⟨.hbm, 82, rfl⟩
abbrev main_call3_v12 : Ref sig .tc := ⟨.hbm, 83, rfl⟩
abbrev main_call3_v13 : Ref sig .tc := ⟨.hbm, 84, rfl⟩
abbrev main_v30 : Ref sig .tc := ⟨.hbm, 85, rfl⟩
abbrev main_c_9 : Ref sig .tc := ⟨.hbm, 86, rfl⟩
abbrev main_v31 : Ref sig .tc := ⟨.hbm, 87, rfl⟩
abbrev main_v32 : Ref sig .tc := ⟨.hbm, 88, rfl⟩
abbrev main_c_10 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_c_11 : Ref sig .tc := ⟨.hbm, 102, rfl⟩
abbrev main_v45 : Ref sig .tc := ⟨.hbm, 103, rfl⟩
abbrev main_c_12 : Ref sig .tc := ⟨.hbm, 104, rfl⟩
abbrev main_v46 : Ref sig .tc := ⟨.hbm, 105, rfl⟩
abbrev main_c_13 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v54 : Ref sig .tc := ⟨.hbm, 112, rfl⟩
abbrev main_c_14 : Ref sig .tc := ⟨.hbm, 113, rfl⟩
abbrev main_v55 : Ref sig .tc := ⟨.hbm, 114, rfl⟩
abbrev main_v56 : Ref sig .tc := ⟨.hbm, 115, rfl⟩
abbrev main_c_15 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_c_16 : Ref sig .tc := ⟨.hbm, 123, rfl⟩
abbrev main_call4_v0 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_c_17 : Ref sig .tc := ⟨.hbm, 130, rfl⟩
abbrev main_call5_v0 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_c_18 : Ref sig .tc := ⟨.hbm, 142, rfl⟩
abbrev main_v78 : Ref sig .tc := ⟨.hbm, 143, rfl⟩
abbrev main_v79 : Ref sig .tc := ⟨.hbm, 144, rfl⟩
abbrev main_c_19 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v47 : Ref sig .tc := ⟨.smem, 0, rfl⟩
abbrev main_v53 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨1, ![100], ![false]⟩

abbrev pre0 : Pipeline.Prefetch sig := ⟨2, ![main_v47.idx, main_v53.idx], fun | 0 => main_v47.names | 1 => main_v53.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 3 → Nat :=
  let c0_i32_186 : BitVec 32 := 0#32
  let c0_i32_187 : BitVec 32 := 0#32
  ![v1.toNat, 0, 0]
def k0_cond1 (v3 : BitVec 32) : BitVec 1 :=
  let c1_i32 : BitVec 32 := 1#32
  let v4 : BitVec 1 := Scalar.cmpi .eq v3 c1_i32
  let v5 : BitVec 32 := Scalar.extui v4
  let c0_i32 : BitVec 32 := 0#32
  let v6 : BitVec 1 := Scalar.cmpi .ne v5 c0_i32
  v6

def k0_off3 (v1 : BitVec 32) : Fin 3 → Nat :=
  let c0_i32_189 : BitVec 32 := 0#32
  let c0_i32_190 : BitVec 32 := 0#32
  ![v1.toNat, 0, 0]

def k0_chk1 (v1 : BitVec 32) (v3 : BitVec 32) : Prop :=
  (∀ (k0_h1 : k0_cond1 v3 = 1#1), ∀ a, (k0_off2 v1) a + S1x1792x3072.size a ≤ S4x1792x3072.size a) ∧
  (∀ (k0_h1 : k0_cond1 v3 = 1#1), ∀ (hinb : ∀ a, (k0_off2 v1) a + S1x1792x3072.size a ≤ S4x1792x3072.size a), (Rect.unit (s := S4x1792x3072) (k0_off2 v1) S1x1792x3072.size hinb).WholeWords (EltTy.packing .i8)) ∧
  (∀ (k0_h1 : k0_cond1 v3 = 1#1), ∀ a, (k0_off3 v1) a + S1x1536x1792.size a ≤ S4x1536x1792.size a) ∧
  (∀ (k0_h1 : k0_cond1 v3 = 1#1), ∀ (hinb : ∀ a, (k0_off3 v1) a + S1x1536x1792.size a ≤ S4x1536x1792.size a), (Rect.unit (s := S4x1536x1792) (k0_off3 v1) S1x1536x1792.size hinb).WholeWords (EltTy.packing .i8))
theorem k0_off2_inb : ∀ (v1 : BitVec 32) (v3 : BitVec 32) (k0_hw1 : k0_chk1 v1 v3), ∀ (k0_h1 : k0_cond1 v3 = 1#1), ∀ a, (k0_off2 v1) a + S1x1792x3072.size a ≤ S4x1792x3072.size a := fun v1 v3 k0_hw1 k0_h1 => k0_hw1.1 k0_h1
theorem k0_off2_wordsi8 : ∀ (v1 : BitVec 32) (v3 : BitVec 32) (k0_hw1 : k0_chk1 v1 v3), ∀ (k0_h1 : k0_cond1 v3 = 1#1), (Rect.unit (s := S4x1792x3072) (k0_off2 v1) S1x1792x3072.size (k0_off2_inb v1 v3 k0_hw1 k0_h1)).WholeWords (EltTy.packing .i8) := fun v1 v3 k0_hw1 k0_h1 => k0_hw1.2.1 k0_h1 (k0_off2_inb v1 v3 k0_hw1 k0_h1)
theorem k0_off3_inb : ∀ (v1 : BitVec 32) (v3 : BitVec 32) (k0_hw1 : k0_chk1 v1 v3), ∀ (k0_h1 : k0_cond1 v3 = 1#1), ∀ a, (k0_off3 v1) a + S1x1536x1792.size a ≤ S4x1536x1792.size a := fun v1 v3 k0_hw1 k0_h1 => k0_hw1.2.2.1 k0_h1
theorem k0_off3_wordsi8 : ∀ (v1 : BitVec 32) (v3 : BitVec 32) (k0_hw1 : k0_chk1 v1 v3), ∀ (k0_h1 : k0_cond1 v3 = 1#1), (Rect.unit (s := S4x1536x1792) (k0_off3 v1) S1x1536x1792.size (k0_off3_inb v1 v3 k0_hw1 k0_h1)).WholeWords (EltTy.packing .i8) := fun v1 v3 k0_hw1 k0_h1 => k0_hw1.2.2.2 k0_h1 (k0_off3_inb v1 v3 k0_hw1 k0_h1)

@[reducible] def k0_t1_loop : Scf.Loop 32 :=
  let c0_i32_197 : BitVec 32 := 0#32
  let c56_i32 : BitVec 32 := 56#32
  let v296 : BitVec 32 := Scalar.addi c0_i32_197 c56_i32
  let c1_i32_198 : BitVec 32 := 1#32
  ⟨c0_i32_197, v296, c1_i32_198⟩
def k0_mult1 (k0_t1 : Fin k0_t1_loop.trips) : BitVec 32 :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  v300
def k0_off4 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v302 : Index := Scalar.indexCast v301
  let c0_205 : Index := 0#32
  ![v302.toNat, 0]
def k0_off5 (k0_t1 : Fin k0_t1_loop.trips) : Fin 3 → Nat :=
  let c0_206 : Index := 0#32
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v316 : Index := Scalar.indexCast v301
  let c0_207 : Index := 0#32
  ![0, v316.toNat, 0]
def k0_off6 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v363 : Index := Scalar.indexCast v301
  let c0_218 : Index := 0#32
  ![v363.toNat, 0]
def k0_off7 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v407 : Index := Scalar.indexCast v301
  let c128 : Index := 128#32
  ![v407.toNat, 128]
def k0_off8 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v451 : Index := Scalar.indexCast v301
  let c256_240 : Index := 256#32
  ![v451.toNat, 256]
def k0_off9 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v495 : Index := Scalar.indexCast v301
  let c384 : Index := 384#32
  ![v495.toNat, 384]
def k0_off10 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v539 : Index := Scalar.indexCast v301
  let c512_261 : Index := 512#32
  ![v539.toNat, 512]
def k0_off11 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v583 : Index := Scalar.indexCast v301
  let c640 : Index := 640#32
  ![v583.toNat, 640]
def k0_off12 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v627 : Index := Scalar.indexCast v301
  let c768_282 : Index := 768#32
  ![v627.toNat, 768]
def k0_off13 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v671 : Index := Scalar.indexCast v301
  let c896 : Index := 896#32
  ![v671.toNat, 896]
def k0_off14 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v715 : Index := Scalar.indexCast v301
  let c1024_304 : Index := 1024#32
  ![v715.toNat, 1024]
def k0_off15 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v759 : Index := Scalar.indexCast v301
  let c1152 : Index := 1152#32
  ![v759.toNat, 1152]
def k0_off16 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v803 : Index := Scalar.indexCast v301
  let c1280_325 : Index := 1280#32
  ![v803.toNat, 1280]
def k0_off17 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v847 : Index := Scalar.indexCast v301
  let c1408 : Index := 1408#32
  ![v847.toNat, 1408]
def k0_off18 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v891 : Index := Scalar.indexCast v301
  let c1536_347 : Index := 1536#32
  ![v891.toNat, 1536]
def k0_off19 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v935 : Index := Scalar.indexCast v301
  let c1664 : Index := 1664#32
  ![v935.toNat, 1664]
def k0_off20 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v979 : Index := Scalar.indexCast v301
  let c1792 : Index := 1792#32
  ![v979.toNat, 1792]
def k0_off21 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v1023 : Index := Scalar.indexCast v301
  let c1920 : Index := 1920#32
  ![v1023.toNat, 1920]
def k0_off22 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v1067 : Index := Scalar.indexCast v301
  let c2048_389 : Index := 2048#32
  ![v1067.toNat, 2048]
def k0_off23 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v1111 : Index := Scalar.indexCast v301
  let c2176 : Index := 2176#32
  ![v1111.toNat, 2176]
def k0_off24 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v1155 : Index := Scalar.indexCast v301
  let c2304 : Index := 2304#32
  ![v1155.toNat, 2304]
def k0_off25 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v1199 : Index := Scalar.indexCast v301
  let c2432 : Index := 2432#32
  ![v1199.toNat, 2432]
def k0_off26 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v1243 : Index := Scalar.indexCast v301
  let c2560_430 : Index := 2560#32
  ![v1243.toNat, 2560]
def k0_off27 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v1287 : Index := Scalar.indexCast v301
  let c2688 : Index := 2688#32
  ![v1287.toNat, 2688]
def k0_off28 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v1331 : Index := Scalar.indexCast v301
  let c2816 : Index := 2816#32
  ![v1331.toNat, 2816]
def k0_off29 (k0_t1 : Fin k0_t1_loop.trips) : Fin 2 → Nat :=
  let c0_i32_204 : BitVec 32 := 0#32
  let c0_i32_197 : BitVec 32 := 0#32
  let c1_i32_198 : BitVec 32 := 1#32
  let arg20 : BitVec 32 := Scf.iv c0_i32_197 c1_i32_198 k0_t1
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v1375 : Index := Scalar.indexCast v301
  let c2944 : Index := 2944#32
  ![v1375.toNat, 2944]
@[reducible] def k0_t2_loop : Scf.Loop 32 :=
  let c0_i32_200 : BitVec 32 := 0#32
  let c48_i32 : BitVec 32 := 48#32
  let v297 : BitVec 32 := Scalar.addi c0_i32_200 c48_i32
  let c1_i32_201 : BitVec 32 := 1#32
  ⟨c0_i32_200, v297, c1_i32_201⟩
def k0_mult2 (k0_t2 : Fin k0_t2_loop.trips) : BitVec 32 :=
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  v300
def k0_mult3 (k0_t2 : Fin k0_t2_loop.trips) : BitVec 32 :=
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c64_i32 : BitVec 32 := 64#32
  let v302 : BitVec 32 := Scalar.muli v299 c64_i32
  v302
def k0_off30 (k0_t2 : Fin k0_t2_loop.trips) : Fin 2 → Nat :=
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c32_i32 : BitVec 32 := 32#32
  let v300 : BitVec 32 := Scalar.muli v299 c32_i32
  let v301 : BitVec 32 := v300
  let v304 : Index := Scalar.indexCast v301
  let c0_205 : Index := 0#32
  ![v304.toNat, 0]
def k0_off31 (k0_t2 : Fin k0_t2_loop.trips) : Fin 3 → Nat :=
  let c0_209 : Index := 0#32
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c64_i32 : BitVec 32 := 64#32
  let v302 : BitVec 32 := Scalar.muli v299 c64_i32
  let v303 : BitVec 32 := v302
  let v329 : Index := Scalar.indexCast v303
  let c0_210 : Index := 0#32
  ![0, v329.toNat, 0]
def k0_off32 (k0_t2 : Fin k0_t2_loop.trips) : Fin 2 → Nat :=
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c64_i32 : BitVec 32 := 64#32
  let v302 : BitVec 32 := Scalar.muli v299 c64_i32
  let v303 : BitVec 32 := v302
  let v376 : Index := Scalar.indexCast v303
  let c0_221 : Index := 0#32
  ![v376.toNat, 0]
def k0_off33 (k0_t2 : Fin k0_t2_loop.trips) : Fin 2 → Nat :=
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c64_i32 : BitVec 32 := 64#32
  let v302 : BitVec 32 := Scalar.muli v299 c64_i32
  let v303 : BitVec 32 := v302
  let v420 : Index := Scalar.indexCast v303
  let c128 : Index := 128#32
  ![v420.toNat, 128]
def k0_off34 (k0_t2 : Fin k0_t2_loop.trips) : Fin 2 → Nat :=
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c64_i32 : BitVec 32 := 64#32
  let v302 : BitVec 32 := Scalar.muli v299 c64_i32
  let v303 : BitVec 32 := v302
  let v464 : Index := Scalar.indexCast v303
  let c256_243 : Index := 256#32
  ![v464.toNat, 256]
def k0_off35 (k0_t2 : Fin k0_t2_loop.trips) : Fin 2 → Nat :=
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c64_i32 : BitVec 32 := 64#32
  let v302 : BitVec 32 := Scalar.muli v299 c64_i32
  let v303 : BitVec 32 := v302
  let v508 : Index := Scalar.indexCast v303
  let c384 : Index := 384#32
  ![v508.toNat, 384]
def k0_off36 (k0_t2 : Fin k0_t2_loop.trips) : Fin 2 → Nat :=
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c64_i32 : BitVec 32 := 64#32
  let v302 : BitVec 32 := Scalar.muli v299 c64_i32
  let v303 : BitVec 32 := v302
  let v552 : Index := Scalar.indexCast v303
  let c512_264 : Index := 512#32
  ![v552.toNat, 512]
def k0_off37 (k0_t2 : Fin k0_t2_loop.trips) : Fin 2 → Nat :=
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c64_i32 : BitVec 32 := 64#32
  let v302 : BitVec 32 := Scalar.muli v299 c64_i32
  let v303 : BitVec 32 := v302
  let v596 : Index := Scalar.indexCast v303
  let c640 : Index := 640#32
  ![v596.toNat, 640]
def k0_off38 (k0_t2 : Fin k0_t2_loop.trips) : Fin 2 → Nat :=
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c64_i32 : BitVec 32 := 64#32
  let v302 : BitVec 32 := Scalar.muli v299 c64_i32
  let v303 : BitVec 32 := v302
  let v640 : Index := Scalar.indexCast v303
  let c768_285 : Index := 768#32
  ![v640.toNat, 768]
def k0_off39 (k0_t2 : Fin k0_t2_loop.trips) : Fin 2 → Nat :=
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c64_i32 : BitVec 32 := 64#32
  let v302 : BitVec 32 := Scalar.muli v299 c64_i32
  let v303 : BitVec 32 := v302
  let v684 : Index := Scalar.indexCast v303
  let c896 : Index := 896#32
  ![v684.toNat, 896]
def k0_off40 (k0_t2 : Fin k0_t2_loop.trips) : Fin 2 → Nat :=
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c64_i32 : BitVec 32 := 64#32
  let v302 : BitVec 32 := Scalar.muli v299 c64_i32
  let v303 : BitVec 32 := v302
  let v728 : Index := Scalar.indexCast v303
  let c1024_307 : Index := 1024#32
  ![v728.toNat, 1024]
def k0_off41 (k0_t2 : Fin k0_t2_loop.trips) : Fin 2 → Nat :=
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c64_i32 : BitVec 32 := 64#32
  let v302 : BitVec 32 := Scalar.muli v299 c64_i32
  let v303 : BitVec 32 := v302
  let v772 : Index := Scalar.indexCast v303
  let c1152 : Index := 1152#32
  ![v772.toNat, 1152]
def k0_off42 (k0_t2 : Fin k0_t2_loop.trips) : Fin 2 → Nat :=
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c64_i32 : BitVec 32 := 64#32
  let v302 : BitVec 32 := Scalar.muli v299 c64_i32
  let v303 : BitVec 32 := v302
  let v816 : Index := Scalar.indexCast v303
  let c1280_328 : Index := 1280#32
  ![v816.toNat, 1280]
def k0_off43 (k0_t2 : Fin k0_t2_loop.trips) : Fin 2 → Nat :=
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c64_i32 : BitVec 32 := 64#32
  let v302 : BitVec 32 := Scalar.muli v299 c64_i32
  let v303 : BitVec 32 := v302
  let v860 : Index := Scalar.indexCast v303
  let c1408 : Index := 1408#32
  ![v860.toNat, 1408]
def k0_off44 (k0_t2 : Fin k0_t2_loop.trips) : Fin 2 → Nat :=
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c64_i32 : BitVec 32 := 64#32
  let v302 : BitVec 32 := Scalar.muli v299 c64_i32
  let v303 : BitVec 32 := v302
  let v904 : Index := Scalar.indexCast v303
  let c1536_350 : Index := 1536#32
  ![v904.toNat, 1536]
def k0_off45 (k0_t2 : Fin k0_t2_loop.trips) : Fin 2 → Nat :=
  let c0_i32_204 : BitVec 32 := 0#32
  let c0_i32_200 : BitVec 32 := 0#32
  let c1_i32_201 : BitVec 32 := 1#32
  let arg20 : BitVec 32 := Scf.iv c0_i32_200 c1_i32_201 k0_t2
  let c1_i32_203 : BitVec 32 := 1#32
  let v298 : BitVec 32 := Scalar.muli arg20 c1_i32_203
  let v299 : BitVec 32 := Scalar.addi c0_i32_204 v298
  let c64_i32 : BitVec 32 := 64#32
  let v302 : BitVec 32 := Scalar.muli v299 c64_i32
  let v303 : BitVec 32 := v302
  let v948 : Index := Scalar.indexCast v303
  let c1664 : Index := 1664#32
  ![v948.toNat, 1664]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S100.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S100) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S100.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S100) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S100.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S100) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S100.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S100) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S100.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S100) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S100.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S100) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1792x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1792x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3072x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F]
-- ==== ReferenceIdeal.lean ====
abbrev S8x1536x3072 : Shape := ⟨3, ![8, 1536, 3072]⟩
abbrev S8x1536x2 : Shape := ⟨3, ![8, 1536, 2]⟩
abbrev S4x1792x3072 : Shape := ⟨3, ![4, 1792, 3072]⟩
abbrev S4x3584x96 : Shape := ⟨3, ![4, 3584, 96]⟩
abbrev S4x3584 : Shape := ⟨2, ![4, 3584]⟩
abbrev S4x1536x1792 : Shape := ⟨3, ![4, 1536, 1792]⟩
abbrev S4x3072x56 : Shape := ⟨3, ![4, 3072, 56]⟩
abbrev S4x3072 : Shape := ⟨2, ![4, 3072]⟩
abbrev S12288x3072 : Shape := ⟨2, ![12288, 3072]⟩
abbrev S4x1792x2x96 : Shape := ⟨4, ![4, 1792, 2, 96]⟩
abbrev S_ : Shape := ⟨0, ![]⟩
abbrev S4x1792x1x96 : Shape := ⟨4, ![4, 1792, 1, 96]⟩
abbrev S4x1792x96 : Shape := ⟨3, ![4, 1792, 96]⟩
abbrev S4x1792x96x1 : Shape := ⟨4, ![4, 1792, 96, 1]⟩
abbrev S4x1792x96x32 : Shape := ⟨4, ![4, 1792, 96, 32]⟩
abbrev S4x1792x2 : Shape := ⟨3, ![4, 1792, 2]⟩
abbrev S12288x4x1792 : Shape := ⟨3, ![12288, 4, 1792]⟩
abbrev S4x1792x1 : Shape := ⟨3, ![4, 1792, 1]⟩
abbrev S4x1792 : Shape := ⟨2, ![4, 1792]⟩
abbrev S1x4x1792 : Shape := ⟨3, ![1, 4, 1792]⟩
abbrev S4x1536x1x1792 : Shape := ⟨4, ![4, 1536, 1, 1792]⟩
abbrev S4x1536x2x1792 : Shape := ⟨4, ![4, 1536, 2, 1792]⟩
abbrev S4x3072x1792 : Shape := ⟨3, ![4, 3072, 1792]⟩
abbrev S4x3072x56x1 : Shape := ⟨4, ![4, 3072, 56, 1]⟩
abbrev S4x3072x56x32 : Shape := ⟨4, ![4, 3072, 56, 32]⟩
abbrev S4x12288x3072 : Shape := ⟨3, ![4, 12288, 3072]⟩
abbrev S4x1x3072 : Shape := ⟨3, ![4, 1, 3072]⟩
abbrev S12288x2 : Shape := ⟨2, ![12288, 2]⟩
abbrev S12288x1 : Shape := ⟨2, ![12288, 1]⟩
abbrev S1x12288x3072 : Shape := ⟨3, ![1, 12288, 3072]⟩

abbrev nBuf : Space → Nat
  | .hbm => 322
  | .vmem => 0
  | .smem => 0
  | _ => 0

abbrev hbmTy0_0 (i : Nat) : BufTy := match i % 128 with
  | 0 => ⟨S8x1536x3072, .bf16⟩
  | 1 => ⟨S8x1536x2, .i32⟩
  | 2 => ⟨S8x1536x2, .f32⟩
  | 3 => ⟨S4x1792x3072, .i8⟩
  | 4 => ⟨S4x3584x96, .i8⟩
  | 5 => ⟨S4x3584, .bf16⟩
  | 6 => ⟨S4x1536x1792, .i8⟩
  | 7 => ⟨S4x3072x56, .i8⟩
  | 8 => ⟨S4x3072, .bf16⟩
  | 9 => ⟨S12288x3072, .bf16⟩
  | 10 => ⟨S4x1792x2x96, .i8⟩
  | 11 => ⟨S4x1792x3072, .i32⟩
  | 12 => ⟨S_, .i32⟩
  | 13 => ⟨S4x1792x3072, .i32⟩
  | 14 => ⟨S4x1792x3072, .i32⟩
  | 15 => ⟨S4x1792x1x96, .i8⟩
  | 16 => ⟨S4x1792x96, .i8⟩
  | 17 => ⟨S4x1792x96, .i32⟩
  | 18 => ⟨S4x1792x96, .f32⟩
  | 19 => ⟨S_, .f32⟩
  | 20 => ⟨S4x1792x96, .f32⟩
  | 21 => ⟨S4x1792x96, .f32⟩
  | 22 => ⟨S_, .f32⟩
  | 23 => ⟨S4x1792x96, .f32⟩
  | 24 => ⟨S4x1792x96, .f32⟩
  | 25 => ⟨S4x1792x96, .bf16⟩
  | 26 => ⟨S4x1792x96x1, .bf16⟩
  | 27 => ⟨S4x1792x96x32, .bf16⟩
  | 28 => ⟨S4x1792x3072, .bf16⟩
  | 29 => ⟨S_, .i32⟩
  | 30 => ⟨S4x1792x3072, .i32⟩
  | 31 => ⟨S4x1792x3072, .i32⟩
  | 32 => ⟨S_, .i32⟩
  | 33 => ⟨S4x1792x3072, .i32⟩
  | 34 => ⟨S4x1792x3072, .i1⟩
  | 35 => ⟨S_, .i32⟩
  | 36 => ⟨S4x1792x3072, .i32⟩
  | 37 => ⟨S4x1792x3072, .i32⟩
  | 38 => ⟨S_, .i32⟩
  | 39 => ⟨S4x1792x3072, .i32⟩
  | 40 => ⟨S4x1792x3072, .i1⟩
  | 41 => ⟨S_, .i32⟩
  | 42 => ⟨S4x1792x3072, .i32⟩
  | 43 => ⟨S4x1792x3072, .i32⟩
  | 44 => ⟨S_, .i32⟩
  | 45 => ⟨S4x1792x3072, .i32⟩
  | 46 => ⟨S4x1792x3072, .i1⟩
  | 47 => ⟨S_, .i32⟩
  | 48 => ⟨S4x1792x3072, .i32⟩
  | 49 => ⟨S4x1792x3072, .i32⟩
  | 50 => ⟨S_, .i32⟩
  | 51 => ⟨S4x1792x3072, .i32⟩
  | 52 => ⟨S4x1792x3072, .i1⟩
  | 53 => ⟨S_, .bf16⟩
  | 54 => ⟨S4x1792x3072, .bf16⟩
  | 55 => ⟨S_, .bf16⟩
  | 56 => ⟨S4x1792x3072, .bf16⟩
  | 57 => ⟨S4x1792x3072, .bf16⟩
  | 58 => ⟨S_, .bf16⟩
  | 59 => ⟨S4x1792x3072, .bf16⟩
  | 60 => ⟨S_, .bf16⟩
  | 61 => ⟨S4x1792x3072, .bf16⟩
  | 62 => ⟨S4x1792x3072, .bf16⟩
  | 63 => ⟨S4x1792x3072, .bf16⟩
  | 64 => ⟨S_, .bf16⟩
  | 65 => ⟨S4x1792x3072, .bf16⟩
  | 66 => ⟨S_, .bf16⟩
  | 67 => ⟨S4x1792x3072, .bf16⟩
  | 68 => ⟨S4x1792x3072, .bf16⟩
  | 69 => ⟨S_, .bf16⟩
  | 70 => ⟨S4x1792x3072, .bf16⟩
  | 71 => ⟨S_, .bf16⟩
  | 72 => ⟨S4x1792x3072, .bf16⟩
  | 73 => ⟨S4x1792x3072, .bf16⟩
  | 74 => ⟨S4x1792x3072, .bf16⟩
  | 75 => ⟨S4x1792x3072, .bf16⟩
  | 76 => ⟨S4x1792x3072, .bf16⟩
  | 77 => ⟨S4x1792x3072, .bf16⟩
  | 78 => ⟨S4x1792x3072, .bf16⟩
  | 79 => ⟨S_, .i32⟩
  | 80 => ⟨S4x1792x3072, .i32⟩
  | 81 => ⟨S4x1792x3072, .i32⟩
  | 82 => ⟨S4x1792x1x96, .i8⟩
  | 83 => ⟨S4x1792x96, .i8⟩
  | 84 => ⟨S4x1792x96, .i32⟩
  | 85 => ⟨S4x1792x96, .f32⟩
  | 86 => ⟨S_, .f32⟩
  | 87 => ⟨S4x1792x96, .f32⟩
  | 88 => ⟨S4x1792x96, .f32⟩
  | 89 => ⟨S_, .f32⟩
  | 90 => ⟨S4x1792x96, .f32⟩
  | 91 => ⟨S4x1792x96, .f32⟩
  | 92 => ⟨S4x1792x96, .bf16⟩
  | 93 => ⟨S4x1792x96x1, .bf16⟩
  | 94 => ⟨S4x1792x96x32, .bf16⟩
  | 95 => ⟨S4x1792x3072, .bf16⟩
  | 96 => ⟨S_, .i32⟩
  | 97 => ⟨S4x1792x3072, .i32⟩
  | 98 => ⟨S4x1792x3072, .i32⟩
  | 99 => ⟨S_, .i32⟩
  | 100 => ⟨S4x1792x3072, .i32⟩
  | 101 => ⟨S4x1792x3072, .i1⟩
  | 102 => ⟨S_, .i32⟩
  | 103 => ⟨S4x1792x3072, .i32⟩
  | 104 => ⟨S4x1792x3072, .i32⟩
  | 105 => ⟨S_, .i32⟩
  | 106 => ⟨S4x1792x3072, .i32⟩
  | 107 => ⟨S4x1792x3072, .i1⟩
  | 108 => ⟨S_, .i32⟩
  | 109 => ⟨S4x1792x3072, .i32⟩
  | 110 => ⟨S4x1792x3072, .i32⟩
  | 111 => ⟨S_, .i32⟩
  | 112 => ⟨S4x1792x3072, .i32⟩
  | 113 => ⟨S4x1792x3072, .i1⟩
  | 114 => ⟨S_, .i32⟩
  | 115 => ⟨S4x1792x3072, .i32⟩
  | 116 => ⟨S4x1792x3072, .i32⟩
  | 117 => ⟨S_, .i32⟩
  | 118 => ⟨S4x1792x3072, .i32⟩
  | 119 => ⟨S4x1792x3072, .i1⟩
  | 120 => ⟨S_, .bf16⟩
  | 121 => ⟨S4x1792x3072, .bf16⟩
  | 122 => ⟨S_, .bf16⟩
  | 123 => ⟨S4x1792x3072, .bf16⟩
  | 124 => ⟨S4x1792x3072, .bf16⟩
  | 125 => ⟨S_, .bf16⟩
  | 126 => ⟨S4x1792x3072, .bf16⟩
  | 127 => ⟨S_, .bf16⟩
  | _ => ⟨S8x1536x3072, .bf16⟩

abbrev hbmTy0_1 (i : Nat) : BufTy := match i % 128 with
  | 0 => ⟨S4x1792x3072, .bf16⟩
  | 1 => ⟨S4x1792x3072, .bf16⟩
  | 2 => ⟨S4x1792x3072, .bf16⟩
  | 3 => ⟨S_, .bf16⟩
  | 4 => ⟨S4x1792x3072, .bf16⟩
  | 5 => ⟨S_, .bf16⟩
  | 6 => ⟨S4x1792x3072, .bf16⟩
  | 7 => ⟨S4x1792x3072, .bf16⟩
  | 8 => ⟨S_, .bf16⟩
  | 9 => ⟨S4x1792x3072, .bf16⟩
  | 10 => ⟨S_, .bf16⟩
  | 11 => ⟨S4x1792x3072, .bf16⟩
  | 12 => ⟨S4x1792x3072, .bf16⟩
  | 13 => ⟨S4x1792x3072, .bf16⟩
  | 14 => ⟨S4x1792x3072, .bf16⟩
  | 15 => ⟨S4x1792x3072, .bf16⟩
  | 16 => ⟨S4x1792x3072, .bf16⟩
  | 17 => ⟨S4x1792x3072, .bf16⟩
  | 18 => ⟨S4x1792x2, .bf16⟩
  | 19 => ⟨S12288x4x1792, .f32⟩
  | 20 => ⟨S4x1792x1, .bf16⟩
  | 21 => ⟨S4x1792, .bf16⟩
  | 22 => ⟨S1x4x1792, .bf16⟩
  | 23 => ⟨S1x4x1792, .f32⟩
  | 24 => ⟨S12288x4x1792, .f32⟩
  | 25 => ⟨S12288x4x1792, .f32⟩
  | 26 => ⟨S12288x4x1792, .f32⟩
  | 27 => ⟨S4x1792x1, .bf16⟩
  | 28 => ⟨S4x1792, .bf16⟩
  | 29 => ⟨S1x4x1792, .bf16⟩
  | 30 => ⟨S1x4x1792, .f32⟩
  | 31 => ⟨S12288x4x1792, .f32⟩
  | 32 => ⟨S12288x4x1792, .f32⟩
  | 33 => ⟨S_, .f32⟩
  | 34 => ⟨S12288x4x1792, .f32⟩
  | 35 => ⟨S12288x4x1792, .f32⟩
  | 36 => ⟨S_, .f32⟩
  | 37 => ⟨S_, .f32⟩
  | 38 => ⟨S_, .f32⟩
  | 39 => ⟨S12288x4x1792, .f32⟩
  | 40 => ⟨S12288x4x1792, .f32⟩
  | 41 => ⟨S_, .f32⟩
  | 42 => ⟨S12288x4x1792, .f32⟩
  | 43 => ⟨S12288x4x1792, .f32⟩
  | 44 => ⟨S_, .f32⟩
  | 45 => ⟨S12288x4x1792, .f32⟩
  | 46 => ⟨S12288x4x1792, .f32⟩
  | 47 => ⟨S12288x4x1792, .f32⟩
  | 48 => ⟨S_, .f32⟩
  | 49 => ⟨S12288x4x1792, .f32⟩
  | 50 => ⟨S12288x4x1792, .f32⟩
  | 51 => ⟨S12288x4x1792, .f32⟩
  | 52 => ⟨S12288x4x1792, .f32⟩
  | 53 => ⟨S_, .f32⟩
  | 54 => ⟨S12288x4x1792, .f32⟩
  | 55 => ⟨S12288x4x1792, .f32⟩
  | 56 => ⟨S_, .f32⟩
  | 57 => ⟨S12288x4x1792, .f32⟩
  | 58 => ⟨S12288x4x1792, .f32⟩
  | 59 => ⟨S12288x4x1792, .f32⟩
  | 60 => ⟨S12288x4x1792, .bf16⟩
  | 61 => ⟨S4x1536x1792, .i32⟩
  | 62 => ⟨S_, .i32⟩
  | 63 => ⟨S4x1536x1792, .i32⟩
  | 64 => ⟨S4x1536x1792, .i32⟩
  | 65 => ⟨S_, .i32⟩
  | 66 => ⟨S4x1536x1792, .i32⟩
  | 67 => ⟨S4x1536x1792, .i32⟩
  | 68 => ⟨S4x1536x1x1792, .i32⟩
  | 69 => ⟨S4x1536x1x1792, .i32⟩
  | 70 => ⟨S4x1536x2x1792, .i32⟩
  | 71 => ⟨S4x3072x1792, .i32⟩
  | 72 => ⟨S4x3072x56, .i32⟩
  | 73 => ⟨S4x3072x56, .f32⟩
  | 74 => ⟨S_, .f32⟩
  | 75 => ⟨S4x3072x56, .f32⟩
  | 76 => ⟨S4x3072x56, .f32⟩
  | 77 => ⟨S_, .f32⟩
  | 78 => ⟨S4x3072x56, .f32⟩
  | 79 => ⟨S4x3072x56, .f32⟩
  | 80 => ⟨S4x3072x56, .bf16⟩
  | 81 => ⟨S4x3072x56x1, .bf16⟩
  | 82 => ⟨S4x3072x56x32, .bf16⟩
  | 83 => ⟨S4x3072x1792, .bf16⟩
  | 84 => ⟨S_, .i32⟩
  | 85 => ⟨S4x3072x1792, .i32⟩
  | 86 => ⟨S4x3072x1792, .i32⟩
  | 87 => ⟨S_, .i32⟩
  | 88 => ⟨S4x3072x1792, .i32⟩
  | 89 => ⟨S4x3072x1792, .i1⟩
  | 90 => ⟨S_, .i32⟩
  | 91 => ⟨S4x3072x1792, .i32⟩
  | 92 => ⟨S4x3072x1792, .i32⟩
  | 93 => ⟨S_, .i32⟩
  | 94 => ⟨S4x3072x1792, .i32⟩
  | 95 => ⟨S4x3072x1792, .i1⟩
  | 96 => ⟨S_, .i32⟩
  | 97 => ⟨S4x3072x1792, .i32⟩
  | 98 => ⟨S4x3072x1792, .i32⟩
  | 99 => ⟨S_, .i32⟩
  | 100 => ⟨S4x3072x1792, .i32⟩
  | 101 => ⟨S4x3072x1792, .i1⟩
  | 102 => ⟨S_, .i32⟩
  | 103 => ⟨S4x3072x1792, .i32⟩
  | 104 => ⟨S4x3072x1792, .i32⟩
  | 105 => ⟨S_, .i32⟩
  | 106 => ⟨S4x3072x1792, .i32⟩
  | 107 => ⟨S4x3072x1792, .i1⟩
  | 108 => ⟨S_, .bf16⟩
  | 109 => ⟨S4x3072x1792, .bf16⟩
  | 110 => ⟨S_, .bf16⟩
  | 111 => ⟨S4x3072x1792, .bf16⟩
  | 112 => ⟨S4x3072x1792, .bf16⟩
  | 113 => ⟨S_, .bf16⟩
  | 114 => ⟨S4x3072x1792, .bf16⟩
  | 115 => ⟨S_, .bf16⟩
  | 116 => ⟨S4x3072x1792, .bf16⟩
  | 117 => ⟨S4x3072x1792, .bf16⟩
  | 118 => ⟨S4x3072x1792, .bf16⟩
  | 119 => ⟨S_, .bf16⟩
  | 120 => ⟨S4x3072x1792, .bf16⟩
  | 121 => ⟨S_, .bf16⟩
  | 122 => ⟨S4x3072x1792, .bf16⟩
  | 123 => ⟨S4x3072x1792, .bf16⟩
  | 124 => ⟨S_, .bf16⟩
  | 125 => ⟨S4x3072x1792, .bf16⟩
  | 126 => ⟨S_, .bf16⟩
  | 127 => ⟨S4x3072x1792, .bf16⟩
  | _ => ⟨S8x1536x3072, .bf16⟩

abbrev hbmTy0_2 (i : Nat) : BufTy := match i % 128 with
  | 0 => ⟨S4x3072x1792, .bf16⟩
  | 1 => ⟨S4x3072x1792, .bf16⟩
  | 2 => ⟨S4x3072x1792, .bf16⟩
  | 3 => ⟨S4x3072x1792, .bf16⟩
  | 4 => ⟨S4x3072x1792, .bf16⟩
  | 5 => ⟨S4x3072x1792, .bf16⟩
  | 6 => ⟨S4x12288x3072, .f32⟩
  | 7 => ⟨S4x1x3072, .bf16⟩
  | 8 => ⟨S4x1x3072, .f32⟩
  | 9 => ⟨S4x12288x3072, .f32⟩
  | 10 => ⟨S4x12288x3072, .f32⟩
  | 11 => ⟨S12288x2, .i32⟩
  | 12 => ⟨S12288x2, .f32⟩
  | 13 => ⟨S12288x1, .i32⟩
  | 14 => ⟨S12288x3072, .i32⟩
  | 15 => ⟨S1x12288x3072, .f32⟩
  | 16 => ⟨S12288x3072, .f32⟩
  | 17 => ⟨S_, .i32⟩
  | 18 => ⟨S12288x3072, .i32⟩
  | 19 => ⟨S12288x3072, .i1⟩
  | 20 => ⟨S1x12288x3072, .f32⟩
  | 21 => ⟨S12288x3072, .f32⟩
  | 22 => ⟨S12288x3072, .f32⟩
  | 23 => ⟨S_, .i32⟩
  | 24 => ⟨S12288x3072, .i32⟩
  | 25 => ⟨S12288x3072, .i1⟩
  | 26 => ⟨S1x12288x3072, .f32⟩
  | 27 => ⟨S12288x3072, .f32⟩
  | 28 => ⟨S12288x3072, .f32⟩
  | 29 => ⟨S_, .i32⟩
  | 30 => ⟨S12288x3072, .i32⟩
  | 31 => ⟨S12288x3072, .i1⟩
  | 32 => ⟨S1x12288x3072, .f32⟩
  | 33 => ⟨S12288x3072, .f32⟩
  | 34 => ⟨S12288x3072, .f32⟩
  | 35 => ⟨S12288x1, .f32⟩
  | 36 => ⟨S12288x3072, .f32⟩
  | 37 => ⟨S12288x3072, .f32⟩
  | 38 => ⟨S12288x1, .i32⟩
  | 39 => ⟨S12288x3072, .i32⟩
  | 40 => ⟨S1x12288x3072, .f32⟩
  | 41 => ⟨S12288x3072, .f32⟩
  | 42 => ⟨S_, .i32⟩
  | 43 => ⟨S12288x3072, .i32⟩
  | 44 => ⟨S12288x3072, .i1⟩
  | 45 => ⟨S1x12288x3072, .f32⟩
  | 46 => ⟨S12288x3072, .f32⟩
  | 47 => ⟨S12288x3072, .f32⟩
  | 48 => ⟨S_, .i32⟩
  | 49 => ⟨S12288x3072, .i32⟩
  | 50 => ⟨S12288x3072, .i1⟩
  | 51 => ⟨S1x12288x3072, .f32⟩
  | 52 => ⟨S12288x3072, .f32⟩
  | 53 => ⟨S12288x3072, .f32⟩
  | 54 => ⟨S_, .i32⟩
  | 55 => ⟨S12288x3072, .i32⟩
  | 56 => ⟨S12288x3072, .i1⟩
  | 57 => ⟨S1x12288x3072, .f32⟩
  | 58 => ⟨S12288x3072, .f32⟩
  | 59 => ⟨S12288x3072, .f32⟩
  | 60 => ⟨S12288x1, .f32⟩
  | 61 => ⟨S12288x3072, .f32⟩
  | 62 => ⟨S12288x3072, .f32⟩
  | 63 => ⟨S12288x3072, .f32⟩
  | 64 => ⟨S8x1536x3072, .f32⟩
  | 65 => ⟨S8x1536x3072, .bf16⟩
  | _ => ⟨S8x1536x3072, .bf16⟩

abbrev hbmTy (i : Nat) : BufTy := match i / 128 with
  | 0 => hbmTy0_0 i
  | 1 => hbmTy0_1 i
  | 2 => hbmTy0_2 i
  | _ => ⟨S8x1536x3072, .bf16⟩

abbrev bufTy : (tb : Table) → Fin (tcTables nBuf tb) → BufTy
  | .hbm, ⟨i, _⟩ => hbmTy i
  | _, _ => ⟨S8x1536x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_cst_10 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_cst_12 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_13 : Ref sig .tc := ⟨.hbm, 64, rfl⟩
abbrev main_v40 : Ref sig .tc := ⟨.hbm, 65, rfl⟩
abbrev main_cst_14 : Ref sig .tc := ⟨.hbm, 66, rfl⟩
abbrev main_v41 : Ref sig .tc := ⟨.hbm, 67, rfl⟩
abbrev main_v42 : Ref sig .tc := ⟨.hbm, 68, rfl⟩
abbrev main_cst_15 : Ref sig .tc := ⟨.hbm, 69, rfl⟩
abbrev main_v43 : Ref sig .tc := ⟨.hbm, 70, rfl⟩
abbrev main_cst_16 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_17 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_18 : Ref sig .tc := ⟨.hbm, 86, rfl⟩
abbrev main_v57 : Ref sig .tc := ⟨.hbm, 87, rfl⟩
abbrev main_v58 : Ref sig .tc := ⟨.hbm, 88, rfl⟩
abbrev main_cst_19 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_20 : Ref sig .tc := ⟨.hbm, 96, rfl⟩
abbrev main_v65 : Ref sig .tc := ⟨.hbm, 97, rfl⟩
abbrev main_v66 : Ref sig .tc := ⟨.hbm, 98, rfl⟩
abbrev main_c_21 : Ref sig .tc := ⟨.hbm, 99, rfl⟩
abbrev main_v67 : Ref sig .tc := ⟨.hbm, 100, rfl⟩
abbrev main_v68 : Ref sig .tc := ⟨.hbm, 101, rfl⟩
abbrev main_c_22 : Ref sig .tc := ⟨.hbm, 102, rfl⟩
abbrev main_v69 : Ref sig .tc := ⟨.hbm, 103, rfl⟩
abbrev main_v70 : Ref sig .tc := ⟨.hbm, 104, rfl⟩
abbrev main_c_23 : Ref sig .tc := ⟨.hbm, 105, rfl⟩
abbrev main_v71 : Ref sig .tc := ⟨.hbm, 106, rfl⟩
abbrev main_v72 : Ref sig .tc := ⟨.hbm, 107, rfl⟩
abbrev main_c_24 : Ref sig .tc := ⟨.hbm, 108, rfl⟩
abbrev main_v73 : Ref sig .tc := ⟨.hbm, 109, rfl⟩
abbrev main_v74 : Ref sig .tc := ⟨.hbm, 110, rfl⟩
abbrev main_c_25 : Ref sig .tc := ⟨.hbm, 111, rfl⟩
abbrev main_v75 : Ref sig .tc := ⟨.hbm, 112, rfl⟩
abbrev main_v76 : Ref sig .tc := ⟨.hbm, 113, rfl⟩
abbrev main_c_26 : Ref sig .tc := ⟨.hbm, 114, rfl⟩
abbrev main_v77 : Ref sig .tc := ⟨.hbm, 115, rfl⟩
abbrev main_v78 : Ref sig .tc := ⟨.hbm, 116, rfl⟩
abbrev main_c_27 : Ref sig .tc := ⟨.hbm, 117, rfl⟩
abbrev main_v79 : Ref sig .tc := ⟨.hbm, 118, rfl⟩
abbrev main_v80 : Ref sig .tc := ⟨.hbm, 119, rfl⟩
abbrev main_cst_28 : Ref sig .tc := ⟨.hbm, 120, rfl⟩
abbrev main_v81 : Ref sig .tc := ⟨.hbm, 121, rfl⟩
abbrev main_cst_29 : Ref sig .tc := ⟨.hbm, 122, rfl⟩
abbrev main_v82 : Ref sig .tc := ⟨.hbm, 123, rfl⟩
abbrev main_v83 : Ref sig .tc := ⟨.hbm, 124, rfl⟩
abbrev main_cst_30 : Ref sig .tc := ⟨.hbm, 125, rfl⟩
abbrev main_v84 : Ref sig .tc := ⟨.hbm, 126, rfl⟩
abbrev main_cst_31 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_32 : Ref sig .tc := ⟨.hbm, 131, rfl⟩
abbrev main_v88 : Ref sig .tc := ⟨.hbm, 132, rfl⟩
abbrev main_cst_33 : Ref sig .tc := ⟨.hbm, 133, rfl⟩
abbrev main_v89 : Ref sig .tc := ⟨.hbm, 134, rfl⟩
abbrev main_v90 : Ref sig .tc := ⟨.hbm, 135, rfl⟩
abbrev main_cst_34 : Ref sig .tc := ⟨.hbm, 136, rfl⟩
abbrev main_v91 : Ref sig .tc := ⟨.hbm, 137, rfl⟩
abbrev main_cst_35 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_36 : Ref sig .tc := ⟨.hbm, 161, rfl⟩
abbrev main_v114 : Ref sig .tc := ⟨.hbm, 162, rfl⟩
abbrev main_v115 : Ref sig .tc := ⟨.hbm, 163, rfl⟩
abbrev main_cst_37 : Ref sig .tc := ⟨.hbm, 164, rfl⟩
abbrev main_cst_38 : Ref sig .tc := ⟨.hbm, 165, rfl⟩
abbrev main_call0_v0 : Ref sig .tc := ⟨.hbm, 166, rfl⟩
abbrev main_call0_v1 : Ref sig .tc := ⟨.hbm, 167, rfl⟩
abbrev main_call0_v2 : Ref sig .tc := ⟨.hbm, 168, rfl⟩
abbrev main_call0_v3 : Ref sig .tc := ⟨.hbm, 169, rfl⟩
abbrev main_call0_v4 : Ref sig .tc := ⟨.hbm, 170, rfl⟩
abbrev main_v116 : Ref sig .tc := ⟨.hbm, 171, rfl⟩
abbrev main_cst_39 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_cst_40 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_cst_41 : Ref sig .tc := ⟨.hbm, 181, rfl⟩
abbrev main_v124 : Ref sig .tc := ⟨.hbm, 182, rfl⟩
abbrev main_v125 : Ref sig .tc := ⟨.hbm, 183, rfl⟩
abbrev main_cst_42 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_c_43 : Ref sig .tc := ⟨.hbm, 190, rfl⟩
abbrev main_v131 : Ref sig .tc := ⟨.hbm, 191, rfl⟩
abbrev main_v132 : Ref sig .tc := ⟨.hbm, 192, rfl⟩
abbrev main_c_44 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_cst_45 : Ref sig .tc := ⟨.hbm, 202, rfl⟩
abbrev main_v141 : Ref sig .tc := ⟨.hbm, 203, rfl⟩
abbrev main_v142 : Ref sig .tc := ⟨.hbm, 204, rfl⟩
abbrev main_cst_46 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_c_47 : Ref sig .tc := ⟨.hbm, 212, rfl⟩
abbrev main_v149 : Ref sig .tc := ⟨.hbm, 213, rfl⟩
abbrev main_v150 : Ref sig .tc := ⟨.hbm, 214, rfl⟩
abbrev main_c_48 : Ref sig .tc := ⟨.hbm, 215, rfl⟩
abbrev main_v151 : Ref sig .tc := ⟨.hbm, 216, rfl⟩
abbrev main_v152 : Ref sig .tc := ⟨.hbm, 217, rfl⟩
abbrev main_c_49 : Ref sig .tc := ⟨.hbm, 218, rfl⟩
abbrev main_v153 : Ref sig .tc := ⟨.hbm, 219, rfl⟩
abbrev main_v154 : Ref sig .tc := ⟨.hbm, 220, rfl⟩
abbrev main_c_50 : Ref sig .tc := ⟨.hbm, 221, rfl⟩
abbrev main_v155 : Ref sig .tc := ⟨.hbm, 222, rfl⟩
abbrev main_v156 : Ref sig .tc := ⟨.hbm, 223, rfl⟩
abbrev main_c_51 : Ref sig .tc := ⟨.hbm, 224, rfl⟩
abbrev main_v157 : Ref sig .tc := ⟨.hbm, 225, rfl⟩
abbrev main_v158 : Ref sig .tc := ⟨.hbm, 226, rfl⟩
abbrev main_c_52 : Ref sig .tc := ⟨.hbm, 227, rfl⟩
abbrev main_v159 : Ref sig .tc := ⟨.hbm, 228, rfl⟩
abbrev main_v160 : Ref sig .tc := ⟨.hbm, 229, rfl⟩
abbrev main_c_53 : Ref sig .tc := ⟨.hbm, 230, rfl⟩
abbrev main_v161 : Ref sig .tc := ⟨.hbm, 231, rfl⟩
abbrev main_v162 : Ref sig .tc := ⟨.hbm, 232, rfl⟩
abbrev main_c_54 : Ref sig .tc := ⟨.hbm, 233, rfl⟩
abbrev main_v163 : Ref sig .tc := ⟨.hbm, 234, rfl⟩
abbrev main_v164 : Ref sig .tc := ⟨.hbm, 235, rfl⟩
abbrev main_cst_55 : Ref sig .tc := ⟨.hbm, 236, rfl⟩
abbrev main_v165 : Ref sig .tc := ⟨.hbm, 237, rfl⟩
abbrev main_cst_56 : Ref sig .tc := ⟨.hbm, 238, rfl⟩
abbrev main_v166 : Ref sig .tc := ⟨.hbm, 239, rfl⟩
abbrev main_v167 : Ref sig .tc := ⟨.hbm, 240, rfl⟩
abbrev main_cst_57 : Ref sig .tc := ⟨.hbm, 241, rfl⟩
abbrev main_v168 : Ref sig .tc := ⟨.hbm, 242, rfl⟩
abbrev main_cst_58 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_cst_59 : Ref sig .tc := ⟨.hbm, 247, rfl⟩
abbrev main_v172 : Ref sig .tc := ⟨.hbm, 248, rfl⟩
abbrev main_cst_60 : Ref sig .tc := ⟨.hbm, 249, rfl⟩
abbrev main_v173 : Ref sig .tc := ⟨.hbm, 250, rfl⟩
abbrev main_v174 : Ref sig .tc := ⟨.hbm, 251, rfl⟩
abbrev main_cst_61 : Ref sig .tc := ⟨.hbm, 252, rfl⟩
abbrev main_v175 : Ref sig .tc := ⟨.hbm, 253, rfl⟩
abbrev main_cst_62 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_c_63 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_c_64 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_c_65 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_c_66 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_c_67 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_c_68 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩

abbrev nD : Nat := 1
abbrev τ : Topo := Topo.v7x

variable {F : FTy → Type} [FloatOps F]
-- ==== Proof.KeBase.lean ====
module

public import proofs.«01_k».proof.Proof.Gen.Kernel.Skeleton
public import proofs.«01_k».proof.Proof.Gen.Kernel.Launch
public import proofs.«01_k».proof.Proof.Gen.Kernel.Loops
public import Idealize.ShloMosaic.Lib.Pipeline.FrameBody
public import Idealize.ShloMosaic.Lib.Pipeline.FrameSuffixV
public import Idealize.ShloMosaic.Lib.Exec
public import Idealize.ShloMosaic.Lib.Tactic

/-! The buffers the kernel body works on beside its staging buffers, as the memrefs it is called with:
    the two prefetched tables, the two weight arrays left in HBM and the six scratch buffers. -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-- The table of the expert of each row tile. -/
abbrev tbM0 : Memref sig .tc .smem S100 .i32 := Memref.whole main_v47
/-- The table that marks the row tiles where the expert changes. -/
abbrev tbM1 : Memref sig .tc .smem S100 .i32 := Memref.whole main_v53
/-- The packed gate and up codes of all experts. -/
abbrev hbM0 : Memref sig .tc .hbm S4x1792x3072 .i8 := Memref.whole main_arg3
/-- The packed down codes of all experts. -/
abbrev hbM1 : Memref sig .tc .hbm S4x1536x1792 .i8 := Memref.whole main_arg6
/-- The decoded gate, up and down weights, the packed codes of one expert, and the hidden activations. -/
abbrev scM0 : Memref sig .tc .vmem S1792x3072 .bf16 := Memref.whole cc0_scratch0
abbrev scM1 : Memref sig .tc .vmem S1792x3072 .bf16 := Memref.whole cc0_scratch1
abbrev scM2 : Memref sig .tc .vmem S3072x1792 .bf16 := Memref.whole cc0_scratch2
abbrev scM3 : Memref sig .tc .vmem S1792x3072 .i8 := Memref.whole cc0_scratch3
abbrev scM4 : Memref sig .tc .vmem S1536x1792 .i8 := Memref.whole cc0_scratch4
abbrev scM5 : Memref sig .tc .vmem S256x1792 .bf16 := Memref.whole cc0_scratch5

/-- The contents type of a memref's buffer on core `c`. -/
abbrev MBuf (c : Dev nD) {sp : Space} {S : Shape} {e : EltTy} (M : Memref sig .tc sp S e) : Type :=
  Buf (Elt F) (M.view.loc (c : Thread nD τ))
/-- A memref's elements held on core `c` at the contents `f`. -/
abbrev mPt (c : Dev nD) {sp : Space} {S : Shape} {e : EltTy} (M : Memref sig .tc sp S e) (f : MBuf (F := F) c M) : sProp 𝕄 :=
  M.view.loc (c : Thread nD τ) ↦[M.view.set]{fullShare} f
/-- A memref's whole buffer held on core `c` at the contents `f`. -/
abbrev hbPt (c : Dev nD) {sp : Space} {S : Shape} {e : EltTy} (M : Memref sig .tc sp S e) (f : MBuf (F := F) c M) : sProp 𝕄 :=
  M.view.loc (c : Thread nD τ) ↦{fullShare} f
/-- Half of a table's buffer held on core `c`: what the pipeline lends the body. -/
abbrev tbPt (c : Dev nD) {S : Shape} {e : EltTy} (M : Memref sig .tc .smem S e) (f : MBuf (F := F) c M) : sProp 𝕄 :=
  M.view.loc (c : Thread nD τ) ↦{fullShare.right} f

end Cert.Kernel.Hand

end
-- ==== Proof.KeLoops.lean ====
module

public import proofs.«01_k».proof.Proof.KeBase

/-! One trip of each of the kernel's two decoding loops, run at a symbolic trip. -/

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (i : grid0.Coords)
  (a3 : Memref sig .tc .vmem S256x3072 .bf16) (h3 : a3.IsWhole)
  (a4 : Memref sig .tc .vmem S1x1792x128 .i8) (h4 : a4.IsWhole)
  (a5 : Memref sig .tc .vmem S1x1792x128 .i8) (h5 : a5.IsWhole)
  (a6 : Memref sig .tc .vmem S1x3072x128 .i8) (h6 : a6.IsWhole)
  (a7 : Memref sig .tc .vmem S1x1x1792 .bf16) (h7 : a7.IsWhole)
  (a8 : Memref sig .tc .vmem S1x1x1792 .bf16) (h8 : a8.IsWhole)
  (a9 : Memref sig .tc .vmem S1x1x3072 .bf16) (h9 : a9.IsWhole)
  (a12 : Memref sig .tc .vmem S256x3072 .f32) (h12 : a12.IsWhole)

/-- One trip of the first loop: the codes and the two blocks of scales are read, and the trip's pieces of the gate and up
    weights, which the run finds, are written. -/
def trip1 (c : Dev nD) (X4 : MBuf (F := F) c a4) (X5 : MBuf (F := F) c a5) (X16 : MBuf (F := F) c scM3) (k : Fin k0_t1_loop.trips) :
    Σ' (L13 : List (View.Piece (Elt F) S1792x3072 .bf16)), { L14 : List (View.Piece (Elt F) S1792x3072 .bf16) //
      ∀ (E : Set ℕ) (f13 : MBuf (F := F) c scM0) (f14 : MBuf (F := F) c scM1),
      iprop(mPt c a4 X4 ∗ mPt c a5 X5 ∗ mPt c scM3 X16 ∗ mPt c scM0 f13 ∗ mPt c scM1 f14)
      ⊢ wp frame (wpE (defs₀ (F := F)) Variants.none (c : Thread nD τ) none) E (k0_t1_body (F := F) i tbM0 (Memref.isWhole_whole _) tbM1 (Memref.isWhole_whole _) a3 h3 a4 h4 a5 h5 a6 h6 a7 h7 a8 h8 a9 h9 hbM0 (Memref.isWhole_whole _) hbM1 (Memref.isWhole_whole _) a12 h12 scM0 (Memref.isWhole_whole _) scM1 (Memref.isWhole_whole _) scM2 (Memref.isWhole_whole _) scM3 (Memref.isWhole_whole _) scM4 (Memref.isWhole_whole _) scM5 (Memref.isWhole_whole _) cc0_scratch6 k PUnit.unit)
          (fun _ => iprop(mPt c a4 X4 ∗ mPt c a5 X5 ∗ mPt c scM3 X16
            ∗ mPt c scM0 (scM0.view.writes (Elt F) f13 L13) ∗ mPt c scM1 (scM1.view.writes (Elt F) f14 L14))) } := by
  have hk : k.val < 56 := Nat.lt_of_lt_of_le k.isLt k0_t1_abs.2.1
  refine ⟨?_, ?_, fun E f13 f14 => ?run⟩
  case run =>
    unfold k0_t1_body
    iintro ⟨HR4, HR5, HR16, HW13, HW14⟩
    sl_exec
    sl_step
    sl_close

/-- One trip of the second loop: the codes and the block of scales are read, and the trip's pieces of the down weights,
    which the run finds, are written. -/
def trip2 (c : Dev nD) (X6 : MBuf (F := F) c a6) (X17 : MBuf (F := F) c scM4) (k : Fin k0_t2_loop.trips) :
    { L15 : List (View.Piece (Elt F) S3072x1792 .bf16) //
      ∀ (E : Set ℕ) (f15 : MBuf (F := F) c scM2),
      iprop(mPt c a6 X6 ∗ mPt c scM4 X17 ∗ mPt c scM2 f15)
      ⊢ wp frame (wpE (defs₀ (F := F)) Variants.none (c : Thread nD τ) none) E (k0_t2_body (F := F) i tbM0 (Memref.isWhole_whole _) tbM1 (Memref.isWhole_whole _) a3 h3 a4 h4 a5 h5 a6 h6 a7 h7 a8 h8 a9 h9 hbM0 (Memref.isWhole_whole _) hbM1 (Memref.isWhole_whole _) a12 h12 scM0 (Memref.isWhole_whole _) scM1 (Memref.isWhole_whole _) scM2 (Memref.isWhole_whole _) scM3 (Memref.isWhole_whole _) scM4 (Memref.isWhole_whole _) scM5 (Memref.isWhole_whole _) cc0_scratch6 k PUnit.unit)
          (fun _ => iprop(mPt c a6 X6 ∗ mPt c scM4 X17 ∗ mPt c scM2 (scM2.view.writes (Elt F) f15 L15))) } := by
  have hk : k.val < 48 := Nat.lt_of_lt_of_le k.isLt k0_t2_abs.2.1
  refine ⟨?_, fun E f15 => ?run⟩
  case run =>
    unfold k0_t2_body
    iintro ⟨HR6, HR17, HW15⟩
    sl_exec
    sl_step
    sl_close

end Cert.Kernel.Hand

end
-- ==== Proof.KeWeights.lean ====
module

public import proofs.«01_k».proof.Proof.KeLoops

/-! What the two decoding loops write, in closed form: every trip's pieces, and the three decoded weight arrays. -/

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The lane a block of 32 rows takes each column's scale from: the column divided by 32, plus the block's first lane. -/
def lane32 (w : BitVec 32) : IVec S32x128 32 :=
  let io : IVec S32x128 32 := iota .tc S32x128 32 [1] iota_S32x128_d1_w32
  let q : IVec S32x128 32 := divsi io (broadcast S32x128 32#32)
  let sg : IVec S32x128 32 := subi (extui 32 (cmpi .sgt io (broadcast S32x128 0#32)) natLt_1_32)
    (extui 32 (cmpi .slt io (broadcast S32x128 0#32)) natLt_1_32)
  let ne : IVec S32x128 1 := andi (cmpi .ne sg (broadcast S32x128
      (Scalar.subi (Scalar.extui (Scalar.cmpi .sgt 32#32 0#32)) (Scalar.extui (Scalar.cmpi .slt 32#32 0#32)))))
    (cmpi .ne (remsi io (broadcast S32x128 32#32)) (broadcast S32x128 0#32))
  let fl : IVec S32x128 32 := select ne (subi q (broadcast S32x128 1#32)) q
  let l : IVec S32x128 32 := addi (broadcast S32x128 w) fl
  let l' : IVec S32x128 32 := select (cmpi .slt l (broadcast S32x128 0#32)) (addi l (broadcast S32x128 128#32)) l
  shapeCast S32x128 (shapeCast S32x128x1 l' shapeCasts_S32x128_S32x128x1) shapeCasts_S32x128x1_S32x128

/-- The same for a block of 64 rows. -/
def lane64 (w : BitVec 32) : IVec S64x128 32 :=
  let io : IVec S64x128 32 := iota .tc S64x128 32 [1] iota_S64x128_d1_w32
  let q : IVec S64x128 32 := divsi io (broadcast S64x128 32#32)
  let sg : IVec S64x128 32 := subi (extui 32 (cmpi .sgt io (broadcast S64x128 0#32)) natLt_1_32)
    (extui 32 (cmpi .slt io (broadcast S64x128 0#32)) natLt_1_32)
  let ne : IVec S64x128 1 := andi (cmpi .ne sg (broadcast S64x128
      (Scalar.subi (Scalar.extui (Scalar.cmpi .sgt 32#32 0#32)) (Scalar.extui (Scalar.cmpi .slt 32#32 0#32)))))
    (cmpi .ne (remsi io (broadcast S64x128 32#32)) (broadcast S64x128 0#32))
  let fl : IVec S64x128 32 := select ne (subi q (broadcast S64x128 1#32)) q
  let l : IVec S64x128 32 := addi (broadcast S64x128 w) fl
  let l' : IVec S64x128 32 := select (cmpi .slt l (broadcast S64x128 0#32)) (addi l (broadcast S64x128 128#32)) l
  shapeCast S64x128 (shapeCast S64x128x1 l' shapeCasts_S64x128_S64x128x1) shapeCasts_S64x128x1_S64x128

theorem slices32 : ∀ j : Fin 24, S32x3072.Slices ![0, 128 * j.val] S32x128 := by decide +kernel
theorem slices64 : ∀ j : Fin 14, S64x1792.Slices ![0, 128 * j.val] S64x128 := by decide +kernel

/-- Block `j` of 128 columns of a trip's gate or up weights: the decoded codes times 64, times the gathered scales. -/
def blk32 (D : FVec F S32x3072 .bf16) (S : FVec F S32x128 .f32) (j : Fin 24) : FVec F S32x128 .bf16 :=
  shapeCast S32x128 (mulf (mulf (extractStridedSlice S32x128 ![0, 128 * j.val] D (slices32 j))
      (broadcast S32x128 (Scalar.ofBits (F := F) .bf16 0x4280#16)))
    (truncf .bf16 (dynamicGather 1 S (lane32 (BitVec.ofNat 32 (4 * j.val)))) bitsLt_bf16_f32)) shapeCasts_S32x128_S32x128

/-- Block `j` of 128 columns of a trip's down weights. -/
def blk64 (D : FVec F S64x1792 .bf16) (S : FVec F S64x128 .f32) (j : Fin 14) : FVec F S64x128 .bf16 :=
  shapeCast S64x128 (mulf (mulf (extractStridedSlice S64x128 ![0, 128 * j.val] D (slices64 j))
      (broadcast S64x128 (Scalar.ofBits (F := F) .bf16 0x4280#16)))
    (truncf .bf16 (dynamicGather 1 S (lane64 (BitVec.ofNat 32 (4 * j.val)))) bitsLt_bf16_f32)) shapeCasts_S64x128_S64x128

/-- Where a trip of the first loop writes its block `j`. -/
def off32 (j : Fin 24) (k : Fin k0_t1_loop.trips) : Fin 2 → ℕ :=
  match j with
  | 0 => k0_off6 k
  | 1 => k0_off7 k
  | 2 => k0_off8 k
  | 3 => k0_off9 k
  | 4 => k0_off10 k
  | 5 => k0_off11 k
  | 6 => k0_off12 k
  | 7 => k0_off13 k
  | 8 => k0_off14 k
  | 9 => k0_off15 k
  | 10 => k0_off16 k
  | 11 => k0_off17 k
  | 12 => k0_off18 k
  | 13 => k0_off19 k
  | 14 => k0_off20 k
  | 15 => k0_off21 k
  | 16 => k0_off22 k
  | 17 => k0_off23 k
  | 18 => k0_off24 k
  | 19 => k0_off25 k
  | 20 => k0_off26 k
  | 21 => k0_off27 k
  | 22 => k0_off28 k
  | 23 => k0_off29 k
  | ⟨n + 24, h⟩ => absurd h (by omega)

/-- Where a trip of the second loop writes its block `j`. -/
def off64 (j : Fin 14) (k : Fin k0_t2_loop.trips) : Fin 2 → ℕ :=
  match j with
  | 0 => k0_off32 k
  | 1 => k0_off33 k
  | 2 => k0_off34 k
  | 3 => k0_off35 k
  | 4 => k0_off36 k
  | 5 => k0_off37 k
  | 6 => k0_off38 k
  | 7 => k0_off39 k
  | 8 => k0_off40 k
  | 9 => k0_off41 k
  | 10 => k0_off42 k
  | 11 => k0_off43 k
  | 12 => k0_off44 k
  | 13 => k0_off45 k
  | ⟨n + 14, h⟩ => absurd h (by omega)

theorem off32_eq (j : Fin 24) (k : Fin k0_t1_loop.trips) : off32 j k = ![32 * k.val, 128 * j.val] := by
  match j with
  | 0 => exact k0_off6_eq k
  | 1 => exact k0_off7_eq k
  | 2 => exact k0_off8_eq k
  | 3 => exact k0_off9_eq k
  | 4 => exact k0_off10_eq k
  | 5 => exact k0_off11_eq k
  | 6 => exact k0_off12_eq k
  | 7 => exact k0_off13_eq k
  | 8 => exact k0_off14_eq k
  | 9 => exact k0_off15_eq k
  | 10 => exact k0_off16_eq k
  | 11 => exact k0_off17_eq k
  | 12 => exact k0_off18_eq k
  | 13 => exact k0_off19_eq k
  | 14 => exact k0_off20_eq k
  | 15 => exact k0_off21_eq k
  | 16 => exact k0_off22_eq k
  | 17 => exact k0_off23_eq k
  | 18 => exact k0_off24_eq k
  | 19 => exact k0_off25_eq k
  | 20 => exact k0_off26_eq k
  | 21 => exact k0_off27_eq k
  | 22 => exact k0_off28_eq k
  | 23 => exact k0_off29_eq k
  | ⟨n + 24, h⟩ => exact absurd h (by omega)

theorem off64_eq (j : Fin 14) (k : Fin k0_t2_loop.trips) : off64 j k = ![64 * k.val, 128 * j.val] := by
  match j with
  | 0 => exact k0_off32_eq k
  | 1 => exact k0_off33_eq k
  | 2 => exact k0_off34_eq k
  | 3 => exact k0_off35_eq k
  | 4 => exact k0_off36_eq k
  | 5 => exact k0_off37_eq k
  | 6 => exact k0_off38_eq k
  | 7 => exact k0_off39_eq k
  | 8 => exact k0_off40_eq k
  | 9 => exact k0_off41_eq k
  | 10 => exact k0_off42_eq k
  | 11 => exact k0_off43_eq k
  | 12 => exact k0_off44_eq k
  | 13 => exact k0_off45_eq k
  | ⟨n + 14, h⟩ => exact absurd h (by omega)

theorem k_lt1 (k : Fin k0_t1_loop.trips) : k.val < 56 := Nat.lt_of_lt_of_le k.isLt k0_t1_abs.2.1
theorem k_lt2 (k : Fin k0_t2_loop.trips) : k.val < 48 := Nat.lt_of_lt_of_le k.isLt k0_t2_abs.2.1
theorem trips1_eq : k0_t1_loop.trips = 56 := by decide +kernel
theorem trips2_eq : k0_t2_loop.trips = 48 := by decide +kernel

theorem off32_inb (j : Fin 24) (k : Fin k0_t1_loop.trips) : ∀ a, off32 j k a + S32x128.size a ≤ S1792x3072.size a := by
  have hk := k_lt1 k
  have hj := j.isLt
  rw [off32_eq]
  intro a
  match a with
  | 0 => show 32 * k.val + 32 ≤ 1792; omega
  | 1 => show 128 * j.val + 128 ≤ 3072; omega

theorem off64_inb (j : Fin 14) (k : Fin k0_t2_loop.trips) : ∀ a, off64 j k a + S64x128.size a ≤ S3072x1792.size a := by
  have hk := k_lt2 k
  have hj := j.isLt
  rw [off64_eq]
  intro a
  match a with
  | 0 => show 64 * k.val + 64 ≤ 3072; omega
  | 1 => show 128 * j.val + 128 ≤ 1792; omega

/-- A trip's pieces of the gate or the up weights, the last written first. -/
def pieces32 (D : FVec F S32x3072 .bf16) (S : FVec F S32x128 .f32) (k : Fin k0_t1_loop.trips) :
    List (View.Piece (Elt F) S1792x3072 .bf16) :=
  ([23, 22, 21, 20, 19, 18, 17, 16, 15, 14, 13, 12, 11, 10, 9, 8, 7, 6, 5, 4, 3, 2, 1, 0] : List (Fin 24)).map fun j => ⟨Rect.unit (off32 j k) S32x128.size (off32_inb j k), blk32 D S j⟩

/-- A trip's pieces of the down weights, the last written first. -/
def pieces64 (D : FVec F S64x1792 .bf16) (S : FVec F S64x128 .f32) (k : Fin k0_t2_loop.trips) :
    List (View.Piece (Elt F) S3072x1792 .bf16) :=
  ([13, 12, 11, 10, 9, 8, 7, 6, 5, 4, 3, 2, 1, 0] : List (Fin 14)).map fun j => ⟨Rect.unit (off64 j k) S64x128.size (off64_inb j k), blk64 D S j⟩

theorem mem_js32 (j : Fin 24) : j ∈ ([23, 22, 21, 20, 19, 18, 17, 16, 15, 14, 13, 12, 11, 10, 9, 8, 7, 6, 5, 4, 3, 2, 1, 0] : List (Fin 24)) := by
  revert j; decide
theorem mem_js64 (j : Fin 14) : j ∈ ([13, 12, 11, 10, 9, 8, 7, 6, 5, 4, 3, 2, 1, 0] : List (Fin 14)) := by
  revert j; decide

/-- The block of 128 columns an element lies in. -/
def col32 (y : S1792x3072.Idx) : Fin 24 := ⟨(y 1).val / 128, by have h : (y 1).val < 3072 := (y 1).isLt; omega⟩
/-- Where an element lies in its block. -/
def loc32 (y : S1792x3072.Idx) : S32x128.Idx :=
  fun a => match a with
    | ⟨0, _⟩ => ⟨(y 0).val % 32, Nat.mod_lt _ (by decide)⟩
    | ⟨1, _⟩ => ⟨(y 1).val % 128, Nat.mod_lt _ (by decide)⟩

section
variable {κ : Kind} {sp : Space}

/-- The block of 128 columns an element lies in. -/
def col64 (y : S3072x1792.Idx) : Fin 14 := ⟨(y 1).val / 128, by have h : (y 1).val < 1792 := (y 1).isLt; omega⟩
/-- Where an element lies in its block. -/
def loc64 (y : S3072x1792.Idx) : S64x128.Idx :=
  fun a => match a with
    | ⟨0, _⟩ => ⟨(y 0).val % 64, Nat.mod_lt _ (by decide)⟩
    | ⟨1, _⟩ => ⟨(y 1).val % 128, Nat.mod_lt _ (by decide)⟩

/-- The rows of a trip after its pieces are written read the trip's blocks; the other rows are as before. -/
theorem read_pieces32 (v : View sig κ sp S1792x3072 .bf16) (f : v.ty.Contents (Elt F)) (D : FVec F S32x3072 .bf16) (S : FVec F S32x128 .f32)
    (k : Fin k0_t1_loop.trips) (y : S1792x3072.Idx) :
    v.read (Elt F) (v.writes (Elt F) f (pieces32 D S k)) y
      = if (y 0).val / 32 = k.val then blk32 D S (col32 y) (loc32 y)
        else v.read (Elt F) f y := by
  have hy1 : (y 1).val < 3072 := (y 1).isLt
  split
  · rename_i h
    refine View.read_writes_apply_of_pieces v f (fun y : S1792x3072.Idx => blk32 D S (col32 y) (loc32 y)) _ ?_ y ?_
    · intro p hp x
      obtain ⟨j, -, rfl⟩ := List.mem_map.mp hp
      have hx0 : (x 0).val < 32 := (x 0).isLt
      have hx1 : (x 1).val < 128 := (x 1).isLt
      have e0 : ((Rect.unit (s := S1792x3072) (off32 j k) S32x128.size (off32_inb j k)).emb x 0).val = 32 * k.val + (x 0).val := by
        show off32 j k 0 + 1 * (x 0).val = _
        have h0 : off32 j k 0 = 32 * k.val := congrFun (off32_eq j k) 0
        omega
      have e1 : ((Rect.unit (s := S1792x3072) (off32 j k) S32x128.size (off32_inb j k)).emb x 1).val = 128 * j.val + (x 1).val := by
        show off32 j k 1 + 1 * (x 1).val = _
        have h0 : off32 j k 1 = 128 * j.val := congrFun (off32_eq j k) 1
        omega
      have hj : col32 ((Rect.unit (s := S1792x3072) (off32 j k) S32x128.size (off32_inb j k)).emb x) = j :=
        Fin.ext (by show _ / 128 = _; rw [e1]; omega)
      have hx : loc32 ((Rect.unit (s := S1792x3072) (off32 j k) S32x128.size (off32_inb j k)).emb x) = x := by
        funext a
        match a with
        | 0 => exact Fin.ext (by show _ % 32 = _; rw [e0]; omega)
        | 1 => exact Fin.ext (by show _ % 128 = _; rw [e1]; omega)
      show blk32 D S j x = blk32 D S _ _
      rw [hj]
      exact congrArg _ hx.symm
    · refine ⟨_, List.mem_map_of_mem (mem_js32 (col32 y)), ?_⟩
      refine (Rect.mem_set_unit (inb := off32_inb _ k)).mpr fun a => ?_
      have h0 : off32 (col32 y) k 0 = 32 * k.val := congrFun (off32_eq _ k) 0
      have h1 : off32 (col32 y) k 1 = 128 * ((y 1).val / 128) := congrFun (off32_eq _ k) 1
      match a with
      | ⟨0, _⟩ => exact ⟨by show off32 (col32 y) k 0 ≤ (y 0).val; omega, by show (y 0).val < off32 (col32 y) k 0 + 32; omega⟩
      | ⟨1, _⟩ => exact ⟨by show off32 (col32 y) k 1 ≤ (y 1).val; omega, by show (y 1).val < off32 (col32 y) k 1 + 128; omega⟩
  · rename_i h
    refine View.read_writes_apply_of_forall_not_mem v f y _ fun p hp => ?_
    obtain ⟨j, -, rfl⟩ := List.mem_map.mp hp
    refine Rect.not_mem_set_of_axis _ y 0 (32 * k.val) 32 ?_ rfl rfl (by omega)
    show off32 j k 0 = _
    rw [off32_eq]; rfl

/-- The rows of a trip after its pieces are written read the trip's blocks; the other rows are as before. -/
theorem read_pieces64 (v : View sig κ sp S3072x1792 .bf16) (f : v.ty.Contents (Elt F)) (D : FVec F S64x1792 .bf16) (S : FVec F S64x128 .f32)
    (k : Fin k0_t2_loop.trips) (y : S3072x1792.Idx) :
    v.read (Elt F) (v.writes (Elt F) f (pieces64 D S k)) y
      = if (y 0).val / 64 = k.val then blk64 D S (col64 y) (loc64 y)
        else v.read (Elt F) f y := by
  have hy1 : (y 1).val < 1792 := (y 1).isLt
  split
  · rename_i h
    refine View.read_writes_apply_of_pieces v f (fun y : S3072x1792.Idx => blk64 D S (col64 y) (loc64 y)) _ ?_ y ?_
    · intro p hp x
      obtain ⟨j, -, rfl⟩ := List.mem_map.mp hp
      have hx0 : (x 0).val < 64 := (x 0).isLt
      have hx1 : (x 1).val < 128 := (x 1).isLt
      have e0 : ((Rect.unit (s := S3072x1792) (off64 j k) S64x128.size (off64_inb j k)).emb x 0).val = 64 * k.val + (x 0).val := by
        show off64 j k 0 + 1 * (x 0).val = _
        have h0 : off64 j k 0 = 64 * k.val := congrFun (off64_eq j k) 0
        omega
      have e1 : ((Rect.unit (s := S3072x1792) (off64 j k) S64x128.size (off64_inb j k)).emb x 1).val = 128 * j.val + (x 1).val := by
        show off64 j k 1 + 1 * (x 1).val = _
        have h0 : off64 j k 1 = 128 * j.val := congrFun (off64_eq j k) 1
        omega
      have hj : col64 ((Rect.unit (s := S3072x1792) (off64 j k) S64x128.size (off64_inb j k)).emb x) = j :=
        Fin.ext (by show _ / 128 = _; rw [e1]; omega)
      have hx : loc64 ((Rect.unit (s := S3072x1792) (off64 j k) S64x128.size (off64_inb j k)).emb x) = x := by
        funext a
        match a with
        | 0 => exact Fin.ext (by show _ % 64 = _; rw [e0]; omega)
        | 1 => exact Fin.ext (by show _ % 128 = _; rw [e1]; omega)
      show blk64 D S j x = blk64 D S _ _
      rw [hj]
      exact congrArg _ hx.symm
    · refine ⟨_, List.mem_map_of_mem (mem_js64 (col64 y)), ?_⟩
      refine (Rect.mem_set_unit (inb := off64_inb _ k)).mpr fun a => ?_
      have h0 : off64 (col64 y) k 0 = 64 * k.val := congrFun (off64_eq _ k) 0
      have h1 : off64 (col64 y) k 1 = 128 * ((y 1).val / 128) := congrFun (off64_eq _ k) 1
      match a with
      | ⟨0, _⟩ => exact ⟨by show off64 (col64 y) k 0 ≤ (y 0).val; omega, by show (y 0).val < off64 (col64 y) k 0 + 64; omega⟩
      | ⟨1, _⟩ => exact ⟨by show off64 (col64 y) k 1 ≤ (y 1).val; omega, by show (y 1).val < off64 (col64 y) k 1 + 128; omega⟩
  · rename_i h
    refine View.read_writes_apply_of_forall_not_mem v f y _ fun p hp => ?_
    obtain ⟨j, -, rfl⟩ := List.mem_map.mp hp
    refine Rect.not_mem_set_of_axis _ y 0 (64 * k.val) 64 ?_ rfl rfl (by omega)
    show off64 j k 0 = _
    rw [off64_eq]; rfl

end

variable (i : grid0.Coords)
  (a3 : Memref sig .tc .vmem S256x3072 .bf16) (h3 : a3.IsWhole)
  (a4 : Memref sig .tc .vmem S1x1792x128 .i8) (h4 : a4.IsWhole)
  (a5 : Memref sig .tc .vmem S1x1792x128 .i8) (h5 : a5.IsWhole)
  (a6 : Memref sig .tc .vmem S1x3072x128 .i8) (h6 : a6.IsWhole)
  (a7 : Memref sig .tc .vmem S1x1x1792 .bf16) (h7 : a7.IsWhole)
  (a8 : Memref sig .tc .vmem S1x1x1792 .bf16) (h8 : a8.IsWhole)
  (a9 : Memref sig .tc .vmem S1x1x3072 .bf16) (h9 : a9.IsWhole)
  (a12 : Memref sig .tc .vmem S256x3072 .f32) (h12 : a12.IsWhole)

/-- The rows of codes a trip of the first loop reads. -/
def codes1 (Q : Vec F S1792x3072 .i8) (k : Fin k0_t1_loop.trips) : Vec F S32x3072 .i8 :=
  fun x => Q ((Rect.unit (s := S1792x3072) (k0_off4 k) S32x3072.size (k0_off4_inb k)).toLoadRect.idx x)
/-- The rows of scales a trip of the first loop reads. -/
def scales1 (Z : Vec F S1x1792x128 .i8) (k : Fin k0_t1_loop.trips) : Vec F S1x32x128 .i8 :=
  fun x => Z ((Rect.unit (s := S1x1792x128) (k0_off5 k) S1x32x128.size (k0_off5_inb k)).toLoadRect.idx x)
/-- The rows of codes a trip of the second loop reads. -/
def codes2 (Q : Vec F S1536x1792 .i8) (k : Fin k0_t2_loop.trips) : Vec F S32x1792 .i8 :=
  fun x => Q ((Rect.unit (s := S1536x1792) (k0_off30 k) S32x1792.size (k0_off30_inb k)).toLoadRect.idx x)
/-- The rows of scales a trip of the second loop reads. -/
def scales2 (Z : Vec F S1x3072x128 .i8) (k : Fin k0_t2_loop.trips) : Vec F S1x64x128 .i8 :=
  fun x => Z ((Rect.unit (s := S1x3072x128) (k0_off31 k) S1x64x128.size (k0_off31_inb k)).toLoadRect.idx x)

/-- The first loop's pieces of the gate weights, in closed form. -/
theorem trip1_gate (c : Dev nD) (X4 : MBuf (F := F) c a4) (X5 : MBuf (F := F) c a5) (X16 : MBuf (F := F) c scM3) (k : Fin k0_t1_loop.trips) :
    (trip1 i a3 h3 a4 h4 a5 h5 a6 h6 a7 h7 a8 h8 a9 h9 a12 h12 c X4 X5 X16 k).1
      = pieces32 (k0_pay3 (codes1 (scM3.view.read (Elt F) X16) k)) (k0_pay4 (scales1 (a4.view.read (Elt F) X4) k)) k := by
  unfold trip1 pieces32
  dsimp only [List.map_cons, List.map_nil]
  iterate 24 refine congrArg₂ List.cons (by sl_kernel_rfl) ?_
  rfl

/-- The first loop's pieces of the up weights, in closed form. -/
theorem trip1_up (c : Dev nD) (X4 : MBuf (F := F) c a4) (X5 : MBuf (F := F) c a5) (X16 : MBuf (F := F) c scM3) (k : Fin k0_t1_loop.trips) :
    (trip1 i a3 h3 a4 h4 a5 h5 a6 h6 a7 h7 a8 h8 a9 h9 a12 h12 c X4 X5 X16 k).2.1
      = pieces32 (k0_pay91 (F := F) (k0_pay2 (codes1 (scM3.view.read (Elt F) X16) k))) (k0_pay92 (scales1 (a5.view.read (Elt F) X5) k)) k := by
  unfold trip1 pieces32
  dsimp only [List.map_cons, List.map_nil]
  iterate 24 refine congrArg₂ List.cons (by sl_kernel_rfl) ?_
  rfl

/-- The second loop's pieces of the down weights, in closed form. -/
theorem trip2_down (c : Dev nD) (X6 : MBuf (F := F) c a6) (X17 : MBuf (F := F) c scM4) (k : Fin k0_t2_loop.trips) :
    (trip2 i a3 h3 a4 h4 a5 h5 a6 h6 a7 h7 a8 h8 a9 h9 a12 h12 c X6 X17 k).1
      = pieces64 (k0_pay179 (codes2 (scM4.view.read (Elt F) X17) k)) (k0_pay180 (scales2 (a6.view.read (Elt F) X6) k)) k := by
  unfold trip2 pieces64
  dsimp only [List.map_cons, List.map_nil]
  iterate 14 refine congrArg₂ List.cons (by sl_kernel_rfl) ?_
  rfl

end Cert.Kernel.Hand

end
-- ==== Proof.KeInv.lean ====
module

public import proofs.«01_k».proof.Proof.KeWeights

/-! The two decoding loops by their invariants, and the decoded weights they leave. -/

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- One trip's pieces of the gate weights, from the whole arrays of codes and scales. -/
def gatePc (Q : Vec F S1792x3072 .i8) (Z : Vec F S1x1792x128 .i8) (k : Fin k0_t1_loop.trips) :=
  pieces32 (F := F) (k0_pay3 (codes1 Q k)) (k0_pay4 (scales1 Z k)) k
/-- One trip's pieces of the up weights. -/
def upPc (Q : Vec F S1792x3072 .i8) (Z : Vec F S1x1792x128 .i8) (k : Fin k0_t1_loop.trips) :=
  pieces32 (F := F) (k0_pay91 (F := F) (k0_pay2 (codes1 Q k))) (k0_pay92 (scales1 Z k)) k
/-- One trip's pieces of the down weights. -/
def downPc (Q : Vec F S1536x1792 .i8) (Z : Vec F S1x3072x128 .i8) (k : Fin k0_t2_loop.trips) :=
  pieces64 (F := F) (k0_pay179 (codes2 Q k)) (k0_pay180 (scales2 Z k)) k

/-- The pieces of trip `k`, if there is one, before those of `prev`. -/
@[irreducible] def upToStep {n : ℕ} {α : Type} (pc : Fin n → List α) (k : ℕ) (prev : List α) : List α :=
  if h : k < n then pc ⟨k, h⟩ ++ prev else prev

/-- The pieces of the trips before the `n`-th, the last written first. -/
def upTo {n : ℕ} {α : Type} (pc : Fin n → List α) : ℕ → List α
  | 0 => []
  | k + 1 => upToStep pc k (upTo pc k)

theorem upTo_zero {n : ℕ} {α : Type} (pc : Fin n → List α) : upTo pc 0 = [] := rfl
theorem upTo_succ {n : ℕ} {α : Type} (pc : Fin n → List α) (k : Fin n) : upTo pc (k.val + 1) = pc k ++ upTo pc k.val := by
  rw [upTo]; unfold upToStep; exact dif_pos k.isLt

/-- The trip of the first loop that decodes an element's row. -/
def trip32 (y : S1792x3072.Idx) : Fin k0_t1_loop.trips :=
  ⟨(y 0).val / 32, by have h : (y 0).val < 1792 := (y 0).isLt; rw [trips1_eq]; omega⟩
/-- The trip of the second loop that decodes an element's row. -/
def trip64 (y : S3072x1792.Idx) : Fin k0_t2_loop.trips :=
  ⟨(y 0).val / 64, by have h : (y 0).val < 3072 := (y 0).isLt; rw [trips2_eq]; omega⟩

/-- The gate weights decoded from an expert's codes and scales. -/
def wGate (Q : Vec F S1792x3072 .i8) (Z : Vec F S1x1792x128 .i8) : FVec F S1792x3072 .bf16 := fun y =>
  blk32 (k0_pay3 (codes1 Q (trip32 y))) (k0_pay4 (scales1 Z (trip32 y))) (col32 y) (loc32 y)
/-- The up weights decoded from an expert's codes and scales. -/
def wUp (Q : Vec F S1792x3072 .i8) (Z : Vec F S1x1792x128 .i8) : FVec F S1792x3072 .bf16 := fun y =>
  blk32 (k0_pay91 (F := F) (k0_pay2 (codes1 Q (trip32 y)))) (k0_pay92 (scales1 Z (trip32 y))) (col32 y) (loc32 y)
/-- The down weights decoded from an expert's codes and scales. -/
def wDown (Q : Vec F S1536x1792 .i8) (Z : Vec F S1x3072x128 .i8) : FVec F S3072x1792 .bf16 := fun y =>
  blk64 (k0_pay179 (codes2 Q (trip64 y))) (k0_pay180 (scales2 Z (trip64 y))) (col64 y) (loc64 y)

section
variable {κ : Kind} {sp : Space}

theorem read_upTo32 (v : View sig κ sp S1792x3072 .bf16) (f : v.ty.Contents (Elt F))
    (D : Fin k0_t1_loop.trips → FVec F S32x3072 .bf16) (S : Fin k0_t1_loop.trips → FVec F S32x128 .f32) (y : S1792x3072.Idx) :
    ∀ n, n ≤ k0_t1_loop.trips → v.read (Elt F) (v.writes (Elt F) f (upTo (fun k => pieces32 (D k) (S k) k) n)) y
      = if (y 0).val / 32 < n then blk32 (D (trip32 y)) (S (trip32 y)) (col32 y) (loc32 y) else v.read (Elt F) f y
  | 0, _ => by rw [upTo_zero, if_neg (Nat.not_lt_zero _)]; rfl
  | n + 1, hn => by
    have h := upTo_succ (fun k => pieces32 (D k) (S k) k) ⟨n, hn⟩
    dsimp only at h
    rw [h, View.writes_append, read_pieces32, read_upTo32 v f D S y n (by omega)]
    by_cases e : (y 0).val / 32 = n
    · rw [if_pos e, if_pos (by omega)]
      have : trip32 y = ⟨n, hn⟩ := Fin.ext e
      rw [this]
    · rw [if_neg e]
      by_cases e' : (y 0).val / 32 < n
      · rw [if_pos e', if_pos (by omega)]
      · rw [if_neg e', if_neg (by omega)]

theorem read_upTo64 (v : View sig κ sp S3072x1792 .bf16) (f : v.ty.Contents (Elt F))
    (D : Fin k0_t2_loop.trips → FVec F S64x1792 .bf16) (S : Fin k0_t2_loop.trips → FVec F S64x128 .f32) (y : S3072x1792.Idx) :
    ∀ n, n ≤ k0_t2_loop.trips → v.read (Elt F) (v.writes (Elt F) f (upTo (fun k => pieces64 (D k) (S k) k) n)) y
      = if (y 0).val / 64 < n then blk64 (D (trip64 y)) (S (trip64 y)) (col64 y) (loc64 y) else v.read (Elt F) f y
  | 0, _ => by rw [upTo_zero, if_neg (Nat.not_lt_zero _)]; rfl
  | n + 1, hn => by
    have h := upTo_succ (fun k => pieces64 (D k) (S k) k) ⟨n, hn⟩
    dsimp only at h
    rw [h, View.writes_append, read_pieces64, read_upTo64 v f D S y n (by omega)]
    by_cases e : (y 0).val / 64 = n
    · rw [if_pos e, if_pos (by omega)]
      have : trip64 y = ⟨n, hn⟩ := Fin.ext e
      rw [this]
    · rw [if_neg e]
      by_cases e' : (y 0).val / 64 < n
      · rw [if_pos e', if_pos (by omega)]
      · rw [if_neg e', if_neg (by omega)]

/-- After all the trips the first loop's first array reads the gate weights. -/
theorem read_gate (v : View sig κ sp S1792x3072 .bf16) (f : v.ty.Contents (Elt F)) (Q : Vec F S1792x3072 .i8) (Z : Vec F S1x1792x128 .i8) :
    v.read (Elt F) (v.writes (Elt F) f (upTo (gatePc Q Z) k0_t1_loop.trips)) = wGate Q Z := by
  funext y
  refine (read_upTo32 v f (fun k => k0_pay3 (codes1 Q k)) (fun k => k0_pay4 (scales1 Z k)) y _ le_rfl).trans ?_
  exact if_pos (trip32 y).isLt

/-- After all the trips the first loop's second array reads the up weights. -/
theorem read_up (v : View sig κ sp S1792x3072 .bf16) (f : v.ty.Contents (Elt F)) (Q : Vec F S1792x3072 .i8) (Z : Vec F S1x1792x128 .i8) :
    v.read (Elt F) (v.writes (Elt F) f (upTo (upPc Q Z) k0_t1_loop.trips)) = wUp Q Z := by
  funext y
  refine (read_upTo32 v f (fun k => k0_pay91 (F := F) (k0_pay2 (codes1 Q k))) (fun k => k0_pay92 (scales1 Z k)) y _ le_rfl).trans ?_
  exact if_pos (trip32 y).isLt

/-- After all the trips the second loop's array reads the down weights. -/
theorem read_down (v : View sig κ sp S3072x1792 .bf16) (f : v.ty.Contents (Elt F)) (Q : Vec F S1536x1792 .i8) (Z : Vec F S1x3072x128 .i8) :
    v.read (Elt F) (v.writes (Elt F) f (upTo (downPc Q Z) k0_t2_loop.trips)) = wDown Q Z := by
  funext y
  refine (read_upTo64 v f (fun k => k0_pay179 (codes2 Q k)) (fun k => k0_pay180 (scales2 Z k)) y _ le_rfl).trans ?_
  exact if_pos (trip64 y).isLt

end

variable (i : grid0.Coords)
  (a3 : Memref sig .tc .vmem S256x3072 .bf16) (h3 : a3.IsWhole)
  (a4 : Memref sig .tc .vmem S1x1792x128 .i8) (h4 : a4.IsWhole)
  (a5 : Memref sig .tc .vmem S1x1792x128 .i8) (h5 : a5.IsWhole)
  (a6 : Memref sig .tc .vmem S1x3072x128 .i8) (h6 : a6.IsWhole)
  (a7 : Memref sig .tc .vmem S1x1x1792 .bf16) (h7 : a7.IsWhole)
  (a8 : Memref sig .tc .vmem S1x1x1792 .bf16) (h8 : a8.IsWhole)
  (a9 : Memref sig .tc .vmem S1x1x3072 .bf16) (h9 : a9.IsWhole)
  (a12 : Memref sig .tc .vmem S256x3072 .f32) (h12 : a12.IsWhole)

/-- Before trip `k` of the first loop: the codes and scales, and the pieces of the trips before `k` in the two arrays. -/
abbrev inv1 (c : Dev nD) (X4 : MBuf (F := F) c a4) (X5 : MBuf (F := F) c a5) (X16 : MBuf (F := F) c scM3) (G13 : MBuf (F := F) c scM0) (G14 : MBuf (F := F) c scM1)
    (k : ℕ) (_u : PUnit) : sProp 𝕄 :=
  iprop((a4.view.loc (c : Thread nD τ) ↦[a4.view.set]{fullShare} X4) ∗ (a5.view.loc (c : Thread nD τ) ↦[a5.view.set]{fullShare} X5)
    ∗ (scM3.view.loc (c : Thread nD τ) ↦[scM3.view.set]{fullShare} X16)
    ∗ (∃ f, (scM0.view.loc (c : Thread nD τ) ↦[scM0.view.set]{fullShare} f)
        ∗ ⌜f = scM0.view.writes (Elt F) G13 (upTo (gatePc (scM3.view.read (Elt F) X16) (a4.view.read (Elt F) X4)) k)⌝)
    ∗ (∃ f, (scM1.view.loc (c : Thread nD τ) ↦[scM1.view.set]{fullShare} f)
        ∗ ⌜f = scM1.view.writes (Elt F) G14 (upTo (upPc (scM3.view.read (Elt F) X16) (a5.view.read (Elt F) X5)) k)⌝))

set_option warn.classDefReducibility false in
/-- The first loop by its invariant. -/
@[sl_loop] def loopInv1 (c : Dev nD) (E : Set ℕ) (X4 : MBuf (F := F) c a4) (X5 : MBuf (F := F) c a5) (X16 : MBuf (F := F) c scM3)
    (G13 : MBuf (F := F) c scM0) (G14 : MBuf (F := F) c scM1) :
    LoopInvTy_k0_t1 (F := F) Unit ℕ (Pipeline.UD sig nD τ) ℕ Variants.none c none E i tbM0 (Memref.isWhole_whole _) tbM1 (Memref.isWhole_whole _) a3 h3 a4 h4 a5 h5 a6 h6 a7 h7 a8 h8 a9 h9 hbM0 (Memref.isWhole_whole _) hbM1 (Memref.isWhole_whole _) a12 h12 scM0 (Memref.isWhole_whole _) scM1 (Memref.isWhole_whole _) scM2 (Memref.isWhole_whole _) scM3 (Memref.isWhole_whole _) scM4 (Memref.isWhole_whole _) scM5 (Memref.isWhole_whole _) cc0_scratch6 where
  inv := inv1 a4 a5 c X4 X5 X16 G13 G14
  step k acc := by
    iintro ⟨HR4, HR5, HR16, ⟨%f13, HW13, %h13⟩, ⟨%f14, HW14, %h14⟩⟩
    iapply (wp_wand_r Idealize.ShloMosaic.frame (wpE (defs₀ (F := F)) Variants.none (c : Thread nD τ) none) E)
    isplitl [HR4 HR5 HR16 HW13 HW14]
    · iapply ((trip1 i a3 h3 a4 h4 a5 h5 a6 h6 a7 h7 a8 h8 a9 h9 a12 h12 c X4 X5 X16 k).2.2 E f13 f14)
      isplitl [HR4]; · iexact HR4
      isplitl [HR5]; · iexact HR5
      isplitl [HR16]; · iexact HR16
      isplitl [HW13]; · iexact HW13
      iexact HW14
    · iintro %_ ⟨HR4, HR5, HR16, HW13, HW14⟩
      isplitl [HR4]; · iexact HR4
      isplitl [HR5]; · iexact HR5
      isplitl [HR16]; · iexact HR16
      isplitl [HW13]
      · iexists _; isplitl [HW13]; · iexact HW13
        ipureintro; rw [h13, trip1_gate, upTo_succ, ← View.writes_append]; rfl
      iexists _; isplitl [HW14]; · iexact HW14
      ipureintro; rw [h14, trip1_up, upTo_succ, ← View.writes_append]; rfl

/-- Before trip `k` of the second loop. -/
abbrev inv2 (c : Dev nD) (X6 : MBuf (F := F) c a6) (X17 : MBuf (F := F) c scM4) (G15 : MBuf (F := F) c scM2)
    (k : ℕ) (_u : PUnit) : sProp 𝕄 :=
  iprop((a6.view.loc (c : Thread nD τ) ↦[a6.view.set]{fullShare} X6)
    ∗ (scM4.view.loc (c : Thread nD τ) ↦[scM4.view.set]{fullShare} X17)
    ∗ (∃ f, (scM2.view.loc (c : Thread nD τ) ↦[scM2.view.set]{fullShare} f)
        ∗ ⌜f = scM2.view.writes (Elt F) G15 (upTo (downPc (scM4.view.read (Elt F) X17) (a6.view.read (Elt F) X6)) k)⌝))

set_option warn.classDefReducibility false in
/-- The second loop by its invariant. -/
@[sl_loop] def loopInv2 (c : Dev nD) (E : Set ℕ) (X6 : MBuf (F := F) c a6) (X17 : MBuf (F := F) c scM4) (G15 : MBuf (F := F) c scM2) :
    LoopInvTy_k0_t2 (F := F) Unit ℕ (Pipeline.UD sig nD τ) ℕ Variants.none c none E i tbM0 (Memref.isWhole_whole _) tbM1 (Memref.isWhole_whole _) a3 h3 a4 h4 a5 h5 a6 h6 a7 h7 a8 h8 a9 h9 hbM0 (Memref.isWhole_whole _) hbM1 (Memref.isWhole_whole _) a12 h12 scM0 (Memref.isWhole_whole _) scM1 (Memref.isWhole_whole _) scM2 (Memref.isWhole_whole _) scM3 (Memref.isWhole_whole _) scM4 (Memref.isWhole_whole _) scM5 (Memref.isWhole_whole _) cc0_scratch6 where
  inv := inv2 a6 c X6 X17 G15
  step k acc := by
    iintro ⟨HR6, HR17, ⟨%f15, HW15, %h15⟩⟩
    iapply (wp_wand_r Idealize.ShloMosaic.frame (wpE (defs₀ (F := F)) Variants.none (c : Thread nD τ) none) E)
    isplitl [HR6 HR17 HW15]
    · iapply ((trip2 i a3 h3 a4 h4 a5 h5 a6 h6 a7 h7 a8 h8 a9 h9 a12 h12 c X6 X17 k).2 E f15)
      isplitl [HR6]; · iexact HR6
      isplitl [HR17]; · iexact HR17
      iexact HW15
    · iintro %_ ⟨HR6, HR17, HW15⟩
      isplitl [HR6]; · iexact HR6
      isplitl [HR17]; · iexact HR17
      iexists _; isplitl [HW15]; · iexact HW15
      ipureintro; rw [h15, trip2_down, upTo_succ, ← View.writes_append]; rfl

end Cert.Kernel.Hand

end
-- ==== Proof.KeBody.lean ====
module

public import proofs.«01_k».proof.Proof.KeInv

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (i : grid0.Coords)
  (a3 : Memref sig .tc .vmem S256x3072 .bf16) (h3 : a3.IsWhole)
  (a4 : Memref sig .tc .vmem S1x1792x128 .i8) (h4 : a4.IsWhole)
  (a5 : Memref sig .tc .vmem S1x1792x128 .i8) (h5 : a5.IsWhole)
  (a6 : Memref sig .tc .vmem S1x3072x128 .i8) (h6 : a6.IsWhole)
  (a7 : Memref sig .tc .vmem S1x1x1792 .bf16) (h7 : a7.IsWhole)
  (a8 : Memref sig .tc .vmem S1x1x1792 .bf16) (h8 : a8.IsWhole)
  (a9 : Memref sig .tc .vmem S1x1x3072 .bf16) (h9 : a9.IsWhole)
  (a12 : Memref sig .tc .vmem S256x3072 .f32) (h12 : a12.IsWhole)

/-- The word of a table that grid point `i` reads. -/
abbrev word (c : Dev nD) (M : Memref sig .tc .smem S100 .i32) (f : MBuf (F := F) c M) : BitVec 32 :=
  M.view.readAt (Elt F) (Rect.unit (s := S100) (k0_off1 i) S1.size (k0_off1_inb i)).toLoadRect f
    (Shape.Idx.first (numel1_S1.symm ▸ Nat.one_pos))

set_option backward.isDefEq.respectTransparency.types false in
/-- The body at a grid point where the expert changes: the codes are fetched, the weights decoded, the tile computed. -/
def runF (c : Dev nD) (T0 : MBuf (F := F) c tbM0) (T1 : MBuf (F := F) c tbM1)
    (X3 : MBuf (F := F) c a3) (X4 : MBuf (F := F) c a4) (X5 : MBuf (F := F) c a5) (X6 : MBuf (F := F) c a6)
    (X7 : MBuf (F := F) c a7) (X8 : MBuf (F := F) c a8) (X9 : MBuf (F := F) c a9)
    (B0 : MBuf (F := F) c hbM0) (B1 : MBuf (F := F) c hbM1)
    (G13 : MBuf (F := F) c scM0) (G14 : MBuf (F := F) c scM1) (G15 : MBuf (F := F) c scM2) (G16 : MBuf (F := F) c scM3)
    (G17 : MBuf (F := F) c scM4) (G18 : MBuf (F := F) c scM5)
    (hchk : k0_chk1 (word i c tbM0 T0) (word i c tbM1 T1)) (hfr : k0_cond1 (word i c tbM1 T1) = 1#1) :
    Σ' (P13 : MBuf (F := F) c scM0) (P14 : MBuf (F := F) c scM1) (P15 : MBuf (F := F) c scM2) (P16 : MBuf (F := F) c scM3)
      (P17 : MBuf (F := F) c scM4) (P18 : MBuf (F := F) c scM5), { L12 : List (View.Piece (Elt F) S256x3072 .f32) //
      ∀ (G12 : MBuf (F := F) c a12) (W : Waits sig Unit) (K : PUnit → sProp 𝕄),
      iprop(tbPt c tbM0 T0 ∗ tbPt c tbM1 T1 ∗ mPt c a3 X3 ∗ mPt c a4 X4 ∗ mPt c a5 X5 ∗ mPt c a6 X6 ∗ mPt c a7 X7 ∗ mPt c a8 X8 ∗ mPt c a9 X9
        ∗ hbPt c hbM0 B0 ∗ hbPt c hbM1 B1 ∗ mPt c a12 G12
        ∗ mPt c scM0 G13 ∗ mPt c scM1 G14 ∗ mPt c scM2 G15 ∗ mPt c scM3 G16 ∗ mPt c scM4 G17 ∗ mPt c scM5 G18
        ∗ semVal ((c : Thread nD τ), SemLoc.dma 16) 0 ∗ semVal ((c : Thread nD τ), SemLoc.dma 17) 0
        ∗ owes (c : Thread nD τ) 0 W
        ∗ (iprop(tbPt c tbM0 T0 ∗ tbPt c tbM1 T1 ∗ mPt c a3 X3 ∗ mPt c a4 X4 ∗ mPt c a5 X5 ∗ mPt c a6 X6 ∗ mPt c a7 X7 ∗ mPt c a8 X8 ∗ mPt c a9 X9
            ∗ hbPt c hbM0 B0 ∗ hbPt c hbM1 B1 ∗ mPt c a12 (a12.view.writes (Elt F) G12 L12)
            ∗ mPt c scM0 P13 ∗ mPt c scM1 P14 ∗ mPt c scM2 P15 ∗ mPt c scM3 P16 ∗ mPt c scM4 P17 ∗ mPt c scM5 P18
            ∗ semVal ((c : Thread nD τ), SemLoc.dma 16) 0 ∗ semVal ((c : Thread nD τ), SemLoc.dma 17) 0
            ∗ (∃ W', owes (c : Thread nD τ) 0 W')) -∗ K ⟨⟩))
      ⊢ wp frame (wpE (defs₀ (F := F)) Variants.none (c : Thread nD τ) none) Set.univ (cc0_moe_ffn (F := F) i tbM0 (Memref.isWhole_whole _) tbM1 (Memref.isWhole_whole _) a3 h3 a4 h4 a5 h5 a6 h6 a7 h7 a8 h8 a9 h9 hbM0 (Memref.isWhole_whole _) hbM1 (Memref.isWhole_whole _) a12 h12 scM0 (Memref.isWhole_whole _) scM1 (Memref.isWhole_whole _) scM2 (Memref.isWhole_whole _) scM3 (Memref.isWhole_whole _) scM4 (Memref.isWhole_whole _) scM5 (Memref.isWhole_whole _) cc0_scratch6) K } := by
  refine ⟨?_, ?_, ?_, ?_, ?_, ?_, ?_, fun G12 W K => ?run⟩
  case run =>
    simp only [cc0_moe_ffn_eq_skeleton]; unfold cc0_moe_ffn_skel
    iintro ⟨HT0, HT1, H3, H4, H5, H6, H7, H8, H9, HB0, HB1, H12, H13, H14, H15, H16, H17, H18, Hs0, Hs1, HW, Hk⟩
    sl_exec
    sl_step
    iapply Hk
    isplitl [HT0]; · iexact HT0
    isplitl [HT1]; · iexact HT1
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HB0]; · iexact HB0
    isplitl [HB1]; · iexact HB1
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [Hs0]; · iexact Hs0
    isplitl [Hs1]; · iexact Hs1
    iexists _; iexact HW

set_option backward.isDefEq.respectTransparency.types false in
/-- The body at a grid point where the expert stays: the tile is computed from the decoded weights. -/
def runN (c : Dev nD) (T0 : MBuf (F := F) c tbM0) (T1 : MBuf (F := F) c tbM1)
    (X3 : MBuf (F := F) c a3) (X4 : MBuf (F := F) c a4) (X5 : MBuf (F := F) c a5) (X6 : MBuf (F := F) c a6)
    (X7 : MBuf (F := F) c a7) (X8 : MBuf (F := F) c a8) (X9 : MBuf (F := F) c a9)
    (B0 : MBuf (F := F) c hbM0) (B1 : MBuf (F := F) c hbM1)
    (G13 : MBuf (F := F) c scM0) (G14 : MBuf (F := F) c scM1) (G15 : MBuf (F := F) c scM2) (G16 : MBuf (F := F) c scM3)
    (G17 : MBuf (F := F) c scM4) (G18 : MBuf (F := F) c scM5)
    (hchk : k0_chk1 (word i c tbM0 T0) (word i c tbM1 T1)) (hfr : ¬ k0_cond1 (word i c tbM1 T1) = 1#1) :
    Σ' (P13 : MBuf (F := F) c scM0) (P14 : MBuf (F := F) c scM1) (P15 : MBuf (F := F) c scM2) (P16 : MBuf (F := F) c scM3)
      (P17 : MBuf (F := F) c scM4) (P18 : MBuf (F := F) c scM5), { L12 : List (View.Piece (Elt F) S256x3072 .f32) //
      ∀ (G12 : MBuf (F := F) c a12) (W : Waits sig Unit) (K : PUnit → sProp 𝕄),
      iprop(tbPt c tbM0 T0 ∗ tbPt c tbM1 T1 ∗ mPt c a3 X3 ∗ mPt c a4 X4 ∗ mPt c a5 X5 ∗ mPt c a6 X6 ∗ mPt c a7 X7 ∗ mPt c a8 X8 ∗ mPt c a9 X9
        ∗ hbPt c hbM0 B0 ∗ hbPt c hbM1 B1 ∗ mPt c a12 G12
        ∗ mPt c scM0 G13 ∗ mPt c scM1 G14 ∗ mPt c scM2 G15 ∗ mPt c scM3 G16 ∗ mPt c scM4 G17 ∗ mPt c scM5 G18
        ∗ semVal ((c : Thread nD τ), SemLoc.dma 16) 0 ∗ semVal ((c : Thread nD τ), SemLoc.dma 17) 0
        ∗ owes (c : Thread nD τ) 0 W
        ∗ (iprop(tbPt c tbM0 T0 ∗ tbPt c tbM1 T1 ∗ mPt c a3 X3 ∗ mPt c a4 X4 ∗ mPt c a5 X5 ∗ mPt c a6 X6 ∗ mPt c a7 X7 ∗ mPt c a8 X8 ∗ mPt c a9 X9
            ∗ hbPt c hbM0 B0 ∗ hbPt c hbM1 B1 ∗ mPt c a12 (a12.view.writes (Elt F) G12 L12)
            ∗ mPt c scM0 P13 ∗ mPt c scM1 P14 ∗ mPt c scM2 P15 ∗ mPt c scM3 P16 ∗ mPt c scM4 P17 ∗ mPt c scM5 P18
            ∗ semVal ((c : Thread nD τ), SemLoc.dma 16) 0 ∗ semVal ((c : Thread nD τ), SemLoc.dma 17) 0
            ∗ (∃ W', owes (c : Thread nD τ) 0 W')) -∗ K ⟨⟩))
      ⊢ wp frame (wpE (defs₀ (F := F)) Variants.none (c : Thread nD τ) none) Set.univ (cc0_moe_ffn (F := F) i tbM0 (Memref.isWhole_whole _) tbM1 (Memref.isWhole_whole _) a3 h3 a4 h4 a5 h5 a6 h6 a7 h7 a8 h8 a9 h9 hbM0 (Memref.isWhole_whole _) hbM1 (Memref.isWhole_whole _) a12 h12 scM0 (Memref.isWhole_whole _) scM1 (Memref.isWhole_whole _) scM2 (Memref.isWhole_whole _) scM3 (Memref.isWhole_whole _) scM4 (Memref.isWhole_whole _) scM5 (Memref.isWhole_whole _) cc0_scratch6) K } := by
  refine ⟨?_, ?_, ?_, ?_, ?_, ?_, ?_, fun G12 W K => ?run⟩
  case run =>
    simp only [cc0_moe_ffn_eq_skeleton]; unfold cc0_moe_ffn_skel
    iintro ⟨HT0, HT1, H3, H4, H5, H6, H7, H8, H9, HB0, HB1, H12, H13, H14, H15, H16, H17, H18, Hs0, Hs1, HW, Hk⟩
    sl_exec
    sl_step
    iapply Hk
    isplitl [HT0]; · iexact HT0
    isplitl [HT1]; · iexact HT1
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HB0]; · iexact HB0
    isplitl [HB1]; · iexact HB1
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [Hs0]; · iexact Hs0
    isplitl [Hs1]; · iexact Hs1
    iexists _; iexact HW

end Cert.Kernel.Hand

end
-- ==== Proof.KeOut.lean ====
module

public import proofs.«01_k».proof.Proof.KeBody
public import Idealize.ShloMosaic.Lib.Pointwise

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

theorem inbRows256 : ∀ c : Fin 7, ∀ a, (![256 * c.val, 0] : Fin 2 → ℕ) a + S256x3072.size a ≤ S1792x3072.size a := by decide +kernel
theorem inbLanes256 : ∀ c : Fin 7, ∀ a, (![0, 0, 256 * c.val] : Fin 3 → ℕ) a + S1x1x256.size a ≤ S1x1x1792.size a := by decide +kernel
theorem inbH : ∀ c : Fin 7, ∀ a, (![0, 256 * c.val] : Fin 2 → ℕ) a + S256x256.size a ≤ S256x1792.size a := by decide +kernel
theorem inbRows512 : ∀ n : Fin 6, ∀ a, (![512 * n.val, 0] : Fin 2 → ℕ) a + S512x1792.size a ≤ S3072x1792.size a := by decide +kernel
theorem inbLanes512 : ∀ n : Fin 6, ∀ a, (![0, 0, 512 * n.val] : Fin 3 → ℕ) a + S1x1x512.size a ≤ S1x1x3072.size a := by decide +kernel
theorem inbY : ∀ n : Fin 6, ∀ a, (![0, 512 * n.val] : Fin 2 → ℕ) a + S256x512.size a ≤ S256x3072.size a := by decide +kernel

/-- 256 rows of the gate or up weights. -/
def rows256 (W : FVec F S1792x3072 .bf16) (c : Fin 7) : FVec F S256x3072 .bf16 := fun x =>
  W ((Rect.unit (s := S1792x3072) ![256 * c.val, 0] S256x3072.size (inbRows256 c)).toLoadRect.idx x)
/-- 256 lanes of the gate or up bias. -/
def lanes256 (b : FVec F S1x1x1792 .bf16) (c : Fin 7) : FVec F S1x1x256 .bf16 := fun x =>
  b ((Rect.unit (s := S1x1x1792) ![0, 0, 256 * c.val] S1x1x256.size (inbLanes256 c)).toLoadRect.idx x)
/-- 512 rows of the down weights. -/
def rows512 (W : FVec F S3072x1792 .bf16) (n : Fin 6) : FVec F S512x1792 .bf16 := fun x =>
  W ((Rect.unit (s := S3072x1792) ![512 * n.val, 0] S512x1792.size (inbRows512 n)).toLoadRect.idx x)
/-- 512 lanes of the down bias. -/
def lanes512 (b : FVec F S1x1x3072 .bf16) (n : Fin 6) : FVec F S1x1x512 .bf16 := fun x =>
  b ((Rect.unit (s := S1x1x3072) ![0, 0, 512 * n.val] S1x1x512.size (inbLanes512 n)).toLoadRect.idx x)

/-- 256 columns of the hidden activations of a tile. -/
def hBlk (x : FVec F S256x3072 .bf16) (WG WU : FVec F S1792x3072 .bf16) (bg bu : FVec F S1x1x1792 .bf16) (c : Fin 7) : FVec F S256x256 .bf16 :=
  k0_pay241 (k0_pay238 x) (rows256 WG c) (rows256 WU c) (lanes256 bg c) (lanes256 bu c)
/-- The pieces of the hidden activations, the last written first. -/
def hPieces (x : FVec F S256x3072 .bf16) (WG WU : FVec F S1792x3072 .bf16) (bg bu : FVec F S1x1x1792 .bf16) :
    List (View.Piece (Elt F) S256x1792 .bf16) :=
  ([6, 5, 4, 3, 2, 1, 0] : List (Fin 7)).map fun c => ⟨Rect.unit ![0, 256 * c.val] S256x256.size (inbH c), hBlk x WG WU bg bu c⟩

/-- The block of 256 columns an element of the hidden activations lies in, and where. -/
def hCol (y : S256x1792.Idx) : Fin 7 := ⟨(y 1).val / 256, by have h : (y 1).val < 1792 := (y 1).isLt; omega⟩
def hLoc (y : S256x1792.Idx) : S256x256.Idx :=
  fun a => match a with
    | ⟨0, _⟩ => ⟨(y 0).val, (y 0).isLt⟩
    | ⟨1, _⟩ => ⟨(y 1).val % 256, Nat.mod_lt _ (by decide)⟩
/-- The hidden activations of a tile. -/
def hid (x : FVec F S256x3072 .bf16) (WG WU : FVec F S1792x3072 .bf16) (bg bu : FVec F S1x1x1792 .bf16) : FVec F S256x1792 .bf16 :=
  fun y => hBlk x WG WU bg bu (hCol y) (hLoc y)

/-- 512 columns of the result of a tile. -/
def yBlk (h : FVec F S256x1792 .bf16) (WD : FVec F S3072x1792 .bf16) (bd : FVec F S1x1x3072 .bf16) (n : Fin 6) : FVec F S256x512 .f32 :=
  k0_pay259 h (rows512 WD n) (lanes512 bd n)
/-- The pieces of the result of a tile, the last written first. -/
def yPieces (h : FVec F S256x1792 .bf16) (WD : FVec F S3072x1792 .bf16) (bd : FVec F S1x1x3072 .bf16) :
    List (View.Piece (Elt F) S256x3072 .f32) :=
  ([5, 4, 3, 2, 1, 0] : List (Fin 6)).map fun n => ⟨Rect.unit ![0, 512 * n.val] S256x512.size (inbY n), yBlk h WD bd n⟩
/-- The block of 512 columns an element of the result lies in, and where. -/
def yCol (y : S256x3072.Idx) : Fin 6 := ⟨(y 1).val / 512, by have h : (y 1).val < 3072 := (y 1).isLt; omega⟩
def yLoc (y : S256x3072.Idx) : S256x512.Idx :=
  fun a => match a with
    | ⟨0, _⟩ => ⟨(y 0).val, (y 0).isLt⟩
    | ⟨1, _⟩ => ⟨(y 1).val % 512, Nat.mod_lt _ (by decide)⟩
/-- The result of a tile: two projections of the tile, the gated product, the projection back. -/
def outV (x : FVec F S256x3072 .bf16) (WG WU : FVec F S1792x3072 .bf16) (WD : FVec F S3072x1792 .bf16)
    (bg bu : FVec F S1x1x1792 .bf16) (bd : FVec F S1x1x3072 .bf16) : FVec F S256x3072 .f32 :=
  fun y => yBlk (hid x WG WU bg bu) WD bd (yCol y) (yLoc y)

section
variable {κ : Kind} {sp : Space}

/-- The hidden activations' array after its pieces are written reads them. -/
theorem read_hPieces (v : View sig κ sp S256x1792 .bf16) (f : v.ty.Contents (Elt F)) (x : FVec F S256x3072 .bf16)
    (WG WU : FVec F S1792x3072 .bf16) (bg bu : FVec F S1x1x1792 .bf16) (y : S256x1792.Idx) :
    v.read (Elt F) (v.writes (Elt F) f (hPieces x WG WU bg bu)) y = hid x WG WU bg bu y := by
  have hy0 : (y 0).val < 256 := (y 0).isLt
  have hy1 : (y 1).val < 1792 := (y 1).isLt
  refine View.read_writes_apply_of_pieces v f (hid x WG WU bg bu) _ ?_ y ?_
  · intro p hp x'
    obtain ⟨c, -, rfl⟩ := List.mem_map.mp hp
    have hx0 : (x' 0).val < 256 := (x' 0).isLt
    have hx1 : (x' 1).val < 256 := (x' 1).isLt
    have e0 : ((Rect.unit (s := S256x1792) ![0, 256 * c.val] S256x256.size (inbH c)).emb x' 0).val = (x' 0).val := by
      show 0 + 1 * (x' 0).val = _
      omega
    have e1 : ((Rect.unit (s := S256x1792) ![0, 256 * c.val] S256x256.size (inbH c)).emb x' 1).val = 256 * c.val + (x' 1).val := by
      show 256 * c.val + 1 * (x' 1).val = _
      omega
    have hc : hCol ((Rect.unit (s := S256x1792) ![0, 256 * c.val] S256x256.size (inbH c)).emb x') = c :=
      Fin.ext (by show _ / 256 = _; rw [e1]; omega)
    have hl : hLoc ((Rect.unit (s := S256x1792) ![0, 256 * c.val] S256x256.size (inbH c)).emb x') = x' := by
      funext a
      match a with
      | 0 => exact Fin.ext e0
      | 1 => exact Fin.ext (by show _ % 256 = _; rw [e1]; omega)
    show hBlk x WG WU bg bu c x' = hBlk x WG WU bg bu _ _
    rw [hc]
    exact congrArg _ hl.symm
  · refine ⟨_, List.mem_map.mpr ⟨hCol y, by have : ∀ c : Fin 7, c ∈ ([6, 5, 4, 3, 2, 1, 0] : List (Fin 7)) := by decide
                                            exact this _, rfl⟩, ?_⟩
    refine (Rect.mem_set_unit (inb := inbH (hCol y))).2 fun a => ?_
    match a with
    | 0 => exact ⟨Nat.zero_le _, by show (y 0).val < 0 + 256; omega⟩
    | 1 => exact ⟨by show 256 * ((y 1).val / 256) ≤ _; omega, by show (y 1).val < 256 * ((y 1).val / 256) + 256; omega⟩

/-- The result's block after its pieces are written reads them. -/
theorem read_yPieces (v : View sig κ sp S256x3072 .f32) (f : v.ty.Contents (Elt F)) (h : FVec F S256x1792 .bf16)
    (WD : FVec F S3072x1792 .bf16) (bd : FVec F S1x1x3072 .bf16) (y : S256x3072.Idx) :
    v.read (Elt F) (v.writes (Elt F) f (yPieces h WD bd)) y = yBlk h WD bd (yCol y) (yLoc y) := by
  have hy0 : (y 0).val < 256 := (y 0).isLt
  have hy1 : (y 1).val < 3072 := (y 1).isLt
  refine View.read_writes_apply_of_pieces v f (fun y : S256x3072.Idx => yBlk h WD bd (yCol y) (yLoc y)) _ ?_ y ?_
  · intro p hp x'
    obtain ⟨c, -, rfl⟩ := List.mem_map.mp hp
    have hx0 : (x' 0).val < 256 := (x' 0).isLt
    have hx1 : (x' 1).val < 512 := (x' 1).isLt
    have e0 : ((Rect.unit (s := S256x3072) ![0, 512 * c.val] S256x512.size (inbY c)).emb x' 0).val = (x' 0).val := by
      show 0 + 1 * (x' 0).val = _
      omega
    have e1 : ((Rect.unit (s := S256x3072) ![0, 512 * c.val] S256x512.size (inbY c)).emb x' 1).val = 512 * c.val + (x' 1).val := by
      show 512 * c.val + 1 * (x' 1).val = _
      omega
    have hc : yCol ((Rect.unit (s := S256x3072) ![0, 512 * c.val] S256x512.size (inbY c)).emb x') = c :=
      Fin.ext (by show _ / 512 = _; rw [e1]; omega)
    have hl : yLoc ((Rect.unit (s := S256x3072) ![0, 512 * c.val] S256x512.size (inbY c)).emb x') = x' := by
      funext a
      match a with
      | 0 => exact Fin.ext e0
      | 1 => exact Fin.ext (by show _ % 512 = _; rw [e1]; omega)
    show yBlk h WD bd c x' = yBlk h WD bd _ _
    rw [hc]
    exact congrArg _ hl.symm
  · refine ⟨_, List.mem_map.mpr ⟨yCol y, by have : ∀ c : Fin 6, c ∈ ([5, 4, 3, 2, 1, 0] : List (Fin 6)) := by decide
                                            exact this _, rfl⟩, ?_⟩
    refine (Rect.mem_set_unit (inb := inbY (yCol y))).2 fun a => ?_
    match a with
    | 0 => exact ⟨Nat.zero_le _, by show (y 0).val < 0 + 256; omega⟩
    | 1 => exact ⟨by show 512 * ((y 1).val / 512) ≤ _; omega, by show (y 1).val < 512 * ((y 1).val / 512) + 512; omega⟩

/-- A load of the whole hidden activations, all written before, reads them. -/
theorem readCov_h (v : View sig κ sp S256x1792 .bf16) (x : FVec F S256x3072 .bf16)
    (WG WU : FVec F S1792x3072 .bf16) (bg bu : FVec F S1x1x1792 .bf16) :
    v.readCov (hPieces x WG WU bg bu) (Rect.unit (s := S256x1792) ![0, 0] S256x1792.size inb_S256x1792_S256x1792_0_0).toLoadRect = hid x WG WU bg bu := by
  funext y
  refine (read_hPieces v v.junk x WG WU bg bu _).trans (congrArg _ ?_)
  funext a
  match a with
  | 0 => exact Fin.ext (by show 0 + 1 * (y 0).val = _; omega)
  | 1 => exact Fin.ext (by show 0 + 1 * (y 1).val = _; omega)

end

/-- A load of the whole block of a tile reads it. -/
theorem readAt_x {κ : Kind} {sp : Space} (v : View sig κ sp S256x3072 .bf16) (f : v.ty.Contents (Elt F)) :
    v.readAt (Elt F) (Rect.unit (s := S256x3072) ![0, 0] S256x3072.size inb_S256x3072_S256x3072_0_0).toLoadRect f = v.read (Elt F) f := by
  funext y
  refine congrArg (v.read (Elt F) f) ?_
  funext a
  match a with
  | 0 => exact Fin.ext (by show 0 + 1 * (y 0).val = _; omega)
  | 1 => exact Fin.ext (by show 0 + 1 * (y 1).val = _; omega)

variable (i : grid0.Coords)
  (a3 : Memref sig .tc .vmem S256x3072 .bf16) (h3 : a3.IsWhole)
  (a4 : Memref sig .tc .vmem S1x1792x128 .i8) (h4 : a4.IsWhole)
  (a5 : Memref sig .tc .vmem S1x1792x128 .i8) (h5 : a5.IsWhole)
  (a6 : Memref sig .tc .vmem S1x3072x128 .i8) (h6 : a6.IsWhole)
  (a7 : Memref sig .tc .vmem S1x1x1792 .bf16) (h7 : a7.IsWhole)
  (a8 : Memref sig .tc .vmem S1x1x1792 .bf16) (h8 : a8.IsWhole)
  (a9 : Memref sig .tc .vmem S1x1x3072 .bf16) (h9 : a9.IsWhole)
  (a12 : Memref sig .tc .vmem S256x3072 .f32) (h12 : a12.IsWhole)

/-- The hidden activations the run without decoding stores. -/
theorem runN_L18 (c : Dev nD) (X3 : MBuf (F := F) c a3) (X7 : MBuf (F := F) c a7) (X8 : MBuf (F := F) c a8)
    (G13 : MBuf (F := F) c scM0) (G14 : MBuf (F := F) c scM1) :
    runN.sl.H18_7 a3 a7 a8 c X3 X7 X8 G13 G14
      = hPieces (a3.view.read (Elt F) X3) (scM0.view.read (Elt F) G13) (scM1.view.read (Elt F) G14) (a7.view.read (Elt F) X7) (a8.view.read (Elt F) X8) := by
  rw [← readAt_x]
  unfold runN.sl.H18_7 hPieces
  dsimp only [List.map_cons, List.map_nil]
  iterate 7 refine congrArg₂ List.cons (by sl_kernel_rfl) ?_
  rfl

/-- The hidden activations the run without decoding loads back. -/
theorem runN_H (c : Dev nD) (X3 : MBuf (F := F) c a3) (X7 : MBuf (F := F) c a7) (X8 : MBuf (F := F) c a8)
    (G13 : MBuf (F := F) c scM0) (G14 : MBuf (F := F) c scM1) :
    runN.sl.v226 a3 a7 a8 c X3 X7 X8 G13 G14
      = hid (a3.view.read (Elt F) X3) (scM0.view.read (Elt F) G13) (scM1.view.read (Elt F) G14) (a7.view.read (Elt F) X7) (a8.view.read (Elt F) X8) := by
  unfold runN.sl.v226
  refine Eq.trans ?_ (readCov_h scM5.view _ _ _ _ _)
  rw [← runN_L18]

/-- The result's block the run without decoding stores. -/
theorem runN_out (c : Dev nD) (T0 : MBuf (F := F) c tbM0) (T1 : MBuf (F := F) c tbM1)
    (X3 : MBuf (F := F) c a3) (X4 : MBuf (F := F) c a4) (X5 : MBuf (F := F) c a5) (X6 : MBuf (F := F) c a6)
    (X7 : MBuf (F := F) c a7) (X8 : MBuf (F := F) c a8) (X9 : MBuf (F := F) c a9)
    (B0 : MBuf (F := F) c hbM0) (B1 : MBuf (F := F) c hbM1)
    (G13 : MBuf (F := F) c scM0) (G14 : MBuf (F := F) c scM1) (G15 : MBuf (F := F) c scM2)
    (G16 : MBuf (F := F) c scM3) (G17 : MBuf (F := F) c scM4) (G18 : MBuf (F := F) c scM5)
    (hchk : k0_chk1 (word i c tbM0 T0) (word i c tbM1 T1)) (hfr : ¬ k0_cond1 (word i c tbM1 T1) = 1#1) :
    (runN i a3 h3 a4 h4 a5 h5 a6 h6 a7 h7 a8 h8 a9 h9 a12 h12 c T0 T1 X3 X4 X5 X6 X7 X8 X9 B0 B1 G13 G14 G15 G16 G17 G18 hchk hfr).2.2.2.2.2.2.val
      = yPieces (runN.sl.v226 a3 a7 a8 c X3 X7 X8 G13 G14) (scM2.view.read (Elt F) G15) (a9.view.read (Elt F) X9) := by
  unfold runN yPieces
  dsimp only [List.map_cons, List.map_nil]
  iterate 6 refine congrArg₂ List.cons (by sl_kernel_rfl) ?_
  rfl

end Cert.Kernel.Hand

end
-- ==== Proof.KeOutF.lean ====
module

public import proofs.«01_k».proof.Proof.KeOut

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (i : grid0.Coords)
  (a3 : Memref sig .tc .vmem S256x3072 .bf16) (h3 : a3.IsWhole)
  (a4 : Memref sig .tc .vmem S1x1792x128 .i8) (h4 : a4.IsWhole)
  (a5 : Memref sig .tc .vmem S1x1792x128 .i8) (h5 : a5.IsWhole)
  (a6 : Memref sig .tc .vmem S1x3072x128 .i8) (h6 : a6.IsWhole)
  (a7 : Memref sig .tc .vmem S1x1x1792 .bf16) (h7 : a7.IsWhole)
  (a8 : Memref sig .tc .vmem S1x1x1792 .bf16) (h8 : a8.IsWhole)
  (a9 : Memref sig .tc .vmem S1x1x3072 .bf16) (h9 : a9.IsWhole)
  (a12 : Memref sig .tc .vmem S256x3072 .f32) (h12 : a12.IsWhole)

variable (c : Dev nD) (T0 : MBuf (F := F) c tbM0) (T1 : MBuf (F := F) c tbM1)
    (X3 : MBuf (F := F) c a3) (X4 : MBuf (F := F) c a4) (X5 : MBuf (F := F) c a5) (X6 : MBuf (F := F) c a6)
    (X7 : MBuf (F := F) c a7) (X8 : MBuf (F := F) c a8) (X9 : MBuf (F := F) c a9)
    (B0 : MBuf (F := F) c hbM0) (B1 : MBuf (F := F) c hbM1)
    (G13 : MBuf (F := F) c scM0) (G14 : MBuf (F := F) c scM1) (G15 : MBuf (F := F) c scM2)
    (G16 : MBuf (F := F) c scM3) (G17 : MBuf (F := F) c scM4) (G18 : MBuf (F := F) c scM5)
    (hchk : k0_chk1 (word i c tbM0 T0) (word i c tbM1 T1)) (hfr : k0_cond1 (word i c tbM1 T1) = 1#1)

theorem runF_gate : scM0.view.read (Elt F) (runF i a3 h3 a4 h4 a5 h5 a6 h6 a7 h7 a8 h8 a9 h9 a12 h12 c T0 T1 X3 X4 X5 X6 X7 X8 X9 B0 B1 G13 G14 G15 G16 G17 G18 hchk hfr).1 = wGate (runF.sl.dma2 i c T0 T1 B0 hchk hfr) (a4.view.read (Elt F) X4) := by
  refine Eq.trans ?_ ((read_gate scM0.view G13 _ _).trans (congrArg (fun Q => wGate Q (a4.view.read (Elt F) X4)) (View.read_writes_whole scM3.view scM3.view.junk (runF.sl.dma2 i c T0 T1 B0 hchk hfr))))
  rfl

theorem runF_up : scM1.view.read (Elt F) (runF i a3 h3 a4 h4 a5 h5 a6 h6 a7 h7 a8 h8 a9 h9 a12 h12 c T0 T1 X3 X4 X5 X6 X7 X8 X9 B0 B1 G13 G14 G15 G16 G17 G18 hchk hfr).2.1 = wUp (runF.sl.dma2 i c T0 T1 B0 hchk hfr) (a5.view.read (Elt F) X5) := by
  refine Eq.trans ?_ ((read_up scM1.view G14 _ _).trans (congrArg (fun Q => wUp Q (a5.view.read (Elt F) X5)) (View.read_writes_whole scM3.view scM3.view.junk (runF.sl.dma2 i c T0 T1 B0 hchk hfr))))
  rfl

theorem runF_down : scM2.view.read (Elt F) (runF i a3 h3 a4 h4 a5 h5 a6 h6 a7 h7 a8 h8 a9 h9 a12 h12 c T0 T1 X3 X4 X5 X6 X7 X8 X9 B0 B1 G13 G14 G15 G16 G17 G18 hchk hfr).2.2.1 = wDown (runF.sl.dma2_1 i c T0 T1 B1 hchk hfr) (a6.view.read (Elt F) X6) := by
  refine Eq.trans ?_ ((read_down scM2.view G15 _ _).trans (congrArg (fun Q => wDown Q (a6.view.read (Elt F) X6)) (View.read_writes_whole scM4.view scM4.view.junk (runF.sl.dma2_1 i c T0 T1 B1 hchk hfr))))
  rfl

/-- The hidden activations the decoding run stores. -/
theorem runF_L18 :
    runF.sl.H18_7 i a3 a4 a5 a7 a8 c T0 T1 X3 X4 X5 X7 X8 B0 G13 G14 hchk hfr
      = hPieces (a3.view.read (Elt F) X3) (scM0.view.read (Elt F) (runF i a3 h3 a4 h4 a5 h5 a6 h6 a7 h7 a8 h8 a9 h9 a12 h12 c T0 T1 X3 X4 X5 X6 X7 X8 X9 B0 B1 G13 G14 G15 G16 G17 G18 hchk hfr).1)
        (scM1.view.read (Elt F) (runF i a3 h3 a4 h4 a5 h5 a6 h6 a7 h7 a8 h8 a9 h9 a12 h12 c T0 T1 X3 X4 X5 X6 X7 X8 X9 B0 B1 G13 G14 G15 G16 G17 G18 hchk hfr).2.1) (a7.view.read (Elt F) X7) (a8.view.read (Elt F) X8) := by
  rw [← readAt_x]
  unfold runF.sl.H18_7 hPieces
  dsimp only [List.map_cons, List.map_nil]
  iterate 7 refine congrArg₂ List.cons (by sl_kernel_rfl) ?_
  rfl

/-- The hidden activations the decoding run loads back. -/
theorem runF_H :
    runF.sl.v226 i a3 a4 a5 a7 a8 c T0 T1 X3 X4 X5 X7 X8 B0 G13 G14 hchk hfr
      = hid (a3.view.read (Elt F) X3) (scM0.view.read (Elt F) (runF i a3 h3 a4 h4 a5 h5 a6 h6 a7 h7 a8 h8 a9 h9 a12 h12 c T0 T1 X3 X4 X5 X6 X7 X8 X9 B0 B1 G13 G14 G15 G16 G17 G18 hchk hfr).1)
        (scM1.view.read (Elt F) (runF i a3 h3 a4 h4 a5 h5 a6 h6 a7 h7 a8 h8 a9 h9 a12 h12 c T0 T1 X3 X4 X5 X6 X7 X8 X9 B0 B1 G13 G14 G15 G16 G17 G18 hchk hfr).2.1) (a7.view.read (Elt F) X7) (a8.view.read (Elt F) X8) := by
  unfold runF.sl.v226
  refine Eq.trans ?_ (readCov_h scM5.view _ _ _ _ _)
  rw [← runF_L18]

/-- The result's block the decoding run stores. -/
theorem runF_out :
    (runF i a3 h3 a4 h4 a5 h5 a6 h6 a7 h7 a8 h8 a9 h9 a12 h12 c T0 T1 X3 X4 X5 X6 X7 X8 X9 B0 B1 G13 G14 G15 G16 G17 G18 hchk hfr).2.2.2.2.2.2.val
      = yPieces (runF.sl.v226 i a3 a4 a5 a7 a8 c T0 T1 X3 X4 X5 X7 X8 B0 G13 G14 hchk hfr) (scM2.view.read (Elt F) (runF i a3 h3 a4 h4 a5 h5 a6 h6 a7 h7 a8 h8 a9 h9 a12 h12 c T0 T1 X3 X4 X5 X6 X7 X8 X9 B0 B1 G13 G14 G15 G16 G17 G18 hchk hfr).2.2.1) (a9.view.read (Elt F) X9) := by
  unfold runF yPieces
  dsimp only [List.map_cons, List.map_nil]
  iterate 6 refine congrArg₂ List.cons (by sl_kernel_rfl) ?_
  rfl

/-- An expert's codes of the gate and up weights. -/
def guCodes (B : S4x1792x3072.Idx → Elt F .i8) (e : Fin 4) : Vec F S1792x3072 .i8 := fun y => B (ix3 e (y 0) (y 1))
/-- An expert's codes of the down weights. -/
def dnCodes (B : S4x1536x1792.Idx → Elt F .i8) (e : Fin 4) : Vec F S1536x1792 .i8 := fun y => B (ix3 e (y 0) (y 1))

/-- One expert's slice of the gate and up codes, its leading axis dropped. -/
theorem slice_gu (B : S4x1792x3072.Idx → Elt F .i8) (off : Fin 3 → ℕ) (h : ∀ a, off a + S1x1792x3072.size a ≤ S4x1792x3072.size a)
    (e : Fin 4) (he : off = ![e.val, 0, 0]) (y : S1792x3072.Idx) :
    shapeCast S1792x3072 (hbM0.view.readAt (Elt F) (Rect.unit (s := S4x1792x3072) off S1x1792x3072.size h).toLoadRect B)
      (by decide : S1x1792x3072.ShapeCasts S1792x3072) y = guCodes B e y := by
  subst he
  refine (shapeCast_dropUnit_apply (n := 2) ![1792, 3072] _ _ y).trans ?_
  refine congrArg B (funext fun a => Fin.ext ?_)
  fin_cases a
  · show e.val + 1 * 0 = e.val; omega
  · show 0 + 1 * (y 0).val = (y 0).val; omega
  · show 0 + 1 * (y 1).val = (y 1).val; omega

/-- One expert's slice of the down codes, its leading axis dropped. -/
theorem slice_dn (B : S4x1536x1792.Idx → Elt F .i8) (off : Fin 3 → ℕ) (h : ∀ a, off a + S1x1536x1792.size a ≤ S4x1536x1792.size a)
    (e : Fin 4) (he : off = ![e.val, 0, 0]) (y : S1536x1792.Idx) :
    shapeCast S1536x1792 (hbM1.view.readAt (Elt F) (Rect.unit (s := S4x1536x1792) off S1x1536x1792.size h).toLoadRect B)
      (by decide : S1x1536x1792.ShapeCasts S1536x1792) y = dnCodes B e y := by
  subst he
  refine (shapeCast_dropUnit_apply (n := 2) ![1536, 1792] _ _ y).trans ?_
  refine congrArg B (funext fun a => Fin.ext ?_)
  fin_cases a
  · show e.val + 1 * 0 = e.val; omega
  · show 0 + 1 * (y 0).val = (y 0).val; omega
  · show 0 + 1 * (y 1).val = (y 1).val; omega

theorem toNat_tile (e : Fin 4) : (BitVec.ofNat 32 e.val).toNat = e.val := by revert e; decide

/-- The codes the decoding run fetches are the tile's expert's. -/
theorem dma2_eq (e : Fin 4) (he : word i c tbM0 T0 = BitVec.ofNat 32 e.val) :
    runF.sl.dma2 i c T0 T1 B0 hchk hfr = guCodes (F := F) B0 e := by
  funext y
  refine Eq.trans ?_ (slice_gu B0 (k0_off2 (word i c tbM0 T0)) (k0_off2_inb _ _ hchk hfr) e ?_ y)
  · unfold runF.sl.dma2
    exact congrFun (Memref.read_squeeze_slice hbM0 _ _ squeezes_S1x1792x3072_S1792x3072 (show S1x1792x3072.ShapeCasts S1792x3072 by decide) B0) y
  · rw [he]; unfold k0_off2; rw [toNat_tile]

theorem dma2_1_eq (e : Fin 4) (he : word i c tbM0 T0 = BitVec.ofNat 32 e.val) :
    runF.sl.dma2_1 i c T0 T1 B1 hchk hfr = dnCodes (F := F) B1 e := by
  funext y
  refine Eq.trans ?_ (slice_dn B1 (k0_off3 (word i c tbM0 T0)) (k0_off3_inb _ _ hchk hfr) e ?_ y)
  · unfold runF.sl.dma2_1
    exact congrFun (Memref.read_squeeze_slice hbM1 _ _ squeezes_S1x1536x1792_S1536x1792 (show S1x1536x1792.ShapeCasts S1536x1792 by decide) B1) y
  · rw [he]; unfold k0_off3; rw [toNat_tile]

end Cert.Kernel.Hand

end
-- ==== Proof.KeStep.lean ====
module

public import proofs.«01_k».proof.Proof.KeOutF

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (i : grid0.Coords)
  (a3 : Memref sig .tc .vmem S256x3072 .bf16) (h3 : a3.IsWhole)
  (a4 : Memref sig .tc .vmem S1x1792x128 .i8) (h4 : a4.IsWhole)
  (a5 : Memref sig .tc .vmem S1x1792x128 .i8) (h5 : a5.IsWhole)
  (a6 : Memref sig .tc .vmem S1x3072x128 .i8) (h6 : a6.IsWhole)
  (a7 : Memref sig .tc .vmem S1x1x1792 .bf16) (h7 : a7.IsWhole)
  (a8 : Memref sig .tc .vmem S1x1x1792 .bf16) (h8 : a8.IsWhole)
  (a9 : Memref sig .tc .vmem S1x1x3072 .bf16) (h9 : a9.IsWhole)
  (a12 : Memref sig .tc .vmem S256x3072 .f32) (h12 : a12.IsWhole)

variable (c : Dev nD) (T0 : MBuf (F := F) c tbM0) (T1 : MBuf (F := F) c tbM1)
  (x : FVec F S256x3072 .bf16) (su sg : Vec F S1x1792x128 .i8) (sd : Vec F S1x3072x128 .i8)
  (bg bu : FVec F S1x1x1792 .bf16) (bd : FVec F S1x1x3072 .bf16)
  (B0 : MBuf (F := F) c hbM0) (B1 : MBuf (F := F) c hbM1)
  (WG WU : FVec F S1792x3072 .bf16) (WD : FVec F S3072x1792 .bf16)

/-- The staging buffers of the seven inputs, each at its block. -/
abbrev ins : sProp 𝕄 := iprop(owns (c : Thread nD τ) a3 fullShare x ∗ owns (c : Thread nD τ) a4 fullShare sg ∗ owns (c : Thread nD τ) a5 fullShare su
  ∗ owns (c : Thread nD τ) a6 fullShare sd ∗ owns (c : Thread nD τ) a7 fullShare bg ∗ owns (c : Thread nD τ) a8 fullShare bu ∗ owns (c : Thread nD τ) a9 fullShare bd)
/-- What the body neither changes nor is asked about: the tables, the codes left in place, the counters at zero. -/
abbrev keep : sProp 𝕄 := iprop(tbPt c tbM0 T0 ∗ tbPt c tbM1 T1 ∗ hbPt c hbM0 B0 ∗ hbPt c hbM1 B1
  ∗ semVal ((c : Thread nD τ), SemLoc.dma 16) 0 ∗ semVal ((c : Thread nD τ), SemLoc.dma 17) 0)
/-- The scratch buffers, the decoded weights at the values given and the rest at any. -/
abbrev scr : sProp 𝕄 := iprop(owns (c : Thread nD τ) scM0 fullShare WG ∗ owns (c : Thread nD τ) scM1 fullShare WU ∗ owns (c : Thread nD τ) scM2 fullShare WD
  ∗ (∃ d : Vec F S1792x3072 .i8, owns (c : Thread nD τ) scM3 fullShare d) ∗ (∃ d : Vec F S1536x1792 .i8, owns (c : Thread nD τ) scM4 fullShare d) ∗ (∃ d : FVec F S256x1792 .bf16, owns (c : Thread nD τ) scM5 fullShare d))

set_option backward.isDefEq.respectTransparency.types false in
/-- A point where the expert stays: the tile is computed from the weights the scratch buffers hold. -/
theorem step_N (hchk : k0_chk1 (word i c tbM0 T0) (word i c tbM1 T1)) (hfr : ¬ k0_cond1 (word i c tbM1 T1) = 1#1)
    (W : Waits sig Unit) (K : PUnit → sProp 𝕄) :
    iprop(keep c T0 T1 B0 B1 ∗ ins a3 a4 a5 a6 a7 a8 a9 c x su sg sd bg bu bd ∗ (∃ d : FVec F S256x3072 .f32, owns (c : Thread nD τ) a12 fullShare d)
      ∗ scr c WG WU WD ∗ owes (c : Thread nD τ) 0 W
      ∗ (iprop(keep c T0 T1 B0 B1 ∗ ins a3 a4 a5 a6 a7 a8 a9 c x su sg sd bg bu bd ∗ owns (c : Thread nD τ) a12 fullShare (outV x WG WU WD bg bu bd)
        ∗ scr c WG WU WD ∗ (∃ W', owes (c : Thread nD τ) 0 W')) -∗ K ⟨⟩))
    ⊢ wp frame (wpE (defs₀ (F := F)) Variants.none (c : Thread nD τ) none) Set.univ (cc0_moe_ffn (F := F) i tbM0 (Memref.isWhole_whole _) tbM1 (Memref.isWhole_whole _) a3 h3 a4 h4 a5 h5 a6 h6 a7 h7 a8 h8 a9 h9 hbM0 (Memref.isWhole_whole _) hbM1 (Memref.isWhole_whole _) a12 h12 scM0 (Memref.isWhole_whole _) scM1 (Memref.isWhole_whole _) scM2 (Memref.isWhole_whole _) scM3 (Memref.isWhole_whole _) scM4 (Memref.isWhole_whole _) scM5 (Memref.isWhole_whole _) cc0_scratch6) K := by
  unfold keep ins scr owns
  iintro ⟨⟨HT0, HT1, HB0, HB1, Hs0, Hs1⟩, ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, ⟨%d12, %f12, -, H12⟩, ⟨⟨%g0, %u0, G0⟩, ⟨%g1, %u1, G1⟩, ⟨%g2, %u2, G2⟩, ⟨%d3, %g3, -, G3⟩, ⟨%d4, %g4, -, G4⟩, ⟨%d5, %g5, -, G5⟩⟩, HW, HK⟩
  iapply ((runN i a3 h3 a4 h4 a5 h5 a6 h6 a7 h7 a8 h8 a9 h9 a12 h12 c T0 T1 f3 f4 f5 f6 f7 f8 f9 B0 B1 g0 g1 g2 g3 g4 g5 hchk hfr).2.2.2.2.2.2.property f12 W K)
  isplitl [HT0]; · iexact HT0
  isplitl [HT1]; · iexact HT1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HB0]; · iexact HB0
  isplitl [HB1]; · iexact HB1
  isplitl [H12]; · iexact H12
  isplitl [G0]; · iexact G0
  isplitl [G1]; · iexact G1
  isplitl [G2]; · iexact G2
  isplitl [G3]; · iexact G3
  isplitl [G4]; · iexact G4
  isplitl [G5]; · iexact G5
  isplitl [Hs0]; · iexact Hs0
  isplitl [Hs1]; · iexact Hs1
  isplitl [HW]; · iexact HW
  iintro ⟨HT0, HT1, H3, H4, H5, H6, H7, H8, H9, HB0, HB1, H12, G0, G1, G2, G3, G4, G5, Hs0, Hs1, HW⟩
  iapply HK
  isplitl [HT0 HT1 HB0 HB1 Hs0 Hs1]
  · isplitl [HT0]; · iexact HT0
    isplitl [HT1]; · iexact HT1
    isplitl [HB0]; · iexact HB0
    isplitl [HB1]; · iexact HB1
    isplitl [Hs0]; · iexact Hs0
    iexact Hs1
  isplitl [H3 H4 H5 H6 H7 H8 H9]
  · isplitl [H3]; · iexists _; isplitr; swap; (· iexact H3); ipureintro; exact e3
    isplitl [H4]; · iexists _; isplitr; swap; (· iexact H4); ipureintro; exact e4
    isplitl [H5]; · iexists _; isplitr; swap; (· iexact H5); ipureintro; exact e5
    isplitl [H6]; · iexists _; isplitr; swap; (· iexact H6); ipureintro; exact e6
    isplitl [H7]; · iexists _; isplitr; swap; (· iexact H7); ipureintro; exact e7
    isplitl [H8]; · iexists _; isplitr; swap; (· iexact H8); ipureintro; exact e8
    iexists _; isplitr; swap; (· iexact H9); ipureintro; exact e9
  isplitl [H12]
  · iexists _; isplitr
    swap; · iexact H12
    ipureintro
    rw [runN_out, runN_H, e3, e7, e8, e9, u0, u1, u2]
    exact funext fun y => read_yPieces a12.view f12 _ WD bd y
  isplitr [HW]
  · isplitl [G0]; · iexists _; isplitr; swap; (· iexact G0); ipureintro; exact u0
    isplitl [G1]; · iexists _; isplitr; swap; (· iexact G1); ipureintro; exact u1
    isplitl [G2]; · iexists _; isplitr; swap; (· iexact G2); ipureintro; exact u2
    isplitl [G3]; · iexists _, _; isplitr; swap; (· iexact G3); ipureintro; rfl
    isplitl [G4]; · iexists _, _; isplitr; swap; (· iexact G4); ipureintro; rfl
    iexists _, _; isplitr; swap; (· iexact G5); ipureintro; rfl
  iexact HW

set_option backward.isDefEq.respectTransparency.types false in
/-- A point where the expert changes: its codes are fetched and decoded into the scratch buffers, and the tile is computed
    from the decoded weights. -/
theorem step_F (e : Fin 4) (he : word i c tbM0 T0 = BitVec.ofNat 32 e.val) (hchk : k0_chk1 (word i c tbM0 T0) (word i c tbM1 T1)) (hfr : k0_cond1 (word i c tbM1 T1) = 1#1)
    (W : Waits sig Unit) (K : PUnit → sProp 𝕄) :
    iprop(keep c T0 T1 B0 B1 ∗ ins a3 a4 a5 a6 a7 a8 a9 c x su sg sd bg bu bd ∗ (∃ d : FVec F S256x3072 .f32, owns (c : Thread nD τ) a12 fullShare d)
      ∗ scr c WG WU WD ∗ owes (c : Thread nD τ) 0 W
      ∗ (iprop(keep c T0 T1 B0 B1 ∗ ins a3 a4 a5 a6 a7 a8 a9 c x su sg sd bg bu bd
        ∗ owns (c : Thread nD τ) a12 fullShare (outV x (wGate (guCodes B0 e) sg) (wUp (guCodes B0 e) su) (wDown (dnCodes B1 e) sd) bg bu bd)
        ∗ scr c (wGate (guCodes B0 e) sg) (wUp (guCodes B0 e) su) (wDown (dnCodes B1 e) sd) ∗ (∃ W', owes (c : Thread nD τ) 0 W')) -∗ K ⟨⟩))
    ⊢ wp frame (wpE (defs₀ (F := F)) Variants.none (c : Thread nD τ) none) Set.univ (cc0_moe_ffn (F := F) i tbM0 (Memref.isWhole_whole _) tbM1 (Memref.isWhole_whole _) a3 h3 a4 h4 a5 h5 a6 h6 a7 h7 a8 h8 a9 h9 hbM0 (Memref.isWhole_whole _) hbM1 (Memref.isWhole_whole _) a12 h12 scM0 (Memref.isWhole_whole _) scM1 (Memref.isWhole_whole _) scM2 (Memref.isWhole_whole _) scM3 (Memref.isWhole_whole _) scM4 (Memref.isWhole_whole _) scM5 (Memref.isWhole_whole _) cc0_scratch6) K := by
  unfold keep ins scr owns
  iintro ⟨⟨HT0, HT1, HB0, HB1, Hs0, Hs1⟩, ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, ⟨%d12, %f12, -, H12⟩, ⟨⟨%g0, %u0, G0⟩, ⟨%g1, %u1, G1⟩, ⟨%g2, %u2, G2⟩, ⟨%d3, %g3, -, G3⟩, ⟨%d4, %g4, -, G4⟩, ⟨%d5, %g5, -, G5⟩⟩, HW, HK⟩
  have v0 := runF_gate i a3 h3 a4 h4 a5 h5 a6 h6 a7 h7 a8 h8 a9 h9 a12 h12 c T0 T1 f3 f4 f5 f6 f7 f8 f9 B0 B1 g0 g1 g2 g3 g4 g5 hchk hfr
  have v1 := runF_up i a3 h3 a4 h4 a5 h5 a6 h6 a7 h7 a8 h8 a9 h9 a12 h12 c T0 T1 f3 f4 f5 f6 f7 f8 f9 B0 B1 g0 g1 g2 g3 g4 g5 hchk hfr
  have v2 := runF_down i a3 h3 a4 h4 a5 h5 a6 h6 a7 h7 a8 h8 a9 h9 a12 h12 c T0 T1 f3 f4 f5 f6 f7 f8 f9 B0 B1 g0 g1 g2 g3 g4 g5 hchk hfr
  rw [dma2_eq i c T0 T1 B0 hchk hfr e he] at v0 v1
  rw [dma2_1_eq i c T0 T1 B1 hchk hfr e he] at v2
  rw [e4] at v0
  rw [e5] at v1
  rw [e6] at v2
  iapply ((runF i a3 h3 a4 h4 a5 h5 a6 h6 a7 h7 a8 h8 a9 h9 a12 h12 c T0 T1 f3 f4 f5 f6 f7 f8 f9 B0 B1 g0 g1 g2 g3 g4 g5 hchk hfr).2.2.2.2.2.2.property f12 W K)
  isplitl [HT0]; · iexact HT0
  isplitl [HT1]; · iexact HT1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HB0]; · iexact HB0
  isplitl [HB1]; · iexact HB1
  isplitl [H12]; · iexact H12
  isplitl [G0]; · iexact G0
  isplitl [G1]; · iexact G1
  isplitl [G2]; · iexact G2
  isplitl [G3]; · iexact G3
  isplitl [G4]; · iexact G4
  isplitl [G5]; · iexact G5
  isplitl [Hs0]; · iexact Hs0
  isplitl [Hs1]; · iexact Hs1
  isplitl [HW]; · iexact HW
  iintro ⟨HT0, HT1, H3, H4, H5, H6, H7, H8, H9, HB0, HB1, H12, G0, G1, G2, G3, G4, G5, Hs0, Hs1, HW⟩
  iapply HK
  isplitl [HT0 HT1 HB0 HB1 Hs0 Hs1]
  · isplitl [HT0]; · iexact HT0
    isplitl [HT1]; · iexact HT1
    isplitl [HB0]; · iexact HB0
    isplitl [HB1]; · iexact HB1
    isplitl [Hs0]; · iexact Hs0
    iexact Hs1
  isplitl [H3 H4 H5 H6 H7 H8 H9]
  · isplitl [H3]; · iexists _; isplitr; swap; (· iexact H3); ipureintro; exact e3
    isplitl [H4]; · iexists _; isplitr; swap; (· iexact H4); ipureintro; exact e4
    isplitl [H5]; · iexists _; isplitr; swap; (· iexact H5); ipureintro; exact e5
    isplitl [H6]; · iexists _; isplitr; swap; (· iexact H6); ipureintro; exact e6
    isplitl [H7]; · iexists _; isplitr; swap; (· iexact H7); ipureintro; exact e7
    isplitl [H8]; · iexists _; isplitr; swap; (· iexact H8); ipureintro; exact e8
    iexists _; isplitr; swap; (· iexact H9); ipureintro; exact e9
  isplitl [H12]
  · iexists _; isplitr
    swap; · iexact H12
    ipureintro
    rw [runF_out, runF_H i a3 h3 a4 h4 a5 h5 a6 h6 a7 h7 a8 h8 a9 h9 a12 h12 c T0 T1 f3 f4 f5 f6 f7 f8 f9 B0 B1 g0 g1 g2 g3 g4 g5 hchk hfr, v0, v1, v2, e3, e7, e8, e9]
    exact funext fun y => read_yPieces a12.view f12 _ (wDown (dnCodes B1 e) sd) bd y
  isplitr [HW]
  · isplitl [G0]; · iexists _; isplitr; swap; (· iexact G0); ipureintro; exact v0
    isplitl [G1]; · iexists _; isplitr; swap; (· iexact G1); ipureintro; exact v1
    isplitl [G2]; · iexists _; isplitr; swap; (· iexact G2); ipureintro; exact v2
    isplitl [G3]; · iexists _, _; isplitr; swap; (· iexact G3); ipureintro; rfl
    isplitl [G4]; · iexists _, _; isplitr; swap; (· iexact G4); ipureintro; rfl
    iexists _, _; isplitr; swap; (· iexact G5); ipureintro; rfl
  iexact HW

end Cert.Kernel.Hand

end
-- ==== Proof.KeHost.lean ====
module

public import proofs.«01_k».proof.Proof.Gen.Kernel.Launch
public import Idealize.ShloMosaic.Lib.Claim
public import Idealize.ShloMosaic.Lib.Pointwise
public import Idealize.ShloMosaic.Lib.StableHlo.RunRead
public import Idealize.ShloMosaic.Lib.Pipeline.FrameSuffixV

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The stretches of host operations before the region. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11]
/-- The stretches after it. -/
abbrev post : List (List (HloOp τ sig (Elt F))) := [hostOps1]

variable (m : (ℓ : Loc nD τ sig) → Buf (Elt F) ℓ)

/-- The memory when the region is entered. -/
@[irreducible] def V₀ (c : Dev nD) : Valuation τ sig (Elt F) := StableHlo.after (pre (F := F)).flatten (fun b => m (c, b))
/-- The TensorCore's buffers when the region is entered. -/
abbrev V (c : Dev nD) (b : Ref sig .tc) : Buf (Elt F) ((c : Thread nD τ).loc b) := V₀ m c (Proc.devRef .tc b)

theorem V_main_arg3 (c : Dev nD) : V m c main_arg3 = m ((c : Thread nD τ).loc main_arg3) := by
  unfold V V₀
  after_reads_simp
  try rfl

/-- The expert of each tile, from the ends of the experts' tiles. -/
theorem V_main_v47 (c : Dev nD) : (V m c main_v47 : IVec S100 32) =
    minsi (Host.reduce IntOp.addi (extui 32 (cmpi .sge (broadcastInDim S100x4 ![0, 1] bcast_S100x1_S100x4_0_1 (broadcastInDim S100x1 ![0] bcast_S100_S100x1_0 (iotaInDim S100 32 0)))
      (broadcastInDim S100x4 ![0, 1] bcast_S1x4_S100x4_0_1 (broadcastInDim S1x4 ![1] bcast_S4_S1x4_1 (V m c main_v14 : IVec S4 32)))) natLt_1_32)
      (constantI S_ 32 0#32) reducesTo_S100x4_S100_d1 h_S_) (broadcastInDim S100 ![] bcast_S_S100 (constantI S_ 32 3#32)) := by
  unfold V V₀
  after_reads_simp
  try rfl

/-- Where the expert changes from the tile before, from the experts of the tiles. -/
theorem V_main_v53 (c : Dev nD) : (V m c main_v53 : IVec S100 32) =
    concatenate S100 0 [⟨S1, broadcastInDim S1 ![] bcast_S_S1 (constantI S_ 32 1#32)⟩,
      ⟨S99, extui 32 (cmpi .ne (extractStridedSlice S99 ![1] (V m c main_v47 : IVec S100 32) slices_S100_S99_1)
        (extractStridedSlice S99 ![0] (V m c main_v47 : IVec S100 32) slices_S100_S99_0)) natLt_1_32⟩] concatenates_S1_S99_S100_d0 := by
  unfold V V₀
  after_reads_simp
  try rfl

end Cert.Kernel.Hand

end
-- ==== Proof.KeTables.lean ====
module

public import proofs.«01_k».proof.Proof.KeHost
public import Idealize.ShloMosaic.Lib.Routing.Ops
public import Idealize.ShloMosaic.Lib.Routing.OpsSet

@[expose] public section

set_option maxRecDepth 16384
set_option maxHeartbeats 4000000

noncomputable section

namespace Cert.Kernel.Hand

open Cert.Kernel.Gen
open Idealize.ShloMosaic Idealize.ShloMosaic.TcCoe Idealize.ShloMosaic.Tactic

variable {F : FTy → Type} [BitOps F] (m : (ℓ : Loc nD τ sig) → Buf (Elt F) ℓ)

/-- The expert of a tile, from the ends of the experts' tiles: the number of experts whose tiles end at or before it, at most 3. -/
def tileOf (a : IVec S4 32) (t : ℕ) : ℕ := min (Nat.count (fun e => ∃ h : e < 4, (a (ix1 ⟨e, h⟩)).toInt ≤ t) 4) 3

theorem tileOf_lt (a : IVec S4 32) (t : ℕ) : tileOf a t < 4 := by unfold tileOf; omega

theorem min_three (n : ℕ) (h : n ≤ 4) : IntOp.minsi (BitVec.ofNat 32 n) 3#32 = BitVec.ofNat 32 (min n 3) := by
  interval_cases n <;> rfl

/-- The host's table of the experts of the tiles. -/
theorem table_at (a : IVec S4 32) (t : Fin 100) :
    minsi (Host.reduce IntOp.addi (extui 32 (cmpi .sge (broadcastInDim S100x4 ![0, 1] bcast_S100x1_S100x4_0_1 (broadcastInDim S100x1 ![0] bcast_S100_S100x1_0 (iotaInDim S100 32 0)))
      (broadcastInDim S100x4 ![0, 1] bcast_S1x4_S100x4_0_1 (broadcastInDim S1x4 ![1] bcast_S4_S1x4_1 a))) natLt_1_32)
      (constantI S_ 32 0#32) reducesTo_S100x4_S100_d1 h_S_) (broadcastInDim S100 ![] bcast_S_S100 (constantI S_ 32 3#32)) (ix1 t)
      = BitVec.ofNat 32 (tileOf a t.val) := by
  have hc := Routing.reduce_count (n := 100) (m := 4) (by decide) (cmpi .sge (broadcastInDim S100x4 ![0, 1] bcast_S100x1_S100x4_0_1 (broadcastInDim S100x1 ![0] bcast_S100_S100x1_0 (iotaInDim S100 32 0)))
      (broadcastInDim S100x4 ![0, 1] bcast_S1x4_S100x4_0_1 (broadcastInDim S1x4 ![1] bcast_S4_S1x4_1 a))) natLt_1_32 reducesTo_S100x4_S100_d1 h_S_ t
      (fun e => ∃ h : e < 4, (a (ix1 ⟨e, h⟩)).toInt ≤ t.val) (fun q => by
        have e1 := Routing.bcRows bcast_S100_S100x1_0 bcast_S100x1_S100x4_0_1 (iotaInDim S100 32 0) t q
        have e2 := Routing.bcCols bcast_S4_S1x4_1 bcast_S1x4_S100x4_0_1 a t q
        unfold cmpi
        rw [e1, e2]
        have e3 : (BitVec.ofNat 32 t.val).toInt = t.val := StableHlo.Predicate.toInt_ofNat_small _ (by omega)
        show BitVec.ofBool (decide ((a (ix1 q)).toInt ≤ (BitVec.ofNat 32 t.val).toInt)) = 1#1 ↔ _
        rw [e3]
        constructor
        · intro h
          refine ⟨q.isLt, ?_⟩
          by_contra hn
          rw [decide_eq_false hn] at h
          exact absurd h (by decide)
        · rintro ⟨_, h⟩
          rw [decide_eq_true h]
          rfl)
  exact (congrArg (fun w => IntOp.minsi w 3#32) hc).trans (min_three _ (Nat.count_le _))

/-- The host's table of where the expert changes: 1 at tile 0. -/
theorem fresh_zero (b : IVec S100 32) :
    concatenate S100 0 [⟨S1, broadcastInDim S1 ![] bcast_S_S1 (constantI S_ 32 1#32)⟩,
      ⟨S99, extui 32 (cmpi .ne (extractStridedSlice S99 ![1] b slices_S100_S99_1)
        (extractStridedSlice S99 ![0] b slices_S100_S99_0)) natLt_1_32⟩] concatenates_S1_S99_S100_d0 (ix1 (0 : Fin 100)) = 1#32 := by
  pointwise

/-- And elsewhere 1 unless the expert is that of the tile before. -/
theorem fresh_succ (b : IVec S100 32) (t : ℕ) (ht : t + 1 < 100)
    (h : concatenate S100 0 [⟨S1, broadcastInDim S1 ![] bcast_S_S1 (constantI S_ 32 1#32)⟩,
      ⟨S99, extui 32 (cmpi .ne (extractStridedSlice S99 ![1] b slices_S100_S99_1)
        (extractStridedSlice S99 ![0] b slices_S100_S99_0)) natLt_1_32⟩] concatenates_S1_S99_S100_d0 (ix1 (⟨t + 1, ht⟩ : Fin 100)) ≠ 1#32) :
    b (ix1 (⟨t + 1, ht⟩ : Fin 100)) = b (ix1 (⟨t, by omega⟩ : Fin 100)) := by
  revert h
  pointwise
  rw [dif_neg (by omega)]
  have e1 : (⟨1 + (t + 1 - 1), by omega⟩ : Fin 100) = ⟨t + 1, ht⟩ := Fin.ext (by show 1 + (t + 1 - 1) = t + 1; omega)
  have e0 : (⟨t + 1 - 1, by omega⟩ : Fin 100) = ⟨t, by omega⟩ := Fin.ext (by show t + 1 - 1 = t; omega)
  rw [e1, e0]
  generalize b (ix1 ⟨t + 1, ht⟩) = x
  generalize b (ix1 ⟨t, _⟩) = y
  intro h
  by_contra hne
  refine h ?_
  show BitVec.setWidth 32 (BitVec.ofBool (x != y)) = 1#32
  rw [bne_iff_ne.2 hne]
  rfl

variable {F : FTy → Type} [BitOps F] (m : (ℓ : Loc nD τ sig) → Buf (Elt F) ℓ)

/-- The expert of tile `t`. -/
def tileN (c : Dev nD) (t : ℕ) : ℕ := tileOf (V m c main_v14) t
theorem tileN_lt (c : Dev nD) (t : ℕ) : tileN m c t < 4 := tileOf_lt _ _

/-- The table of the experts of the tiles. -/
theorem tab0 (c : Dev nD) (t : Fin 100) : (V m c main_v47 : IVec S100 32) (ix1 t) = BitVec.ofNat 32 (tileN m c t.val) :=
  (congrFun (V_main_v47 m c) _).trans (table_at _ t)

/-- The second table's first entry is 1. -/
theorem tab1_zero (c : Dev nD) : (V m c main_v53 : IVec S100 32) (ix1 (0 : Fin 100)) = 1#32 :=
  (congrFun (V_main_v53 m c) _).trans (fresh_zero _)

/-- Where the second table's entry is not 1, the expert is that of the tile before. -/
theorem tab1_succ (c : Dev nD) (t : ℕ) (ht : t + 1 < 100) (h : (V m c main_v53 : IVec S100 32) (ix1 (⟨t + 1, ht⟩ : Fin 100)) ≠ 1#32) :
    tileN m c (t + 1) = tileN m c t := by
  have e := fresh_succ _ t ht (fun h' => h ((congrFun (V_main_v53 m c) _).trans h'))
  rw [tab0, tab0] at e
  have h1 := tileN_lt m c (t + 1)
  have h0 := tileN_lt m c t
  have := congrArg BitVec.toNat e
  simp only [BitVec.toNat_ofNat] at this
  omega

end Cert.Kernel.Hand

end
-- ==== Proof.KeOk.lean ====
module

public import proofs.«01_k».proof.Proof.KeTables
public import proofs.«01_k».proof.Proof.KeBody

@[expose] public section

set_option maxRecDepth 16384
set_option maxHeartbeats 4000000

noncomputable section

namespace Cert.Kernel.Hand

open Cert.Kernel.Gen
open Idealize.ShloMosaic Idealize.ShloMosaic.TcCoe Idealize.ShloMosaic.Tactic

variable {F : FTy → Type} [BitOps F] (m : (ℓ : Loc nD τ sig) → Buf (Elt F) ℓ)

/-- The two tables when the region is entered. -/
def tbl : pre0.Contents (Elt F) := fun j => V m (0 : Dev nD) (pre0.ref j)
/-- On every device the tables hold those contents. -/
theorem V_pre (c : Dev nD) (j : Fin 2) : V m c (pre0.ref j) = tbl m j := by
  obtain rfl : c = 0 := Subsingleton.elim _ _
  rfl

theorem off1_eq (i : grid0.Coords) : k0_off1 i 0 = (i 0).val := by
  have h : (i 0).val < 100 := (i 0).isLt
  show (BitVec.ofNat 32 (i 0).val).toNat = _
  rw [BitVec.toNat_ofNat]
  exact Nat.mod_eq_of_lt (by omega)

/-- The word a table's entry is read as at a grid point. -/
theorem at0 (i : grid0.Coords) : (tbl m).at 0 (Rect.unit (s := S100) (k0_off1 i) S1.size (k0_off1_inb i)) numel1_S1
    = BitVec.ofNat 32 (tileN m 0 (i 0).val) := by
  refine Eq.trans ?_ (tab0 m 0 ⟨(i 0).val, (i 0).isLt⟩)
  show V m 0 main_v47 _ = V m 0 main_v47 _
  refine congrArg _ (funext fun a => ?_)
  match a with
  | ⟨0, _⟩ => exact Fin.ext (by show k0_off1 i 0 + 1 * 0 = (i 0).val; rw [off1_eq]; omega)

theorem word0 (c : Dev nD) (i : grid0.Coords) : word i c tbM0 (tbl m 0) = BitVec.ofNat 32 (tileN m 0 (i 0).val) := at0 m i

theorem word1 (c : Dev nD) (i : grid0.Coords) : word i c tbM1 (tbl m 1) = (V m 0 main_v53 : IVec S100 32) (ix1 ⟨(i 0).val, (i 0).isLt⟩) := by
  show V m 0 main_v53 _ = V m 0 main_v53 _
  refine congrArg _ (funext fun a => ?_)
  match a with
  | ⟨0, _⟩ => exact Fin.ext (by show k0_off1 i 0 + 1 * 0 = (i 0).val; rw [off1_eq]; omega)

/-- The condition under which the kernel fetches and decodes: the second table's entry is 1. -/
theorem cond1_iff (v : BitVec 32) : k0_cond1 v = 1#1 ↔ v = 1#32 := by
  unfold k0_cond1
  by_cases h : v = 1#32
  · subst h
    exact ⟨fun _ => rfl, fun _ => by rfl⟩
  · refine ⟨fun hc => absurd hc ?_, fun hv => absurd hv h⟩
    have : Scalar.cmpi .eq v 1#32 = 0#1 := by
      show BitVec.ofBool (v == 1#32) = 0#1
      rw [beq_false_of_ne h]
      rfl
    dsimp only
    rw [this]
    decide

theorem tile_cases (e : ℕ) (he : e < 4) : e = 0 ∨ e = 1 ∨ e = 2 ∨ e = 3 := by omega

theorem chk1_ofNat (e : ℕ) (he : e < 4) (v : BitVec 32) : k0_chk1 (BitVec.ofNat 32 e) v := by
  unfold k0_chk1
  rcases tile_cases e he with rfl | rfl | rfl | rfl <;>
    refine ⟨fun _ => ?_, fun _ => ?_, fun _ => ?_, fun _ => ?_⟩ <;> decide +kernel

/-- The kernel's check of the tables' words holds at every point. -/
theorem chk1 (c : Dev nD) (i : grid0.Coords) : k0_chk1 (word i c tbM0 (tbl m 0)) (word i c tbM1 (tbl m 1)) := by
  rw [word0]
  exact chk1_ofNat _ (tileN_lt _ _ _) _

theorem tr1 (i : grid0.Coords) : cc0_transform_1 k0_off1_inb numel1_S1 (tbl m) i = ![tileN m 0 (i 0).val, 0, 0] := by
  have h := tileN_lt m 0 (i 0).val
  have e := congrArg BitVec.toNat (at0 m i)
  rw [BitVec.toNat_ofNat, Nat.mod_eq_of_lt (by omega)] at e
  exact congrArg (fun n => ![n, 0, 0]) e
theorem tr2 (i : grid0.Coords) : cc0_transform_2 k0_off1_inb numel1_S1 (tbl m) i = ![tileN m 0 (i 0).val, 0, 0] := tr1 m i
theorem tr3 (i : grid0.Coords) : cc0_transform_3 k0_off1_inb numel1_S1 (tbl m) i = ![tileN m 0 (i 0).val, 0, 0] := tr1 m i
theorem tr4 (i : grid0.Coords) : cc0_transform_4 k0_off1_inb numel1_S1 (tbl m) i = ![tileN m 0 (i 0).val, 0, 0] := tr1 m i
theorem tr5 (i : grid0.Coords) : cc0_transform_5 k0_off1_inb numel1_S1 (tbl m) i = ![tileN m 0 (i 0).val, 0, 0] := tr1 m i
theorem tr6 (i : grid0.Coords) : cc0_transform_6 k0_off1_inb numel1_S1 (tbl m) i = ![tileN m 0 (i 0).val, 0, 0] := tr1 m i

/-- The pipeline's side condition of the tables: every block they choose is inside its array. -/
abbrev Ok : Prop := ok0 (F := F) (tbl m)
theorem ok : Ok m := by
  unfold Ok ok0
  refine ⟨fun i => ?_, fun i => ?_, fun i => ?_, fun i => ?_, fun i => ?_, fun i => ?_⟩
  · rw [tr1]; rcases tile_cases _ (tileN_lt m 0 (i 0).val) with h | h | h | h <;> rw [h] <;> exact ⟨by decide +kernel, by decide +kernel⟩
  · rw [tr2]; rcases tile_cases _ (tileN_lt m 0 (i 0).val) with h | h | h | h <;> rw [h] <;> exact ⟨by decide +kernel, by decide +kernel⟩
  · rw [tr3]; rcases tile_cases _ (tileN_lt m 0 (i 0).val) with h | h | h | h <;> rw [h] <;> exact ⟨by decide +kernel, by decide +kernel⟩
  · rw [tr4]; rcases tile_cases _ (tileN_lt m 0 (i 0).val) with h | h | h | h <;> rw [h] <;> exact ⟨by decide +kernel, by decide +kernel⟩
  · rw [tr5]; rcases tile_cases _ (tileN_lt m 0 (i 0).val) with h | h | h | h <;> rw [h] <;> exact ⟨by decide +kernel, by decide +kernel⟩
  · rw [tr6]; rcases tile_cases _ (tileN_lt m 0 (i 0).val) with h | h | h | h <;> rw [h] <;> exact ⟨by decide +kernel, by decide +kernel⟩

end Cert.Kernel.Hand

end
-- ==== Proof.KeData.lean ====
module

public import proofs.«01_k».proof.Proof.KeStep
public import proofs.«01_k».proof.Proof.KeOk

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ)

/-- The tables' contents, admissible. -/
abbrev adm : (pcfg0 (F := F)).Adm := ⟨tbl m, ok m⟩
/-- The pipeline at those tables. -/
abbrev cfgM : Pipeline.Cfg sig Λ₀ := cfg0 (adm m)

theorem N_M : (cfgM m).N = 100 := N_0

/-- Window `w`'s block at point `t`, of the array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The expert of point `t`'s tile. -/
def tileF (c : Dev nD) (n : ℕ) : Fin 4 := ⟨tileN m c n, tileN_lt m c n⟩

theorem coords_val (t : Fin grid0.N) : ((grid0.coords t) 0).val = t.val := by revert t; decide +kernel

end Cert.Kernel.Hand

end
-- ==== Proof.KeBlk.lean ====
module

public import proofs.«01_k».proof.Proof.KeData

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ)

/-- An entry of expert `e`'s block of an array of 1792 rows of 128. -/
theorem blk_1792_128 {α : Type} (A : S4x1792x128.Idx → α) (k : S4x1792x128.Idx) (e : Fin 4) (y : S1x1792x128.Idx)
    (h : ∀ a : Fin 3, (k a).val = (![e.val, 0, 0] : Fin 3 → ℕ) a * (![1, 1792, 128] : Fin 3 → ℕ) a + (y a).val) :
    A k = A (ix3 e (y 1) (y 2)) := by
  refine congrArg A (funext fun a => Fin.ext ?_)
  have hy : (y 0).val < 1 := (y 0).isLt
  have h0 := h 0
  have h1 := h 1
  have h2 := h 2
  match a with
  | ⟨0, _⟩ => exact h0.trans (by show e.val * 1 + (y 0).val = e.val; omega)
  | ⟨1, _⟩ => exact h1.trans (by show 0 * 1792 + (y 1).val = (y 1).val; omega)
  | ⟨2, _⟩ => exact h2.trans (by show 0 * 128 + (y 2).val = (y 2).val; omega)

/-- An entry of expert `e`'s block of an array of 3072 rows of 128. -/
theorem blk_3072_128 {α : Type} (A : S4x3072x128.Idx → α) (k : S4x3072x128.Idx) (e : Fin 4) (y : S1x3072x128.Idx)
    (h : ∀ a : Fin 3, (k a).val = (![e.val, 0, 0] : Fin 3 → ℕ) a * (![1, 3072, 128] : Fin 3 → ℕ) a + (y a).val) :
    A k = A (ix3 e (y 1) (y 2)) := by
  refine congrArg A (funext fun a => Fin.ext ?_)
  have hy : (y 0).val < 1 := (y 0).isLt
  have h0 := h 0
  have h1 := h 1
  have h2 := h 2
  match a with
  | ⟨0, _⟩ => exact h0.trans (by show e.val * 1 + (y 0).val = e.val; omega)
  | ⟨1, _⟩ => exact h1.trans (by show 0 * 3072 + (y 1).val = (y 1).val; omega)
  | ⟨2, _⟩ => exact h2.trans (by show 0 * 128 + (y 2).val = (y 2).val; omega)

/-- An entry of expert `e`'s block of an array of 1 rows of 1792. -/
theorem blk_1_1792 {α : Type} (A : S4x1x1792.Idx → α) (k : S4x1x1792.Idx) (e : Fin 4) (y : S1x1x1792.Idx)
    (h : ∀ a : Fin 3, (k a).val = (![e.val, 0, 0] : Fin 3 → ℕ) a * (![1, 1, 1792] : Fin 3 → ℕ) a + (y a).val) :
    A k = A (ix3 e (y 1) (y 2)) := by
  refine congrArg A (funext fun a => Fin.ext ?_)
  have hy : (y 0).val < 1 := (y 0).isLt
  have h0 := h 0
  have h1 := h 1
  have h2 := h 2
  match a with
  | ⟨0, _⟩ => exact h0.trans (by show e.val * 1 + (y 0).val = e.val; omega)
  | ⟨1, _⟩ => exact h1.trans (by show 0 * 1 + (y 1).val = (y 1).val; omega)
  | ⟨2, _⟩ => exact h2.trans (by show 0 * 1792 + (y 2).val = (y 2).val; omega)

/-- An entry of expert `e`'s block of an array of 1 rows of 3072. -/
theorem blk_1_3072 {α : Type} (A : S4x1x3072.Idx → α) (k : S4x1x3072.Idx) (e : Fin 4) (y : S1x1x3072.Idx)
    (h : ∀ a : Fin 3, (k a).val = (![e.val, 0, 0] : Fin 3 → ℕ) a * (![1, 1, 3072] : Fin 3 → ℕ) a + (y a).val) :
    A k = A (ix3 e (y 1) (y 2)) := by
  refine congrArg A (funext fun a => Fin.ext ?_)
  have hy : (y 0).val < 1 := (y 0).isLt
  have h0 := h 0
  have h1 := h 1
  have h2 := h 2
  match a with
  | ⟨0, _⟩ => exact h0.trans (by show e.val * 1 + (y 0).val = e.val; omega)
  | ⟨1, _⟩ => exact h1.trans (by show 0 * 1 + (y 1).val = (y 1).val; omega)
  | ⟨2, _⟩ => exact h2.trans (by show 0 * 3072 + (y 2).val = (y 2).val; omega)

theorem index1 (t : Fin (cfgM m).N) : ((cfgM m).win 1).index t = ![tileN m 0 t.val, 0, 0] := by
  have h := tr1 m (grid0.coords t)
  rw [coords_val t] at h
  exact h
theorem embv1 (t : Fin (cfgM m).N) (y : S1x1792x128.Idx) (a : Fin 3) : ((((cfgM m).win 1).rect t).emb y a : ℕ) = (![tileN m 0 t.val, 0, 0] : Fin 3 → ℕ) a * (![1, 1792, 128] : Fin 3 → ℕ) a + (y a).val := by
  have h := ((cfgM m).win 1).rect_emb_val t y a
  rw [index1] at h
  exact h
/-- Window 1's block at a point is the expert's block of any array it is cut from. -/
theorem read1 (A : Vec F S4x1792x128 .i8) (t : Fin (cfgM m).N) (y : S1x1792x128.Idx) :
    (((cfgM m).win 1).blk t).view.read (Elt F) A y = A (ix3 (tileF m 0 t.val) (y 1) (y 2)) :=
  blk_1792_128 A ((((cfgM m).win 1).rect t).emb y) (tileF m 0 t.val) y (embv1 m t y)
/-- The block of `main_v65` of expert `e`. -/
def eb1 (c : Dev nD) (e : Fin 4) : Vec F S1x1792x128 .i8 := fun y => (V m c main_v65 : Vec F S4x1792x128 .i8) (ix3 e (y 1) (y 2))
theorem iblk1 (c : Dev nD) (t : Fin (cfgM m).N) : (iblk m c 1 t : Vec F S1x1792x128 .i8) = eb1 m c (tileF m 0 t.val) := funext fun y => read1 m (V m c main_v65) t y

theorem index2 (t : Fin (cfgM m).N) : ((cfgM m).win 2).index t = ![tileN m 0 t.val, 0, 0] := by
  have h := tr2 m (grid0.coords t)
  rw [coords_val t] at h
  exact h
theorem embv2 (t : Fin (cfgM m).N) (y : S1x1792x128.Idx) (a : Fin 3) : ((((cfgM m).win 2).rect t).emb y a : ℕ) = (![tileN m 0 t.val, 0, 0] : Fin 3 → ℕ) a * (![1, 1792, 128] : Fin 3 → ℕ) a + (y a).val := by
  have h := ((cfgM m).win 2).rect_emb_val t y a
  rw [index2] at h
  exact h
/-- Window 2's block at a point is the expert's block of any array it is cut from. -/
theorem read2 (A : Vec F S4x1792x128 .i8) (t : Fin (cfgM m).N) (y : S1x1792x128.Idx) :
    (((cfgM m).win 2).blk t).view.read (Elt F) A y = A (ix3 (tileF m 0 t.val) (y 1) (y 2)) :=
  blk_1792_128 A ((((cfgM m).win 2).rect t).emb y) (tileF m 0 t.val) y (embv2 m t y)
/-- The block of `main_v67` of expert `e`. -/
def eb2 (c : Dev nD) (e : Fin 4) : Vec F S1x1792x128 .i8 := fun y => (V m c main_v67 : Vec F S4x1792x128 .i8) (ix3 e (y 1) (y 2))
theorem iblk2 (c : Dev nD) (t : Fin (cfgM m).N) : (iblk m c 2 t : Vec F S1x1792x128 .i8) = eb2 m c (tileF m 0 t.val) := funext fun y => read2 m (V m c main_v67) t y

theorem index3 (t : Fin (cfgM m).N) : ((cfgM m).win 3).index t = ![tileN m 0 t.val, 0, 0] := by
  have h := tr3 m (grid0.coords t)
  rw [coords_val t] at h
  exact h
theorem embv3 (t : Fin (cfgM m).N) (y : S1x3072x128.Idx) (a : Fin 3) : ((((cfgM m).win 3).rect t).emb y a : ℕ) = (![tileN m 0 t.val, 0, 0] : Fin 3 → ℕ) a * (![1, 3072, 128] : Fin 3 → ℕ) a + (y a).val := by
  have h := ((cfgM m).win 3).rect_emb_val t y a
  rw [index3] at h
  exact h
/-- Window 3's block at a point is the expert's block of any array it is cut from. -/
theorem read3 (A : Vec F S4x3072x128 .i8) (t : Fin (cfgM m).N) (y : S1x3072x128.Idx) :
    (((cfgM m).win 3).blk t).view.read (Elt F) A y = A (ix3 (tileF m 0 t.val) (y 1) (y 2)) :=
  blk_3072_128 A ((((cfgM m).win 3).rect t).emb y) (tileF m 0 t.val) y (embv3 m t y)
/-- The block of `main_v68` of expert `e`. -/
def eb3 (c : Dev nD) (e : Fin 4) : Vec F S1x3072x128 .i8 := fun y => (V m c main_v68 : Vec F S4x3072x128 .i8) (ix3 e (y 1) (y 2))
theorem iblk3 (c : Dev nD) (t : Fin (cfgM m).N) : (iblk m c 3 t : Vec F S1x3072x128 .i8) = eb3 m c (tileF m 0 t.val) := funext fun y => read3 m (V m c main_v68) t y

theorem index4 (t : Fin (cfgM m).N) : ((cfgM m).win 4).index t = ![tileN m 0 t.val, 0, 0] := by
  have h := tr4 m (grid0.coords t)
  rw [coords_val t] at h
  exact h
theorem embv4 (t : Fin (cfgM m).N) (y : S1x1x1792.Idx) (a : Fin 3) : ((((cfgM m).win 4).rect t).emb y a : ℕ) = (![tileN m 0 t.val, 0, 0] : Fin 3 → ℕ) a * (![1, 1, 1792] : Fin 3 → ℕ) a + (y a).val := by
  have h := ((cfgM m).win 4).rect_emb_val t y a
  rw [index4] at h
  exact h
/-- Window 4's block at a point is the expert's block of any array it is cut from. -/
theorem read4 (A : Vec F S4x1x1792 .bf16) (t : Fin (cfgM m).N) (y : S1x1x1792.Idx) :
    (((cfgM m).win 4).blk t).view.read (Elt F) A y = A (ix3 (tileF m 0 t.val) (y 1) (y 2)) :=
  blk_1_1792 A ((((cfgM m).win 4).rect t).emb y) (tileF m 0 t.val) y (embv4 m t y)
/-- The block of `main_v72` of expert `e`. -/
def eb4 (c : Dev nD) (e : Fin 4) : Vec F S1x1x1792 .bf16 := fun y => (V m c main_v72 : Vec F S4x1x1792 .bf16) (ix3 e (y 1) (y 2))
theorem iblk4 (c : Dev nD) (t : Fin (cfgM m).N) : (iblk m c 4 t : Vec F S1x1x1792 .bf16) = eb4 m c (tileF m 0 t.val) := funext fun y => read4 m (V m c main_v72) t y

theorem index5 (t : Fin (cfgM m).N) : ((cfgM m).win 5).index t = ![tileN m 0 t.val, 0, 0] := by
  have h := tr5 m (grid0.coords t)
  rw [coords_val t] at h
  exact h
theorem embv5 (t : Fin (cfgM m).N) (y : S1x1x1792.Idx) (a : Fin 3) : ((((cfgM m).win 5).rect t).emb y a : ℕ) = (![tileN m 0 t.val, 0, 0] : Fin 3 → ℕ) a * (![1, 1, 1792] : Fin 3 → ℕ) a + (y a).val := by
  have h := ((cfgM m).win 5).rect_emb_val t y a
  rw [index5] at h
  exact h
/-- Window 5's block at a point is the expert's block of any array it is cut from. -/
theorem read5 (A : Vec F S4x1x1792 .bf16) (t : Fin (cfgM m).N) (y : S1x1x1792.Idx) :
    (((cfgM m).win 5).blk t).view.read (Elt F) A y = A (ix3 (tileF m 0 t.val) (y 1) (y 2)) :=
  blk_1_1792 A ((((cfgM m).win 5).rect t).emb y) (tileF m 0 t.val) y (embv5 m t y)
/-- The block of `main_v75` of expert `e`. -/
def eb5 (c : Dev nD) (e : Fin 4) : Vec F S1x1x1792 .bf16 := fun y => (V m c main_v75 : Vec F S4x1x1792 .bf16) (ix3 e (y 1) (y 2))
theorem iblk5 (c : Dev nD) (t : Fin (cfgM m).N) : (iblk m c 5 t : Vec F S1x1x1792 .bf16) = eb5 m c (tileF m 0 t.val) := funext fun y => read5 m (V m c main_v75) t y

theorem index6 (t : Fin (cfgM m).N) : ((cfgM m).win 6).index t = ![tileN m 0 t.val, 0, 0] := by
  have h := tr6 m (grid0.coords t)
  rw [coords_val t] at h
  exact h
theorem embv6 (t : Fin (cfgM m).N) (y : S1x1x3072.Idx) (a : Fin 3) : ((((cfgM m).win 6).rect t).emb y a : ℕ) = (![tileN m 0 t.val, 0, 0] : Fin 3 → ℕ) a * (![1, 1, 3072] : Fin 3 → ℕ) a + (y a).val := by
  have h := ((cfgM m).win 6).rect_emb_val t y a
  rw [index6] at h
  exact h
/-- Window 6's block at a point is the expert's block of any array it is cut from. -/
theorem read6 (A : Vec F S4x1x3072 .bf16) (t : Fin (cfgM m).N) (y : S1x1x3072.Idx) :
    (((cfgM m).win 6).blk t).view.read (Elt F) A y = A (ix3 (tileF m 0 t.val) (y 1) (y 2)) :=
  blk_1_3072 A ((((cfgM m).win 6).rect t).emb y) (tileF m 0 t.val) y (embv6 m t y)
/-- The block of `main_v76` of expert `e`. -/
def eb6 (c : Dev nD) (e : Fin 4) : Vec F S1x1x3072 .bf16 := fun y => (V m c main_v76 : Vec F S4x1x3072 .bf16) (ix3 e (y 1) (y 2))
theorem iblk6 (c : Dev nD) (t : Fin (cfgM m).N) : (iblk m c 6 t : Vec F S1x1x3072 .bf16) = eb6 m c (tileF m 0 t.val) := funext fun y => read6 m (V m c main_v76) t y

theorem index7 (t : Fin (cfgM m).N) : ((cfgM m).win 7).index t = ![t.val, 0] := by
  have h : cc0_transform_0 (grid0.coords t) = ![((grid0.coords t) 0).val, 0] := by
    have h : ((grid0.coords t) 0).val < 100 := ((grid0.coords t) 0).isLt
    refine congrArg (fun n => ![n, 0]) ?_
    show (BitVec.ofNat 32 ((grid0.coords t) 0).val).toNat = _
    rw [BitVec.toNat_ofNat]
    exact Nat.mod_eq_of_lt (by omega)
  rw [coords_val t] at h
  exact h
theorem index0 (t : Fin (cfgM m).N) : ((cfgM m).win 0).index t = ![t.val, 0] := index7 m t
theorem embv7 (t : Fin (cfgM m).N) (y : S256x3072.Idx) (a : Fin 2) : ((((cfgM m).win 7).rect t).emb y a : ℕ) = (![t.val, 0] : Fin 2 → ℕ) a * (![256, 3072] : Fin 2 → ℕ) a + (y a).val := by
  have h := ((cfgM m).win 7).rect_emb_val t y a
  rw [index7] at h
  exact h
theorem embv0 (t : Fin (cfgM m).N) (y : S256x3072.Idx) (a : Fin 2) : ((((cfgM m).win 0).rect t).emb y a : ℕ) = (![t.val, 0] : Fin 2 → ℕ) a * (![256, 3072] : Fin 2 → ℕ) a + (y a).val := by
  have h := ((cfgM m).win 0).rect_emb_val t y a
  rw [index0] at h
  exact h

end Cert.Kernel.Hand

end
-- ==== Proof.KeDats.lean ====
module

public import proofs.«01_k».proof.Proof.KeBlk

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ)

/-- The body's own transfer counters. -/
abbrev osem0 : Fin 2 → SemLoc sig := ![SemLoc.dma 16, SemLoc.dma 17]
theorem ownSemFacts0 : Pipeline.OwnSemFacts spec0 osem0 := by decide
theorem ownSems00_eq (c : Dev nD) : (Pipeline.ownSems0 osem0 c : sProp 𝕄)
    = iprop(semVal ((c : Thread nD τ), SemLoc.dma 16) 0 ∗ semVal ((c : Thread nD τ), SemLoc.dma 17) 0) := by
  rw [Pipeline.ownSems0_eq_of_list c osem0 [0, 1] (by decide) (by decide)]; rfl
/-- The arrays the body reads in place. -/
abbrev H0 : Finset (Ref sig .tc) := {main_arg3, main_arg6}
theorem H0_sub : H0 ⊆ Pipeline.restRefsP sig pre0 spec0 := by decide
theorem hbmPts0_eq (c : Dev nD) (W : (b : Ref sig .tc) → Buf (Elt F) ((c : Thread nD τ).loc b)) :
    (bigSep H0 fun b => ((c : Thread nD τ).loc b) ↦{fullShare} W b : sProp 𝕄)
      = iprop(hbPt c hbM0 (W main_arg3) ∗ hbPt c hbM1 (W main_arg6)) := by
  rw [BI.bigSep_eq_bigSepL_of_eq [main_arg3, main_arg6] (by decide) (by decide)]; rfl
theorem PhiT0_eq (c : Dev nD) : (Pipeline.ΦT pre0 (tbl m) c : sProp 𝕄) = iprop(tbPt c tbM0 (tbl m 0) ∗ tbPt c tbM1 (tbl m 1)) := by
  unfold Pipeline.ΦT Pipeline.prefHeld
  rw [bigSep_univ_eq_bigSepL [(0 : Fin 2), (1 : Fin 2)] (by decide) (by decide)]
  rfl

/-- The decoded gate, up and down weights of expert `e`. -/
def wG (c : Dev nD) (e : Fin 4) : FVec F S1792x3072 .bf16 := wGate (guCodes (V m c main_arg3) e) (eb1 m c e)
def wU (c : Dev nD) (e : Fin 4) : FVec F S1792x3072 .bf16 := wUp (guCodes (V m c main_arg3) e) (eb2 m c e)
def wD (c : Dev nD) (e : Fin 4) : FVec F S3072x1792 .bf16 := wDown (dnCodes (V m c main_arg6) e) (eb3 m c e)
/-- The tile's rows of the gathered activations. -/
def xBlk (c : Dev nD) (t : Fin (cfgM m).N) : FVec F S256x3072 .bf16 := iblk m c 0 t
/-- The result's block at a point: the tile's rows through the weights and biases of the tile's expert. -/
def outE (c : Dev nD) (e : Fin 4) (x : FVec F S256x3072 .bf16) : FVec F S256x3072 .f32 :=
  outV x (wG m c e) (wU m c e) (wD m c e) (eb4 m c e) (eb5 m c e) (eb6 m c e)

/-- What the body keeps from one point to the next: past the first point, the scratch buffers hold the decoded weights of the
    expert of the tile before. -/
def inv (c : Dev nD) (n : ℕ) : sProp 𝕄 :=
  iprop((∃ (WG WU : FVec F S1792x3072 .bf16) (WD : FVec F S3072x1792 .bf16), ⌜0 < n → WG = wG m c (tileF m 0 (n - 1)) ∧ WU = wU m c (tileF m 0 (n - 1)) ∧ WD = wD m c (tileF m 0 (n - 1))⌝
    ∗ scr c WG WU WD) ∗ keep c (tbl m 0) (tbl m 1) (V m c main_arg3) (V m c main_arg6))

/-- The pipeline's proof data. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outE m c (tileF m 0 t.val) (xBlk m c t)
  Φ t := inv m c t.val
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = iblk m c 4 t := by dsimp only [dats]; try rfl
theorem after0_5 (c : Dev nD) (t : Fin (cfgM m).N) : (dats m 0 c).after 5 t = iblk m c 5 t := by dsimp only [dats]; try rfl
theorem after0_6 (c : Dev nD) (t : Fin (cfgM m).N) : (dats m 0 c).after 6 t = iblk m c 6 t := by dsimp only [dats]; try rfl
theorem after0_7 (c : Dev nD) (t : Fin (cfgM m).N) : (dats m 0 c).after 7 t = outE m c (tileF m 0 t.val) (xBlk m c t) := by dsimp only [dats]; try rfl
theorem before0_0 (c : Dev nD) (t : Fin (cfgM m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgM m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfgM m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfgM m).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfgM m).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfgM m).N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin (cfgM m).N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
abbrev ms0_0 (t : Fin (cfgM m).N) : Memref sig .tc .vmem S256x3072 .bf16 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x1792x128 .i8 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x1792x128 .i8 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x3072x128 .i8 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1x1x1792 .bf16 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S1x1x1792 .bf16 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S1x1x3072 .bf16 := spec0_6.stage ((cfgM m).slots t 6)
abbrev hs0_6 (t : Fin (cfgM m).N) : (ms0_6 m t).IsWhole := hstage0_6 (((cfgM m).slots t 6).cast nbuf0_6)
abbrev ms0_7 (t : Fin (cfgM m).N) : Memref sig .tc .vmem S256x3072 .f32 := spec0_7.stage ((cfgM m).slots t 7)
abbrev hs0_7 (t : Fin (cfgM m).N) : (ms0_7 m t).IsWhole := hstage0_7 (((cfgM m).slots t 7).cast nbuf0_7)

/-- The body at point `t`. -/
def bodyAt0 (t : Fin (cfgM m).N) := cc0_moe_ffn (F := F) (grid0.coords t) tbM0 (Memref.isWhole_whole _) tbM1 (Memref.isWhole_whole _) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) hbM0 (Memref.isWhole_whole _) hbM1 (Memref.isWhole_whole _) (ms0_7 m t) (hs0_7 m t) scM0 (Memref.isWhole_whole _) scM1 (Memref.isWhole_whole _) scM2 (Memref.isWhole_whole _) scM3 (Memref.isWhole_whole _) scM4 (Memref.isWhole_whole _) scM5 (Memref.isWhole_whole _) cc0_scratch6

theorem defs₀_row (t : Fin (cfgM m).N) :
    defs₀ (F := F) .tc (cfgM m).body ((cfgM m).bodyArgs t ((cfgM m).slots t)) = bodyAt0 m t := by
  unfold defs₀; rw [Defs.onTc_tc]; rfl

/-- What the body is called with at point `t`, and what it returns. -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d))
    ∗ (∃ d, owns (c : Thread nD τ) (ms0_5 m t) fullShare ((dats m 0 c).before 5 t d))
    ∗ (∃ d, owns (c : Thread nD τ) (ms0_6 m t) fullShare ((dats m 0 c).before 6 t d))
    ∗ (∃ d, owns (c : Thread nD τ) (ms0_7 m t) fullShare ((dats m 0 c).before 7 t d)))
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t)
    ∗ owns (c : Thread nD τ) (ms0_5 m t) fullShare ((dats m 0 c).after 5 t)
    ∗ owns (c : Thread nD τ) (ms0_6 m t) fullShare ((dats m 0 c).after 6 t)
    ∗ owns (c : Thread nD τ) (ms0_7 m t) fullShare ((dats m 0 c).after 7 t))

/-- A point's expert is the one before's when its fresh word is not 1. -/
theorem stay (t : Fin (cfgM m).N) (c : Dev nD) (h : ¬ k0_cond1 (word (grid0.coords t) c tbM1 (tbl m 1)) = 1#1) :
    0 < t.val ∧ tileF m 0 (t.val - 1) = tileF m 0 t.val := by
  rw [word1, cond1_iff] at h
  have hv := coords_val t
  have ht : t.val < 100 := N_0 ▸ t.isLt
  rcases Nat.eq_zero_or_pos t.val with h0 | h0
  · exact absurd ((congrArg (V m 0 main_v53 : IVec S100 32) (congrArg (ix1 (n0 := 100)) (Fin.ext (hv.trans h0)))).trans (tab1_zero m 0)) h
  · refine ⟨h0, Fin.ext ?_⟩
    have h' : (V m 0 main_v53 : IVec S100 32) (ix1 ⟨t.val - 1 + 1, by omega⟩) ≠ 1#32 := by
      intro h1
      exact h ((congrArg (V m 0 main_v53 : IVec S100 32) (congrArg (ix1 (n0 := 100)) (Fin.ext (by show ((grid0.coords t) 0).val = t.val - 1 + 1; omega)))).trans h1)
    have := tab1_succ m 0 (t.val - 1) (by omega) h'
    rw [Nat.sub_add_cancel h0] at this
    exact this.symm

theorem wordE (t : Fin (cfgM m).N) (c : Dev nD) : word (grid0.coords t) c tbM0 (tbl m 0) = BitVec.ofNat 32 (tileF m 0 t.val).val := by
  rw [word0, coords_val t]; rfl

end Cert.Kernel.Hand

end
-- ==== Proof.KeSound.lean ====
module

public import proofs.«01_k».proof.Proof.KeDats

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ)

theorem out_F (c : Dev nD) (t : Fin (cfgM m).N) : outE m c (tileF m 0 t.val) (xBlk m c t)
    = outV (iblk m c 0 t) (wGate (guCodes (V m c main_arg3) (tileF m 0 t.val)) (iblk m c 1 t)) (wUp (guCodes (V m c main_arg3) (tileF m 0 t.val)) (iblk m c 2 t))
      (wDown (dnCodes (V m c main_arg6) (tileF m 0 t.val)) (iblk m c 3 t)) (iblk m c 4 t) (iblk m c 5 t) (iblk m c 6 t) := by
  unfold outE wG wU wD xBlk
  rw [← iblk1, ← iblk2, ← iblk3, ← iblk4, ← iblk5, ← iblk6]
theorem out_N (c : Dev nD) (t : Fin (cfgM m).N) : outE m c (tileF m 0 t.val) (xBlk m c t)
    = outV (iblk m c 0 t) (wG m c (tileF m 0 t.val)) (wU m c (tileF m 0 t.val)) (wD m c (tileF m 0 t.val)) (iblk m c 4 t) (iblk m c 5 t) (iblk m c 6 t) := by
  unfold outE xBlk
  rw [← iblk4, ← iblk5, ← iblk6]
theorem wG_F (c : Dev nD) (t : Fin (cfgM m).N) : wGate (guCodes (V m c main_arg3) (tileF m 0 t.val)) (iblk m c 1 t) = wG m c (tileF m 0 t.val) := by
  unfold wG; rw [← iblk1]
theorem wU_F (c : Dev nD) (t : Fin (cfgM m).N) : wUp (guCodes (V m c main_arg3) (tileF m 0 t.val)) (iblk m c 2 t) = wU m c (tileF m 0 t.val) := by
  unfold wU; rw [← iblk2]
theorem wD_F (c : Dev nD) (t : Fin (cfgM m).N) : wDown (dnCodes (V m c main_arg6) (tileF m 0 t.val)) (iblk m c 3 t) = wD m c (tileF m 0 t.val) := by
  unfold wD; rw [← iblk3]

set_option backward.isDefEq.respectTransparency.types false in
/-- The body at any point, from what the points before left to what the next is owed. -/
theorem sound_body (c : Dev nD) (t : Fin (cfgM m).N) :
    bodyPre m c t ⊢ wp frame (wpE (defs₀ (F := F)) Variants.none c none) Set.univ (bodyAt0 m t) (fun _ => bodyPost m c t) := by
  unfold bodyPre bodyPost bodyAt0
  simp only [before0_0, before0_1, before0_2, before0_3, before0_4, before0_5, before0_6]
  rw [after0_0, after0_1, after0_2, after0_3, after0_4, after0_5, after0_6, after0_7]
  rw [show (dats m 0 c).Φ t.succ = inv m c (t.val + 1) from rfl, show (dats m 0 c).Φ t.castSucc = inv m c t.val from rfl]
  unfold Dat.owesAt Pipeline.owesWithin
  rw [show (dats m 0 c).owed t.castSucc = 0 from rfl, show (dats m 0 c).owed t.succ = 0 from rfl]
  unfold inv
  iintro ⟨⟨⟨%WG, %WU, %WD, %hW, HS⟩, HK⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  by_cases hfr : k0_cond1 (word (grid0.coords t) c tbM1 (tbl m 1)) = 1#1
  · iapply (step_F (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) c (tbl m 0) (tbl m 1) (iblk m c 0 t) (iblk m c 2 t) (iblk m c 1 t) (iblk m c 3 t) (iblk m c 4 t) (iblk m c 5 t) (iblk m c 6 t) (V m c main_arg3) (V m c main_arg6) WG WU WD (tileF m 0 t.val) (wordE m t c) (chk1 m c _) hfr W _)
    isplitl [HK]; · iexact HK
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [HS]; · iexact HS
    isplitl [HW]; · iexact HW
    iintro ⟨HK, ⟨H0, H1, H2, H3, H4, H5, H6⟩, H7, HS, ⟨%W', HW'⟩⟩
    isplitl [HS HK]
    · isplitr [HK]
      · iexists _, _, _
        isplitr
        swap; · iexact HS
        ipureintro
        exact fun _ => ⟨wG_F m c t, wU_F m c t, wD_F m c t⟩
      iexact HK
    rw [out_F]
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · obtain ⟨hpos, htile⟩ := stay m t c hfr
    obtain ⟨e1, e2, e3⟩ := hW hpos
    rw [htile] at e1 e2 e3
    iapply (step_N (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) c (tbl m 0) (tbl m 1) (iblk m c 0 t) (iblk m c 2 t) (iblk m c 1 t) (iblk m c 3 t) (iblk m c 4 t) (iblk m c 5 t) (iblk m c 6 t) (V m c main_arg3) (V m c main_arg6) WG WU WD (chk1 m c _) hfr W _)
    isplitl [HK]; · iexact HK
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [HS]; · iexact HS
    isplitl [HW]; · iexact HW
    iintro ⟨HK, ⟨H0, H1, H2, H3, H4, H5, H6⟩, H7, HS, ⟨%W', HW'⟩⟩
    isplitl [HS HK]
    · isplitr [HK]
      · iexists _, _, _
        isplitr
        swap; · iexact HS
        ipureintro
        exact fun _ => ⟨e1, e2, e3⟩
      iexact HK
    rw [out_N, ← e1, ← e2, ← e3]
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

end Cert.Kernel.Hand

end
-- ==== Proof.KeLaunch.lean ====
module

public import proofs.«01_k».proof.Proof.KeSound

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ)

variable (ρ : Dev nD → PrngReg)

theorem pre_sub : (pre (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩
theorem pre_fresh : (pre (F := F)).Forall fun ops => ops.Forall fun op => op.fresh = ∅ := by
  refine ⟨?_, ?_, ?_, ?_, ?_, ?_, ?_, ?_, ?_, ?_, ?_, ?_⟩ <;> simp only [List.Forall] <;> repeat' constructor

/-- @main is the host operations before the region, the region, and those after. -/
theorem hmain : Pipeline.HMainPK (Ix := Unit) (Name := ℕ) (U := Pipeline.UD sig nD τ) (Lvl := ℕ) pcfgs 0 defs₀ Variants.none m (main (F := F))
    (fun c b => V₀ m c (Proc.devRef .tc b)) (fun _ => Pipeline.chain ((post (F := F)).map StableHlo.seq)) := by
  unfold V₀
  exact Pipeline.hmainP_around pcfgs 0 defs₀ Variants.none m main pre post pre_sub pre_fresh fun c => (main_chain c).trans rfl

theorem V_main_arg0 (c : Dev nD) : V m c main_arg0 = m ((c : Thread nD τ).loc main_arg0) := by
  unfold V V₀
  after_reads_simp
  try rfl
theorem V_main_arg1 (c : Dev nD) : V m c main_arg1 = m ((c : Thread nD τ).loc main_arg1) := by
  unfold V V₀
  after_reads_simp
  try rfl
theorem V_main_arg2 (c : Dev nD) : V m c main_arg2 = m ((c : Thread nD τ).loc main_arg2) := by
  unfold V V₀
  after_reads_simp
  try rfl
theorem V_main_arg4 (c : Dev nD) : V m c main_arg4 = m ((c : Thread nD τ).loc main_arg4) := by
  unfold V V₀
  after_reads_simp
  try rfl
theorem V_main_arg5 (c : Dev nD) : V m c main_arg5 = m ((c : Thread nD τ).loc main_arg5) := by
  unfold V V₀
  after_reads_simp
  try rfl
theorem V_main_arg6 (c : Dev nD) : V m c main_arg6 = m ((c : Thread nD τ).loc main_arg6) := by
  unfold V V₀
  after_reads_simp
  try rfl
theorem V_main_arg7 (c : Dev nD) : V m c main_arg7 = m ((c : Thread nD τ).loc main_arg7) := by
  unfold V V₀
  after_reads_simp
  try rfl
theorem V_main_arg8 (c : Dev nD) : V m c main_arg8 = m ((c : Thread nD τ).loc main_arg8) := by
  unfold V V₀
  after_reads_simp
  try rfl

/-- The operations after the region touch neither table. -/
theorem post_sub : ∀ ops ∈ (post (F := F)), ∀ op ∈ ops, op.bufs ⊆ Pipeline.tailRefs sig pre0 spec0 := by
  intro ops hops op hop
  obtain rfl : ops = hostOps1 := List.mem_singleton.mp hops
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals intro k; fin_cases k <;> simp only [StableHlo.nullary_bufs, StableHlo.unary_bufs, StableHlo.binary_bufs, StableHlo.ternary_bufs, StableHlo.reshape_bufs, Finset.mem_insert, Finset.mem_singleton, not_or] <;> and_intros <;> exact StableHlo.devRef_ne_of_ne (by decide)
theorem post_fresh : ∀ ops ∈ (post (F := F)), ∀ op ∈ ops, op.fresh = ∅ := by
  intro ops hops op hop
  obtain rfl : ops = hostOps1 := List.mem_singleton.mp hops
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl <;> rfl
/-- They write no array of the pipeline. -/
theorem post_keep : ∀ ops ∈ (post (F := F)), ∀ op ∈ ops, ∀ w, Proc.devRef .tc (Pipeline.arrRef spec0 w) ∉ op.writes := by
  intro ops hops op hop
  obtain rfl : ops = hostOps1 := List.mem_singleton.mp hops
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem frameEnter (c : Dev nD) : iprop(Pipeline.ΦDRV osem0 spec0 H0 ∅ (V m) (V m) c ∗ Pipeline.ΦT pre0 (tbl m) c) ⊢ (inv m c 0 : sProp 𝕄) := by
  unfold Pipeline.ΦDRV inv
  rw [scopedRest0_eq, ownSems00_eq, hbmPts0_eq, PhiT0_eq]
  unfold scr
  simp only [owns_whole]
  iintro ⟨⟨⟨⟨%g0, G0⟩, ⟨%g1, G1⟩, ⟨%g2, G2⟩, ⟨%g3, G3⟩, ⟨%g4, G4⟩, ⟨%g5, G5⟩⟩, ⟨S0, S1⟩, ⟨B0, B1⟩, -⟩, ⟨T0, T1⟩⟩
  isplitr [T0 T1 B0 B1 S0 S1]
  · iexists g0, g1, g2
    isplitr; · ipureintro; exact fun h => absurd h (Nat.lt_irrefl 0)
    isplitl [G0]; · iexact G0
    isplitl [G1]; · iexact G1
    isplitl [G2]; · iexact G2
    isplitl [G3]; · iexists _; iexact G3
    isplitl [G4]; · iexists _; iexact G4
    iexists _; iexact G5
  isplitl [T0]; · iexact T0
  isplitl [T1]; · iexact T1
  isplitl [B0]; · iexact B0
  isplitl [B1]; · iexact B1
  isplitl [S0]; · iexact S0
  iexact S1

theorem frameLeave (c : Dev nD) (n : ℕ) : (inv m c n : sProp 𝕄) ⊢ Pipeline.ΦDRV osem0 spec0 H0 ∅ (V m) (V m) c := by
  unfold Pipeline.ΦDRV inv
  rw [scopedRest0_eq, ownSems00_eq, hbmPts0_eq]
  unfold scr
  simp only [owns_whole]
  iintro ⟨⟨%g0, %g1, %g2, -, G0, G1, G2, ⟨%g3, G3⟩, ⟨%g4, G4⟩, ⟨%g5, G5⟩⟩, ⟨-, -, B0, B1, S0, S1⟩⟩
  isplitl [G0 G1 G2 G3 G4 G5]
  · isplitl [G0]; · iexists _; iexact G0
    isplitl [G1]; · iexists _; iexact G1
    isplitl [G2]; · iexists _; iexact G2
    isplitl [G3]; · iexists _; iexact G3
    isplitl [G4]; · iexists _; iexact G4
    iexists _; iexact G5
  isplitl [S0 S1]
  · isplitl [S0]; · iexact S0
    iexact S1
  isplitl [B0 B1]
  · isplitl [B0]; · iexact B0
    iexact B1
  rw [BI.bigSep_empty]
  iempintro

/-- The buffers when the operations after the region begin. -/
def Vmid (c : Dev nD) : Valuation τ sig (Elt F) := Pipeline.withArrays spec0 c (Pipeline.withR (V₀ m c) ∅ c (V m c)) fun w => (dats m 0 c).arrAt w (cfgM m).N

set_option backward.isDefEq.respectTransparency.types false in
/-- The run: every argument, and every buffer that bypasses the pipeline, ends at what the operations after the region make of it,
    and every counter ends at zero. -/
theorem run_main : θ_run defs (onTc (τ := τ) (main (F := F))) (s₀ m ρ) (fun r => (∀ c : Dev nD,
      ∀ b ∈ Pipeline.restRefsP sig pre0 spec0, r.2.mem ((c.tc : Thread nD τ).loc b) = StableHlo.after (post (F := F)).flatten (Vmid m c) (Proc.devRef .tc b))
      ∧ r.2.sem = fun _ => 0) :=
  Pipeline.θ_run_frameP_dmaR_aroundV (Q' := _) pcfgs (fun _ => adm m) (dats m) (0 : Fin 1) launch0 osem0 defs₀ Variants.none ownSemFacts0 H0 ∅ H0_sub
    (Finset.empty_subset _) m ρ main (hbody := fun c => (body_obligation m c).loose) (hshare := fun c => (dats m 0 c).share_full fun _ => rfl)
    (howed := fun _ _ => rfl) (V₀ := V₀ m) (opss := post) (hsub := post_sub) (hfresh := post_fresh) (hkeep := post_keep) (G := V m) (hmain := hmain m)
    (hA := A_eq m) (hpf := V_pre m) (hin := fun c => frameEnter m c) (hout := fun c => frameLeave m c _) (hQ' := fun r h => ⟨fun c => (h.1 c).2, h.2⟩)

end Cert.Kernel.Hand

end
-- ==== Proof.KeFrame.lean ====
module

public import proofs.«01_k».proof.Proof.KeLaunch

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ)

variable (ρ : Dev nD → PrngReg)

theorem post_arg0 (X : Valuation τ sig (Elt F)) : StableHlo.after (post (F := F)).flatten X (Proc.devRef .tc main_arg0) = X (Proc.devRef .tc main_arg0) := by
  after_reads_simp
theorem Vmid_arg0 (c : Dev nD) : Vmid m c (Proc.devRef .tc main_arg0) = m ((c : Thread nD τ).loc main_arg0) := by
  unfold Vmid
  rw [Pipeline.withArrays_of_ne spec0 c _ _ main_arg0 (by decide), Pipeline.withR_of_not_mem _ _ _ _ _ (Finset.notMem_empty _)]
  exact V_main_arg0 m c
theorem rest_arg0 : main_arg0 ∈ Pipeline.restRefsP sig pre0 spec0 := by decide

theorem post_arg1 (X : Valuation τ sig (Elt F)) : StableHlo.after (post (F := F)).flatten X (Proc.devRef .tc main_arg1) = X (Proc.devRef .tc main_arg1) := by
  after_reads_simp
theorem Vmid_arg1 (c : Dev nD) : Vmid m c (Proc.devRef .tc main_arg1) = m ((c : Thread nD τ).loc main_arg1) := by
  unfold Vmid
  rw [Pipeline.withArrays_of_ne spec0 c _ _ main_arg1 (by decide), Pipeline.withR_of_not_mem _ _ _ _ _ (Finset.notMem_empty _)]
  exact V_main_arg1 m c
theorem rest_arg1 : main_arg1 ∈ Pipeline.restRefsP sig pre0 spec0 := by decide

theorem post_arg2 (X : Valuation τ sig (Elt F)) : StableHlo.after (post (F := F)).flatten X (Proc.devRef .tc main_arg2) = X (Proc.devRef .tc main_arg2) := by
  after_reads_simp
theorem Vmid_arg2 (c : Dev nD) : Vmid m c (Proc.devRef .tc main_arg2) = m ((c : Thread nD τ).loc main_arg2) := by
  unfold Vmid
  rw [Pipeline.withArrays_of_ne spec0 c _ _ main_arg2 (by decide), Pipeline.withR_of_not_mem _ _ _ _ _ (Finset.notMem_empty _)]
  exact V_main_arg2 m c
theorem rest_arg2 : main_arg2 ∈ Pipeline.restRefsP sig pre0 spec0 := by decide

theorem post_arg3 (X : Valuation τ sig (Elt F)) : StableHlo.after (post (F := F)).flatten X (Proc.devRef .tc main_arg3) = X (Proc.devRef .tc main_arg3) := by
  after_reads_simp
theorem Vmid_arg3 (c : Dev nD) : Vmid m c (Proc.devRef .tc main_arg3) = m ((c : Thread nD τ).loc main_arg3) := by
  unfold Vmid
  rw [Pipeline.withArrays_of_ne spec0 c _ _ main_arg3 (by decide), Pipeline.withR_of_not_mem _ _ _ _ _ (Finset.notMem_empty _)]
  exact V_main_arg3 m c
theorem rest_arg3 : main_arg3 ∈ Pipeline.restRefsP sig pre0 spec0 := by decide

theorem post_arg4 (X : Valuation τ sig (Elt F)) : StableHlo.after (post (F := F)).flatten X (Proc.devRef .tc main_arg4) = X (Proc.devRef .tc main_arg4) := by
  after_reads_simp
theorem Vmid_arg4 (c : Dev nD) : Vmid m c (Proc.devRef .tc main_arg4) = m ((c : Thread nD τ).loc main_arg4) := by
  unfold Vmid
  rw [Pipeline.withArrays_of_ne spec0 c _ _ main_arg4 (by decide), Pipeline.withR_of_not_mem _ _ _ _ _ (Finset.notMem_empty _)]
  exact V_main_arg4 m c
theorem rest_arg4 : main_arg4 ∈ Pipeline.restRefsP sig pre0 spec0 := by decide

theorem post_arg5 (X : Valuation τ sig (Elt F)) : StableHlo.after (post (F := F)).flatten X (Proc.devRef .tc main_arg5) = X (Proc.devRef .tc main_arg5) := by
  after_reads_simp
theorem Vmid_arg5 (c : Dev nD) : Vmid m c (Proc.devRef .tc main_arg5) = m ((c : Thread nD τ).loc main_arg5) := by
  unfold Vmid
  rw [Pipeline.withArrays_of_ne spec0 c _ _ main_arg5 (by decide), Pipeline.withR_of_not_mem _ _ _ _ _ (Finset.notMem_empty _)]
  exact V_main_arg5 m c
theorem rest_arg5 : main_arg5 ∈ Pipeline.restRefsP sig pre0 spec0 := by decide

theorem post_arg6 (X : Valuation τ sig (Elt F)) : StableHlo.after (post (F := F)).flatten X (Proc.devRef .tc main_arg6) = X (Proc.devRef .tc main_arg6) := by
  after_reads_simp
theorem Vmid_arg6 (c : Dev nD) : Vmid m c (Proc.devRef .tc main_arg6) = m ((c : Thread nD τ).loc main_arg6) := by
  unfold Vmid
  rw [Pipeline.withArrays_of_ne spec0 c _ _ main_arg6 (by decide), Pipeline.withR_of_not_mem _ _ _ _ _ (Finset.notMem_empty _)]
  exact V_main_arg6 m c
theorem rest_arg6 : main_arg6 ∈ Pipeline.restRefsP sig pre0 spec0 := by decide

theorem post_arg7 (X : Valuation τ sig (Elt F)) : StableHlo.after (post (F := F)).flatten X (Proc.devRef .tc main_arg7) = X (Proc.devRef .tc main_arg7) := by
  after_reads_simp
theorem Vmid_arg7 (c : Dev nD) : Vmid m c (Proc.devRef .tc main_arg7) = m ((c : Thread nD τ).loc main_arg7) := by
  unfold Vmid
  rw [Pipeline.withArrays_of_ne spec0 c _ _ main_arg7 (by decide), Pipeline.withR_of_not_mem _ _ _ _ _ (Finset.notMem_empty _)]
  exact V_main_arg7 m c
theorem rest_arg7 : main_arg7 ∈ Pipeline.restRefsP sig pre0 spec0 := by decide

theorem post_arg8 (X : Valuation τ sig (Elt F)) : StableHlo.after (post (F := F)).flatten X (Proc.devRef .tc main_arg8) = X (Proc.devRef .tc main_arg8) := by
  after_reads_simp
theorem Vmid_arg8 (c : Dev nD) : Vmid m c (Proc.devRef .tc main_arg8) = m ((c : Thread nD τ).loc main_arg8) := by
  unfold Vmid
  rw [Pipeline.withArrays_of_ne spec0 c _ _ main_arg8 (by decide), Pipeline.withR_of_not_mem _ _ _ _ _ (Finset.notMem_empty _)]
  exact V_main_arg8 m c
theorem rest_arg8 : main_arg8 ∈ Pipeline.restRefsP sig pre0 spec0 := by decide

/-- The frame: every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c main_arg0 rest_arg0).trans ((post_arg0 _).trans (Vmid_arg0 m c)), (h.1 c main_arg1 rest_arg1).trans ((post_arg1 _).trans (Vmid_arg1 m c)), (h.1 c main_arg2 rest_arg2).trans ((post_arg2 _).trans (Vmid_arg2 m c)), (h.1 c main_arg3 rest_arg3).trans ((post_arg3 _).trans (Vmid_arg3 m c)), (h.1 c main_arg4 rest_arg4).trans ((post_arg4 _).trans (Vmid_arg4 m c)), (h.1 c main_arg5 rest_arg5).trans ((post_arg5 _).trans (Vmid_arg5 m c)), (h.1 c main_arg6 rest_arg6).trans ((post_arg6 _).trans (Vmid_arg6 m c)), (h.1 c main_arg7 rest_arg7).trans ((post_arg7 _).trans (Vmid_arg7 m c)), (h.1 c main_arg8 rest_arg8).trans ((post_arg8 _).trans (Vmid_arg8 m c))⟩, h.2⟩) (run_main m ρ)

end Cert.Kernel.Hand

end
-- ==== Proof.KiBase.lean ====
module

public import proofs.«01_k».proof.Proof.Gen.KernelIdeal.Skeleton
public import proofs.«01_k».proof.Proof.Gen.KernelIdeal.Launch
public import proofs.«01_k».proof.Proof.Gen.KernelIdeal.Loops
public import Idealize.ShloMosaic.Lib.Pipeline.FrameBody
public import Idealize.ShloMosaic.Lib.Pipeline.FrameSuffixV
public import Idealize.ShloMosaic.Lib.Exec
public import Idealize.ShloMosaic.Lib.Tactic

/-! The buffers the kernel body works on beside its staging buffers, as the memrefs it is called with:
    the two prefetched tables, the two weight arrays left in HBM and the six scratch buffers. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The table of the expert of each row tile. -/
abbrev tbM0 : Memref sig .tc .smem S100 .i32 := Memref.whole main_v47
/-- The table that marks the row tiles where the expert changes. -/
abbrev tbM1 : Memref sig .tc .smem S100 .i32 := Memref.whole main_v53
/-- The packed gate and up codes of all experts. -/
abbrev hbM0 : Memref sig .tc .hbm S4x1792x3072 .i8 := Memref.whole main_arg3
/-- The packed down codes of all experts. -/
abbrev hbM1 : Memref sig .tc .hbm S4x1536x1792 .i8 := Memref.whole main_arg6
/-- The decoded gate, up and down weights, the packed codes of one expert, and the hidden activations. -/
abbrev scM0 : Memref sig .tc .vmem S1792x3072 .bf16 := Memref.whole cc0_scratch0
abbrev scM1 : Memref sig .tc .vmem S1792x3072 .bf16 := Memref.whole cc0_scratch1
abbrev scM2 : Memref sig .tc .vmem S3072x1792 .bf16 := Memref.whole cc0_scratch2
abbrev scM3 : Memref sig .tc .vmem S1792x3072 .i8 := Memref.whole cc0_scratch3
abbrev scM4 : Memref sig .tc .vmem S1536x1792 .i8 := Memref.whole cc0_scratch4
abbrev scM5 : Memref sig .tc .vmem S256x1792 .bf16 := Memref.whole cc0_scratch5

/-- The contents type of a memref's buffer on core `c`. -/
abbrev MBuf (c : Dev nD) {sp : Space} {S : Shape} {e : EltTy} (M : Memref sig .tc sp S e) : Type :=
  Buf (Elt F) (M.view.loc (c : Thread nD τ))
/-- A memref's elements held on core `c` at the contents `f`. -/
abbrev mPt (c : Dev nD) {sp : Space} {S : Shape} {e : EltTy} (M : Memref sig .tc sp S e) (f : MBuf (F := F) c M) : sProp 𝕄 :=
  M.view.loc (c : Thread nD τ) ↦[M.view.set]{fullShare} f
/-- A memref's whole buffer held on core `c` at the contents `f`. -/
abbrev hbPt (c : Dev nD) {sp : Space} {S : Shape} {e : EltTy} (M : Memref sig .tc sp S e) (f : MBuf (F := F) c M) : sProp 𝕄 :=
  M.view.loc (c : Thread nD τ) ↦{fullShare} f
/-- Half of a table's buffer held on core `c`: what the pipeline lends the body. -/
abbrev tbPt (c : Dev nD) {S : Shape} {e : EltTy} (M : Memref sig .tc .smem S e) (f : MBuf (F := F) c M) : sProp 𝕄 :=
  M.view.loc (c : Thread nD τ) ↦{fullShare.right} f

end Cert.KernelIdeal.Hand

end
-- ==== Proof.KiLoops.lean ====
module

public import proofs.«01_k».proof.Proof.KiBase

/-! One trip of each of the kernel's two decoding loops, run at a symbolic trip. -/

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (i : grid0.Coords)
  (a3 : Memref sig .tc .vmem S256x3072 .bf16) (h3 : a3.IsWhole)
  (a4 : Memref sig .tc .vmem S1x1792x128 .i8) (h4 : a4.IsWhole)
  (a5 : Memref sig .tc .vmem S1x1792x128 .i8) (h5 : a5.IsWhole)
  (a6 : Memref sig .tc .vmem S1x3072x128 .i8) (h6 : a6.IsWhole)
  (a7 : Memref sig .tc .vmem S1x1x1792 .bf16) (h7 : a7.IsWhole)
  (a8 : Memref sig .tc .vmem S1x1x1792 .bf16) (h8 : a8.IsWhole)
  (a9 : Memref sig .tc .vmem S1x1x3072 .bf16) (h9 : a9.IsWhole)
  (a12 : Memref sig .tc .vmem S256x3072 .f32) (h12 : a12.IsWhole)

/-- One trip of the first loop: the codes and the two blocks of scales are read, and the trip's pieces of the gate and up
    weights, which the run finds, are written. -/
def trip1 (c : Dev nD) (X4 : MBuf (F := F) c a4) (X5 : MBuf (F := F) c a5) (X16 : MBuf (F := F) c scM3) (k : Fin k0_t1_loop.trips) :
    Σ' (L13 : List (View.Piece (Elt F) S1792x3072 .bf16)), { L14 : List (View.Piece (Elt F) S1792x3072 .bf16) //
      ∀ (E : Set ℕ) (f13 : MBuf (F := F) c scM0) (f14 : MBuf (F := F) c scM1),
      iprop(mPt c a4 X4 ∗ mPt c a5 X5 ∗ mPt c scM3 X16 ∗ mPt c scM0 f13 ∗ mPt c scM1 f14)
      ⊢ wp frame (wpE (defs₀ (F := F)) Variants.none (c : Thread nD τ) none) E (k0_t1_body (F := F) i tbM0 (Memref.isWhole_whole _) tbM1 (Memref.isWhole_whole _) a3 h3 a4 h4 a5 h5 a6 h6 a7 h7 a8 h8 a9 h9 hbM0 (Memref.isWhole_whole _) hbM1 (Memref.isWhole_whole _) a12 h12 scM0 (Memref.isWhole_whole _) scM1 (Memref.isWhole_whole _) scM2 (Memref.isWhole_whole _) scM3 (Memref.isWhole_whole _) scM4 (Memref.isWhole_whole _) scM5 (Memref.isWhole_whole _) cc0_scratch6 k PUnit.unit)
          (fun _ => iprop(mPt c a4 X4 ∗ mPt c a5 X5 ∗ mPt c scM3 X16
            ∗ mPt c scM0 (scM0.view.writes (Elt F) f13 L13) ∗ mPt c scM1 (scM1.view.writes (Elt F) f14 L14))) } := by
  have hk : k.val < 56 := Nat.lt_of_lt_of_le k.isLt k0_t1_abs.2.1
  refine ⟨?_, ?_, fun E f13 f14 => ?run⟩
  case run =>
    unfold k0_t1_body
    iintro ⟨HR4, HR5, HR16, HW13, HW14⟩
    sl_exec
    sl_step
    sl_close

/-- One trip of the second loop: the codes and the block of scales are read, and the trip's pieces of the down weights,
    which the run finds, are written. -/
def trip2 (c : Dev nD) (X6 : MBuf (F := F) c a6) (X17 : MBuf (F := F) c scM4) (k : Fin k0_t2_loop.trips) :
    { L15 : List (View.Piece (Elt F) S3072x1792 .bf16) //
      ∀ (E : Set ℕ) (f15 : MBuf (F := F) c scM2),
      iprop(mPt c a6 X6 ∗ mPt c scM4 X17 ∗ mPt c scM2 f15)
      ⊢ wp frame (wpE (defs₀ (F := F)) Variants.none (c : Thread nD τ) none) E (k0_t2_body (F := F) i tbM0 (Memref.isWhole_whole _) tbM1 (Memref.isWhole_whole _) a3 h3 a4 h4 a5 h5 a6 h6 a7 h7 a8 h8 a9 h9 hbM0 (Memref.isWhole_whole _) hbM1 (Memref.isWhole_whole _) a12 h12 scM0 (Memref.isWhole_whole _) scM1 (Memref.isWhole_whole _) scM2 (Memref.isWhole_whole _) scM3 (Memref.isWhole_whole _) scM4 (Memref.isWhole_whole _) scM5 (Memref.isWhole_whole _) cc0_scratch6 k PUnit.unit)
          (fun _ => iprop(mPt c a6 X6 ∗ mPt c scM4 X17 ∗ mPt c scM2 (scM2.view.writes (Elt F) f15 L15))) } := by
  have hk : k.val < 48 := Nat.lt_of_lt_of_le k.isLt k0_t2_abs.2.1
  refine ⟨?_, fun E f15 => ?run⟩
  case run =>
    unfold k0_t2_body
    iintro ⟨HR6, HR17, HW15⟩
    sl_exec
    sl_step
    sl_close

end Cert.KernelIdeal.Hand

end
-- ==== Proof.KiWeights.lean ====
module

public import proofs.«01_k».proof.Proof.KiLoops

/-! What the two decoding loops write, in closed form: every trip's pieces, and the three decoded weight arrays. -/

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The lane a block of 32 rows takes each column's scale from: the column divided by 32, plus the block's first lane. -/
def lane32 (w : BitVec 32) : IVec S32x128 32 :=
  let io : IVec S32x128 32 := iota .tc S32x128 32 [1] iota_S32x128_d1_w32
  let q : IVec S32x128 32 := divsi io (broadcast S32x128 32#32)
  let sg : IVec S32x128 32 := subi (extui 32 (cmpi .sgt io (broadcast S32x128 0#32)) natLt_1_32)
    (extui 32 (cmpi .slt io (broadcast S32x128 0#32)) natLt_1_32)
  let ne : IVec S32x128 1 := andi (cmpi .ne sg (broadcast S32x128
      (Scalar.subi (Scalar.extui (Scalar.cmpi .sgt 32#32 0#32)) (Scalar.extui (Scalar.cmpi .slt 32#32 0#32)))))
    (cmpi .ne (remsi io (broadcast S32x128 32#32)) (broadcast S32x128 0#32))
  let fl : IVec S32x128 32 := select ne (subi q (broadcast S32x128 1#32)) q
  let l : IVec S32x128 32 := addi (broadcast S32x128 w) fl
  let l' : IVec S32x128 32 := select (cmpi .slt l (broadcast S32x128 0#32)) (addi l (broadcast S32x128 128#32)) l
  shapeCast S32x128 (shapeCast S32x128x1 l' shapeCasts_S32x128_S32x128x1) shapeCasts_S32x128x1_S32x128

/-- The same for a block of 64 rows. -/
def lane64 (w : BitVec 32) : IVec S64x128 32 :=
  let io : IVec S64x128 32 := iota .tc S64x128 32 [1] iota_S64x128_d1_w32
  let q : IVec S64x128 32 := divsi io (broadcast S64x128 32#32)
  let sg : IVec S64x128 32 := subi (extui 32 (cmpi .sgt io (broadcast S64x128 0#32)) natLt_1_32)
    (extui 32 (cmpi .slt io (broadcast S64x128 0#32)) natLt_1_32)
  let ne : IVec S64x128 1 := andi (cmpi .ne sg (broadcast S64x128
      (Scalar.subi (Scalar.extui (Scalar.cmpi .sgt 32#32 0#32)) (Scalar.extui (Scalar.cmpi .slt 32#32 0#32)))))
    (cmpi .ne (remsi io (broadcast S64x128 32#32)) (broadcast S64x128 0#32))
  let fl : IVec S64x128 32 := select ne (subi q (broadcast S64x128 1#32)) q
  let l : IVec S64x128 32 := addi (broadcast S64x128 w) fl
  let l' : IVec S64x128 32 := select (cmpi .slt l (broadcast S64x128 0#32)) (addi l (broadcast S64x128 128#32)) l
  shapeCast S64x128 (shapeCast S64x128x1 l' shapeCasts_S64x128_S64x128x1) shapeCasts_S64x128x1_S64x128

theorem slices32 : ∀ j : Fin 24, S32x3072.Slices ![0, 128 * j.val] S32x128 := by decide +kernel
theorem slices64 : ∀ j : Fin 14, S64x1792.Slices ![0, 128 * j.val] S64x128 := by decide +kernel

/-- Block `j` of 128 columns of a trip's gate or up weights: the decoded codes times 64, times the gathered scales. -/
def blk32 (D : FVec F S32x3072 .bf16) (S : FVec F S32x128 .f32) (j : Fin 24) : FVec F S32x128 .bf16 :=
  shapeCast S32x128 (mulf (mulf (extractStridedSlice S32x128 ![0, 128 * j.val] D (slices32 j))
      (broadcast S32x128 (Scalar.ofBits (F := F) .bf16 0x4280#16)))
    (truncf .bf16 (dynamicGather 1 S (lane32 (BitVec.ofNat 32 (4 * j.val)))) bitsLt_bf16_f32)) shapeCasts_S32x128_S32x128

/-- Block `j` of 128 columns of a trip's down weights. -/
def blk64 (D : FVec F S64x1792 .bf16) (S : FVec F S64x128 .f32) (j : Fin 14) : FVec F S64x128 .bf16 :=
  shapeCast S64x128 (mulf (mulf (extractStridedSlice S64x128 ![0, 128 * j.val] D (slices64 j))
      (broadcast S64x128 (Scalar.ofBits (F := F) .bf16 0x4280#16)))
    (truncf .bf16 (dynamicGather 1 S (lane64 (BitVec.ofNat 32 (4 * j.val)))) bitsLt_bf16_f32)) shapeCasts_S64x128_S64x128

/-- Where a trip of the first loop writes its block `j`. -/
def off32 (j : Fin 24) (k : Fin k0_t1_loop.trips) : Fin 2 → ℕ :=
  match j with
  | 0 => k0_off6 k
  | 1 => k0_off7 k
  | 2 => k0_off8 k
  | 3 => k0_off9 k
  | 4 => k0_off10 k
  | 5 => k0_off11 k
  | 6 => k0_off12 k
  | 7 => k0_off13 k
  | 8 => k0_off14 k
  | 9 => k0_off15 k
  | 10 => k0_off16 k
  | 11 => k0_off17 k
  | 12 => k0_off18 k
  | 13 => k0_off19 k
  | 14 => k0_off20 k
  | 15 => k0_off21 k
  | 16 => k0_off22 k
  | 17 => k0_off23 k
  | 18 => k0_off24 k
  | 19 => k0_off25 k
  | 20 => k0_off26 k
  | 21 => k0_off27 k
  | 22 => k0_off28 k
  | 23 => k0_off29 k
  | ⟨n + 24, h⟩ => absurd h (by omega)

/-- Where a trip of the second loop writes its block `j`. -/
def off64 (j : Fin 14) (k : Fin k0_t2_loop.trips) : Fin 2 → ℕ :=
  match j with
  | 0 => k0_off32 k
  | 1 => k0_off33 k
  | 2 => k0_off34 k
  | 3 => k0_off35 k
  | 4 => k0_off36 k
  | 5 => k0_off37 k
  | 6 => k0_off38 k
  | 7 => k0_off39 k
  | 8 => k0_off40 k
  | 9 => k0_off41 k
  | 10 => k0_off42 k
  | 11 => k0_off43 k
  | 12 => k0_off44 k
  | 13 => k0_off45 k
  | ⟨n + 14, h⟩ => absurd h (by omega)

theorem off32_eq (j : Fin 24) (k : Fin k0_t1_loop.trips) : off32 j k = ![32 * k.val, 128 * j.val] := by
  match j with
  | 0 => exact k0_off6_eq k
  | 1 => exact k0_off7_eq k
  | 2 => exact k0_off8_eq k
  | 3 => exact k0_off9_eq k
  | 4 => exact k0_off10_eq k
  | 5 => exact k0_off11_eq k
  | 6 => exact k0_off12_eq k
  | 7 => exact k0_off13_eq k
  | 8 => exact k0_off14_eq k
  | 9 => exact k0_off15_eq k
  | 10 => exact k0_off16_eq k
  | 11 => exact k0_off17_eq k
  | 12 => exact k0_off18_eq k
  | 13 => exact k0_off19_eq k
  | 14 => exact k0_off20_eq k
  | 15 => exact k0_off21_eq k
  | 16 => exact k0_off22_eq k
  | 17 => exact k0_off23_eq k
  | 18 => exact k0_off24_eq k
  | 19 => exact k0_off25_eq k
  | 20 => exact k0_off26_eq k
  | 21 => exact k0_off27_eq k
  | 22 => exact k0_off28_eq k
  | 23 => exact k0_off29_eq k
  | ⟨n + 24, h⟩ => exact absurd h (by omega)

theorem off64_eq (j : Fin 14) (k : Fin k0_t2_loop.trips) : off64 j k = ![64 * k.val, 128 * j.val] := by
  match j with
  | 0 => exact k0_off32_eq k
  | 1 => exact k0_off33_eq k
  | 2 => exact k0_off34_eq k
  | 3 => exact k0_off35_eq k
  | 4 => exact k0_off36_eq k
  | 5 => exact k0_off37_eq k
  | 6 => exact k0_off38_eq k
  | 7 => exact k0_off39_eq k
  | 8 => exact k0_off40_eq k
  | 9 => exact k0_off41_eq k
  | 10 => exact k0_off42_eq k
  | 11 => exact k0_off43_eq k
  | 12 => exact k0_off44_eq k
  | 13 => exact k0_off45_eq k
  | ⟨n + 14, h⟩ => exact absurd h (by omega)

theorem k_lt1 (k : Fin k0_t1_loop.trips) : k.val < 56 := Nat.lt_of_lt_of_le k.isLt k0_t1_abs.2.1
theorem k_lt2 (k : Fin k0_t2_loop.trips) : k.val < 48 := Nat.lt_of_lt_of_le k.isLt k0_t2_abs.2.1
theorem trips1_eq : k0_t1_loop.trips = 56 := by decide +kernel
theorem trips2_eq : k0_t2_loop.trips = 48 := by decide +kernel

theorem off32_inb (j : Fin 24) (k : Fin k0_t1_loop.trips) : ∀ a, off32 j k a + S32x128.size a ≤ S1792x3072.size a := by
  have hk := k_lt1 k
  have hj := j.isLt
  rw [off32_eq]
  intro a
  match a with
  | 0 => show 32 * k.val + 32 ≤ 1792; omega
  | 1 => show 128 * j.val + 128 ≤ 3072; omega

theorem off64_inb (j : Fin 14) (k : Fin k0_t2_loop.trips) : ∀ a, off64 j k a + S64x128.size a ≤ S3072x1792.size a := by
  have hk := k_lt2 k
  have hj := j.isLt
  rw [off64_eq]
  intro a
  match a with
  | 0 => show 64 * k.val + 64 ≤ 3072; omega
  | 1 => show 128 * j.val + 128 ≤ 1792; omega

/-- A trip's pieces of the gate or the up weights, the last written first. -/
def pieces32 (D : FVec F S32x3072 .bf16) (S : FVec F S32x128 .f32) (k : Fin k0_t1_loop.trips) :
    List (View.Piece (Elt F) S1792x3072 .bf16) :=
  ([23, 22, 21, 20, 19, 18, 17, 16, 15, 14, 13, 12, 11, 10, 9, 8, 7, 6, 5, 4, 3, 2, 1, 0] : List (Fin 24)).map fun j => ⟨Rect.unit (off32 j k) S32x128.size (off32_inb j k), blk32 D S j⟩

/-- A trip's pieces of the down weights, the last written first. -/
def pieces64 (D : FVec F S64x1792 .bf16) (S : FVec F S64x128 .f32) (k : Fin k0_t2_loop.trips) :
    List (View.Piece (Elt F) S3072x1792 .bf16) :=
  ([13, 12, 11, 10, 9, 8, 7, 6, 5, 4, 3, 2, 1, 0] : List (Fin 14)).map fun j => ⟨Rect.unit (off64 j k) S64x128.size (off64_inb j k), blk64 D S j⟩

theorem mem_js32 (j : Fin 24) : j ∈ ([23, 22, 21, 20, 19, 18, 17, 16, 15, 14, 13, 12, 11, 10, 9, 8, 7, 6, 5, 4, 3, 2, 1, 0] : List (Fin 24)) := by
  revert j; decide
theorem mem_js64 (j : Fin 14) : j ∈ ([13, 12, 11, 10, 9, 8, 7, 6, 5, 4, 3, 2, 1, 0] : List (Fin 14)) := by
  revert j; decide

/-- The block of 128 columns an element lies in. -/
def col32 (y : S1792x3072.Idx) : Fin 24 := ⟨(y 1).val / 128, by have h : (y 1).val < 3072 := (y 1).isLt; omega⟩
/-- Where an element lies in its block. -/
def loc32 (y : S1792x3072.Idx) : S32x128.Idx :=
  fun a => match a with
    | ⟨0, _⟩ => ⟨(y 0).val % 32, Nat.mod_lt _ (by decide)⟩
    | ⟨1, _⟩ => ⟨(y 1).val % 128, Nat.mod_lt _ (by decide)⟩

section
variable {κ : Kind} {sp : Space}

/-- The block of 128 columns an element lies in. -/
def col64 (y : S3072x1792.Idx) : Fin 14 := ⟨(y 1).val / 128, by have h : (y 1).val < 1792 := (y 1).isLt; omega⟩
/-- Where an element lies in its block. -/
def loc64 (y : S3072x1792.Idx) : S64x128.Idx :=
  fun a => match a with
    | ⟨0, _⟩ => ⟨(y 0).val % 64, Nat.mod_lt _ (by decide)⟩
    | ⟨1, _⟩ => ⟨(y 1).val % 128, Nat.mod_lt _ (by decide)⟩

/-- The rows of a trip after its pieces are written read the trip's blocks; the other rows are as before. -/
theorem read_pieces32 (v : View sig κ sp S1792x3072 .bf16) (f : v.ty.Contents (Elt F)) (D : FVec F S32x3072 .bf16) (S : FVec F S32x128 .f32)
    (k : Fin k0_t1_loop.trips) (y : S1792x3072.Idx) :
    v.read (Elt F) (v.writes (Elt F) f (pieces32 D S k)) y
      = if (y 0).val / 32 = k.val then blk32 D S (col32 y) (loc32 y)
        else v.read (Elt F) f y := by
  have hy1 : (y 1).val < 3072 := (y 1).isLt
  split
  · rename_i h
    refine View.read_writes_apply_of_pieces v f (fun y : S1792x3072.Idx => blk32 D S (col32 y) (loc32 y)) _ ?_ y ?_
    · intro p hp x
      obtain ⟨j, -, rfl⟩ := List.mem_map.mp hp
      have hx0 : (x 0).val < 32 := (x 0).isLt
      have hx1 : (x 1).val < 128 := (x 1).isLt
      have e0 : ((Rect.unit (s := S1792x3072) (off32 j k) S32x128.size (off32_inb j k)).emb x 0).val = 32 * k.val + (x 0).val := by
        show off32 j k 0 + 1 * (x 0).val = _
        have h0 : off32 j k 0 = 32 * k.val := congrFun (off32_eq j k) 0
        omega
      have e1 : ((Rect.unit (s := S1792x3072) (off32 j k) S32x128.size (off32_inb j k)).emb x 1).val = 128 * j.val + (x 1).val := by
        show off32 j k 1 + 1 * (x 1).val = _
        have h0 : off32 j k 1 = 128 * j.val := congrFun (off32_eq j k) 1
        omega
      have hj : col32 ((Rect.unit (s := S1792x3072) (off32 j k) S32x128.size (off32_inb j k)).emb x) = j :=
        Fin.ext (by show _ / 128 = _; rw [e1]; omega)
      have hx : loc32 ((Rect.unit (s := S1792x3072) (off32 j k) S32x128.size (off32_inb j k)).emb x) = x := by
        funext a
        match a with
        | 0 => exact Fin.ext (by show _ % 32 = _; rw [e0]; omega)
        | 1 => exact Fin.ext (by show _ % 128 = _; rw [e1]; omega)
      show blk32 D S j x = blk32 D S _ _
      rw [hj]
      exact congrArg _ hx.symm
    · refine ⟨_, List.mem_map_of_mem (mem_js32 (col32 y)), ?_⟩
      refine (Rect.mem_set_unit (inb := off32_inb _ k)).mpr fun a => ?_
      have h0 : off32 (col32 y) k 0 = 32 * k.val := congrFun (off32_eq _ k) 0
      have h1 : off32 (col32 y) k 1 = 128 * ((y 1).val / 128) := congrFun (off32_eq _ k) 1
      match a with
      | ⟨0, _⟩ => exact ⟨by show off32 (col32 y) k 0 ≤ (y 0).val; omega, by show (y 0).val < off32 (col32 y) k 0 + 32; omega⟩
      | ⟨1, _⟩ => exact ⟨by show off32 (col32 y) k 1 ≤ (y 1).val; omega, by show (y 1).val < off32 (col32 y) k 1 + 128; omega⟩
  · rename_i h
    refine View.read_writes_apply_of_forall_not_mem v f y _ fun p hp => ?_
    obtain ⟨j, -, rfl⟩ := List.mem_map.mp hp
    refine Rect.not_mem_set_of_axis _ y 0 (32 * k.val) 32 ?_ rfl rfl (by omega)
    show off32 j k 0 = _
    rw [off32_eq]; rfl

/-- The rows of a trip after its pieces are written read the trip's blocks; the other rows are as before. -/
theorem read_pieces64 (v : View sig κ sp S3072x1792 .bf16) (f : v.ty.Contents (Elt F)) (D : FVec F S64x1792 .bf16) (S : FVec F S64x128 .f32)
    (k : Fin k0_t2_loop.trips) (y : S3072x1792.Idx) :
    v.read (Elt F) (v.writes (Elt F) f (pieces64 D S k)) y
      = if (y 0).val / 64 = k.val then blk64 D S (col64 y) (loc64 y)
        else v.read (Elt F) f y := by
  have hy1 : (y 1).val < 1792 := (y 1).isLt
  split
  · rename_i h
    refine View.read_writes_apply_of_pieces v f (fun y : S3072x1792.Idx => blk64 D S (col64 y) (loc64 y)) _ ?_ y ?_
    · intro p hp x
      obtain ⟨j, -, rfl⟩ := List.mem_map.mp hp
      have hx0 : (x 0).val < 64 := (x 0).isLt
      have hx1 : (x 1).val < 128 := (x 1).isLt
      have e0 : ((Rect.unit (s := S3072x1792) (off64 j k) S64x128.size (off64_inb j k)).emb x 0).val = 64 * k.val + (x 0).val := by
        show off64 j k 0 + 1 * (x 0).val = _
        have h0 : off64 j k 0 = 64 * k.val := congrFun (off64_eq j k) 0
        omega
      have e1 : ((Rect.unit (s := S3072x1792) (off64 j k) S64x128.size (off64_inb j k)).emb x 1).val = 128 * j.val + (x 1).val := by
        show off64 j k 1 + 1 * (x 1).val = _
        have h0 : off64 j k 1 = 128 * j.val := congrFun (off64_eq j k) 1
        omega
      have hj : col64 ((Rect.unit (s := S3072x1792) (off64 j k) S64x128.size (off64_inb j k)).emb x) = j :=
        Fin.ext (by show _ / 128 = _; rw [e1]; omega)
      have hx : loc64 ((Rect.unit (s := S3072x1792) (off64 j k) S64x128.size (off64_inb j k)).emb x) = x := by
        funext a
        match a with
        | 0 => exact Fin.ext (by show _ % 64 = _; rw [e0]; omega)
        | 1 => exact Fin.ext (by show _ % 128 = _; rw [e1]; omega)
      show blk64 D S j x = blk64 D S _ _
      rw [hj]
      exact congrArg _ hx.symm
    · refine ⟨_, List.mem_map_of_mem (mem_js64 (col64 y)), ?_⟩
      refine (Rect.mem_set_unit (inb := off64_inb _ k)).mpr fun a => ?_
      have h0 : off64 (col64 y) k 0 = 64 * k.val := congrFun (off64_eq _ k) 0
      have h1 : off64 (col64 y) k 1 = 128 * ((y 1).val / 128) := congrFun (off64_eq _ k) 1
      match a with
      | ⟨0, _⟩ => exact ⟨by show off64 (col64 y) k 0 ≤ (y 0).val; omega, by show (y 0).val < off64 (col64 y) k 0 + 64; omega⟩
      | ⟨1, _⟩ => exact ⟨by show off64 (col64 y) k 1 ≤ (y 1).val; omega, by show (y 1).val < off64 (col64 y) k 1 + 128; omega⟩
  · rename_i h
    refine View.read_writes_apply_of_forall_not_mem v f y _ fun p hp => ?_
    obtain ⟨j, -, rfl⟩ := List.mem_map.mp hp
    refine Rect.not_mem_set_of_axis _ y 0 (64 * k.val) 64 ?_ rfl rfl (by omega)
    show off64 j k 0 = _
    rw [off64_eq]; rfl

end

variable (i : grid0.Coords)
  (a3 : Memref sig .tc .vmem S256x3072 .bf16) (h3 : a3.IsWhole)
  (a4 : Memref sig .tc .vmem S1x1792x128 .i8) (h4 : a4.IsWhole)
  (a5 : Memref sig .tc .vmem S1x1792x128 .i8) (h5 : a5.IsWhole)
  (a6 : Memref sig .tc .vmem S1x3072x128 .i8) (h6 : a6.IsWhole)
  (a7 : Memref sig .tc .vmem S1x1x1792 .bf16) (h7 : a7.IsWhole)
  (a8 : Memref sig .tc .vmem S1x1x1792 .bf16) (h8 : a8.IsWhole)
  (a9 : Memref sig .tc .vmem S1x1x3072 .bf16) (h9 : a9.IsWhole)
  (a12 : Memref sig .tc .vmem S256x3072 .f32) (h12 : a12.IsWhole)

/-- The rows of codes a trip of the first loop reads. -/
def codes1 (Q : Vec F S1792x3072 .i8) (k : Fin k0_t1_loop.trips) : Vec F S32x3072 .i8 :=
  fun x => Q ((Rect.unit (s := S1792x3072) (k0_off4 k) S32x3072.size (k0_off4_inb k)).toLoadRect.idx x)
/-- The rows of scales a trip of the first loop reads. -/
def scales1 (Z : Vec F S1x1792x128 .i8) (k : Fin k0_t1_loop.trips) : Vec F S1x32x128 .i8 :=
  fun x => Z ((Rect.unit (s := S1x1792x128) (k0_off5 k) S1x32x128.size (k0_off5_inb k)).toLoadRect.idx x)
/-- The rows of codes a trip of the second loop reads. -/
def codes2 (Q : Vec F S1536x1792 .i8) (k : Fin k0_t2_loop.trips) : Vec F S32x1792 .i8 :=
  fun x => Q ((Rect.unit (s := S1536x1792) (k0_off30 k) S32x1792.size (k0_off30_inb k)).toLoadRect.idx x)
/-- The rows of scales a trip of the second loop reads. -/
def scales2 (Z : Vec F S1x3072x128 .i8) (k : Fin k0_t2_loop.trips) : Vec F S1x64x128 .i8 :=
  fun x => Z ((Rect.unit (s := S1x3072x128) (k0_off31 k) S1x64x128.size (k0_off31_inb k)).toLoadRect.idx x)

/-- The first loop's pieces of the gate weights, in closed form. -/
theorem trip1_gate (c : Dev nD) (X4 : MBuf (F := F) c a4) (X5 : MBuf (F := F) c a5) (X16 : MBuf (F := F) c scM3) (k : Fin k0_t1_loop.trips) :
    (trip1 i a3 h3 a4 h4 a5 h5 a6 h6 a7 h7 a8 h8 a9 h9 a12 h12 c X4 X5 X16 k).1
      = pieces32 (k0_pay3 (codes1 (scM3.view.read (Elt F) X16) k)) (k0_pay4 (scales1 (a4.view.read (Elt F) X4) k)) k := by
  unfold trip1 pieces32
  dsimp only [List.map_cons, List.map_nil]
  iterate 24 refine congrArg₂ List.cons (by sl_kernel_rfl) ?_
  rfl

/-- The first loop's pieces of the up weights, in closed form. -/
theorem trip1_up (c : Dev nD) (X4 : MBuf (F := F) c a4) (X5 : MBuf (F := F) c a5) (X16 : MBuf (F := F) c scM3) (k : Fin k0_t1_loop.trips) :
    (trip1 i a3 h3 a4 h4 a5 h5 a6 h6 a7 h7 a8 h8 a9 h9 a12 h12 c X4 X5 X16 k).2.1
      = pieces32 (k0_pay91 (F := F) (k0_pay2 (codes1 (scM3.view.read (Elt F) X16) k))) (k0_pay92 (scales1 (a5.view.read (Elt F) X5) k)) k := by
  unfold trip1 pieces32
  dsimp only [List.map_cons, List.map_nil]
  iterate 24 refine congrArg₂ List.cons (by sl_kernel_rfl) ?_
  rfl

/-- The second loop's pieces of the down weights, in closed form. -/
theorem trip2_down (c : Dev nD) (X6 : MBuf (F := F) c a6) (X17 : MBuf (F := F) c scM4) (k : Fin k0_t2_loop.trips) :
    (trip2 i a3 h3 a4 h4 a5 h5 a6 h6 a7 h7 a8 h8 a9 h9 a12 h12 c X6 X17 k).1
      = pieces64 (k0_pay179 (codes2 (scM4.view.read (Elt F) X17) k)) (k0_pay180 (scales2 (a6.view.read (Elt F) X6) k)) k := by
  unfold trip2 pieces64
  dsimp only [List.map_cons, List.map_nil]
  iterate 14 refine congrArg₂ List.cons (by sl_kernel_rfl) ?_
  rfl

end Cert.KernelIdeal.Hand

end
-- ==== Proof.KiInv.lean ====
module

public import proofs.«01_k».proof.Proof.KiWeights

/-! The two decoding loops by their invariants, and the decoded weights they leave. -/

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One trip's pieces of the gate weights, from the whole arrays of codes and scales. -/
def gatePc (Q : Vec F S1792x3072 .i8) (Z : Vec F S1x1792x128 .i8) (k : Fin k0_t1_loop.trips) :=
  pieces32 (F := F) (k0_pay3 (codes1 Q k)) (k0_pay4 (scales1 Z k)) k
/-- One trip's pieces of the up weights. -/
def upPc (Q : Vec F S1792x3072 .i8) (Z : Vec F S1x1792x128 .i8) (k : Fin k0_t1_loop.trips) :=
  pieces32 (F := F) (k0_pay91 (F := F) (k0_pay2 (codes1 Q k))) (k0_pay92 (scales1 Z k)) k
/-- One trip's pieces of the down weights. -/
def downPc (Q : Vec F S1536x1792 .i8) (Z : Vec F S1x3072x128 .i8) (k : Fin k0_t2_loop.trips) :=
  pieces64 (F := F) (k0_pay179 (codes2 Q k)) (k0_pay180 (scales2 Z k)) k

/-- The pieces of trip `k`, if there is one, before those of `prev`. -/
@[irreducible] def upToStep {n : ℕ} {α : Type} (pc : Fin n → List α) (k : ℕ) (prev : List α) : List α :=
  if h : k < n then pc ⟨k, h⟩ ++ prev else prev

/-- The pieces of the trips before the `n`-th, the last written first. -/
def upTo {n : ℕ} {α : Type} (pc : Fin n → List α) : ℕ → List α
  | 0 => []
  | k + 1 => upToStep pc k (upTo pc k)

theorem upTo_zero {n : ℕ} {α : Type} (pc : Fin n → List α) : upTo pc 0 = [] := rfl
theorem upTo_succ {n : ℕ} {α : Type} (pc : Fin n → List α) (k : Fin n) : upTo pc (k.val + 1) = pc k ++ upTo pc k.val := by
  rw [upTo]; unfold upToStep; exact dif_pos k.isLt

/-- The trip of the first loop that decodes an element's row. -/
def trip32 (y : S1792x3072.Idx) : Fin k0_t1_loop.trips :=
  ⟨(y 0).val / 32, by have h : (y 0).val < 1792 := (y 0).isLt; rw [trips1_eq]; omega⟩
/-- The trip of the second loop that decodes an element's row. -/
def trip64 (y : S3072x1792.Idx) : Fin k0_t2_loop.trips :=
  ⟨(y 0).val / 64, by have h : (y 0).val < 3072 := (y 0).isLt; rw [trips2_eq]; omega⟩

/-- The gate weights decoded from an expert's codes and scales. -/
def wGate (Q : Vec F S1792x3072 .i8) (Z : Vec F S1x1792x128 .i8) : FVec F S1792x3072 .bf16 := fun y =>
  blk32 (k0_pay3 (codes1 Q (trip32 y))) (k0_pay4 (scales1 Z (trip32 y))) (col32 y) (loc32 y)
/-- The up weights decoded from an expert's codes and scales. -/
def wUp (Q : Vec F S1792x3072 .i8) (Z : Vec F S1x1792x128 .i8) : FVec F S1792x3072 .bf16 := fun y =>
  blk32 (k0_pay91 (F := F) (k0_pay2 (codes1 Q (trip32 y)))) (k0_pay92 (scales1 Z (trip32 y))) (col32 y) (loc32 y)
/-- The down weights decoded from an expert's codes and scales. -/
def wDown (Q : Vec F S1536x1792 .i8) (Z : Vec F S1x3072x128 .i8) : FVec F S3072x1792 .bf16 := fun y =>
  blk64 (k0_pay179 (codes2 Q (trip64 y))) (k0_pay180 (scales2 Z (trip64 y))) (col64 y) (loc64 y)

section
variable {κ : Kind} {sp : Space}

theorem read_upTo32 (v : View sig κ sp S1792x3072 .bf16) (f : v.ty.Contents (Elt F))
    (D : Fin k0_t1_loop.trips → FVec F S32x3072 .bf16) (S : Fin k0_t1_loop.trips → FVec F S32x128 .f32) (y : S1792x3072.Idx) :
    ∀ n, n ≤ k0_t1_loop.trips → v.read (Elt F) (v.writes (Elt F) f (upTo (fun k => pieces32 (D k) (S k) k) n)) y
      = if (y 0).val / 32 < n then blk32 (D (trip32 y)) (S (trip32 y)) (col32 y) (loc32 y) else v.read (Elt F) f y
  | 0, _ => by rw [upTo_zero, if_neg (Nat.not_lt_zero _)]; rfl
  | n + 1, hn => by
    have h := upTo_succ (fun k => pieces32 (D k) (S k) k) ⟨n, hn⟩
    dsimp only at h
    rw [h, View.writes_append, read_pieces32, read_upTo32 v f D S y n (by omega)]
    by_cases e : (y 0).val / 32 = n
    · rw [if_pos e, if_pos (by omega)]
      have : trip32 y = ⟨n, hn⟩ := Fin.ext e
      rw [this]
    · rw [if_neg e]
      by_cases e' : (y 0).val / 32 < n
      · rw [if_pos e', if_pos (by omega)]
      · rw [if_neg e', if_neg (by omega)]

theorem read_upTo64 (v : View sig κ sp S3072x1792 .bf16) (f : v.ty.Contents (Elt F))
    (D : Fin k0_t2_loop.trips → FVec F S64x1792 .bf16) (S : Fin k0_t2_loop.trips → FVec F S64x128 .f32) (y : S3072x1792.Idx) :
    ∀ n, n ≤ k0_t2_loop.trips → v.read (Elt F) (v.writes (Elt F) f (upTo (fun k => pieces64 (D k) (S k) k) n)) y
      = if (y 0).val / 64 < n then blk64 (D (trip64 y)) (S (trip64 y)) (col64 y) (loc64 y) else v.read (Elt F) f y
  | 0, _ => by rw [upTo_zero, if_neg (Nat.not_lt_zero _)]; rfl
  | n + 1, hn => by
    have h := upTo_succ (fun k => pieces64 (D k) (S k) k) ⟨n, hn⟩
    dsimp only at h
    rw [h, View.writes_append, read_pieces64, read_upTo64 v f D S y n (by omega)]
    by_cases e : (y 0).val / 64 = n
    · rw [if_pos e, if_pos (by omega)]
      have : trip64 y = ⟨n, hn⟩ := Fin.ext e
      rw [this]
    · rw [if_neg e]
      by_cases e' : (y 0).val / 64 < n
      · rw [if_pos e', if_pos (by omega)]
      · rw [if_neg e', if_neg (by omega)]

/-- After all the trips the first loop's first array reads the gate weights. -/
theorem read_gate (v : View sig κ sp S1792x3072 .bf16) (f : v.ty.Contents (Elt F)) (Q : Vec F S1792x3072 .i8) (Z : Vec F S1x1792x128 .i8) :
    v.read (Elt F) (v.writes (Elt F) f (upTo (gatePc Q Z) k0_t1_loop.trips)) = wGate Q Z := by
  funext y
  refine (read_upTo32 v f (fun k => k0_pay3 (codes1 Q k)) (fun k => k0_pay4 (scales1 Z k)) y _ le_rfl).trans ?_
  exact if_pos (trip32 y).isLt

/-- After all the trips the first loop's second array reads the up weights. -/
theorem read_up (v : View sig κ sp S1792x3072 .bf16) (f : v.ty.Contents (Elt F)) (Q : Vec F S1792x3072 .i8) (Z : Vec F S1x1792x128 .i8) :
    v.read (Elt F) (v.writes (Elt F) f (upTo (upPc Q Z) k0_t1_loop.trips)) = wUp Q Z := by
  funext y
  refine (read_upTo32 v f (fun k => k0_pay91 (F := F) (k0_pay2 (codes1 Q k))) (fun k => k0_pay92 (scales1 Z k)) y _ le_rfl).trans ?_
  exact if_pos (trip32 y).isLt

/-- After all the trips the second loop's array reads the down weights. -/
theorem read_down (v : View sig κ sp S3072x1792 .bf16) (f : v.ty.Contents (Elt F)) (Q : Vec F S1536x1792 .i8) (Z : Vec F S1x3072x128 .i8) :
    v.read (Elt F) (v.writes (Elt F) f (upTo (downPc Q Z) k0_t2_loop.trips)) = wDown Q Z := by
  funext y
  refine (read_upTo64 v f (fun k => k0_pay179 (codes2 Q k)) (fun k => k0_pay180 (scales2 Z k)) y _ le_rfl).trans ?_
  exact if_pos (trip64 y).isLt

end

variable (i : grid0.Coords)
  (a3 : Memref sig .tc .vmem S256x3072 .bf16) (h3 : a3.IsWhole)
  (a4 : Memref sig .tc .vmem S1x1792x128 .i8) (h4 : a4.IsWhole)
  (a5 : Memref sig .tc .vmem S1x1792x128 .i8) (h5 : a5.IsWhole)
  (a6 : Memref sig .tc .vmem S1x3072x128 .i8) (h6 : a6.IsWhole)
  (a7 : Memref sig .tc .vmem S1x1x1792 .bf16) (h7 : a7.IsWhole)
  (a8 : Memref sig .tc .vmem S1x1x1792 .bf16) (h8 : a8.IsWhole)
  (a9 : Memref sig .tc .vmem S1x1x3072 .bf16) (h9 : a9.IsWhole)
  (a12 : Memref sig .tc .vmem S256x3072 .f32) (h12 : a12.IsWhole)

/-- Before trip `k` of the first loop: the codes and scales, and the pieces of the trips before `k` in the two arrays. -/
abbrev inv1 (c : Dev nD) (X4 : MBuf (F := F) c a4) (X5 : MBuf (F := F) c a5) (X16 : MBuf (F := F) c scM3) (G13 : MBuf (F := F) c scM0) (G14 : MBuf (F := F) c scM1)
    (k : ℕ) (_u : PUnit) : sProp 𝕄 :=
  iprop((a4.view.loc (c : Thread nD τ) ↦[a4.view.set]{fullShare} X4) ∗ (a5.view.loc (c : Thread nD τ) ↦[a5.view.set]{fullShare} X5)
    ∗ (scM3.view.loc (c : Thread nD τ) ↦[scM3.view.set]{fullShare} X16)
    ∗ (∃ f, (scM0.view.loc (c : Thread nD τ) ↦[scM0.view.set]{fullShare} f)
        ∗ ⌜f = scM0.view.writes (Elt F) G13 (upTo (gatePc (scM3.view.read (Elt F) X16) (a4.view.read (Elt F) X4)) k)⌝)
    ∗ (∃ f, (scM1.view.loc (c : Thread nD τ) ↦[scM1.view.set]{fullShare} f)
        ∗ ⌜f = scM1.view.writes (Elt F) G14 (upTo (upPc (scM3.view.read (Elt F) X16) (a5.view.read (Elt F) X5)) k)⌝))

set_option warn.classDefReducibility false in
/-- The first loop by its invariant. -/
@[sl_loop] def loopInv1 (c : Dev nD) (E : Set ℕ) (X4 : MBuf (F := F) c a4) (X5 : MBuf (F := F) c a5) (X16 : MBuf (F := F) c scM3)
    (G13 : MBuf (F := F) c scM0) (G14 : MBuf (F := F) c scM1) :
    LoopInvTy_k0_t1 (F := F) Unit ℕ (Pipeline.UD sig nD τ) ℕ Variants.none c none E i tbM0 (Memref.isWhole_whole _) tbM1 (Memref.isWhole_whole _) a3 h3 a4 h4 a5 h5 a6 h6 a7 h7 a8 h8 a9 h9 hbM0 (Memref.isWhole_whole _) hbM1 (Memref.isWhole_whole _) a12 h12 scM0 (Memref.isWhole_whole _) scM1 (Memref.isWhole_whole _) scM2 (Memref.isWhole_whole _) scM3 (Memref.isWhole_whole _) scM4 (Memref.isWhole_whole _) scM5 (Memref.isWhole_whole _) cc0_scratch6 where
  inv := inv1 a4 a5 c X4 X5 X16 G13 G14
  step k acc := by
    iintro ⟨HR4, HR5, HR16, ⟨%f13, HW13, %h13⟩, ⟨%f14, HW14, %h14⟩⟩
    iapply (wp_wand_r Idealize.ShloMosaic.frame (wpE (defs₀ (F := F)) Variants.none (c : Thread nD τ) none) E)
    isplitl [HR4 HR5 HR16 HW13 HW14]
    · iapply ((trip1 i a3 h3 a4 h4 a5 h5 a6 h6 a7 h7 a8 h8 a9 h9 a12 h12 c X4 X5 X16 k).2.2 E f13 f14)
      isplitl [HR4]; · iexact HR4
      isplitl [HR5]; · iexact HR5
      isplitl [HR16]; · iexact HR16
      isplitl [HW13]; · iexact HW13
      iexact HW14
    · iintro %_ ⟨HR4, HR5, HR16, HW13, HW14⟩
      isplitl [HR4]; · iexact HR4
      isplitl [HR5]; · iexact HR5
      isplitl [HR16]; · iexact HR16
      isplitl [HW13]
      · iexists _; isplitl [HW13]; · iexact HW13
        ipureintro; rw [h13, trip1_gate, upTo_succ, ← View.writes_append]; rfl
      iexists _; isplitl [HW14]; · iexact HW14
      ipureintro; rw [h14, trip1_up, upTo_succ, ← View.writes_append]; rfl

/-- Before trip `k` of the second loop. -/
abbrev inv2 (c : Dev nD) (X6 : MBuf (F := F) c a6) (X17 : MBuf (F := F) c scM4) (G15 : MBuf (F := F) c scM2)
    (k : ℕ) (_u : PUnit) : sProp 𝕄 :=
  iprop((a6.view.loc (c : Thread nD τ) ↦[a6.view.set]{fullShare} X6)
    ∗ (scM4.view.loc (c : Thread nD τ) ↦[scM4.view.set]{fullShare} X17)
    ∗ (∃ f, (scM2.view.loc (c : Thread nD τ) ↦[scM2.view.set]{fullShare} f)
        ∗ ⌜f = scM2.view.writes (Elt F) G15 (upTo (downPc (scM4.view.read (Elt F) X17) (a6.view.read (Elt F) X6)) k)⌝))

set_option warn.classDefReducibility false in
/-- The second loop by its invariant. -/
@[sl_loop] def loopInv2 (c : Dev nD) (E : Set ℕ) (X6 : MBuf (F := F) c a6) (X17 : MBuf (F := F) c scM4) (G15 : MBuf (F := F) c scM2) :
    LoopInvTy_k0_t2 (F := F) Unit ℕ (Pipeline.UD sig nD τ) ℕ Variants.none c none E i tbM0 (Memref.isWhole_whole _) tbM1 (Memref.isWhole_whole _) a3 h3 a4 h4 a5 h5 a6 h6 a7 h7 a8 h8 a9 h9 hbM0 (Memref.isWhole_whole _) hbM1 (Memref.isWhole_whole _) a12 h12 scM0 (Memref.isWhole_whole _) scM1 (Memref.isWhole_whole _) scM2 (Memref.isWhole_whole _) scM3 (Memref.isWhole_whole _) scM4 (Memref.isWhole_whole _) scM5 (Memref.isWhole_whole _) cc0_scratch6 where
  inv := inv2 a6 c X6 X17 G15
  step k acc := by
    iintro ⟨HR6, HR17, ⟨%f15, HW15, %h15⟩⟩
    iapply (wp_wand_r Idealize.ShloMosaic.frame (wpE (defs₀ (F := F)) Variants.none (c : Thread nD τ) none) E)
    isplitl [HR6 HR17 HW15]
    · iapply ((trip2 i a3 h3 a4 h4 a5 h5 a6 h6 a7 h7 a8 h8 a9 h9 a12 h12 c X6 X17 k).2 E f15)
      isplitl [HR6]; · iexact HR6
      isplitl [HR17]; · iexact HR17
      iexact HW15
    · iintro %_ ⟨HR6, HR17, HW15⟩
      isplitl [HR6]; · iexact HR6
      isplitl [HR17]; · iexact HR17
      iexists _; isplitl [HW15]; · iexact HW15
      ipureintro; rw [h15, trip2_down, upTo_succ, ← View.writes_append]; rfl

end Cert.KernelIdeal.Hand

end
-- ==== Proof.KiBody.lean ====
module

public import proofs.«01_k».proof.Proof.KiInv

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (i : grid0.Coords)
  (a3 : Memref sig .tc .vmem S256x3072 .bf16) (h3 : a3.IsWhole)
  (a4 : Memref sig .tc .vmem S1x1792x128 .i8) (h4 : a4.IsWhole)
  (a5 : Memref sig .tc .vmem S1x1792x128 .i8) (h5 : a5.IsWhole)
  (a6 : Memref sig .tc .vmem S1x3072x128 .i8) (h6 : a6.IsWhole)
  (a7 : Memref sig .tc .vmem S1x1x1792 .bf16) (h7 : a7.IsWhole)
  (a8 : Memref sig .tc .vmem S1x1x1792 .bf16) (h8 : a8.IsWhole)
  (a9 : Memref sig .tc .vmem S1x1x3072 .bf16) (h9 : a9.IsWhole)
  (a12 : Memref sig .tc .vmem S256x3072 .f32) (h12 : a12.IsWhole)

/-- The word of a table that grid point `i` reads. -/
abbrev word (c : Dev nD) (M : Memref sig .tc .smem S100 .i32) (f : MBuf (F := F) c M) : BitVec 32 :=
  M.view.readAt (Elt F) (Rect.unit (s := S100) (k0_off1 i) S1.size (k0_off1_inb i)).toLoadRect f
    (Shape.Idx.first (numel1_S1.symm ▸ Nat.one_pos))

set_option backward.isDefEq.respectTransparency.types false in
/-- The body at a grid point where the expert changes: the codes are fetched, the weights decoded, the tile computed. -/
def runF (c : Dev nD) (T0 : MBuf (F := F) c tbM0) (T1 : MBuf (F := F) c tbM1)
    (X3 : MBuf (F := F) c a3) (X4 : MBuf (F := F) c a4) (X5 : MBuf (F := F) c a5) (X6 : MBuf (F := F) c a6)
    (X7 : MBuf (F := F) c a7) (X8 : MBuf (F := F) c a8) (X9 : MBuf (F := F) c a9)
    (B0 : MBuf (F := F) c hbM0) (B1 : MBuf (F := F) c hbM1)
    (G13 : MBuf (F := F) c scM0) (G14 : MBuf (F := F) c scM1) (G15 : MBuf (F := F) c scM2) (G16 : MBuf (F := F) c scM3)
    (G17 : MBuf (F := F) c scM4) (G18 : MBuf (F := F) c scM5)
    (hchk : k0_chk1 (word i c tbM0 T0) (word i c tbM1 T1)) (hfr : k0_cond1 (word i c tbM1 T1) = 1#1) :
    Σ' (P13 : MBuf (F := F) c scM0) (P14 : MBuf (F := F) c scM1) (P15 : MBuf (F := F) c scM2) (P16 : MBuf (F := F) c scM3)
      (P17 : MBuf (F := F) c scM4) (P18 : MBuf (F := F) c scM5), { L12 : List (View.Piece (Elt F) S256x3072 .f32) //
      ∀ (G12 : MBuf (F := F) c a12) (W : Waits sig Unit) (K : PUnit → sProp 𝕄),
      iprop(tbPt c tbM0 T0 ∗ tbPt c tbM1 T1 ∗ mPt c a3 X3 ∗ mPt c a4 X4 ∗ mPt c a5 X5 ∗ mPt c a6 X6 ∗ mPt c a7 X7 ∗ mPt c a8 X8 ∗ mPt c a9 X9
        ∗ hbPt c hbM0 B0 ∗ hbPt c hbM1 B1 ∗ mPt c a12 G12
        ∗ mPt c scM0 G13 ∗ mPt c scM1 G14 ∗ mPt c scM2 G15 ∗ mPt c scM3 G16 ∗ mPt c scM4 G17 ∗ mPt c scM5 G18
        ∗ semVal ((c : Thread nD τ), SemLoc.dma 16) 0 ∗ semVal ((c : Thread nD τ), SemLoc.dma 17) 0
        ∗ owes (c : Thread nD τ) 0 W
        ∗ (iprop(tbPt c tbM0 T0 ∗ tbPt c tbM1 T1 ∗ mPt c a3 X3 ∗ mPt c a4 X4 ∗ mPt c a5 X5 ∗ mPt c a6 X6 ∗ mPt c a7 X7 ∗ mPt c a8 X8 ∗ mPt c a9 X9
            ∗ hbPt c hbM0 B0 ∗ hbPt c hbM1 B1 ∗ mPt c a12 (a12.view.writes (Elt F) G12 L12)
            ∗ mPt c scM0 P13 ∗ mPt c scM1 P14 ∗ mPt c scM2 P15 ∗ mPt c scM3 P16 ∗ mPt c scM4 P17 ∗ mPt c scM5 P18
            ∗ semVal ((c : Thread nD τ), SemLoc.dma 16) 0 ∗ semVal ((c : Thread nD τ), SemLoc.dma 17) 0
            ∗ (∃ W', owes (c : Thread nD τ) 0 W')) -∗ K ⟨⟩))
      ⊢ wp frame (wpE (defs₀ (F := F)) Variants.none (c : Thread nD τ) none) Set.univ (cc0_moe_ffn (F := F) i tbM0 (Memref.isWhole_whole _) tbM1 (Memref.isWhole_whole _) a3 h3 a4 h4 a5 h5 a6 h6 a7 h7 a8 h8 a9 h9 hbM0 (Memref.isWhole_whole _) hbM1 (Memref.isWhole_whole _) a12 h12 scM0 (Memref.isWhole_whole _) scM1 (Memref.isWhole_whole _) scM2 (Memref.isWhole_whole _) scM3 (Memref.isWhole_whole _) scM4 (Memref.isWhole_whole _) scM5 (Memref.isWhole_whole _) cc0_scratch6) K } := by
  refine ⟨?_, ?_, ?_, ?_, ?_, ?_, ?_, fun G12 W K => ?run⟩
  case run =>
    simp only [cc0_moe_ffn_eq_skeleton]; unfold cc0_moe_ffn_skel
    iintro ⟨HT0, HT1, H3, H4, H5, H6, H7, H8, H9, HB0, HB1, H12, H13, H14, H15, H16, H17, H18, Hs0, Hs1, HW, Hk⟩
    sl_exec
    sl_step
    iapply Hk
    isplitl [HT0]; · iexact HT0
    isplitl [HT1]; · iexact HT1
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HB0]; · iexact HB0
    isplitl [HB1]; · iexact HB1
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [Hs0]; · iexact Hs0
    isplitl [Hs1]; · iexact Hs1
    iexists _; iexact HW

set_option backward.isDefEq.respectTransparency.types false in
/-- The body at a grid point where the expert stays: the tile is computed from the decoded weights. -/
def runN (c : Dev nD) (T0 : MBuf (F := F) c tbM0) (T1 : MBuf (F := F) c tbM1)
    (X3 : MBuf (F := F) c a3) (X4 : MBuf (F := F) c a4) (X5 : MBuf (F := F) c a5) (X6 : MBuf (F := F) c a6)
    (X7 : MBuf (F := F) c a7) (X8 : MBuf (F := F) c a8) (X9 : MBuf (F := F) c a9)
    (B0 : MBuf (F := F) c hbM0) (B1 : MBuf (F := F) c hbM1)
    (G13 : MBuf (F := F) c scM0) (G14 : MBuf (F := F) c scM1) (G15 : MBuf (F := F) c scM2) (G16 : MBuf (F := F) c scM3)
    (G17 : MBuf (F := F) c scM4) (G18 : MBuf (F := F) c scM5)
    (hchk : k0_chk1 (word i c tbM0 T0) (word i c tbM1 T1)) (hfr : ¬ k0_cond1 (word i c tbM1 T1) = 1#1) :
    Σ' (P13 : MBuf (F := F) c scM0) (P14 : MBuf (F := F) c scM1) (P15 : MBuf (F := F) c scM2) (P16 : MBuf (F := F) c scM3)
      (P17 : MBuf (F := F) c scM4) (P18 : MBuf (F := F) c scM5), { L12 : List (View.Piece (Elt F) S256x3072 .f32) //
      ∀ (G12 : MBuf (F := F) c a12) (W : Waits sig Unit) (K : PUnit → sProp 𝕄),
      iprop(tbPt c tbM0 T0 ∗ tbPt c tbM1 T1 ∗ mPt c a3 X3 ∗ mPt c a4 X4 ∗ mPt c a5 X5 ∗ mPt c a6 X6 ∗ mPt c a7 X7 ∗ mPt c a8 X8 ∗ mPt c a9 X9
        ∗ hbPt c hbM0 B0 ∗ hbPt c hbM1 B1 ∗ mPt c a12 G12
        ∗ mPt c scM0 G13 ∗ mPt c scM1 G14 ∗ mPt c scM2 G15 ∗ mPt c scM3 G16 ∗ mPt c scM4 G17 ∗ mPt c scM5 G18
        ∗ semVal ((c : Thread nD τ), SemLoc.dma 16) 0 ∗ semVal ((c : Thread nD τ), SemLoc.dma 17) 0
        ∗ owes (c : Thread nD τ) 0 W
        ∗ (iprop(tbPt c tbM0 T0 ∗ tbPt c tbM1 T1 ∗ mPt c a3 X3 ∗ mPt c a4 X4 ∗ mPt c a5 X5 ∗ mPt c a6 X6 ∗ mPt c a7 X7 ∗ mPt c a8 X8 ∗ mPt c a9 X9
            ∗ hbPt c hbM0 B0 ∗ hbPt c hbM1 B1 ∗ mPt c a12 (a12.view.writes (Elt F) G12 L12)
            ∗ mPt c scM0 P13 ∗ mPt c scM1 P14 ∗ mPt c scM2 P15 ∗ mPt c scM3 P16 ∗ mPt c scM4 P17 ∗ mPt c scM5 P18
            ∗ semVal ((c : Thread nD τ), SemLoc.dma 16) 0 ∗ semVal ((c : Thread nD τ), SemLoc.dma 17) 0
            ∗ (∃ W', owes (c : Thread nD τ) 0 W')) -∗ K ⟨⟩))
      ⊢ wp frame (wpE (defs₀ (F := F)) Variants.none (c : Thread nD τ) none) Set.univ (cc0_moe_ffn (F := F) i tbM0 (Memref.isWhole_whole _) tbM1 (Memref.isWhole_whole _) a3 h3 a4 h4 a5 h5 a6 h6 a7 h7 a8 h8 a9 h9 hbM0 (Memref.isWhole_whole _) hbM1 (Memref.isWhole_whole _) a12 h12 scM0 (Memref.isWhole_whole _) scM1 (Memref.isWhole_whole _) scM2 (Memref.isWhole_whole _) scM3 (Memref.isWhole_whole _) scM4 (Memref.isWhole_whole _) scM5 (Memref.isWhole_whole _) cc0_scratch6) K } := by
  refine ⟨?_, ?_, ?_, ?_, ?_, ?_, ?_, fun G12 W K => ?run⟩
  case run =>
    simp only [cc0_moe_ffn_eq_skeleton]; unfold cc0_moe_ffn_skel
    iintro ⟨HT0, HT1, H3, H4, H5, H6, H7, H8, H9, HB0, HB1, H12, H13, H14, H15, H16, H17, H18, Hs0, Hs1, HW, Hk⟩
    sl_exec
    sl_step
    iapply Hk
    isplitl [HT0]; · iexact HT0
    isplitl [HT1]; · iexact HT1
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HB0]; · iexact HB0
    isplitl [HB1]; · iexact HB1
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [Hs0]; · iexact Hs0
    isplitl [Hs1]; · iexact Hs1
    iexists _; iexact HW

end Cert.KernelIdeal.Hand

end
-- ==== Proof.KiOut.lean ====
module

public import proofs.«01_k».proof.Proof.KiBody
public import Idealize.ShloMosaic.Lib.Pointwise

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem inbRows256 : ∀ c : Fin 7, ∀ a, (![256 * c.val, 0] : Fin 2 → ℕ) a + S256x3072.size a ≤ S1792x3072.size a := by decide +kernel
theorem inbLanes256 : ∀ c : Fin 7, ∀ a, (![0, 0, 256 * c.val] : Fin 3 → ℕ) a + S1x1x256.size a ≤ S1x1x1792.size a := by decide +kernel
theorem inbH : ∀ c : Fin 7, ∀ a, (![0, 256 * c.val] : Fin 2 → ℕ) a + S256x256.size a ≤ S256x1792.size a := by decide +kernel
theorem inbRows512 : ∀ n : Fin 6, ∀ a, (![512 * n.val, 0] : Fin 2 → ℕ) a + S512x1792.size a ≤ S3072x1792.size a := by decide +kernel
theorem inbLanes512 : ∀ n : Fin 6, ∀ a, (![0, 0, 512 * n.val] : Fin 3 → ℕ) a + S1x1x512.size a ≤ S1x1x3072.size a := by decide +kernel
theorem inbY : ∀ n : Fin 6, ∀ a, (![0, 512 * n.val] : Fin 2 → ℕ) a + S256x512.size a ≤ S256x3072.size a := by decide +kernel

/-- 256 rows of the gate or up weights. -/
def rows256 (W : FVec F S1792x3072 .bf16) (c : Fin 7) : FVec F S256x3072 .bf16 := fun x =>
  W ((Rect.unit (s := S1792x3072) ![256 * c.val, 0] S256x3072.size (inbRows256 c)).toLoadRect.idx x)
/-- 256 lanes of the gate or up bias. -/
def lanes256 (b : FVec F S1x1x1792 .bf16) (c : Fin 7) : FVec F S1x1x256 .bf16 := fun x =>
  b ((Rect.unit (s := S1x1x1792) ![0, 0, 256 * c.val] S1x1x256.size (inbLanes256 c)).toLoadRect.idx x)
/-- 512 rows of the down weights. -/
def rows512 (W : FVec F S3072x1792 .bf16) (n : Fin 6) : FVec F S512x1792 .bf16 := fun x =>
  W ((Rect.unit (s := S3072x1792) ![512 * n.val, 0] S512x1792.size (inbRows512 n)).toLoadRect.idx x)
/-- 512 lanes of the down bias. -/
def lanes512 (b : FVec F S1x1x3072 .bf16) (n : Fin 6) : FVec F S1x1x512 .bf16 := fun x =>
  b ((Rect.unit (s := S1x1x3072) ![0, 0, 512 * n.val] S1x1x512.size (inbLanes512 n)).toLoadRect.idx x)

/-- 256 columns of the hidden activations of a tile. -/
def hBlk (x : FVec F S256x3072 .bf16) (WG WU : FVec F S1792x3072 .bf16) (bg bu : FVec F S1x1x1792 .bf16) (c : Fin 7) : FVec F S256x256 .bf16 :=
  k0_pay242 (k0_pay239 x) (rows256 WG c) (rows256 WU c) (lanes256 bg c) (lanes256 bu c)
/-- The pieces of the hidden activations, the last written first. -/
def hPieces (x : FVec F S256x3072 .bf16) (WG WU : FVec F S1792x3072 .bf16) (bg bu : FVec F S1x1x1792 .bf16) :
    List (View.Piece (Elt F) S256x1792 .bf16) :=
  ([6, 5, 4, 3, 2, 1, 0] : List (Fin 7)).map fun c => ⟨Rect.unit ![0, 256 * c.val] S256x256.size (inbH c), hBlk x WG WU bg bu c⟩

/-- The block of 256 columns an element of the hidden activations lies in, and where. -/
def hCol (y : S256x1792.Idx) : Fin 7 := ⟨(y 1).val / 256, by have h : (y 1).val < 1792 := (y 1).isLt; omega⟩
def hLoc (y : S256x1792.Idx) : S256x256.Idx :=
  fun a => match a with
    | ⟨0, _⟩ => ⟨(y 0).val, (y 0).isLt⟩
    | ⟨1, _⟩ => ⟨(y 1).val % 256, Nat.mod_lt _ (by decide)⟩
/-- The hidden activations of a tile. -/
def hid (x : FVec F S256x3072 .bf16) (WG WU : FVec F S1792x3072 .bf16) (bg bu : FVec F S1x1x1792 .bf16) : FVec F S256x1792 .bf16 :=
  fun y => hBlk x WG WU bg bu (hCol y) (hLoc y)

/-- 512 columns of the result of a tile. -/
def yBlk (h : FVec F S256x1792 .bf16) (WD : FVec F S3072x1792 .bf16) (bd : FVec F S1x1x3072 .bf16) (n : Fin 6) : FVec F S256x512 .f32 :=
  k0_pay260 h (rows512 WD n) (lanes512 bd n)
/-- The pieces of the result of a tile, the last written first. -/
def yPieces (h : FVec F S256x1792 .bf16) (WD : FVec F S3072x1792 .bf16) (bd : FVec F S1x1x3072 .bf16) :
    List (View.Piece (Elt F) S256x3072 .f32) :=
  ([5, 4, 3, 2, 1, 0] : List (Fin 6)).map fun n => ⟨Rect.unit ![0, 512 * n.val] S256x512.size (inbY n), yBlk h WD bd n⟩
/-- The block of 512 columns an element of the result lies in, and where. -/
def yCol (y : S256x3072.Idx) : Fin 6 := ⟨(y 1).val / 512, by have h : (y 1).val < 3072 := (y 1).isLt; omega⟩
def yLoc (y : S256x3072.Idx) : S256x512.Idx :=
  fun a => match a with
    | ⟨0, _⟩ => ⟨(y 0).val, (y 0).isLt⟩
    | ⟨1, _⟩ => ⟨(y 1).val % 512, Nat.mod_lt _ (by decide)⟩
/-- The result of a tile: two projections of the tile, the gated product, the projection back. -/
def outV (x : FVec F S256x3072 .bf16) (WG WU : FVec F S1792x3072 .bf16) (WD : FVec F S3072x1792 .bf16)
    (bg bu : FVec F S1x1x1792 .bf16) (bd : FVec F S1x1x3072 .bf16) : FVec F S256x3072 .f32 :=
  fun y => yBlk (hid x WG WU bg bu) WD bd (yCol y) (yLoc y)

section
variable {κ : Kind} {sp : Space}

/-- The hidden activations' array after its pieces are written reads them. -/
theorem read_hPieces (v : View sig κ sp S256x1792 .bf16) (f : v.ty.Contents (Elt F)) (x : FVec F S256x3072 .bf16)
    (WG WU : FVec F S1792x3072 .bf16) (bg bu : FVec F S1x1x1792 .bf16) (y : S256x1792.Idx) :
    v.read (Elt F) (v.writes (Elt F) f (hPieces x WG WU bg bu)) y = hid x WG WU bg bu y := by
  have hy0 : (y 0).val < 256 := (y 0).isLt
  have hy1 : (y 1).val < 1792 := (y 1).isLt
  refine View.read_writes_apply_of_pieces v f (hid x WG WU bg bu) _ ?_ y ?_
  · intro p hp x'
    obtain ⟨c, -, rfl⟩ := List.mem_map.mp hp
    have hx0 : (x' 0).val < 256 := (x' 0).isLt
    have hx1 : (x' 1).val < 256 := (x' 1).isLt
    have e0 : ((Rect.unit (s := S256x1792) ![0, 256 * c.val] S256x256.size (inbH c)).emb x' 0).val = (x' 0).val := by
      show 0 + 1 * (x' 0).val = _
      omega
    have e1 : ((Rect.unit (s := S256x1792) ![0, 256 * c.val] S256x256.size (inbH c)).emb x' 1).val = 256 * c.val + (x' 1).val := by
      show 256 * c.val + 1 * (x' 1).val = _
      omega
    have hc : hCol ((Rect.unit (s := S256x1792) ![0, 256 * c.val] S256x256.size (inbH c)).emb x') = c :=
      Fin.ext (by show _ / 256 = _; rw [e1]; omega)
    have hl : hLoc ((Rect.unit (s := S256x1792) ![0, 256 * c.val] S256x256.size (inbH c)).emb x') = x' := by
      funext a
      match a with
      | 0 => exact Fin.ext e0
      | 1 => exact Fin.ext (by show _ % 256 = _; rw [e1]; omega)
    show hBlk x WG WU bg bu c x' = hBlk x WG WU bg bu _ _
    rw [hc]
    exact congrArg _ hl.symm
  · refine ⟨_, List.mem_map.mpr ⟨hCol y, by have : ∀ c : Fin 7, c ∈ ([6, 5, 4, 3, 2, 1, 0] : List (Fin 7)) := by decide
                                            exact this _, rfl⟩, ?_⟩
    refine (Rect.mem_set_unit (inb := inbH (hCol y))).2 fun a => ?_
    match a with
    | 0 => exact ⟨Nat.zero_le _, by show (y 0).val < 0 + 256; omega⟩
    | 1 => exact ⟨by show 256 * ((y 1).val / 256) ≤ _; omega, by show (y 1).val < 256 * ((y 1).val / 256) + 256; omega⟩

/-- The result's block after its pieces are written reads them. -/
theorem read_yPieces (v : View sig κ sp S256x3072 .f32) (f : v.ty.Contents (Elt F)) (h : FVec F S256x1792 .bf16)
    (WD : FVec F S3072x1792 .bf16) (bd : FVec F S1x1x3072 .bf16) (y : S256x3072.Idx) :
    v.read (Elt F) (v.writes (Elt F) f (yPieces h WD bd)) y = yBlk h WD bd (yCol y) (yLoc y) := by
  have hy0 : (y 0).val < 256 := (y 0).isLt
  have hy1 : (y 1).val < 3072 := (y 1).isLt
  refine View.read_writes_apply_of_pieces v f (fun y : S256x3072.Idx => yBlk h WD bd (yCol y) (yLoc y)) _ ?_ y ?_
  · intro p hp x'
    obtain ⟨c, -, rfl⟩ := List.mem_map.mp hp
    have hx0 : (x' 0).val < 256 := (x' 0).isLt
    have hx1 : (x' 1).val < 512 := (x' 1).isLt
    have e0 : ((Rect.unit (s := S256x3072) ![0, 512 * c.val] S256x512.size (inbY c)).emb x' 0).val = (x' 0).val := by
      show 0 + 1 * (x' 0).val = _
      omega
    have e1 : ((Rect.unit (s := S256x3072) ![0, 512 * c.val] S256x512.size (inbY c)).emb x' 1).val = 512 * c.val + (x' 1).val := by
      show 512 * c.val + 1 * (x' 1).val = _
      omega
    have hc : yCol ((Rect.unit (s := S256x3072) ![0, 512 * c.val] S256x512.size (inbY c)).emb x') = c :=
      Fin.ext (by show _ / 512 = _; rw [e1]; omega)
    have hl : yLoc ((Rect.unit (s := S256x3072) ![0, 512 * c.val] S256x512.size (inbY c)).emb x') = x' := by
      funext a
      match a with
      | 0 => exact Fin.ext e0
      | 1 => exact Fin.ext (by show _ % 512 = _; rw [e1]; omega)
    show yBlk h WD bd c x' = yBlk h WD bd _ _
    rw [hc]
    exact congrArg _ hl.symm
  · refine ⟨_, List.mem_map.mpr ⟨yCol y, by have : ∀ c : Fin 6, c ∈ ([5, 4, 3, 2, 1, 0] : List (Fin 6)) := by decide
                                            exact this _, rfl⟩, ?_⟩
    refine (Rect.mem_set_unit (inb := inbY (yCol y))).2 fun a => ?_
    match a with
    | 0 => exact ⟨Nat.zero_le _, by show (y 0).val < 0 + 256; omega⟩
    | 1 => exact ⟨by show 512 * ((y 1).val / 512) ≤ _; omega, by show (y 1).val < 512 * ((y 1).val / 512) + 512; omega⟩

/-- A load of the whole hidden activations, all written before, reads them. -/
theorem readCov_h (v : View sig κ sp S256x1792 .bf16) (x : FVec F S256x3072 .bf16)
    (WG WU : FVec F S1792x3072 .bf16) (bg bu : FVec F S1x1x1792 .bf16) :
    v.readCov (hPieces x WG WU bg bu) (Rect.unit (s := S256x1792) ![0, 0] S256x1792.size inb_S256x1792_S256x1792_0_0).toLoadRect = hid x WG WU bg bu := by
  funext y
  refine (read_hPieces v v.junk x WG WU bg bu _).trans (congrArg _ ?_)
  funext a
  match a with
  | 0 => exact Fin.ext (by show 0 + 1 * (y 0).val = _; omega)
  | 1 => exact Fin.ext (by show 0 + 1 * (y 1).val = _; omega)

end

/-- A load of the whole block of a tile reads it. -/
theorem readAt_x {κ : Kind} {sp : Space} (v : View sig κ sp S256x3072 .bf16) (f : v.ty.Contents (Elt F)) :
    v.readAt (Elt F) (Rect.unit (s := S256x3072) ![0, 0] S256x3072.size inb_S256x3072_S256x3072_0_0).toLoadRect f = v.read (Elt F) f := by
  funext y
  refine congrArg (v.read (Elt F) f) ?_
  funext a
  match a with
  | 0 => exact Fin.ext (by show 0 + 1 * (y 0).val = _; omega)
  | 1 => exact Fin.ext (by show 0 + 1 * (y 1).val = _; omega)

variable (i : grid0.Coords)
  (a3 : Memref sig .tc .vmem S256x3072 .bf16) (h3 : a3.IsWhole)
  (a4 : Memref sig .tc .vmem S1x1792x128 .i8) (h4 : a4.IsWhole)
  (a5 : Memref sig .tc .vmem S1x1792x128 .i8) (h5 : a5.IsWhole)
  (a6 : Memref sig .tc .vmem S1x3072x128 .i8) (h6 : a6.IsWhole)
  (a7 : Memref sig .tc .vmem S1x1x1792 .bf16) (h7 : a7.IsWhole)
  (a8 : Memref sig .tc .vmem S1x1x1792 .bf16) (h8 : a8.IsWhole)
  (a9 : Memref sig .tc .vmem S1x1x3072 .bf16) (h9 : a9.IsWhole)
  (a12 : Memref sig .tc .vmem S256x3072 .f32) (h12 : a12.IsWhole)

/-- The hidden activations the run without decoding stores. -/
theorem runN_L18 (c : Dev nD) (X3 : MBuf (F := F) c a3) (X7 : MBuf (F := F) c a7) (X8 : MBuf (F := F) c a8)
    (G13 : MBuf (F := F) c scM0) (G14 : MBuf (F := F) c scM1) :
    runN.sl.H18_7 a3 a7 a8 c X3 X7 X8 G13 G14
      = hPieces (a3.view.read (Elt F) X3) (scM0.view.read (Elt F) G13) (scM1.view.read (Elt F) G14) (a7.view.read (Elt F) X7) (a8.view.read (Elt F) X8) := by
  rw [← readAt_x]
  unfold runN.sl.H18_7 hPieces
  dsimp only [List.map_cons, List.map_nil]
  iterate 7 refine congrArg₂ List.cons (by sl_kernel_rfl) ?_
  rfl

/-- The hidden activations the run without decoding loads back. -/
theorem runN_H (c : Dev nD) (X3 : MBuf (F := F) c a3) (X7 : MBuf (F := F) c a7) (X8 : MBuf (F := F) c a8)
    (G13 : MBuf (F := F) c scM0) (G14 : MBuf (F := F) c scM1) :
    runN.sl.v226 a3 a7 a8 c X3 X7 X8 G13 G14
      = hid (a3.view.read (Elt F) X3) (scM0.view.read (Elt F) G13) (scM1.view.read (Elt F) G14) (a7.view.read (Elt F) X7) (a8.view.read (Elt F) X8) := by
  unfold runN.sl.v226
  refine Eq.trans ?_ (readCov_h scM5.view _ _ _ _ _)
  rw [← runN_L18]

/-- The result's block the run without decoding stores. -/
theorem runN_out (c : Dev nD) (T0 : MBuf (F := F) c tbM0) (T1 : MBuf (F := F) c tbM1)
    (X3 : MBuf (F := F) c a3) (X4 : MBuf (F := F) c a4) (X5 : MBuf (F := F) c a5) (X6 : MBuf (F := F) c a6)
    (X7 : MBuf (F := F) c a7) (X8 : MBuf (F := F) c a8) (X9 : MBuf (F := F) c a9)
    (B0 : MBuf (F := F) c hbM0) (B1 : MBuf (F := F) c hbM1)
    (G13 : MBuf (F := F) c scM0) (G14 : MBuf (F := F) c scM1) (G15 : MBuf (F := F) c scM2)
    (G16 : MBuf (F := F) c scM3) (G17 : MBuf (F := F) c scM4) (G18 : MBuf (F := F) c scM5)
    (hchk : k0_chk1 (word i c tbM0 T0) (word i c tbM1 T1)) (hfr : ¬ k0_cond1 (word i c tbM1 T1) = 1#1) :
    (runN i a3 h3 a4 h4 a5 h5 a6 h6 a7 h7 a8 h8 a9 h9 a12 h12 c T0 T1 X3 X4 X5 X6 X7 X8 X9 B0 B1 G13 G14 G15 G16 G17 G18 hchk hfr).2.2.2.2.2.2.val
      = yPieces (runN.sl.v226 a3 a7 a8 c X3 X7 X8 G13 G14) (scM2.view.read (Elt F) G15) (a9.view.read (Elt F) X9) := by
  unfold runN yPieces
  dsimp only [List.map_cons, List.map_nil]
  iterate 6 refine congrArg₂ List.cons (by sl_kernel_rfl) ?_
  rfl

end Cert.KernelIdeal.Hand

end
-- ==== Proof.KiOutF.lean ====
module

public import proofs.«01_k».proof.Proof.KiOut

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (i : grid0.Coords)
  (a3 : Memref sig .tc .vmem S256x3072 .bf16) (h3 : a3.IsWhole)
  (a4 : Memref sig .tc .vmem S1x1792x128 .i8) (h4 : a4.IsWhole)
  (a5 : Memref sig .tc .vmem S1x1792x128 .i8) (h5 : a5.IsWhole)
  (a6 : Memref sig .tc .vmem S1x3072x128 .i8) (h6 : a6.IsWhole)
  (a7 : Memref sig .tc .vmem S1x1x1792 .bf16) (h7 : a7.IsWhole)
  (a8 : Memref sig .tc .vmem S1x1x1792 .bf16) (h8 : a8.IsWhole)
  (a9 : Memref sig .tc .vmem S1x1x3072 .bf16) (h9 : a9.IsWhole)
  (a12 : Memref sig .tc .vmem S256x3072 .f32) (h12 : a12.IsWhole)

variable (c : Dev nD) (T0 : MBuf (F := F) c tbM0) (T1 : MBuf (F := F) c tbM1)
    (X3 : MBuf (F := F) c a3) (X4 : MBuf (F := F) c a4) (X5 : MBuf (F := F) c a5) (X6 : MBuf (F := F) c a6)
    (X7 : MBuf (F := F) c a7) (X8 : MBuf (F := F) c a8) (X9 : MBuf (F := F) c a9)
    (B0 : MBuf (F := F) c hbM0) (B1 : MBuf (F := F) c hbM1)
    (G13 : MBuf (F := F) c scM0) (G14 : MBuf (F := F) c scM1) (G15 : MBuf (F := F) c scM2)
    (G16 : MBuf (F := F) c scM3) (G17 : MBuf (F := F) c scM4) (G18 : MBuf (F := F) c scM5)
    (hchk : k0_chk1 (word i c tbM0 T0) (word i c tbM1 T1)) (hfr : k0_cond1 (word i c tbM1 T1) = 1#1)

theorem runF_gate : scM0.view.read (Elt F) (runF i a3 h3 a4 h4 a5 h5 a6 h6 a7 h7 a8 h8 a9 h9 a12 h12 c T0 T1 X3 X4 X5 X6 X7 X8 X9 B0 B1 G13 G14 G15 G16 G17 G18 hchk hfr).1 = wGate (runF.sl.dma2 i c T0 T1 B0 hchk hfr) (a4.view.read (Elt F) X4) := by
  refine Eq.trans ?_ ((read_gate scM0.view G13 _ _).trans (congrArg (fun Q => wGate Q (a4.view.read (Elt F) X4)) (View.read_writes_whole scM3.view scM3.view.junk (runF.sl.dma2 i c T0 T1 B0 hchk hfr))))
  rfl

theorem runF_up : scM1.view.read (Elt F) (runF i a3 h3 a4 h4 a5 h5 a6 h6 a7 h7 a8 h8 a9 h9 a12 h12 c T0 T1 X3 X4 X5 X6 X7 X8 X9 B0 B1 G13 G14 G15 G16 G17 G18 hchk hfr).2.1 = wUp (runF.sl.dma2 i c T0 T1 B0 hchk hfr) (a5.view.read (Elt F) X5) := by
  refine Eq.trans ?_ ((read_up scM1.view G14 _ _).trans (congrArg (fun Q => wUp Q (a5.view.read (Elt F) X5)) (View.read_writes_whole scM3.view scM3.view.junk (runF.sl.dma2 i c T0 T1 B0 hchk hfr))))
  rfl

theorem runF_down : scM2.view.read (Elt F) (runF i a3 h3 a4 h4 a5 h5 a6 h6 a7 h7 a8 h8 a9 h9 a12 h12 c T0 T1 X3 X4 X5 X6 X7 X8 X9 B0 B1 G13 G14 G15 G16 G17 G18 hchk hfr).2.2.1 = wDown (runF.sl.dma2_1 i c T0 T1 B1 hchk hfr) (a6.view.read (Elt F) X6) := by
  refine Eq.trans ?_ ((read_down scM2.view G15 _ _).trans (congrArg (fun Q => wDown Q (a6.view.read (Elt F) X6)) (View.read_writes_whole scM4.view scM4.view.junk (runF.sl.dma2_1 i c T0 T1 B1 hchk hfr))))
  rfl

/-- The hidden activations the decoding run stores. -/
theorem runF_L18 :
    runF.sl.H18_7 i a3 a4 a5 a7 a8 c T0 T1 X3 X4 X5 X7 X8 B0 G13 G14 hchk hfr
      = hPieces (a3.view.read (Elt F) X3) (scM0.view.read (Elt F) (runF i a3 h3 a4 h4 a5 h5 a6 h6 a7 h7 a8 h8 a9 h9 a12 h12 c T0 T1 X3 X4 X5 X6 X7 X8 X9 B0 B1 G13 G14 G15 G16 G17 G18 hchk hfr).1)
        (scM1.view.read (Elt F) (runF i a3 h3 a4 h4 a5 h5 a6 h6 a7 h7 a8 h8 a9 h9 a12 h12 c T0 T1 X3 X4 X5 X6 X7 X8 X9 B0 B1 G13 G14 G15 G16 G17 G18 hchk hfr).2.1) (a7.view.read (Elt F) X7) (a8.view.read (Elt F) X8) := by
  rw [← readAt_x]
  unfold runF.sl.H18_7 hPieces
  dsimp only [List.map_cons, List.map_nil]
  iterate 7 refine congrArg₂ List.cons (by sl_kernel_rfl) ?_
  rfl

/-- The hidden activations the decoding run loads back. -/
theorem runF_H :
    runF.sl.v226 i a3 a4 a5 a7 a8 c T0 T1 X3 X4 X5 X7 X8 B0 G13 G14 hchk hfr
      = hid (a3.view.read (Elt F) X3) (scM0.view.read (Elt F) (runF i a3 h3 a4 h4 a5 h5 a6 h6 a7 h7 a8 h8 a9 h9 a12 h12 c T0 T1 X3 X4 X5 X6 X7 X8 X9 B0 B1 G13 G14 G15 G16 G17 G18 hchk hfr).1)
        (scM1.view.read (Elt F) (runF i a3 h3 a4 h4 a5 h5 a6 h6 a7 h7 a8 h8 a9 h9 a12 h12 c T0 T1 X3 X4 X5 X6 X7 X8 X9 B0 B1 G13 G14 G15 G16 G17 G18 hchk hfr).2.1) (a7.view.read (Elt F) X7) (a8.view.read (Elt F) X8) := by
  unfold runF.sl.v226
  refine Eq.trans ?_ (readCov_h scM5.view _ _ _ _ _)
  rw [← runF_L18]

/-- The result's block the decoding run stores. -/
theorem runF_out :
    (runF i a3 h3 a4 h4 a5 h5 a6 h6 a7 h7 a8 h8 a9 h9 a12 h12 c T0 T1 X3 X4 X5 X6 X7 X8 X9 B0 B1 G13 G14 G15 G16 G17 G18 hchk hfr).2.2.2.2.2.2.val
      = yPieces (runF.sl.v226 i a3 a4 a5 a7 a8 c T0 T1 X3 X4 X5 X7 X8 B0 G13 G14 hchk hfr) (scM2.view.read (Elt F) (runF i a3 h3 a4 h4 a5 h5 a6 h6 a7 h7 a8 h8 a9 h9 a12 h12 c T0 T1 X3 X4 X5 X6 X7 X8 X9 B0 B1 G13 G14 G15 G16 G17 G18 hchk hfr).2.2.1) (a9.view.read (Elt F) X9) := by
  unfold runF yPieces
  dsimp only [List.map_cons, List.map_nil]
  iterate 6 refine congrArg₂ List.cons (by sl_kernel_rfl) ?_
  rfl

/-- An expert's codes of the gate and up weights. -/
def guCodes (B : S4x1792x3072.Idx → Elt F .i8) (e : Fin 4) : Vec F S1792x3072 .i8 := fun y => B (ix3 e (y 0) (y 1))
/-- An expert's codes of the down weights. -/
def dnCodes (B : S4x1536x1792.Idx → Elt F .i8) (e : Fin 4) : Vec F S1536x1792 .i8 := fun y => B (ix3 e (y 0) (y 1))

/-- One expert's slice of the gate and up codes, its leading axis dropped. -/
theorem slice_gu (B : S4x1792x3072.Idx → Elt F .i8) (off : Fin 3 → ℕ) (h : ∀ a, off a + S1x1792x3072.size a ≤ S4x1792x3072.size a)
    (e : Fin 4) (he : off = ![e.val, 0, 0]) (y : S1792x3072.Idx) :
    shapeCast S1792x3072 (hbM0.view.readAt (Elt F) (Rect.unit (s := S4x1792x3072) off S1x1792x3072.size h).toLoadRect B)
      (by decide : S1x1792x3072.ShapeCasts S1792x3072) y = guCodes B e y := by
  subst he
  refine (shapeCast_dropUnit_apply (n := 2) ![1792, 3072] _ _ y).trans ?_
  refine congrArg B (funext fun a => Fin.ext ?_)
  fin_cases a
  · show e.val + 1 * 0 = e.val; omega
  · show 0 + 1 * (y 0).val = (y 0).val; omega
  · show 0 + 1 * (y 1).val = (y 1).val; omega

/-- One expert's slice of the down codes, its leading axis dropped. -/
theorem slice_dn (B : S4x1536x1792.Idx → Elt F .i8) (off : Fin 3 → ℕ) (h : ∀ a, off a + S1x1536x1792.size a ≤ S4x1536x1792.size a)
    (e : Fin 4) (he : off = ![e.val, 0, 0]) (y : S1536x1792.Idx) :
    shapeCast S1536x1792 (hbM1.view.readAt (Elt F) (Rect.unit (s := S4x1536x1792) off S1x1536x1792.size h).toLoadRect B)
      (by decide : S1x1536x1792.ShapeCasts S1536x1792) y = dnCodes B e y := by
  subst he
  refine (shapeCast_dropUnit_apply (n := 2) ![1536, 1792] _ _ y).trans ?_
  refine congrArg B (funext fun a => Fin.ext ?_)
  fin_cases a
  · show e.val + 1 * 0 = e.val; omega
  · show 0 + 1 * (y 0).val = (y 0).val; omega
  · show 0 + 1 * (y 1).val = (y 1).val; omega

theorem toNat_tile (e : Fin 4) : (BitVec.ofNat 32 e.val).toNat = e.val := by revert e; decide

/-- The codes the decoding run fetches are the tile's expert's. -/
theorem dma2_eq (e : Fin 4) (he : word i c tbM0 T0 = BitVec.ofNat 32 e.val) :
    runF.sl.dma2 i c T0 T1 B0 hchk hfr = guCodes (F := F) B0 e := by
  funext y
  refine Eq.trans ?_ (slice_gu B0 (k0_off2 (word i c tbM0 T0)) (k0_off2_inb _ _ hchk hfr) e ?_ y)
  · unfold runF.sl.dma2
    exact congrFun (Memref.read_squeeze_slice hbM0 _ _ squeezes_S1x1792x3072_S1792x3072 (show S1x1792x3072.ShapeCasts S1792x3072 by decide) B0) y
  · rw [he]; unfold k0_off2; rw [toNat_tile]

theorem dma2_1_eq (e : Fin 4) (he : word i c tbM0 T0 = BitVec.ofNat 32 e.val) :
    runF.sl.dma2_1 i c T0 T1 B1 hchk hfr = dnCodes (F := F) B1 e := by
  funext y
  refine Eq.trans ?_ (slice_dn B1 (k0_off3 (word i c tbM0 T0)) (k0_off3_inb _ _ hchk hfr) e ?_ y)
  · unfold runF.sl.dma2_1
    exact congrFun (Memref.read_squeeze_slice hbM1 _ _ squeezes_S1x1536x1792_S1536x1792 (show S1x1536x1792.ShapeCasts S1536x1792 by decide) B1) y
  · rw [he]; unfold k0_off3; rw [toNat_tile]

end Cert.KernelIdeal.Hand

end
-- ==== Proof.KiStep.lean ====
module

public import proofs.«01_k».proof.Proof.KiOutF

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (i : grid0.Coords)
  (a3 : Memref sig .tc .vmem S256x3072 .bf16) (h3 : a3.IsWhole)
  (a4 : Memref sig .tc .vmem S1x1792x128 .i8) (h4 : a4.IsWhole)
  (a5 : Memref sig .tc .vmem S1x1792x128 .i8) (h5 : a5.IsWhole)
  (a6 : Memref sig .tc .vmem S1x3072x128 .i8) (h6 : a6.IsWhole)
  (a7 : Memref sig .tc .vmem S1x1x1792 .bf16) (h7 : a7.IsWhole)
  (a8 : Memref sig .tc .vmem S1x1x1792 .bf16) (h8 : a8.IsWhole)
  (a9 : Memref sig .tc .vmem S1x1x3072 .bf16) (h9 : a9.IsWhole)
  (a12 : Memref sig .tc .vmem S256x3072 .f32) (h12 : a12.IsWhole)

variable (c : Dev nD) (T0 : MBuf (F := F) c tbM0) (T1 : MBuf (F := F) c tbM1)
  (x : FVec F S256x3072 .bf16) (su sg : Vec F S1x1792x128 .i8) (sd : Vec F S1x3072x128 .i8)
  (bg bu : FVec F S1x1x1792 .bf16) (bd : FVec F S1x1x3072 .bf16)
  (B0 : MBuf (F := F) c hbM0) (B1 : MBuf (F := F) c hbM1)
  (WG WU : FVec F S1792x3072 .bf16) (WD : FVec F S3072x1792 .bf16)

/-- The staging buffers of the seven inputs, each at its block. -/
abbrev ins : sProp 𝕄 := iprop(owns (c : Thread nD τ) a3 fullShare x ∗ owns (c : Thread nD τ) a4 fullShare sg ∗ owns (c : Thread nD τ) a5 fullShare su
  ∗ owns (c : Thread nD τ) a6 fullShare sd ∗ owns (c : Thread nD τ) a7 fullShare bg ∗ owns (c : Thread nD τ) a8 fullShare bu ∗ owns (c : Thread nD τ) a9 fullShare bd)
/-- What the body neither changes nor is asked about: the tables, the codes left in place, the counters at zero. -/
abbrev keep : sProp 𝕄 := iprop(tbPt c tbM0 T0 ∗ tbPt c tbM1 T1 ∗ hbPt c hbM0 B0 ∗ hbPt c hbM1 B1
  ∗ semVal ((c : Thread nD τ), SemLoc.dma 16) 0 ∗ semVal ((c : Thread nD τ), SemLoc.dma 17) 0)
/-- The scratch buffers, the decoded weights at the values given and the rest at any. -/
abbrev scr : sProp 𝕄 := iprop(owns (c : Thread nD τ) scM0 fullShare WG ∗ owns (c : Thread nD τ) scM1 fullShare WU ∗ owns (c : Thread nD τ) scM2 fullShare WD
  ∗ (∃ d : Vec F S1792x3072 .i8, owns (c : Thread nD τ) scM3 fullShare d) ∗ (∃ d : Vec F S1536x1792 .i8, owns (c : Thread nD τ) scM4 fullShare d) ∗ (∃ d : FVec F S256x1792 .bf16, owns (c : Thread nD τ) scM5 fullShare d))

set_option backward.isDefEq.respectTransparency.types false in
/-- A point where the expert stays: the tile is computed from the weights the scratch buffers hold. -/
theorem step_N (hchk : k0_chk1 (word i c tbM0 T0) (word i c tbM1 T1)) (hfr : ¬ k0_cond1 (word i c tbM1 T1) = 1#1)
    (W : Waits sig Unit) (K : PUnit → sProp 𝕄) :
    iprop(keep c T0 T1 B0 B1 ∗ ins a3 a4 a5 a6 a7 a8 a9 c x su sg sd bg bu bd ∗ (∃ d : FVec F S256x3072 .f32, owns (c : Thread nD τ) a12 fullShare d)
      ∗ scr c WG WU WD ∗ owes (c : Thread nD τ) 0 W
      ∗ (iprop(keep c T0 T1 B0 B1 ∗ ins a3 a4 a5 a6 a7 a8 a9 c x su sg sd bg bu bd ∗ owns (c : Thread nD τ) a12 fullShare (outV x WG WU WD bg bu bd)
        ∗ scr c WG WU WD ∗ (∃ W', owes (c : Thread nD τ) 0 W')) -∗ K ⟨⟩))
    ⊢ wp frame (wpE (defs₀ (F := F)) Variants.none (c : Thread nD τ) none) Set.univ (cc0_moe_ffn (F := F) i tbM0 (Memref.isWhole_whole _) tbM1 (Memref.isWhole_whole _) a3 h3 a4 h4 a5 h5 a6 h6 a7 h7 a8 h8 a9 h9 hbM0 (Memref.isWhole_whole _) hbM1 (Memref.isWhole_whole _) a12 h12 scM0 (Memref.isWhole_whole _) scM1 (Memref.isWhole_whole _) scM2 (Memref.isWhole_whole _) scM3 (Memref.isWhole_whole _) scM4 (Memref.isWhole_whole _) scM5 (Memref.isWhole_whole _) cc0_scratch6) K := by
  unfold keep ins scr owns
  iintro ⟨⟨HT0, HT1, HB0, HB1, Hs0, Hs1⟩, ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, ⟨%d12, %f12, -, H12⟩, ⟨⟨%g0, %u0, G0⟩, ⟨%g1, %u1, G1⟩, ⟨%g2, %u2, G2⟩, ⟨%d3, %g3, -, G3⟩, ⟨%d4, %g4, -, G4⟩, ⟨%d5, %g5, -, G5⟩⟩, HW, HK⟩
  iapply ((runN i a3 h3 a4 h4 a5 h5 a6 h6 a7 h7 a8 h8 a9 h9 a12 h12 c T0 T1 f3 f4 f5 f6 f7 f8 f9 B0 B1 g0 g1 g2 g3 g4 g5 hchk hfr).2.2.2.2.2.2.property f12 W K)
  isplitl [HT0]; · iexact HT0
  isplitl [HT1]; · iexact HT1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HB0]; · iexact HB0
  isplitl [HB1]; · iexact HB1
  isplitl [H12]; · iexact H12
  isplitl [G0]; · iexact G0
  isplitl [G1]; · iexact G1
  isplitl [G2]; · iexact G2
  isplitl [G3]; · iexact G3
  isplitl [G4]; · iexact G4
  isplitl [G5]; · iexact G5
  isplitl [Hs0]; · iexact Hs0
  isplitl [Hs1]; · iexact Hs1
  isplitl [HW]; · iexact HW
  iintro ⟨HT0, HT1, H3, H4, H5, H6, H7, H8, H9, HB0, HB1, H12, G0, G1, G2, G3, G4, G5, Hs0, Hs1, HW⟩
  iapply HK
  isplitl [HT0 HT1 HB0 HB1 Hs0 Hs1]
  · isplitl [HT0]; · iexact HT0
    isplitl [HT1]; · iexact HT1
    isplitl [HB0]; · iexact HB0
    isplitl [HB1]; · iexact HB1
    isplitl [Hs0]; · iexact Hs0
    iexact Hs1
  isplitl [H3 H4 H5 H6 H7 H8 H9]
  · isplitl [H3]; · iexists _; isplitr; swap; (· iexact H3); ipureintro; exact e3
    isplitl [H4]; · iexists _; isplitr; swap; (· iexact H4); ipureintro; exact e4
    isplitl [H5]; · iexists _; isplitr; swap; (· iexact H5); ipureintro; exact e5
    isplitl [H6]; · iexists _; isplitr; swap; (· iexact H6); ipureintro; exact e6
    isplitl [H7]; · iexists _; isplitr; swap; (· iexact H7); ipureintro; exact e7
    isplitl [H8]; · iexists _; isplitr; swap; (· iexact H8); ipureintro; exact e8
    iexists _; isplitr; swap; (· iexact H9); ipureintro; exact e9
  isplitl [H12]
  · iexists _; isplitr
    swap; · iexact H12
    ipureintro
    rw [runN_out, runN_H, e3, e7, e8, e9, u0, u1, u2]
    exact funext fun y => read_yPieces a12.view f12 _ WD bd y
  isplitr [HW]
  · isplitl [G0]; · iexists _; isplitr; swap; (· iexact G0); ipureintro; exact u0
    isplitl [G1]; · iexists _; isplitr; swap; (· iexact G1); ipureintro; exact u1
    isplitl [G2]; · iexists _; isplitr; swap; (· iexact G2); ipureintro; exact u2
    isplitl [G3]; · iexists _, _; isplitr; swap; (· iexact G3); ipureintro; rfl
    isplitl [G4]; · iexists _, _; isplitr; swap; (· iexact G4); ipureintro; rfl
    iexists _, _; isplitr; swap; (· iexact G5); ipureintro; rfl
  iexact HW

set_option backward.isDefEq.respectTransparency.types false in
/-- A point where the expert changes: its codes are fetched and decoded into the scratch buffers, and the tile is computed
    from the decoded weights. -/
theorem step_F (e : Fin 4) (he : word i c tbM0 T0 = BitVec.ofNat 32 e.val) (hchk : k0_chk1 (word i c tbM0 T0) (word i c tbM1 T1)) (hfr : k0_cond1 (word i c tbM1 T1) = 1#1)
    (W : Waits sig Unit) (K : PUnit → sProp 𝕄) :
    iprop(keep c T0 T1 B0 B1 ∗ ins a3 a4 a5 a6 a7 a8 a9 c x su sg sd bg bu bd ∗ (∃ d : FVec F S256x3072 .f32, owns (c : Thread nD τ) a12 fullShare d)
      ∗ scr c WG WU WD ∗ owes (c : Thread nD τ) 0 W
      ∗ (iprop(keep c T0 T1 B0 B1 ∗ ins a3 a4 a5 a6 a7 a8 a9 c x su sg sd bg bu bd
        ∗ owns (c : Thread nD τ) a12 fullShare (outV x (wGate (guCodes B0 e) sg) (wUp (guCodes B0 e) su) (wDown (dnCodes B1 e) sd) bg bu bd)
        ∗ scr c (wGate (guCodes B0 e) sg) (wUp (guCodes B0 e) su) (wDown (dnCodes B1 e) sd) ∗ (∃ W', owes (c : Thread nD τ) 0 W')) -∗ K ⟨⟩))
    ⊢ wp frame (wpE (defs₀ (F := F)) Variants.none (c : Thread nD τ) none) Set.univ (cc0_moe_ffn (F := F) i tbM0 (Memref.isWhole_whole _) tbM1 (Memref.isWhole_whole _) a3 h3 a4 h4 a5 h5 a6 h6 a7 h7 a8 h8 a9 h9 hbM0 (Memref.isWhole_whole _) hbM1 (Memref.isWhole_whole _) a12 h12 scM0 (Memref.isWhole_whole _) scM1 (Memref.isWhole_whole _) scM2 (Memref.isWhole_whole _) scM3 (Memref.isWhole_whole _) scM4 (Memref.isWhole_whole _) scM5 (Memref.isWhole_whole _) cc0_scratch6) K := by
  unfold keep ins scr owns
  iintro ⟨⟨HT0, HT1, HB0, HB1, Hs0, Hs1⟩, ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, ⟨%d12, %f12, -, H12⟩, ⟨⟨%g0, %u0, G0⟩, ⟨%g1, %u1, G1⟩, ⟨%g2, %u2, G2⟩, ⟨%d3, %g3, -, G3⟩, ⟨%d4, %g4, -, G4⟩, ⟨%d5, %g5, -, G5⟩⟩, HW, HK⟩
  have v0 := runF_gate i a3 h3 a4 h4 a5 h5 a6 h6 a7 h7 a8 h8 a9 h9 a12 h12 c T0 T1 f3 f4 f5 f6 f7 f8 f9 B0 B1 g0 g1 g2 g3 g4 g5 hchk hfr
  have v1 := runF_up i a3 h3 a4 h4 a5 h5 a6 h6 a7 h7 a8 h8 a9 h9 a12 h12 c T0 T1 f3 f4 f5 f6 f7 f8 f9 B0 B1 g0 g1 g2 g3 g4 g5 hchk hfr
  have v2 := runF_down i a3 h3 a4 h4 a5 h5 a6 h6 a7 h7 a8 h8 a9 h9 a12 h12 c T0 T1 f3 f4 f5 f6 f7 f8 f9 B0 B1 g0 g1 g2 g3 g4 g5 hchk hfr
  rw [dma2_eq i c T0 T1 B0 hchk hfr e he] at v0 v1
  rw [dma2_1_eq i c T0 T1 B1 hchk hfr e he] at v2
  rw [e4] at v0
  rw [e5] at v1
  rw [e6] at v2
  iapply ((runF i a3 h3 a4 h4 a5 h5 a6 h6 a7 h7 a8 h8 a9 h9 a12 h12 c T0 T1 f3 f4 f5 f6 f7 f8 f9 B0 B1 g0 g1 g2 g3 g4 g5 hchk hfr).2.2.2.2.2.2.property f12 W K)
  isplitl [HT0]; · iexact HT0
  isplitl [HT1]; · iexact HT1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HB0]; · iexact HB0
  isplitl [HB1]; · iexact HB1
  isplitl [H12]; · iexact H12
  isplitl [G0]; · iexact G0
  isplitl [G1]; · iexact G1
  isplitl [G2]; · iexact G2
  isplitl [G3]; · iexact G3
  isplitl [G4]; · iexact G4
  isplitl [G5]; · iexact G5
  isplitl [Hs0]; · iexact Hs0
  isplitl [Hs1]; · iexact Hs1
  isplitl [HW]; · iexact HW
  iintro ⟨HT0, HT1, H3, H4, H5, H6, H7, H8, H9, HB0, HB1, H12, G0, G1, G2, G3, G4, G5, Hs0, Hs1, HW⟩
  iapply HK
  isplitl [HT0 HT1 HB0 HB1 Hs0 Hs1]
  · isplitl [HT0]; · iexact HT0
    isplitl [HT1]; · iexact HT1
    isplitl [HB0]; · iexact HB0
    isplitl [HB1]; · iexact HB1
    isplitl [Hs0]; · iexact Hs0
    iexact Hs1
  isplitl [H3 H4 H5 H6 H7 H8 H9]
  · isplitl [H3]; · iexists _; isplitr; swap; (· iexact H3); ipureintro; exact e3
    isplitl [H4]; · iexists _; isplitr; swap; (· iexact H4); ipureintro; exact e4
    isplitl [H5]; · iexists _; isplitr; swap; (· iexact H5); ipureintro; exact e5
    isplitl [H6]; · iexists _; isplitr; swap; (· iexact H6); ipureintro; exact e6
    isplitl [H7]; · iexists _; isplitr; swap; (· iexact H7); ipureintro; exact e7
    isplitl [H8]; · iexists _; isplitr; swap; (· iexact H8); ipureintro; exact e8
    iexists _; isplitr; swap; (· iexact H9); ipureintro; exact e9
  isplitl [H12]
  · iexists _; isplitr
    swap; · iexact H12
    ipureintro
    rw [runF_out, runF_H i a3 h3 a4 h4 a5 h5 a6 h6 a7 h7 a8 h8 a9 h9 a12 h12 c T0 T1 f3 f4 f5 f6 f7 f8 f9 B0 B1 g0 g1 g2 g3 g4 g5 hchk hfr, v0, v1, v2, e3, e7, e8, e9]
    exact funext fun y => read_yPieces a12.view f12 _ (wDown (dnCodes B1 e) sd) bd y
  isplitr [HW]
  · isplitl [G0]; · iexists _; isplitr; swap; (· iexact G0); ipureintro; exact v0
    isplitl [G1]; · iexists _; isplitr; swap; (· iexact G1); ipureintro; exact v1
    isplitl [G2]; · iexists _; isplitr; swap; (· iexact G2); ipureintro; exact v2
    isplitl [G3]; · iexists _, _; isplitr; swap; (· iexact G3); ipureintro; rfl
    isplitl [G4]; · iexists _, _; isplitr; swap; (· iexact G4); ipureintro; rfl
    iexists _, _; isplitr; swap; (· iexact G5); ipureintro; rfl
  iexact HW

end Cert.KernelIdeal.Hand

end
-- ==== Proof.KiHost.lean ====
module

public import proofs.«01_k».proof.Proof.Gen.KernelIdeal.Launch
public import Idealize.ShloMosaic.Lib.Claim
public import Idealize.ShloMosaic.Lib.Pointwise
public import Idealize.ShloMosaic.Lib.StableHlo.RunRead
public import Idealize.ShloMosaic.Lib.Pipeline.FrameSuffixV

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The stretches of host operations before the region. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11]
/-- The stretches after it. -/
abbrev post : List (List (HloOp τ sig (Elt F))) := [hostOps1]

variable (m : (ℓ : Loc nD τ sig) → Buf (Elt F) ℓ)

/-- The memory when the region is entered. -/
@[irreducible] def V₀ (c : Dev nD) : Valuation τ sig (Elt F) := StableHlo.after (pre (F := F)).flatten (fun b => m (c, b))
/-- The TensorCore's buffers when the region is entered. -/
abbrev V (c : Dev nD) (b : Ref sig .tc) : Buf (Elt F) ((c : Thread nD τ).loc b) := V₀ m c (Proc.devRef .tc b)

theorem V_main_arg3 (c : Dev nD) : V m c main_arg3 = m ((c : Thread nD τ).loc main_arg3) := by
  unfold V V₀
  after_reads_simp
  try rfl

/-- The expert of each tile, from the ends of the experts' tiles. -/
theorem V_main_v47 (c : Dev nD) : (V m c main_v47 : IVec S100 32) =
    minsi (Host.reduce IntOp.addi (extui 32 (cmpi .sge (broadcastInDim S100x4 ![0, 1] bcast_S100x1_S100x4_0_1 (broadcastInDim S100x1 ![0] bcast_S100_S100x1_0 (iotaInDim S100 32 0)))
      (broadcastInDim S100x4 ![0, 1] bcast_S1x4_S100x4_0_1 (broadcastInDim S1x4 ![1] bcast_S4_S1x4_1 (V m c main_v14 : IVec S4 32)))) natLt_1_32)
      (constantI S_ 32 0#32) reducesTo_S100x4_S100_d1 h_S_) (broadcastInDim S100 ![] bcast_S_S100 (constantI S_ 32 3#32)) := by
  unfold V V₀
  after_reads_simp
  try rfl

/-- Where the expert changes from the tile before, from the experts of the tiles. -/
theorem V_main_v53 (c : Dev nD) : (V m c main_v53 : IVec S100 32) =
    concatenate S100 0 [⟨S1, broadcastInDim S1 ![] bcast_S_S1 (constantI S_ 32 1#32)⟩,
      ⟨S99, extui 32 (cmpi .ne (extractStridedSlice S99 ![1] (V m c main_v47 : IVec S100 32) slices_S100_S99_1)
        (extractStridedSlice S99 ![0] (V m c main_v47 : IVec S100 32) slices_S100_S99_0)) natLt_1_32⟩] concatenates_S1_S99_S100_d0 := by
  unfold V V₀
  after_reads_simp
  try rfl

end Cert.KernelIdeal.Hand

end
-- ==== Proof.KiTables.lean ====
module

public import proofs.«01_k».proof.Proof.KiHost
public import Idealize.ShloMosaic.Lib.Routing.Ops
public import Idealize.ShloMosaic.Lib.Routing.OpsSet

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic

variable {F : FTy → Type} [FloatOps F] (m : (ℓ : Loc nD τ sig) → Buf (Elt F) ℓ)

/-- The expert of a tile, from the ends of the experts' tiles: the number of experts whose tiles end at or before it, at most 3. -/
def tileOf (a : IVec S4 32) (t : ℕ) : ℕ := min (Nat.count (fun e => ∃ h : e < 4, (a (ix1 ⟨e, h⟩)).toInt ≤ t) 4) 3

theorem tileOf_lt (a : IVec S4 32) (t : ℕ) : tileOf a t < 4 := by unfold tileOf; omega

theorem min_three (n : ℕ) (h : n ≤ 4) : IntOp.minsi (BitVec.ofNat 32 n) 3#32 = BitVec.ofNat 32 (min n 3) := by
  interval_cases n <;> rfl

/-- The host's table of the experts of the tiles. -/
theorem table_at (a : IVec S4 32) (t : Fin 100) :
    minsi (Host.reduce IntOp.addi (extui 32 (cmpi .sge (broadcastInDim S100x4 ![0, 1] bcast_S100x1_S100x4_0_1 (broadcastInDim S100x1 ![0] bcast_S100_S100x1_0 (iotaInDim S100 32 0)))
      (broadcastInDim S100x4 ![0, 1] bcast_S1x4_S100x4_0_1 (broadcastInDim S1x4 ![1] bcast_S4_S1x4_1 a))) natLt_1_32)
      (constantI S_ 32 0#32) reducesTo_S100x4_S100_d1 h_S_) (broadcastInDim S100 ![] bcast_S_S100 (constantI S_ 32 3#32)) (ix1 t)
      = BitVec.ofNat 32 (tileOf a t.val) := by
  have hc := Routing.reduce_count (n := 100) (m := 4) (by decide) (cmpi .sge (broadcastInDim S100x4 ![0, 1] bcast_S100x1_S100x4_0_1 (broadcastInDim S100x1 ![0] bcast_S100_S100x1_0 (iotaInDim S100 32 0)))
      (broadcastInDim S100x4 ![0, 1] bcast_S1x4_S100x4_0_1 (broadcastInDim S1x4 ![1] bcast_S4_S1x4_1 a))) natLt_1_32 reducesTo_S100x4_S100_d1 h_S_ t
      (fun e => ∃ h : e < 4, (a (ix1 ⟨e, h⟩)).toInt ≤ t.val) (fun q => by
        have e1 := Routing.bcRows bcast_S100_S100x1_0 bcast_S100x1_S100x4_0_1 (iotaInDim S100 32 0) t q
        have e2 := Routing.bcCols bcast_S4_S1x4_1 bcast_S1x4_S100x4_0_1 a t q
        unfold cmpi
        rw [e1, e2]
        have e3 : (BitVec.ofNat 32 t.val).toInt = t.val := StableHlo.Predicate.toInt_ofNat_small _ (by omega)
        show BitVec.ofBool (decide ((a (ix1 q)).toInt ≤ (BitVec.ofNat 32 t.val).toInt)) = 1#1 ↔ _
        rw [e3]
        constructor
        · intro h
          refine ⟨q.isLt, ?_⟩
          by_contra hn
          rw [decide_eq_false hn] at h
          exact absurd h (by decide)
        · rintro ⟨_, h⟩
          rw [decide_eq_true h]
          rfl)
  exact (congrArg (fun w => IntOp.minsi w 3#32) hc).trans (min_three _ (Nat.count_le _))

/-- The host's table of where the expert changes: 1 at tile 0. -/
theorem fresh_zero (b : IVec S100 32) :
    concatenate S100 0 [⟨S1, broadcastInDim S1 ![] bcast_S_S1 (constantI S_ 32 1#32)⟩,
      ⟨S99, extui 32 (cmpi .ne (extractStridedSlice S99 ![1] b slices_S100_S99_1)
        (extractStridedSlice S99 ![0] b slices_S100_S99_0)) natLt_1_32⟩] concatenates_S1_S99_S100_d0 (ix1 (0 : Fin 100)) = 1#32 := by
  pointwise

/-- And elsewhere 1 unless the expert is that of the tile before. -/
theorem fresh_succ (b : IVec S100 32) (t : ℕ) (ht : t + 1 < 100)
    (h : concatenate S100 0 [⟨S1, broadcastInDim S1 ![] bcast_S_S1 (constantI S_ 32 1#32)⟩,
      ⟨S99, extui 32 (cmpi .ne (extractStridedSlice S99 ![1] b slices_S100_S99_1)
        (extractStridedSlice S99 ![0] b slices_S100_S99_0)) natLt_1_32⟩] concatenates_S1_S99_S100_d0 (ix1 (⟨t + 1, ht⟩ : Fin 100)) ≠ 1#32) :
    b (ix1 (⟨t + 1, ht⟩ : Fin 100)) = b (ix1 (⟨t, by omega⟩ : Fin 100)) := by
  revert h
  pointwise
  rw [dif_neg (by omega)]
  have e1 : (⟨1 + (t + 1 - 1), by omega⟩ : Fin 100) = ⟨t + 1, ht⟩ := Fin.ext (by show 1 + (t + 1 - 1) = t + 1; omega)
  have e0 : (⟨t + 1 - 1, by omega⟩ : Fin 100) = ⟨t, by omega⟩ := Fin.ext (by show t + 1 - 1 = t; omega)
  rw [e1, e0]
  generalize b (ix1 ⟨t + 1, ht⟩) = x
  generalize b (ix1 ⟨t, _⟩) = y
  intro h
  by_contra hne
  refine h ?_
  show BitVec.setWidth 32 (BitVec.ofBool (x != y)) = 1#32
  rw [bne_iff_ne.2 hne]
  rfl

variable {F : FTy → Type} [FloatOps F] (m : (ℓ : Loc nD τ sig) → Buf (Elt F) ℓ)

/-- The expert of tile `t`. -/
def tileN (c : Dev nD) (t : ℕ) : ℕ := tileOf (V m c main_v14) t
theorem tileN_lt (c : Dev nD) (t : ℕ) : tileN m c t < 4 := tileOf_lt _ _

/-- The table of the experts of the tiles. -/
theorem tab0 (c : Dev nD) (t : Fin 100) : (V m c main_v47 : IVec S100 32) (ix1 t) = BitVec.ofNat 32 (tileN m c t.val) :=
  (congrFun (V_main_v47 m c) _).trans (table_at _ t)

/-- The second table's first entry is 1. -/
theorem tab1_zero (c : Dev nD) : (V m c main_v53 : IVec S100 32) (ix1 (0 : Fin 100)) = 1#32 :=
  (congrFun (V_main_v53 m c) _).trans (fresh_zero _)

/-- Where the second table's entry is not 1, the expert is that of the tile before. -/
theorem tab1_succ (c : Dev nD) (t : ℕ) (ht : t + 1 < 100) (h : (V m c main_v53 : IVec S100 32) (ix1 (⟨t + 1, ht⟩ : Fin 100)) ≠ 1#32) :
    tileN m c (t + 1) = tileN m c t := by
  have e := fresh_succ _ t ht (fun h' => h ((congrFun (V_main_v53 m c) _).trans h'))
  rw [tab0, tab0] at e
  have h1 := tileN_lt m c (t + 1)
  have h0 := tileN_lt m c t
  have := congrArg BitVec.toNat e
  simp only [BitVec.toNat_ofNat] at this
  omega

end Cert.KernelIdeal.Hand

end
-- ==== Proof.KiOk.lean ====
module

public import proofs.«01_k».proof.Proof.KiTables
public import proofs.«01_k».proof.Proof.KiBody

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic

variable {F : FTy → Type} [FloatOps F] (m : (ℓ : Loc nD τ sig) → Buf (Elt F) ℓ)

/-- The two tables when the region is entered. -/
def tbl : pre0.Contents (Elt F) := fun j => V m (0 : Dev nD) (pre0.ref j)
/-- On every device the tables hold those contents. -/
theorem V_pre (c : Dev nD) (j : Fin 2) : V m c (pre0.ref j) = tbl m j := by
  obtain rfl : c = 0 := Subsingleton.elim _ _
  rfl

theorem off1_eq (i : grid0.Coords) : k0_off1 i 0 = (i 0).val := by
  have h : (i 0).val < 100 := (i 0).isLt
  show (BitVec.ofNat 32 (i 0).val).toNat = _
  rw [BitVec.toNat_ofNat]
  exact Nat.mod_eq_of_lt (by omega)

/-- The word a table's entry is read as at a grid point. -/
theorem at0 (i : grid0.Coords) : (tbl m).at 0 (Rect.unit (s := S100) (k0_off1 i) S1.size (k0_off1_inb i)) numel1_S1
    = BitVec.ofNat 32 (tileN m 0 (i 0).val) := by
  refine Eq.trans ?_ (tab0 m 0 ⟨(i 0).val, (i 0).isLt⟩)
  show V m 0 main_v47 _ = V m 0 main_v47 _
  refine congrArg _ (funext fun a => ?_)
  match a with
  | ⟨0, _⟩ => exact Fin.ext (by show k0_off1 i 0 + 1 * 0 = (i 0).val; rw [off1_eq]; omega)

theorem word0 (c : Dev nD) (i : grid0.Coords) : word i c tbM0 (tbl m 0) = BitVec.ofNat 32 (tileN m 0 (i 0).val) := at0 m i

theorem word1 (c : Dev nD) (i : grid0.Coords) : word i c tbM1 (tbl m 1) = (V m 0 main_v53 : IVec S100 32) (ix1 ⟨(i 0).val, (i 0).isLt⟩) := by
  show V m 0 main_v53 _ = V m 0 main_v53 _
  refine congrArg _ (funext fun a => ?_)
  match a with
  | ⟨0, _⟩ => exact Fin.ext (by show k0_off1 i 0 + 1 * 0 = (i 0).val; rw [off1_eq]; omega)

/-- The condition under which the kernel fetches and decodes: the second table's entry is 1. -/
theorem cond1_iff (v : BitVec 32) : k0_cond1 v = 1#1 ↔ v = 1#32 := by
  unfold k0_cond1
  by_cases h : v = 1#32
  · subst h
    exact ⟨fun _ => rfl, fun _ => by rfl⟩
  · refine ⟨fun hc => absurd hc ?_, fun hv => absurd hv h⟩
    have : Scalar.cmpi .eq v 1#32 = 0#1 := by
      show BitVec.ofBool (v == 1#32) = 0#1
      rw [beq_false_of_ne h]
      rfl
    dsimp only
    rw [this]
    decide

theorem tile_cases (e : ℕ) (he : e < 4) : e = 0 ∨ e = 1 ∨ e = 2 ∨ e = 3 := by omega

theorem chk1_ofNat (e : ℕ) (he : e < 4) (v : BitVec 32) : k0_chk1 (BitVec.ofNat 32 e) v := by
  unfold k0_chk1
  rcases tile_cases e he with rfl | rfl | rfl | rfl <;>
    refine ⟨fun _ => ?_, fun _ => ?_, fun _ => ?_, fun _ => ?_⟩ <;> decide +kernel

/-- The kernel's check of the tables' words holds at every point. -/
theorem chk1 (c : Dev nD) (i : grid0.Coords) : k0_chk1 (word i c tbM0 (tbl m 0)) (word i c tbM1 (tbl m 1)) := by
  rw [word0]
  exact chk1_ofNat _ (tileN_lt _ _ _) _

theorem tr1 (i : grid0.Coords) : cc0_transform_1 k0_off1_inb numel1_S1 (tbl m) i = ![tileN m 0 (i 0).val, 0, 0] := by
  have h := tileN_lt m 0 (i 0).val
  have e := congrArg BitVec.toNat (at0 m i)
  rw [BitVec.toNat_ofNat, Nat.mod_eq_of_lt (by omega)] at e
  exact congrArg (fun n => ![n, 0, 0]) e
theorem tr2 (i : grid0.Coords) : cc0_transform_2 k0_off1_inb numel1_S1 (tbl m) i = ![tileN m 0 (i 0).val, 0, 0] := tr1 m i
theorem tr3 (i : grid0.Coords) : cc0_transform_3 k0_off1_inb numel1_S1 (tbl m) i = ![tileN m 0 (i 0).val, 0, 0] := tr1 m i
theorem tr4 (i : grid0.Coords) : cc0_transform_4 k0_off1_inb numel1_S1 (tbl m) i = ![tileN m 0 (i 0).val, 0, 0] := tr1 m i
theorem tr5 (i : grid0.Coords) : cc0_transform_5 k0_off1_inb numel1_S1 (tbl m) i = ![tileN m 0 (i 0).val, 0, 0] := tr1 m i
theorem tr6 (i : grid0.Coords) : cc0_transform_6 k0_off1_inb numel1_S1 (tbl m) i = ![tileN m 0 (i 0).val, 0, 0] := tr1 m i

/-- The pipeline's side condition of the tables: every block they choose is inside its array. -/
abbrev Ok : Prop := ok0 (F := F) (tbl m)
theorem ok : Ok m := by
  unfold Ok ok0
  refine ⟨fun i => ?_, fun i => ?_, fun i => ?_, fun i => ?_, fun i => ?_, fun i => ?_⟩
  · rw [tr1]; rcases tile_cases _ (tileN_lt m 0 (i 0).val) with h | h | h | h <;> rw [h] <;> exact ⟨by decide +kernel, by decide +kernel⟩
  · rw [tr2]; rcases tile_cases _ (tileN_lt m 0 (i 0).val) with h | h | h | h <;> rw [h] <;> exact ⟨by decide +kernel, by decide +kernel⟩
  · rw [tr3]; rcases tile_cases _ (tileN_lt m 0 (i 0).val) with h | h | h | h <;> rw [h] <;> exact ⟨by decide +kernel, by decide +kernel⟩
  · rw [tr4]; rcases tile_cases _ (tileN_lt m 0 (i 0).val) with h | h | h | h <;> rw [h] <;> exact ⟨by decide +kernel, by decide +kernel⟩
  · rw [tr5]; rcases tile_cases _ (tileN_lt m 0 (i 0).val) with h | h | h | h <;> rw [h] <;> exact ⟨by decide +kernel, by decide +kernel⟩
  · rw [tr6]; rcases tile_cases _ (tileN_lt m 0 (i 0).val) with h | h | h | h <;> rw [h] <;> exact ⟨by decide +kernel, by decide +kernel⟩

end Cert.KernelIdeal.Hand

end
-- ==== Proof.KiData.lean ====
module

public import proofs.«01_k».proof.Proof.KiStep
public import proofs.«01_k».proof.Proof.KiOk

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- The tables' contents, admissible. -/
abbrev adm : (pcfg0 (F := F)).Adm := ⟨tbl m, ok m⟩
/-- The pipeline at those tables. -/
abbrev cfgM : Pipeline.Cfg sig Λ₀ := cfg0 (adm m)

theorem N_M : (cfgM m).N = 100 := N_0

/-- Window `w`'s block at point `t`, of the array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The expert of point `t`'s tile. -/
def tileF (c : Dev nD) (n : ℕ) : Fin 4 := ⟨tileN m c n, tileN_lt m c n⟩

theorem coords_val (t : Fin grid0.N) : ((grid0.coords t) 0).val = t.val := by revert t; decide +kernel

end Cert.KernelIdeal.Hand

end
-- ==== Proof.KiBlk.lean ====
module

public import proofs.«01_k».proof.Proof.KiData

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- An entry of expert `e`'s block of an array of 1792 rows of 128. -/
theorem blk_1792_128 {α : Type} (A : S4x1792x128.Idx → α) (k : S4x1792x128.Idx) (e : Fin 4) (y : S1x1792x128.Idx)
    (h : ∀ a : Fin 3, (k a).val = (![e.val, 0, 0] : Fin 3 → ℕ) a * (![1, 1792, 128] : Fin 3 → ℕ) a + (y a).val) :
    A k = A (ix3 e (y 1) (y 2)) := by
  refine congrArg A (funext fun a => Fin.ext ?_)
  have hy : (y 0).val < 1 := (y 0).isLt
  have h0 := h 0
  have h1 := h 1
  have h2 := h 2
  match a with
  | ⟨0, _⟩ => exact h0.trans (by show e.val * 1 + (y 0).val = e.val; omega)
  | ⟨1, _⟩ => exact h1.trans (by show 0 * 1792 + (y 1).val = (y 1).val; omega)
  | ⟨2, _⟩ => exact h2.trans (by show 0 * 128 + (y 2).val = (y 2).val; omega)

/-- An entry of expert `e`'s block of an array of 3072 rows of 128. -/
theorem blk_3072_128 {α : Type} (A : S4x3072x128.Idx → α) (k : S4x3072x128.Idx) (e : Fin 4) (y : S1x3072x128.Idx)
    (h : ∀ a : Fin 3, (k a).val = (![e.val, 0, 0] : Fin 3 → ℕ) a * (![1, 3072, 128] : Fin 3 → ℕ) a + (y a).val) :
    A k = A (ix3 e (y 1) (y 2)) := by
  refine congrArg A (funext fun a => Fin.ext ?_)
  have hy : (y 0).val < 1 := (y 0).isLt
  have h0 := h 0
  have h1 := h 1
  have h2 := h 2
  match a with
  | ⟨0, _⟩ => exact h0.trans (by show e.val * 1 + (y 0).val = e.val; omega)
  | ⟨1, _⟩ => exact h1.trans (by show 0 * 3072 + (y 1).val = (y 1).val; omega)
  | ⟨2, _⟩ => exact h2.trans (by show 0 * 128 + (y 2).val = (y 2).val; omega)

/-- An entry of expert `e`'s block of an array of 1 rows of 1792. -/
theorem blk_1_1792 {α : Type} (A : S4x1x1792.Idx → α) (k : S4x1x1792.Idx) (e : Fin 4) (y : S1x1x1792.Idx)
    (h : ∀ a : Fin 3, (k a).val = (![e.val, 0, 0] : Fin 3 → ℕ) a * (![1, 1, 1792] : Fin 3 → ℕ) a + (y a).val) :
    A k = A (ix3 e (y 1) (y 2)) := by
  refine congrArg A (funext fun a => Fin.ext ?_)
  have hy : (y 0).val < 1 := (y 0).isLt
  have h0 := h 0
  have h1 := h 1
  have h2 := h 2
  match a with
  | ⟨0, _⟩ => exact h0.trans (by show e.val * 1 + (y 0).val = e.val; omega)
  | ⟨1, _⟩ => exact h1.trans (by show 0 * 1 + (y 1).val = (y 1).val; omega)
  | ⟨2, _⟩ => exact h2.trans (by show 0 * 1792 + (y 2).val = (y 2).val; omega)

/-- An entry of expert `e`'s block of an array of 1 rows of 3072. -/
theorem blk_1_3072 {α : Type} (A : S4x1x3072.Idx → α) (k : S4x1x3072.Idx) (e : Fin 4) (y : S1x1x3072.Idx)
    (h : ∀ a : Fin 3, (k a).val = (![e.val, 0, 0] : Fin 3 → ℕ) a * (![1, 1, 3072] : Fin 3 → ℕ) a + (y a).val) :
    A k = A (ix3 e (y 1) (y 2)) := by
  refine congrArg A (funext fun a => Fin.ext ?_)
  have hy : (y 0).val < 1 := (y 0).isLt
  have h0 := h 0
  have h1 := h 1
  have h2 := h 2
  match a with
  | ⟨0, _⟩ => exact h0.trans (by show e.val * 1 + (y 0).val = e.val; omega)
  | ⟨1, _⟩ => exact h1.trans (by show 0 * 1 + (y 1).val = (y 1).val; omega)
  | ⟨2, _⟩ => exact h2.trans (by show 0 * 3072 + (y 2).val = (y 2).val; omega)

theorem index1 (t : Fin (cfgM m).N) : ((cfgM m).win 1).index t = ![tileN m 0 t.val, 0, 0] := by
  have h := tr1 m (grid0.coords t)
  rw [coords_val t] at h
  exact h
theorem embv1 (t : Fin (cfgM m).N) (y : S1x1792x128.Idx) (a : Fin 3) : ((((cfgM m).win 1).rect t).emb y a : ℕ) = (![tileN m 0 t.val, 0, 0] : Fin 3 → ℕ) a * (![1, 1792, 128] : Fin 3 → ℕ) a + (y a).val := by
  have h := ((cfgM m).win 1).rect_emb_val t y a
  rw [index1] at h
  exact h
/-- Window 1's block at a point is the expert's block of any array it is cut from. -/
theorem read1 (A : Vec F S4x1792x128 .i8) (t : Fin (cfgM m).N) (y : S1x1792x128.Idx) :
    (((cfgM m).win 1).blk t).view.read (Elt F) A y = A (ix3 (tileF m 0 t.val) (y 1) (y 2)) :=
  blk_1792_128 A ((((cfgM m).win 1).rect t).emb y) (tileF m 0 t.val) y (embv1 m t y)
/-- The block of `main_v65` of expert `e`. -/
def eb1 (c : Dev nD) (e : Fin 4) : Vec F S1x1792x128 .i8 := fun y => (V m c main_v65 : Vec F S4x1792x128 .i8) (ix3 e (y 1) (y 2))
theorem iblk1 (c : Dev nD) (t : Fin (cfgM m).N) : (iblk m c 1 t : Vec F S1x1792x128 .i8) = eb1 m c (tileF m 0 t.val) := funext fun y => read1 m (V m c main_v65) t y

theorem index2 (t : Fin (cfgM m).N) : ((cfgM m).win 2).index t = ![tileN m 0 t.val, 0, 0] := by
  have h := tr2 m (grid0.coords t)
  rw [coords_val t] at h
  exact h
theorem embv2 (t : Fin (cfgM m).N) (y : S1x1792x128.Idx) (a : Fin 3) : ((((cfgM m).win 2).rect t).emb y a : ℕ) = (![tileN m 0 t.val, 0, 0] : Fin 3 → ℕ) a * (![1, 1792, 128] : Fin 3 → ℕ) a + (y a).val := by
  have h := ((cfgM m).win 2).rect_emb_val t y a
  rw [index2] at h
  exact h
/-- Window 2's block at a point is the expert's block of any array it is cut from. -/
theorem read2 (A : Vec F S4x1792x128 .i8) (t : Fin (cfgM m).N) (y : S1x1792x128.Idx) :
    (((cfgM m).win 2).blk t).view.read (Elt F) A y = A (ix3 (tileF m 0 t.val) (y 1) (y 2)) :=
  blk_1792_128 A ((((cfgM m).win 2).rect t).emb y) (tileF m 0 t.val) y (embv2 m t y)
/-- The block of `main_v67` of expert `e`. -/
def eb2 (c : Dev nD) (e : Fin 4) : Vec F S1x1792x128 .i8 := fun y => (V m c main_v67 : Vec F S4x1792x128 .i8) (ix3 e (y 1) (y 2))
theorem iblk2 (c : Dev nD) (t : Fin (cfgM m).N) : (iblk m c 2 t : Vec F S1x1792x128 .i8) = eb2 m c (tileF m 0 t.val) := funext fun y => read2 m (V m c main_v67) t y

theorem index3 (t : Fin (cfgM m).N) : ((cfgM m).win 3).index t = ![tileN m 0 t.val, 0, 0] := by
  have h := tr3 m (grid0.coords t)
  rw [coords_val t] at h
  exact h
theorem embv3 (t : Fin (cfgM m).N) (y : S1x3072x128.Idx) (a : Fin 3) : ((((cfgM m).win 3).rect t).emb y a : ℕ) = (![tileN m 0 t.val, 0, 0] : Fin 3 → ℕ) a * (![1, 3072, 128] : Fin 3 → ℕ) a + (y a).val := by
  have h := ((cfgM m).win 3).rect_emb_val t y a
  rw [index3] at h
  exact h
/-- Window 3's block at a point is the expert's block of any array it is cut from. -/
theorem read3 (A : Vec F S4x3072x128 .i8) (t : Fin (cfgM m).N) (y : S1x3072x128.Idx) :
    (((cfgM m).win 3).blk t).view.read (Elt F) A y = A (ix3 (tileF m 0 t.val) (y 1) (y 2)) :=
  blk_3072_128 A ((((cfgM m).win 3).rect t).emb y) (tileF m 0 t.val) y (embv3 m t y)
/-- The block of `main_v68` of expert `e`. -/
def eb3 (c : Dev nD) (e : Fin 4) : Vec F S1x3072x128 .i8 := fun y => (V m c main_v68 : Vec F S4x3072x128 .i8) (ix3 e (y 1) (y 2))
theorem iblk3 (c : Dev nD) (t : Fin (cfgM m).N) : (iblk m c 3 t : Vec F S1x3072x128 .i8) = eb3 m c (tileF m 0 t.val) := funext fun y => read3 m (V m c main_v68) t y

theorem index4 (t : Fin (cfgM m).N) : ((cfgM m).win 4).index t = ![tileN m 0 t.val, 0, 0] := by
  have h := tr4 m (grid0.coords t)
  rw [coords_val t] at h
  exact h
theorem embv4 (t : Fin (cfgM m).N) (y : S1x1x1792.Idx) (a : Fin 3) : ((((cfgM m).win 4).rect t).emb y a : ℕ) = (![tileN m 0 t.val, 0, 0] : Fin 3 → ℕ) a * (![1, 1, 1792] : Fin 3 → ℕ) a + (y a).val := by
  have h := ((cfgM m).win 4).rect_emb_val t y a
  rw [index4] at h
  exact h
/-- Window 4's block at a point is the expert's block of any array it is cut from. -/
theorem read4 (A : Vec F S4x1x1792 .bf16) (t : Fin (cfgM m).N) (y : S1x1x1792.Idx) :
    (((cfgM m).win 4).blk t).view.read (Elt F) A y = A (ix3 (tileF m 0 t.val) (y 1) (y 2)) :=
  blk_1_1792 A ((((cfgM m).win 4).rect t).emb y) (tileF m 0 t.val) y (embv4 m t y)
/-- The block of `main_v72` of expert `e`. -/
def eb4 (c : Dev nD) (e : Fin 4) : Vec F S1x1x1792 .bf16 := fun y => (V m c main_v72 : Vec F S4x1x1792 .bf16) (ix3 e (y 1) (y 2))
theorem iblk4 (c : Dev nD) (t : Fin (cfgM m).N) : (iblk m c 4 t : Vec F S1x1x1792 .bf16) = eb4 m c (tileF m 0 t.val) := funext fun y => read4 m (V m c main_v72) t y

theorem index5 (t : Fin (cfgM m).N) : ((cfgM m).win 5).index t = ![tileN m 0 t.val, 0, 0] := by
  have h := tr5 m (grid0.coords t)
  rw [coords_val t] at h
  exact h
theorem embv5 (t : Fin (cfgM m).N) (y : S1x1x1792.Idx) (a : Fin 3) : ((((cfgM m).win 5).rect t).emb y a : ℕ) = (![tileN m 0 t.val, 0, 0] : Fin 3 → ℕ) a * (![1, 1, 1792] : Fin 3 → ℕ) a + (y a).val := by
  have h := ((cfgM m).win 5).rect_emb_val t y a
  rw [index5] at h
  exact h
/-- Window 5's block at a point is the expert's block of any array it is cut from. -/
theorem read5 (A : Vec F S4x1x1792 .bf16) (t : Fin (cfgM m).N) (y : S1x1x1792.Idx) :
    (((cfgM m).win 5).blk t).view.read (Elt F) A y = A (ix3 (tileF m 0 t.val) (y 1) (y 2)) :=
  blk_1_1792 A ((((cfgM m).win 5).rect t).emb y) (tileF m 0 t.val) y (embv5 m t y)
/-- The block of `main_v75` of expert `e`. -/
def eb5 (c : Dev nD) (e : Fin 4) : Vec F S1x1x1792 .bf16 := fun y => (V m c main_v75 : Vec F S4x1x1792 .bf16) (ix3 e (y 1) (y 2))
theorem iblk5 (c : Dev nD) (t : Fin (cfgM m).N) : (iblk m c 5 t : Vec F S1x1x1792 .bf16) = eb5 m c (tileF m 0 t.val) := funext fun y => read5 m (V m c main_v75) t y

theorem index6 (t : Fin (cfgM m).N) : ((cfgM m).win 6).index t = ![tileN m 0 t.val, 0, 0] := by
  have h := tr6 m (grid0.coords t)
  rw [coords_val t] at h
  exact h
theorem embv6 (t : Fin (cfgM m).N) (y : S1x1x3072.Idx) (a : Fin 3) : ((((cfgM m).win 6).rect t).emb y a : ℕ) = (![tileN m 0 t.val, 0, 0] : Fin 3 → ℕ) a * (![1, 1, 3072] : Fin 3 → ℕ) a + (y a).val := by
  have h := ((cfgM m).win 6).rect_emb_val t y a
  rw [index6] at h
  exact h
/-- Window 6's block at a point is the expert's block of any array it is cut from. -/
theorem read6 (A : Vec F S4x1x3072 .bf16) (t : Fin (cfgM m).N) (y : S1x1x3072.Idx) :
    (((cfgM m).win 6).blk t).view.read (Elt F) A y = A (ix3 (tileF m 0 t.val) (y 1) (y 2)) :=
  blk_1_3072 A ((((cfgM m).win 6).rect t).emb y) (tileF m 0 t.val) y (embv6 m t y)
/-- The block of `main_v76` of expert `e`. -/
def eb6 (c : Dev nD) (e : Fin 4) : Vec F S1x1x3072 .bf16 := fun y => (V m c main_v76 : Vec F S4x1x3072 .bf16) (ix3 e (y 1) (y 2))
theorem iblk6 (c : Dev nD) (t : Fin (cfgM m).N) : (iblk m c 6 t : Vec F S1x1x3072 .bf16) = eb6 m c (tileF m 0 t.val) := funext fun y => read6 m (V m c main_v76) t y

theorem index7 (t : Fin (cfgM m).N) : ((cfgM m).win 7).index t = ![t.val, 0] := by
  have h : cc0_transform_0 (grid0.coords t) = ![((grid0.coords t) 0).val, 0] := by
    have h : ((grid0.coords t) 0).val < 100 := ((grid0.coords t) 0).isLt
    refine congrArg (fun n => ![n, 0]) ?_
    show (BitVec.ofNat 32 ((grid0.coords t) 0).val).toNat = _
    rw [BitVec.toNat_ofNat]
    exact Nat.mod_eq_of_lt (by omega)
  rw [coords_val t] at h
  exact h
theorem index0 (t : Fin (cfgM m).N) : ((cfgM m).win 0).index t = ![t.val, 0] := index7 m t
theorem embv7 (t : Fin (cfgM m).N) (y : S256x3072.Idx) (a : Fin 2) : ((((cfgM m).win 7).rect t).emb y a : ℕ) = (![t.val, 0] : Fin 2 → ℕ) a * (![256, 3072] : Fin 2 → ℕ) a + (y a).val := by
  have h := ((cfgM m).win 7).rect_emb_val t y a
  rw [index7] at h
  exact h
theorem embv0 (t : Fin (cfgM m).N) (y : S256x3072.Idx) (a : Fin 2) : ((((cfgM m).win 0).rect t).emb y a : ℕ) = (![t.val, 0] : Fin 2 → ℕ) a * (![256, 3072] : Fin 2 → ℕ) a + (y a).val := by
  have h := ((cfgM m).win 0).rect_emb_val t y a
  rw [index0] at h
  exact h

end Cert.KernelIdeal.Hand

end
-- ==== Proof.KiDats.lean ====
module

public import proofs.«01_k».proof.Proof.KiBlk

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- The body's own transfer counters. -/
abbrev osem0 : Fin 2 → SemLoc sig := ![SemLoc.dma 16, SemLoc.dma 17]
theorem ownSemFacts0 : Pipeline.OwnSemFacts spec0 osem0 := by decide
theorem ownSems00_eq (c : Dev nD) : (Pipeline.ownSems0 osem0 c : sProp 𝕄)
    = iprop(semVal ((c : Thread nD τ), SemLoc.dma 16) 0 ∗ semVal ((c : Thread nD τ), SemLoc.dma 17) 0) := by
  rw [Pipeline.ownSems0_eq_of_list c osem0 [0, 1] (by decide) (by decide)]; rfl
/-- The arrays the body reads in place. -/
abbrev H0 : Finset (Ref sig .tc) := {main_arg3, main_arg6}
theorem H0_sub : H0 ⊆ Pipeline.restRefsP sig pre0 spec0 := by decide
theorem hbmPts0_eq (c : Dev nD) (W : (b : Ref sig .tc) → Buf (Elt F) ((c : Thread nD τ).loc b)) :
    (bigSep H0 fun b => ((c : Thread nD τ).loc b) ↦{fullShare} W b : sProp 𝕄)
      = iprop(hbPt c hbM0 (W main_arg3) ∗ hbPt c hbM1 (W main_arg6)) := by
  rw [BI.bigSep_eq_bigSepL_of_eq [main_arg3, main_arg6] (by decide) (by decide)]; rfl
theorem PhiT0_eq (c : Dev nD) : (Pipeline.ΦT pre0 (tbl m) c : sProp 𝕄) = iprop(tbPt c tbM0 (tbl m 0) ∗ tbPt c tbM1 (tbl m 1)) := by
  unfold Pipeline.ΦT Pipeline.prefHeld
  rw [bigSep_univ_eq_bigSepL [(0 : Fin 2), (1 : Fin 2)] (by decide) (by decide)]
  rfl

/-- The decoded gate, up and down weights of expert `e`. -/
def wG (c : Dev nD) (e : Fin 4) : FVec F S1792x3072 .bf16 := wGate (guCodes (V m c main_arg3) e) (eb1 m c e)
def wU (c : Dev nD) (e : Fin 4) : FVec F S1792x3072 .bf16 := wUp (guCodes (V m c main_arg3) e) (eb2 m c e)
def wD (c : Dev nD) (e : Fin 4) : FVec F S3072x1792 .bf16 := wDown (dnCodes (V m c main_arg6) e) (eb3 m c e)
/-- The tile's rows of the gathered activations. -/
def xBlk (c : Dev nD) (t : Fin (cfgM m).N) : FVec F S256x3072 .bf16 := iblk m c 0 t
/-- The result's block at a point: the tile's rows through the weights and biases of the tile's expert. -/
def outE (c : Dev nD) (e : Fin 4) (x : FVec F S256x3072 .bf16) : FVec F S256x3072 .f32 :=
  outV x (wG m c e) (wU m c e) (wD m c e) (eb4 m c e) (eb5 m c e) (eb6 m c e)

/-- What the body keeps from one point to the next: past the first point, the scratch buffers hold the decoded weights of the
    expert of the tile before. -/
def inv (c : Dev nD) (n : ℕ) : sProp 𝕄 :=
  iprop((∃ (WG WU : FVec F S1792x3072 .bf16) (WD : FVec F S3072x1792 .bf16), ⌜0 < n → WG = wG m c (tileF m 0 (n - 1)) ∧ WU = wU m c (tileF m 0 (n - 1)) ∧ WD = wD m c (tileF m 0 (n - 1))⌝
    ∗ scr c WG WU WD) ∗ keep c (tbl m 0) (tbl m 1) (V m c main_arg3) (V m c main_arg6))

/-- The pipeline's proof data. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outE m c (tileF m 0 t.val) (xBlk m c t)
  Φ t := inv m c t.val
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = iblk m c 4 t := by dsimp only [dats]; try rfl
theorem after0_5 (c : Dev nD) (t : Fin (cfgM m).N) : (dats m 0 c).after 5 t = iblk m c 5 t := by dsimp only [dats]; try rfl
theorem after0_6 (c : Dev nD) (t : Fin (cfgM m).N) : (dats m 0 c).after 6 t = iblk m c 6 t := by dsimp only [dats]; try rfl
theorem after0_7 (c : Dev nD) (t : Fin (cfgM m).N) : (dats m 0 c).after 7 t = outE m c (tileF m 0 t.val) (xBlk m c t) := by dsimp only [dats]; try rfl
theorem before0_0 (c : Dev nD) (t : Fin (cfgM m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgM m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfgM m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfgM m).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfgM m).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfgM m).N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin (cfgM m).N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
abbrev ms0_0 (t : Fin (cfgM m).N) : Memref sig .tc .vmem S256x3072 .bf16 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x1792x128 .i8 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x1792x128 .i8 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x3072x128 .i8 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1x1x1792 .bf16 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S1x1x1792 .bf16 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S1x1x3072 .bf16 := spec0_6.stage ((cfgM m).slots t 6)
abbrev hs0_6 (t : Fin (cfgM m).N) : (ms0_6 m t).IsWhole := hstage0_6 (((cfgM m).slots t 6).cast nbuf0_6)
abbrev ms0_7 (t : Fin (cfgM m).N) : Memref sig .tc .vmem S256x3072 .f32 := spec0_7.stage ((cfgM m).slots t 7)
abbrev hs0_7 (t : Fin (cfgM m).N) : (ms0_7 m t).IsWhole := hstage0_7 (((cfgM m).slots t 7).cast nbuf0_7)

/-- The body at point `t`. -/
def bodyAt0 (t : Fin (cfgM m).N) := cc0_moe_ffn (F := F) (grid0.coords t) tbM0 (Memref.isWhole_whole _) tbM1 (Memref.isWhole_whole _) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) hbM0 (Memref.isWhole_whole _) hbM1 (Memref.isWhole_whole _) (ms0_7 m t) (hs0_7 m t) scM0 (Memref.isWhole_whole _) scM1 (Memref.isWhole_whole _) scM2 (Memref.isWhole_whole _) scM3 (Memref.isWhole_whole _) scM4 (Memref.isWhole_whole _) scM5 (Memref.isWhole_whole _) cc0_scratch6

theorem defs₀_row (t : Fin (cfgM m).N) :
    defs₀ (F := F) .tc (cfgM m).body ((cfgM m).bodyArgs t ((cfgM m).slots t)) = bodyAt0 m t := by
  unfold defs₀; rw [Defs.onTc_tc]; rfl

/-- What the body is called with at point `t`, and what it returns. -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d))
    ∗ (∃ d, owns (c : Thread nD τ) (ms0_5 m t) fullShare ((dats m 0 c).before 5 t d))
    ∗ (∃ d, owns (c : Thread nD τ) (ms0_6 m t) fullShare ((dats m 0 c).before 6 t d))
    ∗ (∃ d, owns (c : Thread nD τ) (ms0_7 m t) fullShare ((dats m 0 c).before 7 t d)))
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t)
    ∗ owns (c : Thread nD τ) (ms0_5 m t) fullShare ((dats m 0 c).after 5 t)
    ∗ owns (c : Thread nD τ) (ms0_6 m t) fullShare ((dats m 0 c).after 6 t)
    ∗ owns (c : Thread nD τ) (ms0_7 m t) fullShare ((dats m 0 c).after 7 t))

/-- A point's expert is the one before's when its fresh word is not 1. -/
theorem stay (t : Fin (cfgM m).N) (c : Dev nD) (h : ¬ k0_cond1 (word (grid0.coords t) c tbM1 (tbl m 1)) = 1#1) :
    0 < t.val ∧ tileF m 0 (t.val - 1) = tileF m 0 t.val := by
  rw [word1, cond1_iff] at h
  have hv := coords_val t
  have ht : t.val < 100 := N_0 ▸ t.isLt
  rcases Nat.eq_zero_or_pos t.val with h0 | h0
  · exact absurd ((congrArg (V m 0 main_v53 : IVec S100 32) (congrArg (ix1 (n0 := 100)) (Fin.ext (hv.trans h0)))).trans (tab1_zero m 0)) h
  · refine ⟨h0, Fin.ext ?_⟩
    have h' : (V m 0 main_v53 : IVec S100 32) (ix1 ⟨t.val - 1 + 1, by omega⟩) ≠ 1#32 := by
      intro h1
      exact h ((congrArg (V m 0 main_v53 : IVec S100 32) (congrArg (ix1 (n0 := 100)) (Fin.ext (by show ((grid0.coords t) 0).val = t.val - 1 + 1; omega)))).trans h1)
    have := tab1_succ m 0 (t.val - 1) (by omega) h'
    rw [Nat.sub_add_cancel h0] at this
    exact this.symm

theorem wordE (t : Fin (cfgM m).N) (c : Dev nD) : word (grid0.coords t) c tbM0 (tbl m 0) = BitVec.ofNat 32 (tileF m 0 t.val).val := by
  rw [word0, coords_val t]; rfl

end Cert.KernelIdeal.Hand

end
-- ==== Proof.KiSound.lean ====
module

public import proofs.«01_k».proof.Proof.KiDats

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

theorem out_F (c : Dev nD) (t : Fin (cfgM m).N) : outE m c (tileF m 0 t.val) (xBlk m c t)
    = outV (iblk m c 0 t) (wGate (guCodes (V m c main_arg3) (tileF m 0 t.val)) (iblk m c 1 t)) (wUp (guCodes (V m c main_arg3) (tileF m 0 t.val)) (iblk m c 2 t))
      (wDown (dnCodes (V m c main_arg6) (tileF m 0 t.val)) (iblk m c 3 t)) (iblk m c 4 t) (iblk m c 5 t) (iblk m c 6 t) := by
  unfold outE wG wU wD xBlk
  rw [← iblk1, ← iblk2, ← iblk3, ← iblk4, ← iblk5, ← iblk6]
theorem out_N (c : Dev nD) (t : Fin (cfgM m).N) : outE m c (tileF m 0 t.val) (xBlk m c t)
    = outV (iblk m c 0 t) (wG m c (tileF m 0 t.val)) (wU m c (tileF m 0 t.val)) (wD m c (tileF m 0 t.val)) (iblk m c 4 t) (iblk m c 5 t) (iblk m c 6 t) := by
  unfold outE xBlk
  rw [← iblk4, ← iblk5, ← iblk6]
theorem wG_F (c : Dev nD) (t : Fin (cfgM m).N) : wGate (guCodes (V m c main_arg3) (tileF m 0 t.val)) (iblk m c 1 t) = wG m c (tileF m 0 t.val) := by
  unfold wG; rw [← iblk1]
theorem wU_F (c : Dev nD) (t : Fin (cfgM m).N) : wUp (guCodes (V m c main_arg3) (tileF m 0 t.val)) (iblk m c 2 t) = wU m c (tileF m 0 t.val) := by
  unfold wU; rw [← iblk2]
theorem wD_F (c : Dev nD) (t : Fin (cfgM m).N) : wDown (dnCodes (V m c main_arg6) (tileF m 0 t.val)) (iblk m c 3 t) = wD m c (tileF m 0 t.val) := by
  unfold wD; rw [← iblk3]

set_option backward.isDefEq.respectTransparency.types false in
/-- The body at any point, from what the points before left to what the next is owed. -/
theorem sound_body (c : Dev nD) (t : Fin (cfgM m).N) :
    bodyPre m c t ⊢ wp frame (wpE (defs₀ (F := F)) Variants.none c none) Set.univ (bodyAt0 m t) (fun _ => bodyPost m c t) := by
  unfold bodyPre bodyPost bodyAt0
  simp only [before0_0, before0_1, before0_2, before0_3, before0_4, before0_5, before0_6]
  rw [after0_0, after0_1, after0_2, after0_3, after0_4, after0_5, after0_6, after0_7]
  rw [show (dats m 0 c).Φ t.succ = inv m c (t.val + 1) from rfl, show (dats m 0 c).Φ t.castSucc = inv m c t.val from rfl]
  unfold Dat.owesAt Pipeline.owesWithin
  rw [show (dats m 0 c).owed t.castSucc = 0 from rfl, show (dats m 0 c).owed t.succ = 0 from rfl]
  unfold inv
  iintro ⟨⟨⟨%WG, %WU, %WD, %hW, HS⟩, HK⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  by_cases hfr : k0_cond1 (word (grid0.coords t) c tbM1 (tbl m 1)) = 1#1
  · iapply (step_F (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) c (tbl m 0) (tbl m 1) (iblk m c 0 t) (iblk m c 2 t) (iblk m c 1 t) (iblk m c 3 t) (iblk m c 4 t) (iblk m c 5 t) (iblk m c 6 t) (V m c main_arg3) (V m c main_arg6) WG WU WD (tileF m 0 t.val) (wordE m t c) (chk1 m c _) hfr W _)
    isplitl [HK]; · iexact HK
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [HS]; · iexact HS
    isplitl [HW]; · iexact HW
    iintro ⟨HK, ⟨H0, H1, H2, H3, H4, H5, H6⟩, H7, HS, ⟨%W', HW'⟩⟩
    isplitl [HS HK]
    · isplitr [HK]
      · iexists _, _, _
        isplitr
        swap; · iexact HS
        ipureintro
        exact fun _ => ⟨wG_F m c t, wU_F m c t, wD_F m c t⟩
      iexact HK
    rw [out_F]
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · obtain ⟨hpos, htile⟩ := stay m t c hfr
    obtain ⟨e1, e2, e3⟩ := hW hpos
    rw [htile] at e1 e2 e3
    iapply (step_N (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) c (tbl m 0) (tbl m 1) (iblk m c 0 t) (iblk m c 2 t) (iblk m c 1 t) (iblk m c 3 t) (iblk m c 4 t) (iblk m c 5 t) (iblk m c 6 t) (V m c main_arg3) (V m c main_arg6) WG WU WD (chk1 m c _) hfr W _)
    isplitl [HK]; · iexact HK
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [HS]; · iexact HS
    isplitl [HW]; · iexact HW
    iintro ⟨HK, ⟨H0, H1, H2, H3, H4, H5, H6⟩, H7, HS, ⟨%W', HW'⟩⟩
    isplitl [HS HK]
    · isplitr [HK]
      · iexists _, _, _
        isplitr
        swap; · iexact HS
        ipureintro
        exact fun _ => ⟨e1, e2, e3⟩
      iexact HK
    rw [out_N, ← e1, ← e2, ← e3]
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

end Cert.KernelIdeal.Hand

end
-- ==== Proof.KiLaunch.lean ====
module

public import proofs.«01_k».proof.Proof.KiSound

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

variable (ρ : Dev nD → PrngReg)

theorem pre_sub : (pre (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩
theorem pre_fresh : (pre (F := F)).Forall fun ops => ops.Forall fun op => op.fresh = ∅ := by
  refine ⟨?_, ?_, ?_, ?_, ?_, ?_, ?_, ?_, ?_, ?_, ?_, ?_⟩ <;> simp only [List.Forall] <;> repeat' constructor

/-- @main is the host operations before the region, the region, and those after. -/
theorem hmain : Pipeline.HMainPK (Ix := Unit) (Name := ℕ) (U := Pipeline.UD sig nD τ) (Lvl := ℕ) pcfgs 0 defs₀ Variants.none m (main (F := F))
    (fun c b => V₀ m c (Proc.devRef .tc b)) (fun _ => Pipeline.chain ((post (F := F)).map StableHlo.seq)) := by
  unfold V₀
  exact Pipeline.hmainP_around pcfgs 0 defs₀ Variants.none m main pre post pre_sub pre_fresh fun c => (main_chain c).trans rfl

theorem V_main_arg0 (c : Dev nD) : V m c main_arg0 = m ((c : Thread nD τ).loc main_arg0) := by
  unfold V V₀
  after_reads_simp
  try rfl
theorem V_main_arg1 (c : Dev nD) : V m c main_arg1 = m ((c : Thread nD τ).loc main_arg1) := by
  unfold V V₀
  after_reads_simp
  try rfl
theorem V_main_arg2 (c : Dev nD) : V m c main_arg2 = m ((c : Thread nD τ).loc main_arg2) := by
  unfold V V₀
  after_reads_simp
  try rfl
theorem V_main_arg4 (c : Dev nD) : V m c main_arg4 = m ((c : Thread nD τ).loc main_arg4) := by
  unfold V V₀
  after_reads_simp
  try rfl
theorem V_main_arg5 (c : Dev nD) : V m c main_arg5 = m ((c : Thread nD τ).loc main_arg5) := by
  unfold V V₀
  after_reads_simp
  try rfl
theorem V_main_arg6 (c : Dev nD) : V m c main_arg6 = m ((c : Thread nD τ).loc main_arg6) := by
  unfold V V₀
  after_reads_simp
  try rfl
theorem V_main_arg7 (c : Dev nD) : V m c main_arg7 = m ((c : Thread nD τ).loc main_arg7) := by
  unfold V V₀
  after_reads_simp
  try rfl
theorem V_main_arg8 (c : Dev nD) : V m c main_arg8 = m ((c : Thread nD τ).loc main_arg8) := by
  unfold V V₀
  after_reads_simp
  try rfl

/-- The operations after the region touch neither table. -/
theorem post_sub : ∀ ops ∈ (post (F := F)), ∀ op ∈ ops, op.bufs ⊆ Pipeline.tailRefs sig pre0 spec0 := by
  intro ops hops op hop
  obtain rfl : ops = hostOps1 := List.mem_singleton.mp hops
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals intro k; fin_cases k <;> simp only [StableHlo.nullary_bufs, StableHlo.unary_bufs, StableHlo.binary_bufs, StableHlo.ternary_bufs, StableHlo.reshape_bufs, Finset.mem_insert, Finset.mem_singleton, not_or] <;> and_intros <;> exact StableHlo.devRef_ne_of_ne (by decide)
theorem post_fresh : ∀ ops ∈ (post (F := F)), ∀ op ∈ ops, op.fresh = ∅ := by
  intro ops hops op hop
  obtain rfl : ops = hostOps1 := List.mem_singleton.mp hops
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl <;> rfl
/-- They write no array of the pipeline. -/
theorem post_keep : ∀ ops ∈ (post (F := F)), ∀ op ∈ ops, ∀ w, Proc.devRef .tc (Pipeline.arrRef spec0 w) ∉ op.writes := by
  intro ops hops op hop
  obtain rfl : ops = hostOps1 := List.mem_singleton.mp hops
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem frameEnter (c : Dev nD) : iprop(Pipeline.ΦDRV osem0 spec0 H0 ∅ (V m) (V m) c ∗ Pipeline.ΦT pre0 (tbl m) c) ⊢ (inv m c 0 : sProp 𝕄) := by
  unfold Pipeline.ΦDRV inv
  rw [scopedRest0_eq, ownSems00_eq, hbmPts0_eq, PhiT0_eq]
  unfold scr
  simp only [owns_whole]
  iintro ⟨⟨⟨⟨%g0, G0⟩, ⟨%g1, G1⟩, ⟨%g2, G2⟩, ⟨%g3, G3⟩, ⟨%g4, G4⟩, ⟨%g5, G5⟩⟩, ⟨S0, S1⟩, ⟨B0, B1⟩, -⟩, ⟨T0, T1⟩⟩
  isplitr [T0 T1 B0 B1 S0 S1]
  · iexists g0, g1, g2
    isplitr; · ipureintro; exact fun h => absurd h (Nat.lt_irrefl 0)
    isplitl [G0]; · iexact G0
    isplitl [G1]; · iexact G1
    isplitl [G2]; · iexact G2
    isplitl [G3]; · iexists _; iexact G3
    isplitl [G4]; · iexists _; iexact G4
    iexists _; iexact G5
  isplitl [T0]; · iexact T0
  isplitl [T1]; · iexact T1
  isplitl [B0]; · iexact B0
  isplitl [B1]; · iexact B1
  isplitl [S0]; · iexact S0
  iexact S1

theorem frameLeave (c : Dev nD) (n : ℕ) : (inv m c n : sProp 𝕄) ⊢ Pipeline.ΦDRV osem0 spec0 H0 ∅ (V m) (V m) c := by
  unfold Pipeline.ΦDRV inv
  rw [scopedRest0_eq, ownSems00_eq, hbmPts0_eq]
  unfold scr
  simp only [owns_whole]
  iintro ⟨⟨%g0, %g1, %g2, -, G0, G1, G2, ⟨%g3, G3⟩, ⟨%g4, G4⟩, ⟨%g5, G5⟩⟩, ⟨-, -, B0, B1, S0, S1⟩⟩
  isplitl [G0 G1 G2 G3 G4 G5]
  · isplitl [G0]; · iexists _; iexact G0
    isplitl [G1]; · iexists _; iexact G1
    isplitl [G2]; · iexists _; iexact G2
    isplitl [G3]; · iexists _; iexact G3
    isplitl [G4]; · iexists _; iexact G4
    iexists _; iexact G5
  isplitl [S0 S1]
  · isplitl [S0]; · iexact S0
    iexact S1
  isplitl [B0 B1]
  · isplitl [B0]; · iexact B0
    iexact B1
  rw [BI.bigSep_empty]
  iempintro

/-- The buffers when the operations after the region begin. -/
def Vmid (c : Dev nD) : Valuation τ sig (Elt F) := Pipeline.withArrays spec0 c (Pipeline.withR (V₀ m c) ∅ c (V m c)) fun w => (dats m 0 c).arrAt w (cfgM m).N

set_option backward.isDefEq.respectTransparency.types false in
/-- The run: every argument, and every buffer that bypasses the pipeline, ends at what the operations after the region make of it,
    and every counter ends at zero. -/
theorem run_main : θ_run defs (onTc (τ := τ) (main (F := F))) (s₀ m ρ) (fun r => (∀ c : Dev nD,
      ∀ b ∈ Pipeline.restRefsP sig pre0 spec0, r.2.mem ((c.tc : Thread nD τ).loc b) = StableHlo.after (post (F := F)).flatten (Vmid m c) (Proc.devRef .tc b))
      ∧ r.2.sem = fun _ => 0) :=
  Pipeline.θ_run_frameP_dmaR_aroundV (Q' := _) pcfgs (fun _ => adm m) (dats m) (0 : Fin 1) launch0 osem0 defs₀ Variants.none ownSemFacts0 H0 ∅ H0_sub
    (Finset.empty_subset _) m ρ main (hbody := fun c => (body_obligation m c).loose) (hshare := fun c => (dats m 0 c).share_full fun _ => rfl)
    (howed := fun _ _ => rfl) (V₀ := V₀ m) (opss := post) (hsub := post_sub) (hfresh := post_fresh) (hkeep := post_keep) (G := V m) (hmain := hmain m)
    (hA := A_eq m) (hpf := V_pre m) (hin := fun c => frameEnter m c) (hout := fun c => frameLeave m c _) (hQ' := fun r h => ⟨fun c => (h.1 c).2, h.2⟩)

end Cert.KernelIdeal.Hand

end
-- ==== Proof.KiFrame.lean ====
module

public import proofs.«01_k».proof.Proof.KiLaunch

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

variable (ρ : Dev nD → PrngReg)

theorem post_arg0 (X : Valuation τ sig (Elt F)) : StableHlo.after (post (F := F)).flatten X (Proc.devRef .tc main_arg0) = X (Proc.devRef .tc main_arg0) := by
  after_reads_simp
theorem Vmid_arg0 (c : Dev nD) : Vmid m c (Proc.devRef .tc main_arg0) = m ((c : Thread nD τ).loc main_arg0) := by
  unfold Vmid
  rw [Pipeline.withArrays_of_ne spec0 c _ _ main_arg0 (by decide), Pipeline.withR_of_not_mem _ _ _ _ _ (Finset.notMem_empty _)]
  exact V_main_arg0 m c
theorem rest_arg0 : main_arg0 ∈ Pipeline.restRefsP sig pre0 spec0 := by decide

theorem post_arg1 (X : Valuation τ sig (Elt F)) : StableHlo.after (post (F := F)).flatten X (Proc.devRef .tc main_arg1) = X (Proc.devRef .tc main_arg1) := by
  after_reads_simp
theorem Vmid_arg1 (c : Dev nD) : Vmid m c (Proc.devRef .tc main_arg1) = m ((c : Thread nD τ).loc main_arg1) := by
  unfold Vmid
  rw [Pipeline.withArrays_of_ne spec0 c _ _ main_arg1 (by decide), Pipeline.withR_of_not_mem _ _ _ _ _ (Finset.notMem_empty _)]
  exact V_main_arg1 m c
theorem rest_arg1 : main_arg1 ∈ Pipeline.restRefsP sig pre0 spec0 := by decide

theorem post_arg2 (X : Valuation τ sig (Elt F)) : StableHlo.after (post (F := F)).flatten X (Proc.devRef .tc main_arg2) = X (Proc.devRef .tc main_arg2) := by
  after_reads_simp
theorem Vmid_arg2 (c : Dev nD) : Vmid m c (Proc.devRef .tc main_arg2) = m ((c : Thread nD τ).loc main_arg2) := by
  unfold Vmid
  rw [Pipeline.withArrays_of_ne spec0 c _ _ main_arg2 (by decide), Pipeline.withR_of_not_mem _ _ _ _ _ (Finset.notMem_empty _)]
  exact V_main_arg2 m c
theorem rest_arg2 : main_arg2 ∈ Pipeline.restRefsP sig pre0 spec0 := by decide

theorem post_arg3 (X : Valuation τ sig (Elt F)) : StableHlo.after (post (F := F)).flatten X (Proc.devRef .tc main_arg3) = X (Proc.devRef .tc main_arg3) := by
  after_reads_simp
theorem Vmid_arg3 (c : Dev nD) : Vmid m c (Proc.devRef .tc main_arg3) = m ((c : Thread nD τ).loc main_arg3) := by
  unfold Vmid
  rw [Pipeline.withArrays_of_ne spec0 c _ _ main_arg3 (by decide), Pipeline.withR_of_not_mem _ _ _ _ _ (Finset.notMem_empty _)]
  exact V_main_arg3 m c
theorem rest_arg3 : main_arg3 ∈ Pipeline.restRefsP sig pre0 spec0 := by decide

theorem post_arg4 (X : Valuation τ sig (Elt F)) : StableHlo.after (post (F := F)).flatten X (Proc.devRef .tc main_arg4) = X (Proc.devRef .tc main_arg4) := by
  after_reads_simp
theorem Vmid_arg4 (c : Dev nD) : Vmid m c (Proc.devRef .tc main_arg4) = m ((c : Thread nD τ).loc main_arg4) := by
  unfold Vmid
  rw [Pipeline.withArrays_of_ne spec0 c _ _ main_arg4 (by decide), Pipeline.withR_of_not_mem _ _ _ _ _ (Finset.notMem_empty _)]
  exact V_main_arg4 m c
theorem rest_arg4 : main_arg4 ∈ Pipeline.restRefsP sig pre0 spec0 := by decide

theorem post_arg5 (X : Valuation τ sig (Elt F)) : StableHlo.after (post (F := F)).flatten X (Proc.devRef .tc main_arg5) = X (Proc.devRef .tc main_arg5) := by
  after_reads_simp
theorem Vmid_arg5 (c : Dev nD) : Vmid m c (Proc.devRef .tc main_arg5) = m ((c : Thread nD τ).loc main_arg5) := by
  unfold Vmid
  rw [Pipeline.withArrays_of_ne spec0 c _ _ main_arg5 (by decide), Pipeline.withR_of_not_mem _ _ _ _ _ (Finset.notMem_empty _)]
  exact V_main_arg5 m c
theorem rest_arg5 : main_arg5 ∈ Pipeline.restRefsP sig pre0 spec0 := by decide

theorem post_arg6 (X : Valuation τ sig (Elt F)) : StableHlo.after (post (F := F)).flatten X (Proc.devRef .tc main_arg6) = X (Proc.devRef .tc main_arg6) := by
  after_reads_simp
theorem Vmid_arg6 (c : Dev nD) : Vmid m c (Proc.devRef .tc main_arg6) = m ((c : Thread nD τ).loc main_arg6) := by
  unfold Vmid
  rw [Pipeline.withArrays_of_ne spec0 c _ _ main_arg6 (by decide), Pipeline.withR_of_not_mem _ _ _ _ _ (Finset.notMem_empty _)]
  exact V_main_arg6 m c
theorem rest_arg6 : main_arg6 ∈ Pipeline.restRefsP sig pre0 spec0 := by decide

theorem post_arg7 (X : Valuation τ sig (Elt F)) : StableHlo.after (post (F := F)).flatten X (Proc.devRef .tc main_arg7) = X (Proc.devRef .tc main_arg7) := by
  after_reads_simp
theorem Vmid_arg7 (c : Dev nD) : Vmid m c (Proc.devRef .tc main_arg7) = m ((c : Thread nD τ).loc main_arg7) := by
  unfold Vmid
  rw [Pipeline.withArrays_of_ne spec0 c _ _ main_arg7 (by decide), Pipeline.withR_of_not_mem _ _ _ _ _ (Finset.notMem_empty _)]
  exact V_main_arg7 m c
theorem rest_arg7 : main_arg7 ∈ Pipeline.restRefsP sig pre0 spec0 := by decide

theorem post_arg8 (X : Valuation τ sig (Elt F)) : StableHlo.after (post (F := F)).flatten X (Proc.devRef .tc main_arg8) = X (Proc.devRef .tc main_arg8) := by
  after_reads_simp
theorem Vmid_arg8 (c : Dev nD) : Vmid m c (Proc.devRef .tc main_arg8) = m ((c : Thread nD τ).loc main_arg8) := by
  unfold Vmid
  rw [Pipeline.withArrays_of_ne spec0 c _ _ main_arg8 (by decide), Pipeline.withR_of_not_mem _ _ _ _ _ (Finset.notMem_empty _)]
  exact V_main_arg8 m c
theorem rest_arg8 : main_arg8 ∈ Pipeline.restRefsP sig pre0 spec0 := by decide

/-- The frame: every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c main_arg0 rest_arg0).trans ((post_arg0 _).trans (Vmid_arg0 m c)), (h.1 c main_arg1 rest_arg1).trans ((post_arg1 _).trans (Vmid_arg1 m c)), (h.1 c main_arg2 rest_arg2).trans ((post_arg2 _).trans (Vmid_arg2 m c)), (h.1 c main_arg3 rest_arg3).trans ((post_arg3 _).trans (Vmid_arg3 m c)), (h.1 c main_arg4 rest_arg4).trans ((post_arg4 _).trans (Vmid_arg4 m c)), (h.1 c main_arg5 rest_arg5).trans ((post_arg5 _).trans (Vmid_arg5 m c)), (h.1 c main_arg6 rest_arg6).trans ((post_arg6 _).trans (Vmid_arg6 m c)), (h.1 c main_arg7 rest_arg7).trans ((post_arg7 _).trans (Vmid_arg7 m c)), (h.1 c main_arg8 rest_arg8).trans ((post_arg8 _).trans (Vmid_arg8 m c))⟩, h.2⟩) (run_main m ρ)

end Cert.KernelIdeal.Hand

end
-- ==== Proof.VaPre.lean ====
module

public import proofs.«01_k».proof.Pre_in_range
public import Idealize.ShloMosaic.Lib.ReduceAll
public import Idealize.ShloMosaic.PureOps.Ideal

/-! What the precondition says of the arguments, element by element. -/

@[expose] public section

set_option maxRecDepth 16384
set_option maxHeartbeats 4000000

noncomputable section

namespace Cert.Pre_in_range.Hand

open Cert.Pre_in_range
open Idealize.ShloMosaic

/-- The side conditions of the precondition's array operations. -/
theorem facts : Facts where
  bcast_S_S8x1536x2 := by decide
  reducesTo_S8x1536x2_S_d0_1_2 := by decide
  h_S_ := by decide
  bcast_S_S4x3584x96 := by decide
  reducesTo_S4x3584x96_S_d0_1_2 := by decide
  bcast_S_S4x3072x56 := by decide
  reducesTo_S4x3072x56_S_d0_1_2 := by decide

/-- A conjunction of bits that is 1 has both bits 1. -/
theorem and_one (a b : BitVec 1) (h : IntOp.andi a b = 1#1) : a = 1#1 ∧ b = 1#1 := by
  revert a b; decide

/-- A word that is at least 0 and less than 4, as a signed number, is below 4. -/
theorem id_lt (w : BitVec 32) (h : IntOp.andi (IntOp.cmpi .sge w 0#32) (IntOp.cmpi .slt w 4#32) = 1#1) : w.toNat < 4 := by
  obtain ⟨h0, h1⟩ := and_one _ _ h
  have a0 : (0 : Int) ≤ w.toInt := by
    by_contra hc
    have : IntOp.cmpi .sge w 0#32 = 0#1 := by
      unfold IntOp.cmpi
      simp [BitVec.sle, hc]
    rw [this] at h0; exact absurd h0 (by decide)
  have a1 : w.toInt < 4 := by
    by_contra hc
    have : IntOp.cmpi .slt w 4#32 = 0#1 := by
      unfold IntOp.cmpi
      simp [BitVec.slt, hc]
    rw [this] at h1; exact absurd h1 (by decide)
  have hw := w.isLt
  rw [BitVec.toInt_eq_toNat_cond] at a0 a1
  split at a1 <;> split at a0 <;> omega

/-- A byte that is at least 1 and at most 254 is so as a number. -/
theorem byte_range (w : BitVec 8) (h : IntOp.andi (IntOp.cmpi .uge w 1#8) (IntOp.cmpi .ule w 254#8) = 1#1) : 1 ≤ w.toNat ∧ w.toNat ≤ 254 := by
  revert w; decide

/-- Under the precondition every expert id is below 4, and every scale byte is between 1 and 254. -/
theorem ranges [Facts] (a0 : FVec Ideal S8x1536x3072 .bf16) (a1 : IVec S8x1536x2 32) (a2 : FVec Ideal S8x1536x2 .f32) (a3 : IVec S4x1792x3072 8)
    (a4 : IVec S4x3584x96 8) (a5 : FVec Ideal S4x3584 .bf16) (a6 : IVec S4x1536x1792 8) (a7 : IVec S4x3072x56 8) (a8 : FVec Ideal S4x3072 .bf16)
    (h : fn (F := Ideal) a0 a1 a2 a3 a4 a5 a6 a7 a8 = fun _ => 1#1) :
    (∀ i, (a1 i).toNat < 4) ∧ (∀ i, 1 ≤ (a4 i).toNat ∧ (a4 i).toNat ≤ 254) ∧ (∀ i, 1 ≤ (a7 i).toNat ∧ (a7 i).toNat ≤ 254) := by
  haveI : Subsingleton S_.Idx := ⟨fun a b => funext fun i => Fin.elim0 i⟩
  have h' := congrFun h (fun i => Fin.elim0 i)
  obtain ⟨h12, h18⟩ := and_one _ _ h'
  obtain ⟨h5, h11⟩ := and_one _ _ h12
  exact ⟨fun i => id_lt _ (Host.reduce_andi_all _ _ _ _ _ h5 i), fun i => byte_range _ (Host.reduce_andi_all _ _ _ _ _ h11 i),
    fun i => byte_range _ (Host.reduce_andi_all _ _ _ _ _ h18 i)⟩

end Cert.Pre_in_range.Hand

end
-- ==== Proof.VaHost.lean ====
module

public import proofs.«01_k».proof.Proof.KiHost

/-! What the host operations before the region compute, array by array: the routing tables, the gathered rows, and the
    scales and biases regrouped for the blocks. -/

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic

/-- Which expert each assignment names, one column per expert. -/
def ohM (a : IVec S24576 32) : IVec S24576x4 1 :=
  cmpi .eq (broadcastInDim S24576x4 ![0, 1] bcast_S24576x1_S24576x4_0_1 (broadcastInDim S24576x1 ![0] bcast_S24576_S24576x1_0 a))
    (broadcastInDim S24576x4 ![0, 1] bcast_S1x4_S24576x4_0_1 (broadcastInDim S1x4 ![1] bcast_S4_S1x4_1 (iotaInDim S4 32 0)))
/-- The same as words. -/
def ohI (a : IVec S24576 32) : IVec S24576x4 32 := extui 32 (ohM a) natLt_1_32
/-- How many assignments each expert has. -/
def cntA (a : IVec S24576 32) : IVec S4 32 := Host.reduce IntOp.addi (ohI a) (constantI S_ 32 0#32) reducesTo_S24576x4_S4_d0 h_S_
/-- Each expert's count and a tile less one. -/
def cntUp (b : IVec S4 32) : IVec S4 32 :=
  subi (addi b (broadcastInDim S4 ![] bcast_S_S4 (constantI S_ 32 256#32))) (broadcastInDim S4 ![] bcast_S_S4 (constantI S_ 32 1#32))
/-- The quotient by a tile, rounded down. -/
def fdiv4 (x : IVec S4 32) : IVec S4 32 :=
  let d : IVec S_ 32 := id (constantI S_ 32 256#32)
  let q : IVec S4 32 := Host.divsi x (broadcastInDim S4 ![] bcast_S_S4 d)
  select (andi (cmpi .ne (signi x) (broadcastInDim S4 ![] bcast_S_S4 (signi d)))
      (cmpi .ne (Host.remsi x (broadcastInDim S4 ![] bcast_S_S4 d)) (broadcastInDim S4 ![] bcast_S_S4 (constantI S_ 32 0#32))))
    (subi q (broadcastInDim S4 ![] bcast_S_S4 (constantI S_ 32 1#32))) q
/-- The quotient by two, rounded down. -/
def fdivN (x : IVec S24576 32) : IVec S24576 32 :=
  let d : IVec S_ 32 := id (constantI S_ 32 2#32)
  let q : IVec S24576 32 := Host.divsi x (broadcastInDim S24576 ![] bcast_S_S24576 d)
  select (andi (cmpi .ne (signi x) (broadcastInDim S24576 ![] bcast_S_S24576 (signi d)))
      (cmpi .ne (Host.remsi x (broadcastInDim S24576 ![] bcast_S_S24576 d)) (broadcastInDim S24576 ![] bcast_S_S24576 (constantI S_ 32 0#32))))
    (subi q (broadcastInDim S24576 ![] bcast_S_S24576 (constantI S_ 32 1#32))) q
/-- Running sums of four numbers. -/
def cum4 (x : IVec S4 32) : IVec S4 32 :=
  Host.reduceWindow IntOp.addi ![4] ![1] ![3] ![0] x (broadcastInDim S_ ![] bcast_S_S_ (constantI S_ 32 0#32)) reduceWindows_S4_S4_w4s1p3_0 h_S_
/-- Running sums down each column. -/
def cumN (x : IVec S24576x4 32) : IVec S24576x4 32 :=
  Host.reduceWindow IntOp.addi ![24576, 1] ![1, 1] ![24575, 0] ![0, 0] x (broadcastInDim S_ ![] bcast_S_S_ (constantI S_ 32 0#32))
    reduceWindows_S24576x4_S24576x4_w24576s1p24575_0_w1s1p0_0 h_S_
/-- Each assignment's place among those of its expert. -/
def rankA (x : IVec S24576x4 32) : IVec S24576 32 :=
  Host.reduce IntOp.addi (muli (subi (cumN x) (broadcastInDim S24576x4 ![] bcast_S_S24576x4 (constantI S_ 32 1#32))) x)
    (constantI S_ 32 0#32) reducesTo_S24576x4_S24576_d1 h_S_
/-- Where each assignment's expert's tiles start. -/
def baseA (x : IVec S24576x4 32) (e t : IVec S4 32) : IVec S24576 32 :=
  Host.reduce IntOp.addi (muli x (broadcastInDim S24576x4 ![0, 1] bcast_S1x4_S24576x4_0_1 (broadcastInDim S1x4 ![1] bcast_S4_S1x4_1
    (muli (subi e t) (broadcastInDim S4 ![] bcast_S_S4 (constantI S_ 32 256#32))))))
    (constantI S_ 32 0#32) reducesTo_S24576x4_S24576_d1 h_S_
/-- An index from the end counted from the start. -/
def wrapN (p : IVec S24576 32) : IVec S24576x1 32 :=
  broadcastInDim S24576x1 ![0] bcast_S24576_S24576x1_0 (select (cmpi .slt p (broadcastInDim S24576 ![] bcast_S_S24576 (constantI S_ 32 0#32)))
    (addi p (broadcastInDim S24576 ![] bcast_S_S24576 (constantI S_ 32 25600#32))) p)
/-- The token each padded row takes. -/
def orderA (p : IVec S24576 32) : IVec S25600 32 :=
  Host.scatter scatter_S25600_S24576x1_S24576_n_0_0_1 (fun _ b => b) (broadcastInDim S25600 ![] bcast_S_S25600 (constantI S_ 32 0#32)) (wrapN p)
    (fdivN (iotaInDim S24576 32 0))
/-- A token's index from the end counted from the start. -/
def wrapT (o : IVec S25600 32) : IVec S25600x1 32 :=
  broadcastInDim S25600x1 ![0] bcast_S25600_S25600x1_0 (select (cmpi .slt o (broadcastInDim S25600 ![] bcast_S_S25600 (constantI S_ 32 0#32)))
    (addi o (broadcastInDim S25600 ![] bcast_S_S25600 (constantI S_ 32 12288#32))) o)

variable {F : FTy → Type} [FloatOps F] (m : (ℓ : Loc nD τ sig) → Buf (Elt F) ℓ)

/-- The list of the assignments' experts. -/
theorem V_main_v0 (c : Dev nD) : (V m c main_v0 : IVec S24576 32)
    = shapeCast S24576 (m ((c : Thread nD τ).loc main_arg1) : IVec S8x1536x2 32) shapeCasts_S8x1536x2_S24576 := by
  unfold V V₀
  after_reads_simp
  try rfl
/-- Which expert each assignment names, as words. -/
theorem V_main_v7 (c : Dev nD) : (V m c main_v7 : IVec S24576x4 32) = ohI (V m c main_v0) := by
  unfold V V₀
  after_reads_simp
  try rfl
/-- The counts. -/
theorem V_main_v8 (c : Dev nD) : (V m c main_v8 : IVec S4 32) = cntA (V m c main_v0) := by
  unfold V V₀
  after_reads_simp
  try rfl
/-- The numbers of tiles. -/
theorem V_main_v13 (c : Dev nD) : (V m c main_v13 : IVec S4 32) = fdiv4 (cntUp (V m c main_v8)) := by
  unfold V V₀ fdiv4 cntUp
  after_reads_simp
  generalize (Host.reduce IntOp.addi _ _ reducesTo_S24576x4_S4_d0 h_S_) = z
  rfl
/-- The ends of the experts' tiles. -/
theorem V_main_v14 (c : Dev nD) : (V m c main_v14 : IVec S4 32) = cum4 (V m c main_v13) := by
  unfold V V₀
  after_reads_simp
  try rfl
/-- The padded rows. -/
theorem V_main_v27 (c : Dev nD) : (V m c main_v27 : IVec S24576 32)
    = addi (baseA (V m c main_v7) (V m c main_v14) (V m c main_v13)) (rankA (V m c main_v7)) := by
  unfold V V₀ baseA rankA cumN
  after_reads_simp
  generalize (StableHlo.TRef.of main_v13 _ _ _).toBuf _ = z13
  generalize (StableHlo.TRef.of main_v14 _ _ _).toBuf _ = z14
  generalize extui 32 (cmpi CmpIPredicate.eq _ _) natLt_1_32 = z7
  have h16 : ∀ p q r x, (StableHlo.TRef.of (T := ⟨S24576x4, .i32⟩) main_v16 p q r).toBuf (Val := Elt F) x = x := fun _ _ _ _ => rfl
  have h7 : ∀ p q r x, (StableHlo.TRef.of (T := ⟨S24576x4, .i32⟩) main_v7 p q r).ofBuf (Val := Elt F) x = x := fun _ _ _ _ => rfl
  simp only [h16, h7, StableHlo.TRef.ofBuf_toBuf]
/-- The token each padded row takes. -/
theorem V_main_v37 (c : Dev nD) : (V m c main_v37 : IVec S25600 32) = orderA (V m c main_v27) := by
  unfold V V₀
  after_reads_simp
  try rfl
/-- The padded rows' inputs. -/
theorem V_main_v61 (c : Dev nD) : (V m c main_v61 : FVec F S25600x3072 .bf16)
    = Host.gather gather_S12288x3072_S25600x1_S25600x3072_1_0_n_n_0_1_13072
        (shapeCast S12288x3072 (m ((c : Thread nD τ).loc main_arg0) : FVec F S8x1536x3072 .bf16) shapeCasts_S8x1536x3072_S12288x3072)
        (wrapT (V m c main_v37)) := by
  unfold V V₀
  after_reads_simp
  try rfl

/-- The padded scales of the gate and up weights. -/
def padGU (a4 : IVec S4x3584x96 8) : IVec S4x1792x2x128 8 :=
  pad S4x1792x2x128 ![0, 0, 0, 0] ![0, 0, 0, 32] ![0, 0, 0, 0] (shapeCast S4x1792x2x96 a4 shapeCasts_S4x3584x96_S4x1792x2x96)
    (trunci 8 (constantI S_ 32 0#32) natLt_8_32) pads_S4x1792x2x96_S4x1792x2x128_000_000_000_0320 h_S_

/-- The gate's scales, padded. -/
theorem V_main_v65 (c : Dev nD) : (V m c main_v65 : IVec S4x1792x128 8)
    = shapeCast S4x1792x128 (extractStridedSlice S4x1792x1x128 ![0, 0, 0, 0] (padGU (m ((c : Thread nD τ).loc main_arg4)))
        slices_S4x1792x2x128_S4x1792x1x128_0_0_0_0) shapeCasts_S4x1792x1x128_S4x1792x128 := by
  unfold V V₀
  after_reads_simp
  try rfl
/-- The up scales, padded. -/
theorem V_main_v67 (c : Dev nD) : (V m c main_v67 : IVec S4x1792x128 8)
    = shapeCast S4x1792x128 (extractStridedSlice S4x1792x1x128 ![0, 0, 1, 0] (padGU (m ((c : Thread nD τ).loc main_arg4)))
        slices_S4x1792x2x128_S4x1792x1x128_0_0_1_0) shapeCasts_S4x1792x1x128_S4x1792x128 := by
  unfold V V₀
  after_reads_simp
  try rfl
/-- The down scales, padded. -/
theorem V_main_v68 (c : Dev nD) : (V m c main_v68 : IVec S4x3072x128 8)
    = pad S4x3072x128 ![0, 0, 0] ![0, 0, 72] ![0, 0, 0] (m ((c : Thread nD τ).loc main_arg7) : IVec S4x3072x56 8)
        (trunci 8 (constantI S_ 32 0#32) natLt_8_32) pads_S4x3072x56_S4x3072x128_000_000_0720 h_S_ := by
  unfold V V₀
  after_reads_simp
  try rfl
/-- The gate's biases. -/
theorem V_main_v72 (c : Dev nD) : (V m c main_v72 : FVec F S4x1x1792 .bf16)
    = broadcastInDim S4x1x1792 ![0, 2] bcast_S4x1792_S4x1x1792_0_2 (shapeCast S4x1792 (extractStridedSlice S4x1792x1 ![0, 0, 0]
        (shapeCast S4x1792x2 (m ((c : Thread nD τ).loc main_arg5) : FVec F S4x3584 .bf16) shapeCasts_S4x3584_S4x1792x2) slices_S4x1792x2_S4x1792x1_0_0_0)
        shapeCasts_S4x1792x1_S4x1792) := by
  unfold V V₀
  after_reads_simp
  try rfl
/-- The up biases. -/
theorem V_main_v75 (c : Dev nD) : (V m c main_v75 : FVec F S4x1x1792 .bf16)
    = broadcastInDim S4x1x1792 ![0, 2] bcast_S4x1792_S4x1x1792_0_2 (shapeCast S4x1792 (extractStridedSlice S4x1792x1 ![0, 0, 1]
        (shapeCast S4x1792x2 (m ((c : Thread nD τ).loc main_arg5) : FVec F S4x3584 .bf16) shapeCasts_S4x3584_S4x1792x2) slices_S4x1792x2_S4x1792x1_0_0_1)
        shapeCasts_S4x1792x1_S4x1792) := by
  unfold V V₀
  after_reads_simp
  try rfl
/-- The down biases. -/
theorem V_main_v76 (c : Dev nD) : (V m c main_v76 : FVec F S4x1x3072 .bf16)
    = broadcastInDim S4x1x3072 ![0, 2] bcast_S4x3072_S4x1x3072_0_2 (m ((c : Thread nD τ).loc main_arg8) : FVec F S4x3072 .bf16) := by
  unfold V V₀
  after_reads_simp
  try rfl

end Cert.KernelIdeal.Hand

end
-- ==== Proof.VaCount.lean ====
module

public import Idealize.ShloMosaic.Lib.Routing.Count
public import Mathlib.Tactic.Ring
public import Mathlib.Tactic.IntervalCases

/-! Where each assignment goes: its expert's tiles first, then its place among the expert's assignments. No two go to one
    place, and the tile of a place belongs to the assignment's expert. -/

@[expose] public section

namespace Cert.Spec

open Idealize.ShloMosaic.Routing

/-- How many of the first 24576 assignments name expert `e`. -/
def cnt (g : ℕ → ℕ) (e : ℕ) : ℕ := Nat.count (fun j => g j = e) 24576
/-- How many tiles of 256 rows expert `e` takes. -/
def til (g : ℕ → ℕ) (e : ℕ) : ℕ := (cnt g e + 255) / 256
/-- Where the tiles of expert `e` end. -/
def tend (g : ℕ → ℕ) (e : ℕ) : ℕ := ((List.range (e + 1)).map (til g)).sum
/-- The place of an assignment among its expert's. -/
def rnk (g : ℕ → ℕ) (j : ℕ) : ℕ := Nat.count (fun i => g i = g j) j
/-- The padded row of an assignment. -/
def pos (g : ℕ → ℕ) (j : ℕ) : ℕ := (tend g (g j) - til g (g j)) * 256 + rnk g j

/-- Expert 0's tiles end after its own. -/
theorem tend_zero (g : ℕ → ℕ) : tend g 0 = til g 0 := by simp [tend]
/-- The next expert's tiles end that many tiles later. -/
theorem tend_succ (g : ℕ → ℕ) (e : ℕ) : tend g (e + 1) = tend g e + til g (e + 1) := by
  unfold tend
  rw [List.range_succ, List.map_append, List.sum_append]
  simp

/-- An expert's tiles end no earlier than there are of them. -/
theorem til_le_tend (g : ℕ → ℕ) (e : ℕ) : til g e ≤ tend g e := by
  cases e with
  | zero => rw [tend_zero]
  | succ e => rw [tend_succ]; omega

/-- Later experts' tiles end no earlier. -/
theorem tend_mono (g : ℕ → ℕ) {a b : ℕ} (h : a ≤ b) : tend g a ≤ tend g b := by
  induction b, h using Nat.le_induction with
  | base => exact le_rfl
  | succ b _ ih => rw [tend_succ]; omega

/-- The tiles of an expert after another's start no earlier than the other's end. -/
theorem tend_lt (g : ℕ → ℕ) {a b : ℕ} (h : a < b) : tend g a ≤ tend g b - til g b := by
  obtain ⟨b, rfl⟩ : ∃ c, b = c + 1 := ⟨b - 1, by omega⟩
  have := tend_mono g (show a ≤ b by omega)
  rw [tend_succ]; omega

/-- The four counts sum to the number of assignments. -/
theorem cnt_sum (g : ℕ → ℕ) (hg : ∀ j < 24576, g j < 4) : cnt g 0 + cnt g 1 + cnt g 2 + cnt g 3 = 24576 := by
  have h := sum_count_eq g 3 24576
  have h2 : Nat.count (fun i => g i ≤ 3) 24576 = 24576 := by
    refine (count_congr_of_lt (Q := fun _ => True) 24576 fun i hi => ⟨fun _ => trivial, fun _ => ?_⟩).trans (by simp)
    have := hg i hi
    omega
  rw [h2] at h
  simp only [List.range_succ, List.range_zero, List.nil_append, List.map_append, List.map_cons, List.map_nil, List.sum_append, List.sum_cons, List.sum_nil] at h
  unfold cnt
  omega

/-- All the tiles fit. -/
theorem tend_le (g : ℕ → ℕ) (hg : ∀ j < 24576, g j < 4) (e : ℕ) (he : e < 4) : tend g e ≤ 99 := by
  have h := cnt_sum g hg
  have h3 : tend g 3 ≤ 99 := by
    rw [tend_succ, tend_succ, tend_succ, tend_zero]
    unfold til
    norm_num only
    omega
  exact (tend_mono g (show e ≤ 3 by omega)).trans h3

/-- An assignment's place is below its expert's count. -/
theorem rnk_lt (g : ℕ → ℕ) {j : ℕ} (hj : j < 24576) : rnk g j < cnt g (g j) := Nat.count_strict_mono (p := fun i => g i = g j) rfl hj

/-- A place's tile is one of its expert's. -/
theorem pos_tile (g : ℕ → ℕ) {j : ℕ} (hj : j < 24576) :
    tend g (g j) - til g (g j) ≤ pos g j / 256 ∧ pos g j / 256 < tend g (g j) := by
  have h1 := rnk_lt g hj
  have h2 := til_le_tend g (g j)
  have h3 : rnk g j < 256 * til g (g j) := by unfold til; omega
  unfold pos
  omega

/-- Every assignment's padded row lies in the first 99 tiles of 256 rows. -/
theorem pos_lt (g : ℕ → ℕ) (hg : ∀ j < 24576, g j < 4) {j : ℕ} (hj : j < 24576) : pos g j < 25344 := by
  have := (pos_tile g hj).2
  have := tend_le g hg _ (hg j hj)
  omega

/-- The tile's expert, counted as the experts whose tiles end at or before it. -/
theorem tile_count (g : ℕ → ℕ) (hg : ∀ j < 24576, g j < 4) {j : ℕ} (hj : j < 24576) :
    Nat.count (fun e => tend g e ≤ pos g j / 256) 4 = g j := by
  obtain ⟨h1, h2⟩ := pos_tile g hj
  have hk := hg j hj
  rw [count_congr_of_lt (Q := fun e => e < g j) 4 fun e he => ⟨fun h => ?_, fun h => ?_⟩]
  · generalize g j = k at hk
    interval_cases k <;> decide
  · by_contra hn
    have := tend_mono g (show g j ≤ e by omega)
    omega
  · exact (tend_lt g h).trans h1

/-- No two assignments have one place. -/
theorem pos_inj (g : ℕ → ℕ) {i j : ℕ} (hi : i < 24576) (hj : j < 24576) (h : pos g i = pos g j) : i = j := by
  obtain ⟨a1, a2⟩ := pos_tile g hi
  obtain ⟨b1, b2⟩ := pos_tile g hj
  rw [h] at a1 a2
  have hid : g i = g j := by
    rcases lt_trichotomy (g i) (g j) with hl | hl | hl
    · have := tend_lt g hl; omega
    · exact hl
    · have := tend_lt g hl; omega
  have hr : rnk g i = rnk g j := by unfold pos at h; rw [hid] at h; omega
  unfold rnk at hr
  rw [hid] at hr
  exact Nat.count_injective (p := fun x => g x = g j) hid rfl hr

end Cert.Spec
-- ==== Proof.VaTables.lean ====
module

public import proofs.«01_k».proof.Proof.VaHost
public import proofs.«01_k».proof.Proof.VaCount
public import proofs.«01_k».proof.Proof.KiTables
public import Idealize.ShloMosaic.Lib.Routing.Words
public import Idealize.ShloMosaic.Lib.Routing.OpsPair
public import Idealize.ShloMosaic.Lib.Routing.OpsSet
public import Idealize.ShloMosaic.Lib.Routing.Ops
public import Idealize.ShloMosaic.Lib.Routing.OpsSearch

/-! The routing tables hold the counts: the padded row of each assignment, the token of each padded row, and the expert of
    each tile. -/

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Cert.Spec
open scoped BigOperators

/-- A sum of words is the word of the sum of their numbers. -/
theorem fold_ofNat {ι : Type} (S : Finset ι) (x : ι → BitVec 32) (f : ι → ℕ) (hx : ∀ i ∈ S, x i = BitVec.ofNat 32 (f i)) :
    Finset.fold IntOp.addi 0#32 x S = BitVec.ofNat 32 (∑ i ∈ S, f i) := by
  classical
  induction S using Finset.induction_on with
  | empty => simp
  | insert a S ha ih =>
    rw [Finset.fold_insert ha, Finset.sum_insert ha, ih fun i hi => hx i (Finset.mem_insert_of_mem hi), hx a (Finset.mem_insert_self a S), BitVec.ofNat_add]
    rfl

/-- The sum along a row of words that hold naturals. -/
theorem reduce_row {n k : ℕ} (x : IVec (⟨2, ![n, k]⟩ : Shape) 32) (f : ℕ → ℕ) (i : Fin n) (hx : ∀ q : Fin k, x (ix2 i q) = BitVec.ofNat 32 (f q.val))
    (h : (⟨2, ![n, k]⟩ : Shape).ReducesTo [1] ⟨1, ![n]⟩) (hu : 0 < S_.numel) :
    Host.reduce IntOp.addi x (constantI S_ 32 0#32) h hu (ix1 i) = BitVec.ofNat 32 (∑ q : Fin k, f q.val) := by
  classical
  have hdrop : ∀ y : (⟨2, ![n, k]⟩ : Shape).Idx, h.drop y = ix1 i ↔ y 0 = i := by
    intro y
    have hv0 : (h.drop y 0 : Nat) = y 0 := Shape.ReducesTo.drop_apply_val h y 0
    constructor
    · intro e
      rw [e] at hv0
      exact Fin.ext hv0.symm
    · intro e
      funext c
      match c with
      | ⟨0, _⟩ => exact Fin.ext (hv0.trans (congrArg Fin.val e))
  have hback : ∀ y : (⟨2, ![n, k]⟩ : Shape).Idx, y 0 = i → ix2 i (y 1) = y := fun y hy => by
    funext c
    match c with
    | ⟨0, _⟩ => exact hy.symm
    | ⟨1, _⟩ => rfl
  rw [Host.reduce_eq_fold]
  refine (fold_ofNat (Finset.univ.filter fun y : (⟨2, ![n, k]⟩ : Shape).Idx => h.drop y = ix1 i) x (fun y => f (y 1).val) fun y hy => ?_).trans ?_
  · exact (congrArg x (hback y ((hdrop y).1 (Finset.mem_filter.1 hy).2))).symm.trans (hx (y 1))
  · refine congrArg (BitVec.ofNat 32) (Finset.sum_bij' (fun y _ => y 1) (fun q _ => ix2 i q) (fun _ _ => Finset.mem_univ _)
      (fun q _ => Finset.mem_filter.2 ⟨Finset.mem_univ _, (hdrop _).2 rfl⟩)
      (fun y hy => hback y ((hdrop y).1 (Finset.mem_filter.1 hy).2)) (fun _ _ => rfl) (fun _ _ => rfl))

/-- The sum down a column of words that hold naturals. -/
theorem reduce_col {n k : ℕ} (x : IVec (⟨2, ![n, k]⟩ : Shape) 32) (f : ℕ → ℕ) (i : Fin k) (hx : ∀ q : Fin n, x (ix2 q i) = BitVec.ofNat 32 (f q.val))
    (h : (⟨2, ![n, k]⟩ : Shape).ReducesTo [0] ⟨1, ![k]⟩) (hu : 0 < S_.numel) :
    Host.reduce IntOp.addi x (constantI S_ 32 0#32) h hu (ix1 i) = BitVec.ofNat 32 (∑ q : Fin n, f q.val) := by
  classical
  have hdrop : ∀ y : (⟨2, ![n, k]⟩ : Shape).Idx, h.drop y = ix1 i ↔ y 1 = i := by
    intro y
    have hv0 : (h.drop y 0 : Nat) = y 1 := Shape.ReducesTo.drop_apply_val h y 0
    constructor
    · intro e
      rw [e] at hv0
      exact Fin.ext hv0.symm
    · intro e
      funext c
      match c with
      | ⟨0, _⟩ => exact Fin.ext (hv0.trans (congrArg Fin.val e))
  have hback : ∀ y : (⟨2, ![n, k]⟩ : Shape).Idx, y 1 = i → ix2 (y 0) i = y := fun y hy => by
    funext c
    match c with
    | ⟨0, _⟩ => rfl
    | ⟨1, _⟩ => exact hy.symm
  rw [Host.reduce_eq_fold]
  refine (fold_ofNat (Finset.univ.filter fun y : (⟨2, ![n, k]⟩ : Shape).Idx => h.drop y = ix1 i) x (fun y => f (y 0).val) fun y hy => ?_).trans ?_
  · exact (congrArg x (hback y ((hdrop y).1 (Finset.mem_filter.1 hy).2))).symm.trans (hx (y 0))
  · refine congrArg (BitVec.ofNat 32) (Finset.sum_bij' (fun y _ => y 0) (fun q _ => ix2 q i) (fun _ _ => Finset.mem_univ _)
      (fun q _ => Finset.mem_filter.2 ⟨Finset.mem_univ _, (hdrop _).2 rfl⟩)
      (fun y hy => hback y ((hdrop y).1 (Finset.mem_filter.1 hy).2)) (fun _ _ => rfl) (fun _ _ => rfl))

/-- The running sum down a column of words that hold naturals. -/
theorem cum_col {N Nm1 C : ℕ} (hN : Nm1 + 1 = N) (x : IVec (⟨2, ![N, C]⟩ : Shape) 32) (f : ℕ → ℕ) (e : Fin C)
    (hx : ∀ i : Fin N, x (ix2 i e) = BitVec.ofNat 32 (f i.val)) (init : IVec S_ 32) (hinit : ∀ i, init i = 0#32)
    (h : (⟨2, ![N, C]⟩ : Shape).ReduceWindows (![N, 1] : Fin 2 → ℕ) ![1, 1] ![Nm1, 0] ![0, 0] ⟨2, ![N, C]⟩) (hu : 0 < S_.numel) (j : Fin N) :
    Host.reduceWindow IntOp.addi ![N, 1] ![1, 1] ![Nm1, 0] ![0, 0] x init h hu (ix2 j e)
      = BitVec.ofNat 32 ((List.range (j.val + 1)).map f).sum := by
  subst hN
  have hv : init (Shape.Idx.first hu) = BitVec.ofNat 32 0 := hinit _
  have hj := j.isLt
  have hnum : (⟨2, ![Nm1 + 1, 1]⟩ : Shape).numel = Nm1 + 1 := by
    simp [Shape.numel, Fin.prod_univ_two]
  unfold Host.reduceWindow
  refine (Routing.foldl_addi_ofNat _ _ (fun n => if Nm1 ≤ j.val + n.val then f (j.val + n.val - Nm1) else 0) (fun n _ => ?_) _ 0 hv).trans ?_
  · have hn : n.val < Nm1 + 1 := (n.cast hnum).isLt
    have hs := Routing.symm22 (A := Nm1 + 1) (B := 1) n (by rw [Nat.div_one]; exact hn) (Nat.mod_lt _ Nat.one_pos)
    have hw0 : ((⟨2, ![Nm1 + 1, 1]⟩ : Shape).rowMajor.symm n 1).val = 0 := by rw [hs]; exact Nat.mod_one _
    have hw : ((⟨2, ![Nm1 + 1, 1]⟩ : Shape).rowMajor.symm n 0).val = n.val := by rw [hs]; exact Nat.div_one _
    dsimp only
    split
    · next hin =>
      have h1 := hin 0
      change Nm1 ≤ j.val * 1 + ((⟨2, ![Nm1 + 1, 1]⟩ : Shape).rowMajor.symm n 0).val
        ∧ j.val * 1 + ((⟨2, ![Nm1 + 1, 1]⟩ : Shape).rowMajor.symm n 0).val - Nm1 < Nm1 + 1 at h1
      rw [hw] at h1
      rw [if_pos (by omega)]
      refine (congrArg x (funext fun a => Fin.ext ?_)).trans (hx ⟨j.val + n.val - Nm1, by omega⟩)
      match a with
      | ⟨1, _⟩ =>
        show e.val * 1 + ((⟨2, ![Nm1 + 1, 1]⟩ : Shape).rowMajor.symm n 1).val - 0 = e.val
        rw [hw0]; omega
      | ⟨0, _⟩ =>
        show j.val * 1 + ((⟨2, ![Nm1 + 1, 1]⟩ : Shape).rowMajor.symm n 0).val - Nm1 = j.val + n.val - Nm1
        rw [hw, Nat.mul_one]
    · next hin =>
      rw [if_neg fun hle => hin fun a => by
        match a with
        | ⟨1, _⟩ =>
          show 0 ≤ e.val * 1 + ((⟨2, ![Nm1 + 1, 1]⟩ : Shape).rowMajor.symm n 1).val ∧ e.val * 1 + ((⟨2, ![Nm1 + 1, 1]⟩ : Shape).rowMajor.symm n 1).val - 0 < C
          rw [hw0]
          have := e.isLt
          omega
        | ⟨0, _⟩ =>
          show Nm1 ≤ j.val * 1 + ((⟨2, ![Nm1 + 1, 1]⟩ : Shape).rowMajor.symm n 0).val
            ∧ j.val * 1 + ((⟨2, ![Nm1 + 1, 1]⟩ : Shape).rowMajor.symm n 0).val - Nm1 < Nm1 + 1
          rw [hw]
          omega]
      exact hv
  · rw [Nat.zero_add, Routing.map_finRange_val _ (fun w => if Nm1 ≤ j.val + w then f (j.val + w - Nm1) else 0)]
    exact congrArg (BitVec.ofNat 32) ((congrArg (fun M => ((List.range M).map fun w => if Nm1 ≤ j.val + w then f (j.val + w - Nm1) else 0).sum)
      hnum).trans (Routing.sum_window f Nm1 j.val (by omega)))

end Cert.KernelIdeal.Hand

end
-- ==== Proof.VaRoute.lean ====
module

public import proofs.«01_k».proof.Proof.VaTables
public import Idealize.ShloMosaic.Lib.Pointwise

/-! The routing tables at an element: each assignment's padded row, each padded row's token, and each tile's expert. -/

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Cert.Spec
open scoped BigOperators

section
variable (a : IVec S24576 32) (g : ℕ → ℕ) (ha : ∀ j : Fin 24576, a (ix1 j) = BitVec.ofNat 32 (g j.val)) (hg : ∀ j < 24576, g j < 4)
include ha hg

/-- The one-hot bit, at an assignment and an expert. -/
theorem ohM_apply (j : Fin 24576) (e : Fin 4) : ohM a (ix2 j e) = 1#1 ↔ g j.val = e.val := by
  have h1 : broadcastInDim S24576x4 ![0, 1] bcast_S24576x1_S24576x4_0_1 (broadcastInDim S24576x1 ![0] bcast_S24576_S24576x1_0 a) (ix2 j e) = BitVec.ofNat 32 (g j.val) :=
    (Routing.bcRows bcast_S24576_S24576x1_0 bcast_S24576x1_S24576x4_0_1 a j e).trans (ha j)
  have h2 : broadcastInDim S24576x4 ![0, 1] bcast_S1x4_S24576x4_0_1 (broadcastInDim S1x4 ![1] bcast_S4_S1x4_1 (iotaInDim S4 32 0)) (ix2 j e) = BitVec.ofNat 32 e.val :=
    Routing.bcCols bcast_S4_S1x4_1 bcast_S1x4_S24576x4_0_1 (iotaInDim S4 32 0) j e
  have hk := hg j.val j.isLt
  have he := e.isLt
  unfold ohM
  show BitVec.ofBool (_ == _) = 1#1 ↔ _
  rw [h1, h2]
  generalize g j.val = x at hk
  generalize e.val = y at he
  interval_cases x <;> interval_cases y <;> decide

/-- The one-hot word, at an assignment and an expert. -/
theorem ohI_apply (j : Fin 24576) (e : Fin 4) : ohI a (ix2 j e) = BitVec.ofNat 32 (if g j.val = e.val then 1 else 0) := by
  have h := ohM_apply a g ha hg j e
  show BitVec.setWidth 32 (ohM a (ix2 j e)) = _
  generalize ohM a (ix2 j e) = z at h
  by_cases hc : g j.val = e.val
  · rw [if_pos hc, h.2 hc]; rfl
  · rw [if_neg hc]
    have hz : z = 0#1 := by
      have : z ≠ 1#1 := fun h' => hc (h.1 h')
      revert this; clear h; revert z; decide
    rw [hz]; rfl

/-- A sum of ones over the indices with a property counts them. -/
theorem sum_ite_count (P : ℕ → Prop) [DecidablePred P] (N : ℕ) : ∑ q : Fin N, (if P q.val then 1 else 0) = Nat.count P N := by
  rw [Finset.sum_ite, Finset.sum_const_zero, Finset.sum_const, add_zero, smul_eq_mul, mul_one]
  exact Routing.card_filter_fin N P

/-- An expert's count. -/
theorem cntA_apply (e : Fin 4) : cntA a (ix1 e) = BitVec.ofNat 32 (cnt g e.val) := by
  unfold cntA cnt
  refine (reduce_col (n := 24576) (k := 4) (ohI a) (fun j => if g j = e.val then 1 else 0) e (fun q => ohI_apply a g ha hg q e) _ _).trans ?_
  exact congrArg (BitVec.ofNat 32) (sum_ite_count a g ha hg (fun j => g j = e.val) 24576)

/-- An expert's number of tiles. -/
theorem fdiv4_apply (e : Fin 4) : fdiv4 (cntUp (cntA a)) (ix1 e) = BitVec.ofNat 32 (til g e.val) := by
  have hc : cnt g e.val ≤ 24576 := Nat.count_le _
  have h0 : cntUp (cntA a) (ix1 e) = BitVec.ofNat 32 (cnt g e.val + 255) := by
    show IntOp.subi (IntOp.addi (cntA a (ix1 e)) 256#32) 1#32 = _
    rw [cntA_apply a g ha hg]
    show BitVec.ofNat 32 (cnt g e.val) + 256#32 - 1#32 = _
    rw [BitVec.ofNat_add]
    generalize BitVec.ofNat 32 (cnt g e.val) = z
    rw [BitVec.sub_eq_add_neg, BitVec.add_assoc]
    rfl
  exact Routing.pyDiv_ap bcast_S_S4 (cntUp (cntA a)) (id (constantI S_ 32 256#32)) (ix1 e) h0 rfl (by omega) (by decide) (by decide)

/-- Where an expert's tiles end. -/
theorem cum4_apply (e : Fin 4) : cum4 (fdiv4 (cntUp (cntA a))) (ix1 e) = BitVec.ofNat 32 (tend g e.val) :=
  Routing.cumsum1 (N := 4) (Nm1 := 3) rfl (fdiv4 (cntUp (cntA a))) (til g) (fdiv4_apply a g ha hg) _ rfl reduceWindows_S4_S4_w4s1p3_0 h_S_ e

/-- A sum over four experts with one term that is not 0. -/
theorem sum_four (k v : ℕ) (hk : k < 4) (f : ℕ → ℕ) (hf : f k = v) (h0 : ∀ e, e ≠ k → f e = 0) : ∑ q : Fin 4, f q.val = v := by
  rw [Finset.sum_eq_single (⟨k, hk⟩ : Fin 4)]
  · exact hf
  · intro b _ hb
    exact h0 b.val fun h => hb (Fin.ext h)
  · intro h
    exact absurd (Finset.mem_univ _) h

/-- An assignment's place among its expert's. -/
theorem rankA_apply (j : Fin 24576) : rankA (ohI a) (ix1 j) = BitVec.ofNat 32 (rnk g j.val) := by
  have hk := hg j.val j.isLt
  unfold rankA
  refine (reduce_row (n := 24576) (k := 4) _ (fun e => if g j.val = e then rnk g j.val else 0) j (fun e => ?_) _ _).trans
    (congrArg (BitVec.ofNat 32) (sum_four a g ha hg (g j.val) _ hk (fun e => if g j.val = e then rnk g j.val else 0) (if_pos rfl) fun e he => if_neg (Ne.symm he)))
  have hc : cumN (ohI a) (ix2 j e) = BitVec.ofNat 32 (Nat.count (fun i => g i = e.val) (j.val + 1)) := by
    unfold cumN
    refine (cum_col (N := 24576) (Nm1 := 24575) (C := 4) rfl (ohI a) (fun i => if g i = e.val then 1 else 0) e (fun q => ohI_apply a g ha hg q e) _ (fun _ => rfl) _ _ j).trans ?_
    exact congrArg (BitVec.ofNat 32) (Routing.sum_map_ite (fun i => g i = e.val) (j.val + 1))
  show IntOp.muli (IntOp.subi (cumN (ohI a) (ix2 j e)) 1#32) (ohI a (ix2 j e)) = _
  rw [hc, ohI_apply a g ha hg]
  show (BitVec.ofNat 32 _ - 1#32) * BitVec.ofNat 32 _ = BitVec.ofNat 32 _
  by_cases h : g j.val = e.val
  · have hs : Nat.count (fun i => g i = e.val) (j.val + 1) = rnk g j.val + 1 := by
      rw [Nat.count_succ, if_pos h]; unfold rnk; rw [h]
    rw [hs, if_pos h, if_pos h, BitVec.ofNat_add]
    show (BitVec.ofNat 32 (rnk g j.val) + 1#32 - 1#32) * 1#32 = _
    rw [BitVec.add_sub_cancel, BitVec.mul_one]
  · rw [if_neg h, if_neg h]
    exact BitVec.mul_zero

/-- The first padded row of an assignment's expert. -/
theorem baseA_apply (j : Fin 24576) : baseA (ohI a) (cum4 (fdiv4 (cntUp (cntA a)))) (fdiv4 (cntUp (cntA a))) (ix1 j)
    = BitVec.ofNat 32 ((tend g (g j.val) - til g (g j.val)) * 256) := by
  have hk := hg j.val j.isLt
  unfold baseA
  refine (reduce_row (n := 24576) (k := 4) _ (fun e => if g j.val = e then (tend g e - til g e) * 256 else 0) j (fun e => ?_) _ _).trans
    (congrArg (BitVec.ofNat 32) (sum_four a g ha hg (g j.val) _ hk (fun e => if g j.val = e then (tend g e - til g e) * 256 else 0) (if_pos rfl) fun e he => if_neg (Ne.symm he)))
  have hb : broadcastInDim S24576x4 ![0, 1] bcast_S1x4_S24576x4_0_1 (broadcastInDim S1x4 ![1] bcast_S4_S1x4_1
      (muli (subi (cum4 (fdiv4 (cntUp (cntA a)))) (fdiv4 (cntUp (cntA a)))) (broadcastInDim S4 ![] bcast_S_S4 (constantI S_ 32 256#32)))) (ix2 j e)
      = BitVec.ofNat 32 ((tend g e.val - til g e.val) * 256) := by
    refine (Routing.bcCols bcast_S4_S1x4_1 bcast_S1x4_S24576x4_0_1 _ j e).trans ?_
    show IntOp.muli (IntOp.subi (cum4 (fdiv4 (cntUp (cntA a))) (ix1 e)) (fdiv4 (cntUp (cntA a)) (ix1 e))) 256#32 = _
    rw [cum4_apply a g ha hg, fdiv4_apply a g ha hg]
    show (BitVec.ofNat 32 (tend g e.val) - BitVec.ofNat 32 (til g e.val)) * 256#32 = _
    have h := til_le_tend g e.val
    obtain ⟨d, hd⟩ : ∃ d, tend g e.val = d + til g e.val := ⟨tend g e.val - til g e.val, by omega⟩
    rw [hd, BitVec.ofNat_add, BitVec.add_sub_cancel, Nat.add_sub_cancel]
    apply BitVec.eq_of_toNat_eq; simp [Nat.mul_mod]
  show IntOp.muli (ohI a (ix2 j e)) _ = _
  rw [hb, ohI_apply a g ha hg]
  by_cases h : g j.val = e.val
  · rw [if_pos h, if_pos h]
    exact BitVec.one_mul _
  · rw [if_neg h, if_neg h]
    exact BitVec.zero_mul

/-- Each assignment's padded row. -/
theorem posA_apply (j : Fin 24576) : addi (baseA (ohI a) (cum4 (fdiv4 (cntUp (cntA a)))) (fdiv4 (cntUp (cntA a)))) (rankA (ohI a)) (ix1 j)
    = BitVec.ofNat 32 (pos g j.val) := by
  show IntOp.addi _ _ = _
  rw [baseA_apply a g ha hg, rankA_apply a g ha hg]
  exact (BitVec.ofNat_add _ _).symm

/-- The expert of an assignment's tile. -/
theorem tileOf_pos (j : Fin 24576) : tileOf (cum4 (fdiv4 (cntUp (cntA a)))) (pos g j.val / 256) = g j.val := by
  have hk := hg j.val j.isLt
  unfold tileOf
  rw [Routing.count_congr_of_lt (Q := fun e => tend g e ≤ pos g j.val / 256) 4 fun e he => ?_, tile_count g hg j.isLt]
  · omega
  · have h99 := tend_le g hg e he
    have hv : (cum4 (fdiv4 (cntUp (cntA a))) (ix1 (⟨e, he⟩ : Fin 4))).toInt = (tend g e : ℤ) := by
      rw [cum4_apply a g ha hg]
      exact StableHlo.Predicate.toInt_ofNat_small _ (show tend g e < 2 ^ 31 by omega)
    constructor
    · rintro ⟨_, h⟩
      rw [hv] at h
      exact_mod_cast h
    · intro h
      exact ⟨he, by rw [hv]; exact_mod_cast h⟩

end

/-- A row's index is its own when it is not negative. -/
theorem wrapN_apply (p : IVec S24576 32) (j : Fin 24576) (v : ℕ) (hv : v < 25600) (h : p (ix1 j) = BitVec.ofNat 32 v) :
    wrapN p (ix2 j (0 : Fin 1)) = BitVec.ofNat 32 v := by
  unfold wrapN
  refine (Routing.bcCol bcast_S24576_S24576x1_0 _ j).trans ?_
  show Scalar.select (IntOp.cmpi .slt (p (ix1 j)) 0#32) (IntOp.addi (p (ix1 j)) 25600#32) (p (ix1 j)) = _
  rw [Routing.wrap_of_lt _ _ (by rw [h, BitVec.toNat_ofNat]; omega), h]

/-- A token's index is not negative, so it stays. -/
theorem wrapT_apply (p : IVec S25600 32) (j : Fin 25600) (v : ℕ) (hv : v < 12288) (h : p (ix1 j) = BitVec.ofNat 32 v) :
    wrapT p (ix2 j (0 : Fin 1)) = BitVec.ofNat 32 v := by
  unfold wrapT
  refine (Routing.bcCol bcast_S25600_S25600x1_0 _ j).trans ?_
  show Scalar.select (IntOp.cmpi .slt (p (ix1 j)) 0#32) (IntOp.addi (p (ix1 j)) 12288#32) (p (ix1 j)) = _
  rw [Routing.wrap_of_lt _ _ (by rw [h, BitVec.toNat_ofNat]; omega), h]

/-- An assignment's token. -/
theorem fdivN_apply (j : Fin 24576) : fdivN (iotaInDim S24576 32 0) (ix1 j) = BitVec.ofNat 32 (j.val / 2) := by
  have hj := j.isLt
  exact Routing.pyDiv_ap bcast_S_S24576 (iotaInDim S24576 32 0) (id (constantI S_ 32 2#32)) (ix1 j) rfl rfl (by omega) (by decide) (by decide)

/-- Where a write of the order lands. -/
theorem scatter_lands_at (idx : IVec S24576x1 32) (i : Fin 24576) (x : Fin 25600) :
    scatter_S25600_S24576x1_S24576_n_0_0_1.resultIdx? (ix1 i) idx = some (ix1 x) ↔ (idx (ix2 i (0 : Fin 1))).toInt = (x.val : ℤ) := by
  let d := scatter_S25600_S24576x1_S24576_n_0_0_1
  have hm : (0 : Fin 1) ∈ d.scatterDimsToOperandDims := List.mem_singleton.2 rfl
  have hwin : d.window (ix1 i) 0 = 0 := by
    unfold ScatterDims.window
    rw [dif_neg fun h => (of_decide_eq_true (List.mem_filter.1 h).2) (List.mem_singleton.2 rfl)]
  have hstart : d.start (ix1 i) idx 0 = (idx (ix2 i (0 : Fin 1))).toInt := by
    unfold ScatterDims.start
    rw [dif_pos hm]
    have hsi : d.siIdx (ix1 i) ⟨d.scatterDimsToOperandDims.idxOf 0, List.idxOf_lt_length_iff.2 hm⟩ = ix2 i (0 : Fin 1) := by
      funext b'
      apply Fin.ext
      match b' with
      | ⟨0, _⟩ =>
        unfold ScatterDims.siIdx
        rw [dif_neg (by exact Nat.zero_ne_one)]
        unfold ScatterDims.siCoord
        simp only [Fin.val_cast]
        have e : ∀ X : Fin 1, ((ix1 i : S24576.Idx) X).val = i.val := fun X => by
          obtain rfl : X = 0 := Subsingleton.elim _ _
          rfl
        exact e _
      | ⟨1, _⟩ =>
        unfold ScatterDims.siIdx
        rw [dif_pos (by rfl)]
        rfl
    rw [hsi]
  refine (Routing.resultIdx?_ix1 d (ix1 i) idx x).trans ?_
  rw [hstart, hwin]
  simp

/-- The padded row of an assignment takes the assignment's token. -/
theorem orderA_apply (p : IVec S24576 32) (v : ℕ → ℕ) (hv : ∀ j < 24576, v j < 25600) (hinj : ∀ i j, i < 24576 → j < 24576 → v i = v j → i = j)
    (h : ∀ j : Fin 24576, p (ix1 j) = BitVec.ofNat 32 (v j.val)) (j : Fin 24576) (x : Fin 25600) (hx : x.val = v j.val) :
    orderA p (ix1 x) = BitVec.ofNat 32 (j.val / 2) := by
  have hw : ∀ i : Fin 24576, (wrapN p (ix2 i (0 : Fin 1))).toInt = (v i.val : ℤ) := fun i => by
    have hi := hv i.val i.isLt
    rw [wrapN_apply p i _ hi (h i)]
    exact StableHlo.Predicate.toInt_ofNat_small _ (by omega)
  unfold orderA
  refine Routing.scatter_set_hit _ _ _ _ _ _ (fun k hk => ?_) (ix1 j) ((scatter_lands_at _ j x).2 (by rw [hw, hx]))
  have hk' : k = ix1 (k 0) := by
    funext b
    obtain rfl : b = 0 := Subsingleton.elim _ _
    rfl
  rw [hk'] at hk ⊢
  have h1 := (scatter_lands_at _ (k 0) x).1 hk
  replace h1 := (hw (k 0)).symm.trans h1
  rw [hx] at h1
  have h2 : (k 0) = j := Fin.ext (hinj _ _ (k 0).isLt j.isLt (by exact_mod_cast h1))
  rw [h2]
  exact fdivN_apply j

end Cert.KernelIdeal.Hand

end
-- ==== Proof.VaDecode.lean ====
/- The packed codes and scales decoded, over the extended reals: what number a 4-bit code and a scale byte denote, and that the
   kernel's decoding of four codes at a time gives each code's number. -/
module

public import Idealize.ShloMosaic.Init
public import Idealize.ShloMosaic.PureOps.Ideal
public import Idealize.ShloMosaic.Lib.BitcastFour
public import Idealize.ShloMosaic.Lib.Pointwise
public import Idealize.ShloMosaic.Lib.IdealHost
public import Mathlib.Tactic.IntervalCases
public import Mathlib.Tactic.NormNum
public import Mathlib.Tactic.Ring

@[expose] public section

noncomputable section

namespace Cert.Spec

open Idealize.ShloMosaic

/-- The low code of a byte as an eight-bit float's pattern: the sign to the top, the magnitude to bits 2 to 4. -/
def lowB (c : BitVec 8) : BitVec 8 := ((c <<< 4) &&& 0x80#8) ||| ((c <<< 2) &&& 0x1C#8)
/-- The high code of a byte as an eight-bit float's pattern. -/
def highB (c : BitVec 8) : BitVec 8 := (c &&& 0x80#8) ||| ((c >>> 2) &&& 0x1C#8)

/-- The number of an eight-bit float's pattern that holds a code: the pattern's, times 64. -/
def num4 (b : BitVec 8) : EReal := Ideal.ofBits .fp8e4m3 b * Ideal.ofBits .bf16 0x4280#16
/-- The number of a scale byte: that of the 32-bit float with this exponent field. -/
def scl (b : BitVec 8) : EReal := Ideal.ofBits .f32 (b.setWidth 32 <<< 23)

/-- The bytes of a word's low codes, each from its own byte. -/
theorem low_word (w : BitVec 32) (s : Fin 4) :
    (((w <<< 4) &&& 2155905152#32) ||| ((w <<< 2) &&& 471604252#32)).extractLsb' (8 * s.val) 8 = lowB (w.extractLsb' (8 * s.val) 8) := by
  unfold lowB
  apply BitVec.eq_of_getLsbD_eq
  intro i hi
  fin_cases s <;> interval_cases i <;> simp

/-- The bytes of a word's high codes, each from its own byte. -/
theorem high_word (w : BitVec 32) (s : Fin 4) :
    ((w &&& 2155905152#32) ||| ((w >>> 2) &&& 471604252#32)).extractLsb' (8 * s.val) 8 = highB (w.extractLsb' (8 * s.val) 8) := by
  unfold highB
  apply BitVec.eq_of_getLsbD_eq
  intro i hi
  fin_cases s <;> interval_cases i <;> simp

/-- A word read as four bytes: row `p` is byte `p % 4` of the word in row `p / 4`. -/
theorem bitcast_32_8_ix2 {R r n : Nat} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 x h (ValueIdx.ix2 p l) = (x (ValueIdx.ix2 a l)).extractLsb' (8 * (p.val % 4)) 8 := by
  apply BitVec.eq_of_getLsbD_eq
  intro i hi
  rw [bitcast_getLsbD x h _ i hi (by decide), BitVec.getLsbD_extractLsb']
  have hr : (⟨2, ![R, n]⟩ : Shape).row (ValueIdx.ix2 p l) = p.val := rfl
  have ep : ((⟨2, ![R, n]⟩ : Shape).row (ValueIdx.ix2 p l) * 8 + i) / 32 = a.val := by rw [hr]; omega
  have eq : ((⟨2, ![R, n]⟩ : Shape).row (ValueIdx.ix2 p l) * 8 + i) % 32 = 8 * (p.val % 4) + i := by rw [hr]; omega
  rw [eq]
  simp only [hi, decide_true, Bool.true_and]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (by show ¬ 1 + 2 = 2; omega))

/-- Four bytes read as a word: byte `s` of the word in row `a` is row `4 a + s`. -/
theorem byte_bitcast_ix2 {R r n : Nat} (x : (⟨2, ![R, n]⟩ : Shape).Idx → BitVec 8)
    (h : (⟨2, ![R, n]⟩ : Shape).Bitcasts 8 ⟨2, ![r, n]⟩ 32) (a : Fin r) (l : Fin n) (s : Nat) (hs : s < 4) (p : Fin R)
    (hp : p.val = 4 * a.val + s) :
    (bitcast ⟨2, ![r, n]⟩ 32 x h (ValueIdx.ix2 a l)).extractLsb' (8 * s) 8 = x (ValueIdx.ix2 p l) := by
  apply BitVec.eq_of_getLsbD_eq
  intro i hi
  rw [BitVec.getLsbD_extractLsb']
  simp only [hi, decide_true, Bool.true_and]
  rw [bitcast_8_32_getLsbD_ix2 x h a l (8 * s + i) (by omega) p (by omega)]
  congr 1; omega

/-- The reference's number of a code: chosen bit by bit. -/
def sel4 (c : BitVec 32) : EReal :=
  let b0 := c &&& 1#32 != 0#32
  let b1 := c &&& 2#32 != 0#32
  let b2 := c &&& 4#32 != 0#32
  let b3 := c &&& 8#32 != 0#32
  let mag : EReal := bif b2 then (bif b1 then (bif b0 then Ideal.ofBits .bf16 0x40C0#16 else Ideal.ofBits .bf16 0x4080#16)
      else (bif b0 then Ideal.ofBits .bf16 0x4040#16 else Ideal.ofBits .bf16 0x4000#16))
    else (bif b1 then (bif b0 then Ideal.ofBits .bf16 0x3FC0#16 else Ideal.ofBits .bf16 0x3F80#16)
      else (bif b0 then Ideal.ofBits .bf16 0x3F00#16 else Ideal.ofBits .bf16 0x0000#16))
  bif b3 then -mag else mag

/-- The eight-bit float's pattern that holds a code. -/
def nb (q : BitVec 4) : BitVec 8 := (((q.setWidth 8) <<< 4) &&& 0x80#8) ||| (((q.setWidth 8) <<< 2) &&& 0x1C#8)

/-- The byte made of a low code, from the code's four bits. -/
theorem lowB_eq (c : BitVec 8) : lowB c = nb (c.extractLsb' 0 4) := by revert c; decide
/-- The byte made of a high code, from the code's four bits. -/
theorem highB_eq (c : BitVec 8) : highB c = nb (c.extractLsb' 4 4) := by revert c; decide
/-- A low code as a word is its four bits. -/
theorem low_eq (c : BitVec 8) : c.setWidth 32 &&& 15#32 = (c.extractLsb' 0 4).setWidth 32 := by revert c; decide
/-- A high code as a word is its four bits. -/
theorem high_eq (c : BitVec 8) : (c.setWidth 32).sshiftRight 4 = (c.extractLsb' 4 4).setWidth 32 := by revert c; decide

/- The constants, as reals. -/
theorem bf_64 : Ideal.ofBits .bf16 0x4280#16 = (((64 : ℝ) : ℝ) : EReal) := by
  simp [Ideal.ofBits, Ideal.ieee, -EReal.coe_mul] <;> norm_num
/-- The value of the 16-bit float 6. -/
theorem bf_6 : Ideal.ofBits .bf16 0x40C0#16 = (((6 : ℝ) : ℝ) : EReal) := by
  simp [Ideal.ofBits, Ideal.ieee, -EReal.coe_mul] <;> norm_num
/-- The value of the 16-bit float 4. -/
theorem bf_4 : Ideal.ofBits .bf16 0x4080#16 = (((4 : ℝ) : ℝ) : EReal) := by
  simp [Ideal.ofBits, Ideal.ieee, -EReal.coe_mul] <;> norm_num
/-- The value of the 16-bit float 3. -/
theorem bf_3 : Ideal.ofBits .bf16 0x4040#16 = (((3 : ℝ) : ℝ) : EReal) := by
  simp [Ideal.ofBits, Ideal.ieee, -EReal.coe_mul] <;> norm_num
/-- The value of the 16-bit float 2. -/
theorem bf_2 : Ideal.ofBits .bf16 0x4000#16 = (((2 : ℝ) : ℝ) : EReal) := by
  simp [Ideal.ofBits, Ideal.ieee, -EReal.coe_mul] <;> norm_num
/-- The value of the 16-bit float 1.5. -/
theorem bf_1h : Ideal.ofBits .bf16 0x3FC0#16 = (((3 / 2 : ℝ) : ℝ) : EReal) := by
  simp [Ideal.ofBits, Ideal.ieee, -EReal.coe_mul] <;> norm_num
/-- The value of the 16-bit float 1. -/
theorem bf_1 : Ideal.ofBits .bf16 0x3F80#16 = (((1 : ℝ) : ℝ) : EReal) := by
  simp [Ideal.ofBits, Ideal.ieee, -EReal.coe_mul] <;> norm_num
/-- The value of the 16-bit float 0.5. -/
theorem bf_h : Ideal.ofBits .bf16 0x3F00#16 = (((1 / 2 : ℝ) : ℝ) : EReal) := by
  simp [Ideal.ofBits, Ideal.ieee, -EReal.coe_mul] <;> norm_num
/-- The value of the 16-bit float 0. -/
theorem bf_0 : Ideal.ofBits .bf16 0x0000#16 = (((0 : ℝ) : ℝ) : EReal) := by
  simp [Ideal.ofBits, Ideal.ieee, -EReal.coe_mul]

/-- The patterns of the codes, as reals. -/
theorem nb_real (q : BitVec 4) : Ideal.ofBits .fp8e4m3 (nb q) = (((![0, 1 / 128, 1 / 64, 3 / 128, 1 / 32, 3 / 64, 1 / 16, 3 / 32,
    0, -(1 / 128), -(1 / 64), -(3 / 128), -(1 / 32), -(3 / 64), -(1 / 16), -(3 / 32)] : Fin 16 → ℝ) q.toFin : ℝ) : EReal) := by
  obtain ⟨q⟩ := q
  fin_cases q <;> simp [nb, Ideal.ofBits, Ideal.e4m3fn, -EReal.coe_mul, -EReal.coe_neg] <;> norm_num

/-- A code's pattern, times 64, is the number chosen bit by bit. -/
theorem num4_nb (q : BitVec 4) : num4 (nb q) = sel4 (q.setWidth 32) := by
  unfold num4 sel4
  rw [nb_real, bf_64, bf_6, bf_4, bf_3, bf_2, bf_1h, bf_1, bf_h, bf_0]
  obtain ⟨q⟩ := q
  fin_cases q <;> simp [← EReal.coe_mul, ← EReal.coe_neg] <;> norm_num

/-- A low code's value is the one the selections give. -/
theorem num4_low (c : BitVec 8) : num4 (lowB c) = sel4 (c.setWidth 32 &&& 15#32) := by
  rw [lowB_eq, low_eq, num4_nb]
/-- A high code's value is the one the selections give. -/
theorem num4_high (c : BitVec 8) : num4 (highB c) = sel4 ((c.setWidth 32).sshiftRight 4) := by
  rw [highB_eq, high_eq, num4_nb]

/-- A scale byte shifted to the exponent's place: the sign is 0, the exponent is the byte, the fraction is 0. -/
theorem scl_fields (b : BitVec 8) :
    ((b.setWidth 32 <<< 23).extractLsb' 31 1 = 0#1) ∧ ((b.setWidth 32 <<< 23).extractLsb' 23 8).toNat = b.toNat
      ∧ ((b.setWidth 32 <<< 23).extractLsb' 0 23).toNat = 0 := by revert b; decide

/-- A scale byte other than the smallest and the largest denotes two to its value less 127. -/
theorem scl_eq (b : BitVec 8) (h1 : 1 ≤ b.toNat) (h2 : b.toNat ≤ 254) :
    scl b = Ideal.pow (Ideal.ofBits .f32 0x40000000#32) (((b.toNat : ℝ) : EReal) - Ideal.ofBits .f32 0x42FE0000#32) := by
  obtain ⟨e1, e2, e3⟩ := scl_fields b
  have h127 : Ideal.ofBits .f32 0x42FE0000#32 = ((127 : ℝ) : EReal) := by
    simp [Ideal.ofBits, Ideal.ieee, -EReal.coe_mul]; norm_num
  have h2' : Ideal.ofBits .f32 0x40000000#32 = ((2 : ℝ) : EReal) := by
    simp [Ideal.ofBits, Ideal.ieee, -EReal.coe_mul]; norm_num
  rw [h127, h2', ← EReal.coe_sub, Ideal.pow_coe_coe]
  unfold scl
  show Ideal.ieee 8 23 _ = _
  unfold Ideal.ieee
  simp only [e1, e2, e3, show (8 + 23 : ℕ) = 31 from rfl]
  rw [if_neg (by omega), if_neg (by omega)]
  refine congrArg _ ?_
  have e : (((b.toNat : ℕ) : ℝ) - 127) = (((b.toNat : ℤ) - 127 : ℤ) : ℝ) := by push_cast; ring
  rw [Real.rpow_eq_pow, e, Real.rpow_intCast]
  have e' : ((b.toNat : ℤ) - 127) = 23 + ((b.toNat : ℤ) - (2 ^ (8 - 1) - 1) - 23) := by norm_num
  rw [e', zpow_add₀ (by norm_num)]
  norm_num

end Cert.Spec

end
-- ==== Proof.VaLane.lean ====
module

public import proofs.«01_k».proof.Proof.KiInv
public import proofs.«01_k».proof.Proof.VaDecode
public import Idealize.ShloMosaic.Lib.Pointwise

/-! The lane each column's scale is gathered from, as a number. -/

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic

/-- The lane from a block's first lane and a column, on words. -/
def laneW (w io : BitVec 32) : BitVec 32 :=
  let q := IntOp.divsi ArithUnit.vector io 32#32
  let sg := IntOp.subi (BitVec.setWidth 32 (IntOp.cmpi .sgt io 0#32)) (BitVec.setWidth 32 (IntOp.cmpi .slt io 0#32))
  let ne := IntOp.andi (IntOp.cmpi .ne sg (Scalar.subi (Scalar.extui (Scalar.cmpi .sgt 32#32 0#32)) (Scalar.extui (Scalar.cmpi .slt 32#32 0#32))))
    (IntOp.cmpi .ne (IntOp.remsi ArithUnit.vector io 32#32) 0#32)
  let fl := Scalar.select ne (IntOp.subi q 1#32) q
  let l := IntOp.addi w fl
  Scalar.select (IntOp.cmpi .slt l 0#32) (IntOp.addi l 128#32) l

/-- The lane a block of 32 rows takes, at a column. -/
theorem lane32_apply (w : BitVec 32) (r : Fin 32) (c : Fin 128) : lane32 w (ix2 r c) = laneW w (BitVec.ofNat 32 c.val) := by
  pointwise [lane32]
  rfl
/-- The lane a block of 64 rows takes, at a column. -/
theorem lane64_apply (w : BitVec 32) (r : Fin 64) (c : Fin 128) : lane64 w (ix2 r c) = laneW w (BitVec.ofNat 32 c.val) := by
  pointwise [lane64]
  rfl

/-- A column's lane is the block's first plus a thirty-second of the column. -/
theorem laneW_val : ∀ (j : Fin 24) (c : Fin 128), (laneW (BitVec.ofNat 32 (4 * j.val)) (BitVec.ofNat 32 c.val)).toNat % 128 = 4 * j.val + c.val / 32 := by
  decide +kernel

open Cert.Spec

/-- The rows of codes that a trip of the first loop reads. -/
theorem codes1_apply (Q : Vec Ideal S1792x3072 .i8) (k : Fin k0_t1_loop.trips) (r : Fin 32) (l : Fin 3072) (n : Fin 1792) (hn : n.val = 32 * k.val + r.val) :
    codes1 (F := Ideal) Q k (ix2 r l) = Q (ix2 n l) := by
  unfold codes1
  refine congrArg Q (funext fun a => Fin.ext ?_)
  have ho := k0_off4_eq k
  match a with
  | ⟨0, _⟩ => show k0_off4 k 0 + 1 * r.val = n.val; rw [ho]; show 32 * k.val + 1 * r.val = n.val; omega
  | ⟨1, _⟩ => show k0_off4 k 1 + 1 * l.val = l.val; rw [ho]; show 0 + 1 * l.val = l.val; omega

/-- The rows of scales that a trip of the first loop reads. -/
theorem scales1_apply (Z : Vec Ideal S1x1792x128 .i8) (k : Fin k0_t1_loop.trips) (r : Fin 32) (l : Fin 128) (n : Fin 1792) (hn : n.val = 32 * k.val + r.val) :
    scales1 (F := Ideal) Z k (ix3 0 r l) = Z (ix3 0 n l) := by
  unfold scales1
  refine congrArg Z (funext fun a => Fin.ext ?_)
  have ho := k0_off5_eq k
  match a with
  | ⟨0, _⟩ => show k0_off5 k 0 + 1 * 0 = 0; rw [ho]; rfl
  | ⟨1, _⟩ => show k0_off5 k 1 + 1 * r.val = n.val; rw [ho]; show 32 * k.val + 1 * r.val = n.val; omega
  | ⟨2, _⟩ => show k0_off5 k 2 + 1 * l.val = l.val; rw [ho]; show 0 + 1 * l.val = l.val; omega

/-- The rows of codes that a trip of the second loop reads. -/
theorem codes2_apply (Q : Vec Ideal S1536x1792 .i8) (k : Fin k0_t2_loop.trips) (r : Fin 32) (l : Fin 1792) (n : Fin 1536) (hn : n.val = 32 * k.val + r.val) :
    codes2 (F := Ideal) Q k (ix2 r l) = Q (ix2 n l) := by
  unfold codes2
  refine congrArg Q (funext fun a => Fin.ext ?_)
  have ho := k0_off30_eq k
  match a with
  | ⟨0, _⟩ => show k0_off30 k 0 + 1 * r.val = n.val; rw [ho]; show 32 * k.val + 1 * r.val = n.val; omega
  | ⟨1, _⟩ => show k0_off30 k 1 + 1 * l.val = l.val; rw [ho]; show 0 + 1 * l.val = l.val; omega

/-- The rows of scales that a trip of the second loop reads. -/
theorem scales2_apply (Z : Vec Ideal S1x3072x128 .i8) (k : Fin k0_t2_loop.trips) (r : Fin 64) (l : Fin 128) (n : Fin 3072) (hn : n.val = 64 * k.val + r.val) :
    scales2 (F := Ideal) Z k (ix3 0 r l) = Z (ix3 0 n l) := by
  unfold scales2
  refine congrArg Z (funext fun a => Fin.ext ?_)
  have ho := k0_off31_eq k
  match a with
  | ⟨0, _⟩ => show k0_off31 k 0 + 1 * 0 = 0; rw [ho]; rfl
  | ⟨1, _⟩ => show k0_off31 k 1 + 1 * r.val = n.val; rw [ho]; show 64 * k.val + 1 * r.val = n.val; omega
  | ⟨2, _⟩ => show k0_off31 k 2 + 1 * l.val = l.val; rw [ho]; show 0 + 1 * l.val = l.val; omega

/-- The scales of a trip as numbers. -/
theorem pay4_apply (Z : Vec Ideal S1x32x128 .i8) (r : Fin 32) (l : Fin 128) : k0_pay4 (F := Ideal) Z (ix2 r l) = scl (Z (ix3 0 r l)) := by
  pointwise [k0_pay4, scl]
  rfl
/-- The first loop's scales, from their bytes. -/
theorem pay92_apply (Z : Vec Ideal S1x32x128 .i8) (r : Fin 32) (l : Fin 128) : k0_pay92 (F := Ideal) Z (ix2 r l) = scl (Z (ix3 0 r l)) := by
  pointwise [k0_pay92, scl]
  rfl
/-- The second loop's scales, from their bytes. -/
theorem pay180_apply (Z : Vec Ideal S1x64x128 .i8) (r : Fin 64) (l : Fin 128) : k0_pay180 (F := Ideal) Z (ix2 r l) = scl (Z (ix3 0 r l)) := by
  pointwise [k0_pay180, scl]
  rfl

end Cert.KernelIdeal.Hand

end
-- ==== Proof.VaWeights.lean ====
module

public import proofs.«01_k».proof.Proof.VaLane
public import Idealize.ShloMosaic.Lib.Pointwise

/-! The decoded weight arrays, element by element: a code's number times its group's scale. -/

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic

open Cert.Spec

/-- The low codes of a trip's words as patterns. -/
theorem low_bytes {n : ℕ} (x : (⟨2, ![32, n]⟩ : Shape).Idx → BitVec 8) (h : (⟨2, ![32, n]⟩ : Shape).Bitcasts 8 ⟨2, ![8, n]⟩ 32)
    (h' : (⟨2, ![8, n]⟩ : Shape).Bitcasts 32 ⟨2, ![32, n]⟩ 8) (r : Fin 32) (l : Fin n) :
    bitcast ⟨2, ![32, n]⟩ 8 (fun i => (bitcast ⟨2, ![8, n]⟩ 32 x h i <<< 4 &&& 2155905152#32) ||| (bitcast ⟨2, ![8, n]⟩ 32 x h i <<< 2 &&& 471604252#32)) h' (ix2 r l)
      = lowB (x (ix2 r l)) := by
  have ha : r.val / 4 < 8 := by omega
  have hs : r.val % 4 < 4 := by omega
  refine (bitcast_32_8_ix2 _ h' r l ⟨r.val / 4, ha⟩ rfl).trans ?_
  refine (low_word _ ⟨r.val % 4, hs⟩).trans (congrArg lowB ?_)
  exact byte_bitcast_ix2 x h ⟨r.val / 4, ha⟩ l (r.val % 4) hs r (by show r.val = 4 * (r.val / 4) + r.val % 4; omega)

/-- The high codes of a trip's words as patterns. -/
theorem high_bytes {n : ℕ} (x : (⟨2, ![32, n]⟩ : Shape).Idx → BitVec 8) (h : (⟨2, ![32, n]⟩ : Shape).Bitcasts 8 ⟨2, ![8, n]⟩ 32)
    (h' : (⟨2, ![8, n]⟩ : Shape).Bitcasts 32 ⟨2, ![32, n]⟩ 8) (r : Fin 32) (l : Fin n) :
    bitcast ⟨2, ![32, n]⟩ 8 (fun i => (bitcast ⟨2, ![8, n]⟩ 32 x h i &&& 2155905152#32) ||| (bitcast ⟨2, ![8, n]⟩ 32 x h i >>> 2 &&& 471604252#32)) h' (ix2 r l)
      = highB (x (ix2 r l)) := by
  have ha : r.val / 4 < 8 := by omega
  have hs : r.val % 4 < 4 := by omega
  refine (bitcast_32_8_ix2 _ h' r l ⟨r.val / 4, ha⟩ rfl).trans ?_
  refine (high_word _ ⟨r.val % 4, hs⟩).trans (congrArg highB ?_)
  exact byte_bitcast_ix2 x h ⟨r.val / 4, ha⟩ l (r.val % 4) hs r (by show r.val = 4 * (r.val / 4) + r.val % 4; omega)

/-- The low codes' bytes, read as floats. -/
theorem pay3_apply (x : Vec Ideal S32x3072 .i8) (r : Fin 32) (l : Fin 3072) :
    k0_pay3 (F := Ideal) x (ix2 r l) = Ideal.ofBits .fp8e4m3 (lowB (x (ix2 r l))) :=
  congrArg (Ideal.ofBits .fp8e4m3) (low_bytes (n := 3072) x bitcasts_S32x3072_w8_S8x3072_w32 bitcasts_S8x3072_w32_S32x3072_w8 r l)

/-- The high codes' bytes, read as floats. -/
theorem pay91_apply (x : Vec Ideal S32x3072 .i8) (r : Fin 32) (l : Fin 3072) :
    k0_pay91 (F := Ideal) (k0_pay2 x) (ix2 r l) = Ideal.ofBits .fp8e4m3 (highB (x (ix2 r l))) :=
  congrArg (Ideal.ofBits .fp8e4m3) (high_bytes (n := 3072) x bitcasts_S32x3072_w8_S8x3072_w32 bitcasts_S8x3072_w32_S32x3072_w8 r l)

/-- The down weights' rows alternate between the low and the high codes of a row of bytes. -/
theorem pay179_apply (x : Vec Ideal S32x1792 .i8) (r : Fin 64) (l : Fin 1792) (a : Fin 32) (ha : a.val = r.val / 2) :
    k0_pay179 (F := Ideal) x (ix2 r l)
      = Ideal.ofBits .fp8e4m3 (if r.val % 2 = 0 then lowB (x (ix2 a l)) else highB (x (ix2 a l))) := by
  have e1 := low_bytes (n := 1792) x bitcasts_S32x1792_w8_S8x1792_w32 bitcasts_S8x1792_w32_S32x1792_w8 a l
  have e2 := high_bytes (n := 1792) x bitcasts_S32x1792_w8_S8x1792_w32 bitcasts_S8x1792_w32_S32x1792_w8 a l
  unfold k0_pay179
  rw [interleaveRows_apply]
  refine (ite_congr (c := r.val % 2 = 0) rfl (fun _ => ?_) (fun _ => ?_)).trans (apply_ite (Ideal.ofBits .fp8e4m3) _ _ _).symm
  · exact (congrArg _ (funext fun b => by
      match b with
      | ⟨0, _⟩ => exact Fin.ext ha.symm
      | ⟨1, _⟩ => rfl)).trans (congrArg (Ideal.ofBits .fp8e4m3) e1)
  · exact (congrArg _ (funext fun b => by
      match b with
      | ⟨0, _⟩ => exact Fin.ext ha.symm
      | ⟨1, _⟩ => rfl)).trans (congrArg (Ideal.ofBits .fp8e4m3) e2)

/-- An element of a block of gate or up weights. -/
theorem blk32_apply (D : FVec Ideal S32x3072 .bf16) (S : FVec Ideal S32x128 .f32) (j : Fin 24) (r : Fin 32) (c : Fin 128)
    (k : Fin 3072) (hk : k.val = 128 * j.val + c.val) (q : Fin 128) (hq : q.val = k.val / 32) :
    blk32 (F := Ideal) D S j (ix2 r c) = D (ix2 r k) * Ideal.ofBits .bf16 0x4280#16 * S (ix2 r q) := by
  have e1 : extractStridedSlice S32x128 ![0, 128 * j.val] D (slices32 j) (ix2 r c) = D (ix2 r k) := by
    refine congrArg D (funext fun a => Fin.ext ?_)
    match a with
    | ⟨0, _⟩ => show 0 + r.val = r.val; omega
    | ⟨1, _⟩ => show 128 * j.val + c.val = k.val; omega
  have e2 : dynamicGather 1 S (lane32 (BitVec.ofNat 32 (4 * j.val))) (ix2 r c) = S (ix2 r q) := by
    refine congrArg S (funext fun a => Fin.ext ?_)
    match a with
    | ⟨0, _⟩ => rfl
    | ⟨1, _⟩ =>
      show (lane32 (BitVec.ofNat 32 (4 * j.val)) (ix2 r c)).toNat % 128 = q.val
      rw [lane32_apply, laneW_val]; omega
  unfold blk32
  rw [shapeCast_id]
  exact congrArg₂ (· * ·) (congrArg (· * Ideal.ofBits .bf16 0x4280#16) e1) e2

/-- An element of a block of down weights. -/
theorem blk64_apply (D : FVec Ideal S64x1792 .bf16) (S : FVec Ideal S64x128 .f32) (j : Fin 14) (r : Fin 64) (c : Fin 128)
    (k : Fin 1792) (hk : k.val = 128 * j.val + c.val) (q : Fin 128) (hq : q.val = k.val / 32) :
    blk64 (F := Ideal) D S j (ix2 r c) = D (ix2 r k) * Ideal.ofBits .bf16 0x4280#16 * S (ix2 r q) := by
  have e1 : extractStridedSlice S64x128 ![0, 128 * j.val] D (slices64 j) (ix2 r c) = D (ix2 r k) := by
    refine congrArg D (funext fun a => Fin.ext ?_)
    match a with
    | ⟨0, _⟩ => show 0 + r.val = r.val; omega
    | ⟨1, _⟩ => show 128 * j.val + c.val = k.val; omega
  have e2 : dynamicGather 1 S (lane64 (BitVec.ofNat 32 (4 * j.val))) (ix2 r c) = S (ix2 r q) := by
    refine congrArg S (funext fun a => Fin.ext ?_)
    match a with
    | ⟨0, _⟩ => rfl
    | ⟨1, _⟩ =>
      show (lane64 (BitVec.ofNat 32 (4 * j.val)) (ix2 r c)).toNat % 128 = q.val
      rw [lane64_apply, laneW_val ⟨j.val, by omega⟩]; show 4 * j.val + c.val / 32 = q.val; omega
  unfold blk64
  rw [shapeCast_id]
  exact congrArg₂ (· * ·) (congrArg (· * Ideal.ofBits .bf16 0x4280#16) e1) e2

/-- A gate weight: the low code of its byte times its group's scale. -/
theorem wGate_apply (Q : Vec Ideal S1792x3072 .i8) (Z : Vec Ideal S1x1792x128 .i8) (n : Fin 1792) (k : Fin 3072) (q : Fin 128) (hq : q.val = k.val / 32) :
    wGate (F := Ideal) Q Z (ix2 n k) = num4 (lowB (Q (ix2 n k))) * scl (Z (ix3 0 n q)) := by
  have hr : n.val % 32 < 32 := Nat.mod_lt _ (by decide)
  have hc : k.val % 128 < 128 := Nat.mod_lt _ (by decide)
  have hj : k.val / 128 < 24 := by omega
  have hl : loc32 (ix2 n k) = ix2 ⟨n.val % 32, hr⟩ ⟨k.val % 128, hc⟩ := funext fun a => by
    match a with
    | ⟨0, _⟩ => rfl
    | ⟨1, _⟩ => rfl
  have hn : n.val = 32 * (trip32 (ix2 n k)).val + n.val % 32 := by show n.val = 32 * (n.val / 32) + n.val % 32; omega
  unfold wGate
  rw [hl, blk32_apply _ _ (col32 (ix2 n k)) ⟨n.val % 32, hr⟩ ⟨k.val % 128, hc⟩ k (by show k.val = 128 * (k.val / 128) + k.val % 128; omega) q hq,
    pay3_apply, pay4_apply, codes1_apply Q _ _ k n hn, scales1_apply Z _ _ q n hn]
  rfl

/-- An up weight: the high code of its byte times its group's scale. -/
theorem wUp_apply (Q : Vec Ideal S1792x3072 .i8) (Z : Vec Ideal S1x1792x128 .i8) (n : Fin 1792) (k : Fin 3072) (q : Fin 128) (hq : q.val = k.val / 32) :
    wUp (F := Ideal) Q Z (ix2 n k) = num4 (highB (Q (ix2 n k))) * scl (Z (ix3 0 n q)) := by
  have hr : n.val % 32 < 32 := Nat.mod_lt _ (by decide)
  have hc : k.val % 128 < 128 := Nat.mod_lt _ (by decide)
  have hj : k.val / 128 < 24 := by omega
  have hl : loc32 (ix2 n k) = ix2 ⟨n.val % 32, hr⟩ ⟨k.val % 128, hc⟩ := funext fun a => by
    match a with
    | ⟨0, _⟩ => rfl
    | ⟨1, _⟩ => rfl
  have hn : n.val = 32 * (trip32 (ix2 n k)).val + n.val % 32 := by show n.val = 32 * (n.val / 32) + n.val % 32; omega
  unfold wUp
  rw [hl, blk32_apply _ _ (col32 (ix2 n k)) ⟨n.val % 32, hr⟩ ⟨k.val % 128, hc⟩ k (by show k.val = 128 * (k.val / 128) + k.val % 128; omega) q hq,
    pay91_apply, pay92_apply, codes1_apply Q _ _ k n hn, scales1_apply Z _ _ q n hn]
  rfl

/-- A down weight: the code its row's parity names in its byte times its group's scale. -/
theorem wDown_apply (Q : Vec Ideal S1536x1792 .i8) (Z : Vec Ideal S1x3072x128 .i8) (d : Fin 3072) (n : Fin 1792) (a : Fin 1536) (ha : a.val = d.val / 2)
    (q : Fin 128) (hq : q.val = n.val / 32) :
    wDown (F := Ideal) Q Z (ix2 d n) = num4 (if d.val % 2 = 0 then lowB (Q (ix2 a n)) else highB (Q (ix2 a n))) * scl (Z (ix3 0 d q)) := by
  have hr : d.val % 64 < 64 := Nat.mod_lt _ (by decide)
  have hr2 : d.val % 64 / 2 < 32 := by omega
  have hc : n.val % 128 < 128 := Nat.mod_lt _ (by decide)
  have hj : n.val / 128 < 14 := by omega
  have hl : loc64 (ix2 d n) = ix2 ⟨d.val % 64, hr⟩ ⟨n.val % 128, hc⟩ := funext fun a => by
    match a with
    | ⟨0, _⟩ => rfl
    | ⟨1, _⟩ => rfl
  have hn : d.val = 64 * (trip64 (ix2 d n)).val + d.val % 64 := by show d.val = 64 * (d.val / 64) + d.val % 64; omega
  have hn2 : a.val = 32 * (trip64 (ix2 d n)).val + d.val % 64 / 2 := by show a.val = 32 * (d.val / 64) + d.val % 64 / 2; omega
  have hp : (d.val % 64 % 2 = 0) = (d.val % 2 = 0) := by rw [show d.val % 64 % 2 = d.val % 2 by omega]
  unfold wDown
  rw [hl, blk64_apply _ _ (col64 (ix2 d n)) ⟨d.val % 64, hr⟩ ⟨n.val % 128, hc⟩ n (by show n.val = 128 * (n.val / 128) + n.val % 128; omega) q hq,
    pay179_apply _ _ _ ⟨d.val % 64 / 2, hr2⟩ rfl, pay180_apply, codes2_apply Q _ _ n a hn2, scales2_apply Z _ _ q d hn]
  simp only [hp]
  rfl

end Cert.KernelIdeal.Hand

end
-- ==== Proof.VaArgs.lean ====
module

public import proofs.«01_k».proof.Proof.VaHost
public import Idealize.ShloMosaic.Lib.Pointwise

/-! The scales and biases of an expert's gate, up and down weights, from the arguments. -/

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic

/-- A gate row's scale. -/
theorem gs_apply (a : IVec S4x3584x96 8) (e : Fin 4) (n : Fin 1792) (q : Fin 128) (q' : Fin 96) (hq : q.val = q'.val) (r : Fin 3584) (hr : r.val = 2 * n.val) :
    shapeCast S4x1792x128 (extractStridedSlice S4x1792x1x128 ![0, 0, 0, 0] (padGU a)
        slices_S4x1792x2x128_S4x1792x1x128_0_0_0_0) shapeCasts_S4x1792x1x128_S4x1792x128 (ix3 e n q) = a (ix3 e r q') := by
  pointwise [padGU]
  rw [dif_pos (show q.val < 96 by omega)]
  refine congrArg a (congr (congrArg (ix3 e) (Fin.ext ?_)) (Fin.ext ?_)) <;> simp only [] <;> omega

/-- An up row's scale. -/
theorem us_apply (a : IVec S4x3584x96 8) (e : Fin 4) (n : Fin 1792) (q : Fin 128) (q' : Fin 96) (hq : q.val = q'.val) (r : Fin 3584) (hr : r.val = 2 * n.val + 1) :
    shapeCast S4x1792x128 (extractStridedSlice S4x1792x1x128 ![0, 0, 1, 0] (padGU a)
        slices_S4x1792x2x128_S4x1792x1x128_0_0_1_0) shapeCasts_S4x1792x1x128_S4x1792x128 (ix3 e n q) = a (ix3 e r q') := by
  pointwise [padGU]
  rw [dif_pos (show q.val < 96 by omega)]
  refine congrArg a (congr (congrArg (ix3 e) (Fin.ext ?_)) (Fin.ext ?_)) <;> simp only [] <;> omega

/-- A down row's scale. -/
theorem ds_apply (a : IVec S4x3072x56 8) (e : Fin 4) (d : Fin 3072) (q : Fin 128) (q' : Fin 56) (hq : q.val = q'.val) :
    pad S4x3072x128 ![0, 0, 0] ![0, 0, 72] ![0, 0, 0] a (trunci 8 (constantI S_ 32 0#32) natLt_8_32) pads_S4x3072x56_S4x3072x128_000_000_0720 h_S_ (ix3 e d q)
      = a (ix3 e d q') := by
  pointwise []
  rw [dif_pos (show q.val < 56 by omega)]
  exact congrArg a (congrArg (ix3 e d) (Fin.ext hq))

/-- A gate row's bias. -/
theorem bg_apply (a : FVec Ideal S4x3584 .bf16) (e : Fin 4) (n : Fin 1792) (r : Fin 3584) (hr : r.val = 2 * n.val) :
    broadcastInDim S4x1x1792 ![0, 2] bcast_S4x1792_S4x1x1792_0_2 (shapeCast S4x1792 (extractStridedSlice S4x1792x1 ![0, 0, 0]
        (shapeCast S4x1792x2 a shapeCasts_S4x3584_S4x1792x2) slices_S4x1792x2_S4x1792x1_0_0_0)
        shapeCasts_S4x1792x1_S4x1792) (ix3 e 0 n) = a (ix2 e r) := by
  pointwise []
  exact congrArg a (congrArg (ix2 e) (Fin.ext (by simp only []; omega)))

/-- An up row's bias. -/
theorem bu_apply (a : FVec Ideal S4x3584 .bf16) (e : Fin 4) (n : Fin 1792) (r : Fin 3584) (hr : r.val = 2 * n.val + 1) :
    broadcastInDim S4x1x1792 ![0, 2] bcast_S4x1792_S4x1x1792_0_2 (shapeCast S4x1792 (extractStridedSlice S4x1792x1 ![0, 0, 1]
        (shapeCast S4x1792x2 a shapeCasts_S4x3584_S4x1792x2) slices_S4x1792x2_S4x1792x1_0_0_1)
        shapeCasts_S4x1792x1_S4x1792) (ix3 e 0 n) = a (ix2 e r) := by
  pointwise []
  exact congrArg a (congrArg (ix2 e) (Fin.ext (by simp only []; omega)))

/-- A down row's bias. -/
theorem bd_apply (a : FVec Ideal S4x3072 .bf16) (e : Fin 4) (d : Fin 3072) :
    broadcastInDim S4x1x3072 ![0, 2] bcast_S4x3072_S4x1x3072_0_2 a (ix3 e 0 d) = a (ix2 e d) := by
  pointwise []

end Cert.KernelIdeal.Hand

end
-- ==== Proof.VaPost.lean ====
module

public import proofs.«01_k».proof.Proof.VaHost
public import proofs.«01_k».proof.Proof.KiFrame

/-! The result after the launch, from the launch's output array, the rows of the choices and the weights. -/

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic

variable {F : FTy → Type} [FloatOps F] (m : (ℓ : Loc nD τ sig) → Buf (Elt F) ℓ)

/-- Each choice's row of the output array. -/
def rowsH (Y : FVec F S25600x3072 .f32) (p : IVec S24576 32) : FVec F S24576x3072 .f32 :=
  Host.gather gather_S25600x3072_S24576x1_S24576x3072_1_0_n_n_0_1_13072 Y (wrapN p)

/-- The two choices' rows of a token, weighted, added and rounded. -/
def mixH (Z : FVec F S24576x3072 .f32) (w : FVec F S8x1536x2 .f32) : FVec F S8x1536x3072 .bf16 :=
  truncf .bf16 (shapeCast S8x1536x3072 (addf
    (mulf (shapeCast S12288x3072 (extractStridedSlice S12288x1x3072 ![0, 0, 0] (shapeCast S12288x2x3072 Z shapeCasts_S24576x3072_S12288x2x3072) slices_S12288x2x3072_S12288x1x3072_0_0_0) shapeCasts_S12288x1x3072_S12288x3072)
      (broadcastInDim S12288x3072 ![0, 1] bcast_S12288x1_S12288x3072_0_1 (extractStridedSlice S12288x1 ![0, 0] (shapeCast S12288x2 w shapeCasts_S8x1536x2_S12288x2) slices_S12288x2_S12288x1_0_0)))
    (mulf (shapeCast S12288x3072 (extractStridedSlice S12288x1x3072 ![0, 1, 0] (shapeCast S12288x2x3072 Z shapeCasts_S24576x3072_S12288x2x3072) slices_S12288x2x3072_S12288x1x3072_0_1_0) shapeCasts_S12288x1x3072_S12288x3072)
      (broadcastInDim S12288x3072 ![0, 1] bcast_S12288x1_S12288x3072_0_1 (extractStridedSlice S12288x1 ![0, 1] (shapeCast S12288x2 w shapeCasts_S8x1536x2_S12288x2) slices_S12288x2_S12288x1_0_1))))
    shapeCasts_S12288x3072_S8x1536x3072) bitsLt_bf16_f32

/-- The host after the launch. -/
theorem post_main_v99 (X : Valuation τ sig (Elt F)) : StableHlo.after (post (F := F)).flatten X (Proc.devRef .tc main_v99)
    = mixH (rowsH (X (Proc.devRef .tc main_v77)) (X (Proc.devRef .tc main_v27))) (X (Proc.devRef .tc main_arg2)) := by
  after_reads_simp
  try rfl

/-- The choices' rows, as the host left them. -/
theorem Vmid_main_v27 (c : Dev nD) : Vmid m c (Proc.devRef .tc main_v27) = V m c main_v27 := by
  unfold Vmid
  rw [Pipeline.withArrays_of_ne spec0 c _ _ main_v27 (by decide), Pipeline.withR_of_not_mem _ _ _ _ _ (Finset.notMem_empty _)]
  try rfl

/-- The launch's output array. -/
theorem Vmid_main_v77 (c : Dev nD) : Vmid m c (Proc.devRef .tc main_v77) = (dats m 0 c).arrAt 7 (cfgM m).N := by
  unfold Vmid
  exact Pipeline.withArrays_arr spec0 (by decide) c _ _ 7

/-- The result is one of the buffers the run leaves to the host. -/
theorem rest_main_v99 : main_v99 ∈ Pipeline.restRefsP sig pre0 spec0 := by decide

/-- A weighted sum at an index. -/
theorem mixH_apply (Z : FVec Ideal S24576x3072 .f32) (w : FVec Ideal S8x1536x2 .f32) (b : Fin 8) (s : Fin 1536) (d : Fin 3072)
    (j0 j1 : Fin 24576) (h0 : j0.val = 2 * (b.val * 1536 + s.val)) (h1 : j1.val = 2 * (b.val * 1536 + s.val) + 1) :
    mixH Z w (ix3 b s d) = ((Z (ix2 j0 d) : EReal) * (w (ix3 b s 0) : EReal) + (Z (ix2 j1 d) : EReal) * (w (ix3 b s 1) : EReal) : EReal) := by
  pointwise [mixH]
  have e0 : (⟨(b.val * 1536 + s.val) * 2, by omega⟩ : Fin 24576) = j0 := Fin.ext (by simp only []; omega)
  have e1 : (⟨(b.val * 1536 + s.val) * 2 + 1, by omega⟩ : Fin 24576) = j1 := Fin.ext (by simp only []; omega)
  rw [e0, e1]

end Cert.KernelIdeal.Hand

end
-- ==== Proof.VaArr.lean ====
module

public import proofs.«01_k».proof.Proof.KiLaunch
public import Idealize.ShloMosaic.Lib.Pipeline.ValueKit.Geometry

/-! The launch's output array: each block of rows is what its grid point leaves. -/

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.ShloMosaic.Pipeline (Dat Cfg Window)

variable {F : FTy → Type} [FloatOps F] (m : (ℓ : Loc nD τ sig) → Buf (Elt F) ℓ)

/-- Every grid point writes its block back. -/
theorem flush7 (t : Fin (cfgM m).N) : ((cfgM m).win 7).flush t = true := by
  have ht : t.val < 100 := t.isLt
  unfold Window.flush
  by_cases h : t.val + 1 < 100
  · have hne : ((cfgM m).win 7).index ⟨t.val + 1, h⟩ ≠ ((cfgM m).win 7).index t := by
      rw [index7, index7]
      intro e
      have := congrFun e 0
      have : t.val + 1 = t.val := this
      omega
    rw [decide_eq_true (⟨h, hne⟩ : ∃ h : t.val + 1 < (cfgM m).grid.N, ((cfgM m).win 7).index ⟨t.val + 1, h⟩ ≠ ((cfgM m).win 7).index t)]
    rw [Bool.or_true]
    rfl
  · have h2 : t.val + 1 = (cfgM m).grid.N := by show t.val + 1 = 100; omega
    rw [decide_eq_true h2]
    rfl

/-- The array of the rows the points leave. -/
def outArr (c : Dev nD) : FVec F S25600x3072 .f32 := fun i =>
  outE m c (tileF m 0 ((i 0).val / 256)) (xBlk m c ⟨(i 0).val / 256, by have := (i 0).isLt; show (i 0).val / 256 < 100; have h : (i 0).val < 25600 := this; omega⟩)
    (ix2 ⟨(i 0).val % 256, Nat.mod_lt _ (by decide)⟩ ⟨(i 1).val, (i 1).isLt⟩)

/-- A point's block, at its place in the output array. -/
theorem outArr_at (c : Dev nD) (t : Fin (cfgM m).N) (y : S256x3072.Idx) (i : S25600x3072.Idx) (h0 : (i 0).val = t.val * 256 + (y 0).val) (h1 : (i 1).val = (y 1).val) :
    outE m c (tileF m 0 t.val) (xBlk m c t) y = outArr m c i := by
  have hy : (y 0).val < 256 := (y 0).isLt
  have e : (i 0).val / 256 = t.val := by omega
  have e2 : (i 0).val % 256 = (y 0).val := by omega
  unfold outArr
  have et : (⟨(i 0).val / 256, by have := (i 0).isLt; show (i 0).val / 256 < 100; have h : (i 0).val < 25600 := this; omega⟩ : Fin (cfgM m).N) = t := Fin.ext e
  rw [et, e]
  refine congrArg (outE m c (tileF m 0 t.val) (xBlk m c t)) ?_
  funext a
  refine Fin.ext ?_
  fin_cases a
  · exact e2.symm
  · exact h1.symm

/-- Every index of the array lies in a block. -/
theorem cover7 (i : S25600x3072.Idx) : ∃ t : Fin (cfgM m).N, ∃ y : S256x3072.Idx, (((cfgM m).win 7).rect t).emb y = i := by
  have hi0 : (i 0).val < 25600 := (i 0).isLt
  have hi1 : (i 1).val < 3072 := (i 1).isLt
  refine ⟨⟨(i 0).val / 256, by show (i 0).val / 256 < 100; omega⟩, ix2 ⟨(i 0).val % 256, Nat.mod_lt _ (by decide)⟩ ⟨(i 1).val, hi1⟩, ?_⟩
  funext a
  refine Fin.ext ?_
  refine (embv7 m _ _ a).trans ?_
  revert a
  show ∀ a : Fin 2, _
  intro a
  fin_cases a
  · show (i 0).val / 256 * 256 + (i 0).val % 256 = (i 0).val
    omega
  · show 0 * 3072 + (i 1).val = (i 1).val
    omega

/-- What a point leaves, at an index of the array. -/
theorem point7 (c : Dev nD) (t : Fin (cfgM m).N) (y : S256x3072.Idx) :
    outE m c (tileF m 0 t.val) (xBlk m c t) y = outArr m c ((((cfgM m).win 7).rect t).emb y) :=
  outArr_at m c t y _ (embv7 m t y 0) ((embv7 m t y 1).trans (by show 0 * 3072 + (y 1).val = (y 1).val; omega))

/-- The output array after the run. -/
theorem arr7 (c : Dev nD) : (dats m 0 c).arrAt 7 (cfgM m).N = outArr m c := by
  refine (dats m 0 c).arrAt_eq_of_emb 7 (outArr m c) (fun t _ y => ?_) (fun i => ?_)
  · rw [after0_7]
    exact point7 m c t y
  · obtain ⟨t, y, h⟩ := cover7 m i
    exact ⟨t, flush7 m t, Finset.mem_map.2 ⟨y, Finset.mem_univ _, h⟩⟩

/-- A row of a point's block of inputs. -/
theorem xBlk_apply (c : Dev nD) (t : Fin (cfgM m).N) (r : Fin 256) (k : Fin 3072) (p : Fin 25600) (hp : p.val = t.val * 256 + r.val) :
    xBlk m c t (ix2 r k) = (V m c main_v61 : FVec F S25600x3072 .bf16) (ix2 p k) := by
  have h0 := embv0 m t (ix2 r k) 0
  have h1 := embv0 m t (ix2 r k) 1
  refine congrArg (V m c main_v61 : FVec F S25600x3072 .bf16) ?_
  funext a
  refine Fin.ext ?_
  fin_cases a
  · exact h0.trans hp.symm
  · refine h1.trans ?_
    show 0 * 3072 + k.val = k.val
    omega

end Cert.KernelIdeal.Hand

end
-- ==== Proof.VaSpec.lean ====
/- The mathematics of one row, over the extended reals: the gated product, an expert's hidden activations for a row of
   inputs, and the expert's row of outputs. Both programs' values are stated through these. -/
module

public import Idealize.ShloMosaic.Init
public import Idealize.ShloMosaic.PureOps.Ideal

@[expose] public section

noncomputable section

namespace Cert.Spec

open Idealize.ShloMosaic
open scoped BigOperators

/-- The gated product of a gate sum and an up sum: both limited to 7, the gate through the logistic at 1.702. -/
def act (g u : EReal) : EReal :=
  (min (Ideal.ofBits .f32 0x40E00000#32) (max (Ideal.ofBits .f32 0xC0E00000#32) u) + Ideal.ofBits .f32 0x3F800000#32)
    * min g (Ideal.ofBits .f32 0x40E00000#32)
    * Ideal.logistic (Ideal.ofBits .f32 0x3FD9DB23#32 * min g (Ideal.ofBits .f32 0x40E00000#32))

/-- A hidden activation of a row `X` of inputs. -/
def hidRow (X : Fin 3072 → EReal) (WG WU : Fin 1792 → Fin 3072 → EReal) (bg bu : Fin 1792 → EReal) (n : Fin 1792) : EReal :=
  act ((∑ k : Fin 3072, X k * WG n k) + bg n) ((∑ k : Fin 3072, X k * WU n k) + bu n)

/-- An output of a row `X` of inputs. -/
def outRow (X : Fin 3072 → EReal) (WG WU : Fin 1792 → Fin 3072 → EReal) (bg bu : Fin 1792 → EReal)
    (WD : Fin 3072 → Fin 1792 → EReal) (bd : Fin 3072 → EReal) (d : Fin 3072) : EReal :=
  (∑ n : Fin 1792, hidRow X WG WU bg bu n * WD d n) + bd d

/-- Equal data give equal outputs. -/
theorem outRow_congr {X X' : Fin 3072 → EReal} {WG WG' WU WU' : Fin 1792 → Fin 3072 → EReal} {bg bg' bu bu' : Fin 1792 → EReal}
    {WD WD' : Fin 3072 → Fin 1792 → EReal} {bd bd' : Fin 3072 → EReal} (hX : ∀ k, X k = X' k) (hG : ∀ n k, WG n k = WG' n k)
    (hU : ∀ n k, WU n k = WU' n k) (hbg : ∀ n, bg n = bg' n) (hbu : ∀ n, bu n = bu' n) (hD : ∀ d n, WD d n = WD' d n)
    (hbd : ∀ d, bd d = bd' d) (d : Fin 3072) : outRow X WG WU bg bu WD bd d = outRow X' WG' WU' bg' bu' WD' bd' d := by
  obtain rfl : X = X' := funext hX
  obtain rfl : WG = WG' := funext fun n => funext (hG n)
  obtain rfl : WU = WU' := funext fun n => funext (hU n)
  obtain rfl : bg = bg' := funext hbg
  obtain rfl : bu = bu' := funext hbu
  obtain rfl : WD = WD' := funext fun n => funext (hD n)
  obtain rfl : bd = bd' := funext hbd
  rfl

end Cert.Spec

end
-- ==== Proof.VaOut.lean ====
module

public import proofs.«01_k».proof.Proof.KiOut
public import proofs.«01_k».proof.Proof.VaSpec
public import Idealize.ShloMosaic.Lib.Pointwise
public import Idealize.ShloMosaic.Lib.MatmulPlain

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Cert.Spec

/-- One element of a block of hidden activations. -/
theorem pay242_apply (x W1 W2 : FVec Ideal S256x3072 .bf16) (b1 b2 : FVec Ideal S1x1x256 .bf16) (r : Fin 256) (j : Fin 256) :
    k0_pay242 (F := Ideal) x W1 W2 b1 b2 (ix2 r j)
      = act ((∑ k : Fin 3072, x (ix2 r k) * W1 (ix2 j k)) + b1 (ix3 0 0 j)) ((∑ k : Fin 3072, x (ix2 r k) * W2 (ix2 j k)) + b2 (ix3 0 0 j)) := by
  pointwise [k0_pay242, act]

/-- One element of a block of outputs. -/
theorem pay260_apply (h : FVec Ideal S256x1792 .bf16) (W : FVec Ideal S512x1792 .bf16) (b : FVec Ideal S1x1x512 .bf16) (r : Fin 256) (j : Fin 512) :
    k0_pay260 (F := Ideal) h W b (ix2 r j) = (∑ n : Fin 1792, h (ix2 r n) * W (ix2 j n)) + b (ix3 0 0 j) := by
  pointwise [k0_pay260]

/-- A stretch of 256 of the hidden weights' rows. -/
theorem rows256_apply (W : FVec Ideal S1792x3072 .bf16) (c : Fin 7) (j : Fin 256) (k : Fin 3072) (n : Fin 1792) (hn : n.val = 256 * c.val + j.val) :
    rows256 (F := Ideal) W c (ix2 j k) = W (ix2 n k) := by
  unfold rows256
  refine congrArg W (funext fun a => Fin.ext ?_)
  match a with
  | ⟨0, _⟩ => exact (show 256 * c.val + 1 * j.val = n.val by omega)
  | ⟨1, _⟩ => exact (show 0 + 1 * k.val = k.val by omega)

/-- A stretch of 256 of the hidden biases. -/
theorem lanes256_apply (b : FVec Ideal S1x1x1792 .bf16) (c : Fin 7) (j : Fin 256) (n : Fin 1792) (hn : n.val = 256 * c.val + j.val) :
    lanes256 (F := Ideal) b c (ix3 0 0 j) = b (ix3 0 0 n) := by
  unfold lanes256
  refine congrArg b (funext fun a => Fin.ext ?_)
  match a with
  | ⟨0, _⟩ => rfl
  | ⟨1, _⟩ => rfl
  | ⟨2, _⟩ => exact (show 256 * c.val + 1 * j.val = n.val by omega)

/-- A stretch of 512 of the down weights' rows. -/
theorem rows512_apply (W : FVec Ideal S3072x1792 .bf16) (c : Fin 6) (j : Fin 512) (k : Fin 1792) (n : Fin 3072) (hn : n.val = 512 * c.val + j.val) :
    rows512 (F := Ideal) W c (ix2 j k) = W (ix2 n k) := by
  unfold rows512
  refine congrArg W (funext fun a => Fin.ext ?_)
  match a with
  | ⟨0, _⟩ => exact (show 512 * c.val + 1 * j.val = n.val by omega)
  | ⟨1, _⟩ => exact (show 0 + 1 * k.val = k.val by omega)

/-- A stretch of 512 of the down biases. -/
theorem lanes512_apply (b : FVec Ideal S1x1x3072 .bf16) (c : Fin 6) (j : Fin 512) (n : Fin 3072) (hn : n.val = 512 * c.val + j.val) :
    lanes512 (F := Ideal) b c (ix3 0 0 j) = b (ix3 0 0 n) := by
  unfold lanes512
  refine congrArg b (funext fun a => Fin.ext ?_)
  match a with
  | ⟨0, _⟩ => rfl
  | ⟨1, _⟩ => rfl
  | ⟨2, _⟩ => exact (show 512 * c.val + 1 * j.val = n.val by omega)

/-- A hidden activation of a tile is its row's. -/
theorem hid_apply (x : FVec Ideal S256x3072 .bf16) (WG WU : FVec Ideal S1792x3072 .bf16) (bg bu : FVec Ideal S1x1x1792 .bf16) (r : Fin 256) (n : Fin 1792) :
    hid (F := Ideal) x WG WU bg bu (ix2 r n)
      = hidRow (fun k => x (ix2 r k)) (fun n k => WG (ix2 n k)) (fun n k => WU (ix2 n k)) (fun n => bg (ix3 0 0 n)) (fun n => bu (ix3 0 0 n)) n := by
  have hc : n.val / 256 < 7 := by have := n.isLt; omega
  have hj : n.val % 256 < 256 := Nat.mod_lt _ (by decide)
  have hn : n.val = 256 * (n.val / 256) + n.val % 256 := by omega
  have e : hid (F := Ideal) x WG WU bg bu (ix2 r n) = k0_pay242 (F := Ideal) (k0_pay239 x) (rows256 WG ⟨n.val / 256, hc⟩)
      (rows256 WU ⟨n.val / 256, hc⟩) (lanes256 bg ⟨n.val / 256, hc⟩) (lanes256 bu ⟨n.val / 256, hc⟩) (ix2 r ⟨n.val % 256, hj⟩) := by
    unfold hid hBlk
    refine congrArg (k0_pay242 (F := Ideal) (k0_pay239 x) (rows256 WG ⟨n.val / 256, hc⟩)
      (rows256 WU ⟨n.val / 256, hc⟩) (lanes256 bg ⟨n.val / 256, hc⟩) (lanes256 bu ⟨n.val / 256, hc⟩)) (funext fun a => ?_)
    match a with
    | ⟨0, _⟩ => rfl
    | ⟨1, _⟩ => rfl
  rw [e, pay242_apply, lanes256_apply bg _ _ n hn, lanes256_apply bu _ _ n hn]
  have hx : k0_pay239 (F := Ideal) x = x := shapeCast_id _ _
  rw [hx]
  simp only [fun W k => rows256_apply W ⟨n.val / 256, hc⟩ ⟨n.val % 256, hj⟩ k n hn]
  rfl

/-- An output of a tile is its row's. -/
theorem outV_apply (x : FVec Ideal S256x3072 .bf16) (WG WU : FVec Ideal S1792x3072 .bf16) (WD : FVec Ideal S3072x1792 .bf16)
    (bg bu : FVec Ideal S1x1x1792 .bf16) (bd : FVec Ideal S1x1x3072 .bf16) (r : Fin 256) (d : Fin 3072) :
    outV (F := Ideal) x WG WU WD bg bu bd (ix2 r d)
      = outRow (fun k => x (ix2 r k)) (fun n k => WG (ix2 n k)) (fun n k => WU (ix2 n k)) (fun n => bg (ix3 0 0 n)) (fun n => bu (ix3 0 0 n))
          (fun d n => WD (ix2 d n)) (fun d => bd (ix3 0 0 d)) d := by
  have hc : d.val / 512 < 6 := by have := d.isLt; omega
  have hj : d.val % 512 < 512 := Nat.mod_lt _ (by decide)
  have hn : d.val = 512 * (d.val / 512) + d.val % 512 := by omega
  have e : outV (F := Ideal) x WG WU WD bg bu bd (ix2 r d) = k0_pay260 (F := Ideal) (hid x WG WU bg bu) (rows512 WD ⟨d.val / 512, hc⟩)
      (lanes512 bd ⟨d.val / 512, hc⟩) (ix2 r ⟨d.val % 512, hj⟩) := by
    unfold outV yBlk
    refine congrArg (k0_pay260 (F := Ideal) (hid x WG WU bg bu) (rows512 WD ⟨d.val / 512, hc⟩)
      (lanes512 bd ⟨d.val / 512, hc⟩)) (funext fun a => ?_)
    match a with
    | ⟨0, _⟩ => rfl
    | ⟨1, _⟩ => rfl
  rw [e, pay260_apply, lanes512_apply bd _ _ d hn]
  simp only [fun W k => rows512_apply W ⟨d.val / 512, hc⟩ ⟨d.val % 512, hj⟩ k d hn, hid_apply]
  rfl

end Cert.KernelIdeal.Hand

end
-- ==== Proof.VaKer.lean ====
module

public import proofs.«01_k».proof.Proof.VaRoute
public import proofs.«01_k».proof.Proof.VaWeights
public import proofs.«01_k».proof.Proof.VaArgs
public import proofs.«01_k».proof.Proof.VaPost
public import proofs.«01_k».proof.Proof.VaArr
public import proofs.«01_k».proof.Proof.VaOut

/-! The kernel's result, from the arguments: each choice's row of the output array is its expert's output of its token. -/

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Cert.Spec

variable (m : (ℓ : Loc nD τ sig) → Buf (Elt Ideal) ℓ)

/-- An expert's output of a row of inputs, from the codes, the scales and the biases. -/
def expertRow (X : Fin 3072 → EReal) (a3 : IVec S4x1792x3072 8) (a4 : IVec S4x3584x96 8) (a5 : FVec Ideal S4x3584 .bf16) (a6 : IVec S4x1536x1792 8)
    (a7 : IVec S4x3072x56 8) (a8 : FVec Ideal S4x3072 .bf16) (e : Fin 4) (d : Fin 3072) : EReal :=
  outRow X
    (fun n k => num4 (lowB (a3 (ix3 e n k))) * scl (a4 (ix3 e ⟨2 * n.val, by omega⟩ ⟨k.val / 32, by omega⟩)))
    (fun n k => num4 (highB (a3 (ix3 e n k))) * scl (a4 (ix3 e ⟨2 * n.val + 1, by omega⟩ ⟨k.val / 32, by omega⟩)))
    (fun n => a5 (ix2 e ⟨2 * n.val, by omega⟩)) (fun n => a5 (ix2 e ⟨2 * n.val + 1, by omega⟩))
    (fun d n => num4 (if d.val % 2 = 0 then lowB (a6 (ix3 e ⟨d.val / 2, by omega⟩ n)) else highB (a6 (ix3 e ⟨d.val / 2, by omega⟩ n)))
      * scl (a7 (ix3 e d ⟨n.val / 32, by omega⟩)))
    (fun d => a8 (ix2 e d)) d

/-- A grid point's row, from its expert and its input row. -/
theorem outE_apply (c : Dev nD) (e : Fin 4) (x : FVec Ideal S256x3072 .bf16) (r : Fin 256) (d : Fin 3072) :
    outE m c e x (ix2 r d) = expertRow (fun k => x (ix2 r k)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) e d := by
  unfold outE expertRow
  rw [outV_apply]
  refine outRow_congr (fun k => rfl) (fun n k => ?_) (fun n k => ?_) (fun n => ?_) (fun n => ?_) (fun d n => ?_) (fun d => ?_) d
  · unfold wG
    rw [wGate_apply _ _ n k ⟨k.val / 32, by omega⟩ rfl]
    have h : eb1 m c e (ix3 0 n ⟨k.val / 32, by omega⟩) = (m ((c : Thread nD τ).loc main_arg4) : IVec S4x3584x96 8) (ix3 e ⟨2 * n.val, by omega⟩ ⟨k.val / 32, by omega⟩) := by
      show (V m c main_v65 : IVec S4x1792x128 8) (ix3 e n ⟨k.val / 32, by omega⟩) = _
      rw [V_main_v65]
      exact gs_apply _ e n _ _ rfl _ rfl
    rw [h]
    show num4 (lowB ((V m c main_arg3 : IVec S4x1792x3072 8) (ix3 e n k))) * _ = _
    rw [V_main_arg3]
  · unfold wU
    rw [wUp_apply _ _ n k ⟨k.val / 32, by omega⟩ rfl]
    have h : eb2 m c e (ix3 0 n ⟨k.val / 32, by omega⟩) = (m ((c : Thread nD τ).loc main_arg4) : IVec S4x3584x96 8) (ix3 e ⟨2 * n.val + 1, by omega⟩ ⟨k.val / 32, by omega⟩) := by
      show (V m c main_v67 : IVec S4x1792x128 8) (ix3 e n ⟨k.val / 32, by omega⟩) = _
      rw [V_main_v67]
      exact us_apply _ e n _ _ rfl _ rfl
    rw [h]
    show num4 (highB ((V m c main_arg3 : IVec S4x1792x3072 8) (ix3 e n k))) * _ = _
    rw [V_main_arg3]
  · show (V m c main_v72 : FVec Ideal S4x1x1792 .bf16) (ix3 e 0 n) = _
    rw [V_main_v72]
    exact bg_apply _ e n _ rfl
  · show (V m c main_v75 : FVec Ideal S4x1x1792 .bf16) (ix3 e 0 n) = _
    rw [V_main_v75]
    exact bu_apply _ e n _ rfl
  · unfold wD
    rw [wDown_apply _ _ d n ⟨d.val / 2, by omega⟩ rfl ⟨n.val / 32, by omega⟩ rfl]
    have h : eb3 m c e (ix3 0 d ⟨n.val / 32, by omega⟩) = (m ((c : Thread nD τ).loc main_arg7) : IVec S4x3072x56 8) (ix3 e d ⟨n.val / 32, by omega⟩) := by
      show (V m c main_v68 : IVec S4x3072x128 8) (ix3 e d ⟨n.val / 32, by omega⟩) = _
      rw [V_main_v68]
      exact ds_apply _ e d _ _ rfl
    rw [h]
    have h6 : ∀ a : Fin 1536, dnCodes (V m c main_arg6) e (ix2 a n) = (m ((c : Thread nD τ).loc main_arg6) : IVec S4x1536x1792 8) (ix3 e a n) := fun a => by
      show (V m c main_arg6 : IVec S4x1536x1792 8) (ix3 e a n) = _
      rw [V_main_arg6]
    rw [h6]
  · show (V m c main_v76 : FVec Ideal S4x1x3072 .bf16) (ix3 e 0 d) = _
    rw [V_main_v76]
    exact bd_apply _ e d

variable (c : Dev nD) (g : ℕ → ℕ) (ha : ∀ j : Fin 24576, (V m c main_v0 : IVec S24576 32) (ix1 j) = BitVec.ofNat 32 (g j.val)) (hg : ∀ j < 24576, g j < 4)
include ha hg

/-- Each choice's row. -/
theorem v27_apply (j : Fin 24576) : (V m c main_v27 : IVec S24576 32) (ix1 j) = BitVec.ofNat 32 (pos g j.val) := by
  rw [V_main_v27, V_main_v14, V_main_v13, V_main_v8, V_main_v7]
  exact posA_apply _ g ha hg j

/-- The expert of a choice's tile. -/
theorem tileN_pos (j : Fin 24576) : tileN m c (pos g j.val / 256) = g j.val := by
  unfold tileN
  rw [V_main_v14, V_main_v13, V_main_v8]
  exact tileOf_pos _ g ha hg j

/-- A choice's input row is its token's. -/
theorem v61_apply (j : Fin 24576) (p : Fin 25600) (hp : p.val = pos g j.val) (k : Fin 3072) :
    (V m c main_v61 : FVec Ideal S25600x3072 .bf16) (ix2 p k)
      = shapeCast S12288x3072 (m ((c : Thread nD τ).loc main_arg0) : FVec Ideal S8x1536x3072 .bf16) shapeCasts_S8x1536x3072_S12288x3072 (ix2 ⟨j.val / 2, by omega⟩ k) := by
  rw [V_main_v61]
  refine Routing.gather_row _ rfl rfl rfl rfl rfl _ _ p k ⟨j.val / 2, by omega⟩ ?_ (by decide)
  refine wrapT_apply _ p (j.val / 2) (by omega) ?_
  rw [V_main_v37]
  exact orderA_apply _ (pos g) (fun j hj => lt_trans (pos_lt g hg hj) (by decide)) (fun i j hi hj h => pos_inj g hi hj h) (v27_apply m c g ha hg) j p hp

/-- A choice's row of the output array. -/
theorem outArr_pos (j : Fin 24576) (e : Fin 4) (he : e.val = g j.val) (p : Fin 25600) (hp : p.val = pos g j.val) (d : Fin 3072) :
    outArr m c (ix2 p d) = expertRow (fun k => shapeCast S12288x3072 (m ((c : Thread nD τ).loc main_arg0) : FVec Ideal S8x1536x3072 .bf16) shapeCasts_S8x1536x3072_S12288x3072 (ix2 ⟨j.val / 2, by omega⟩ k))
      (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) e d := by
  obtain rfl : c = 0 := Subsingleton.elim _ _
  have ht : tileF m 0 (p.val / 256) = e := Fin.ext (by
    show tileN m 0 (p.val / 256) = e.val
    rw [hp, tileN_pos m 0 g ha hg, he])
  have hlt : p.val / 256 < (cfgM m).N := by have := p.isLt; show p.val / 256 < 100; omega
  have h := outArr_at m 0 ⟨p.val / 256, hlt⟩ (ix2 ⟨p.val % 256, Nat.mod_lt _ (by decide)⟩ d) (ix2 p d)
    (by show p.val = p.val / 256 * 256 + p.val % 256; omega) rfl
  rw [← h]
  show outE m 0 (tileF m 0 (p.val / 256)) _ _ = _
  rw [ht, outE_apply]
  congr 1
  funext k
  rw [xBlk_apply m 0 ⟨p.val / 256, hlt⟩ _ k p (by show p.val = p.val / 256 * 256 + p.val % 256; omega)]
  exact v61_apply m 0 g ha hg j p hp k

/-- The kernel's result: a token's two experts' outputs, weighted and added. -/
theorem result_apply (b : Fin 8) (s : Fin 1536) (d : Fin 3072) (e0 e1 : Fin 4) (h0 : e0.val = g (2 * (b.val * 1536 + s.val))) (h1 : e1.val = g (2 * (b.val * 1536 + s.val) + 1)) :
    (mixH (rowsH (outArr m c) (V m c main_v27)) (m ((c : Thread nD τ).loc main_arg2)) : FVec Ideal S8x1536x3072 .bf16) (ix3 b s d)
      = (expertRow (fun k => shapeCast S12288x3072 (m ((c : Thread nD τ).loc main_arg0) : FVec Ideal S8x1536x3072 .bf16) shapeCasts_S8x1536x3072_S12288x3072 (ix2 ⟨b.val * 1536 + s.val, by omega⟩ k))
      (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) e0 d
        * ((m ((c : Thread nD τ).loc main_arg2) : FVec Ideal S8x1536x2 .f32) (ix3 b s 0) : EReal)
       + expertRow (fun k => shapeCast S12288x3072 (m ((c : Thread nD τ).loc main_arg0) : FVec Ideal S8x1536x3072 .bf16) shapeCasts_S8x1536x3072_S12288x3072 (ix2 ⟨b.val * 1536 + s.val, by omega⟩ k))
      (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) e1 d
        * ((m ((c : Thread nD τ).loc main_arg2) : FVec Ideal S8x1536x2 .f32) (ix3 b s 1) : EReal) : EReal) := by
  have row : ∀ (j : Fin 24576) (e : Fin 4) (he : e.val = g j.val) (t : Fin 12288) (ht : t.val = j.val / 2),
      rowsH (outArr m c) (V m c main_v27) (ix2 j d) = expertRow (fun k => shapeCast S12288x3072 (m ((c : Thread nD τ).loc main_arg0) : FVec Ideal S8x1536x3072 .bf16) shapeCasts_S8x1536x3072_S12288x3072 (ix2 t k))
      (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) e d := fun j e he t ht => by
    have hp : pos g j.val < 25600 := lt_trans (pos_lt g hg j.isLt) (by decide)
    have et : t = ⟨j.val / 2, by omega⟩ := Fin.ext ht
    rw [et, ← outArr_pos m c g ha hg j e he ⟨pos g j.val, hp⟩ rfl d]
    unfold rowsH
    exact Routing.gather_row _ rfl rfl rfl rfl rfl _ _ j d ⟨pos g j.val, hp⟩ (wrapN_apply _ j _ hp (v27_apply m c g ha hg j)) (by decide)
  rw [mixH_apply _ _ b s d ⟨2 * (b.val * 1536 + s.val), by omega⟩ ⟨2 * (b.val * 1536 + s.val) + 1, by omega⟩ rfl rfl,
    row _ e0 h0 ⟨b.val * 1536 + s.val, by omega⟩ (by show b.val * 1536 + s.val = 2 * (b.val * 1536 + s.val) / 2; omega),
    row _ e1 h1 ⟨b.val * 1536 + s.val, by omega⟩ (by show b.val * 1536 + s.val = (2 * (b.val * 1536 + s.val) + 1) / 2; omega)]

end Cert.KernelIdeal.Hand

end
-- ==== Proof.VaRefW.lean ====
module

public import proofs.«01_k».proof.Proof.VaDecode
public import proofs.«01_k».proof.Proof.Gen.ReferenceIdeal.Read
public import Idealize.ShloMosaic.Lib.Pointwise

/-! The reference's weights, an element at a time. -/

@[expose] public section

set_option maxRecDepth 16384
set_option maxHeartbeats 4000000

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic
open Cert.Spec

/-- A scale byte's power of two. -/
def pw (b : BitVec 8) : EReal :=
  Ideal.pow (Ideal.ofBits .f32 0x40000000#32) (((b.toNat : ℝ) : EReal) - Ideal.ofBits .f32 0x42FE0000#32)

/-- A scale byte read as a real number. -/
theorem sitof (b : BitVec 8) : FloatOps.sitofp (F := Ideal) .f32 (b.setWidth 32 : BitVec 32) = ((b.toNat : ℝ) : EReal) := by
  have h : (b.setWidth 32 : BitVec 32).toInt = (b.toNat : ℤ) := by
    have := b.isLt
    rw [BitVec.toInt_eq_toNat_of_lt] <;> rw [BitVec.toNat_setWidth, Nat.mod_eq_of_lt] <;> omega
  show ((((b.setWidth 32 : BitVec 32).toInt : ℤ) : ℝ) : EReal) = _
  rw [h]; rfl

/-- A selection on a code's bit. -/
theorem selNe (c k : BitVec 32) (x y : EReal) :
    Scalar.select (IntOp.cmpi .ne (IntOp.andi c k) 0#32) x y = bif c &&& k != 0#32 then x else y := by
  show (if BitVec.ofBool (c &&& k != 0#32) = 1#1 then x else y) = _
  cases c &&& k != 0#32 <;> rfl

/-- A bf16 pattern's number. -/
theorem ofB (b : BitVec 16) : FloatOps.ofBits (F := Ideal) .bf16 b = Ideal.ofBits .bf16 b := rfl

/-- Negation. -/
theorem negB (x : EReal) : FloatOps.hostNegf (F := Ideal) (φ := .bf16) x = -x := rfl

/-- The code's number as a chain of selections on its bits. -/
theorem sel4_raw (c : BitVec 32) :
    Scalar.select (IntOp.cmpi .ne (IntOp.andi c 8#32) 0#32) (FloatOps.hostNegf (F := Ideal) (φ := .bf16) (Scalar.select (IntOp.cmpi .ne (IntOp.andi c 4#32) 0#32) (Scalar.select (IntOp.cmpi .ne (IntOp.andi c 2#32) 0#32) (Scalar.select (IntOp.cmpi .ne (IntOp.andi c 1#32) 0#32) (FloatOps.ofBits (F := Ideal) .bf16 16576#16) (FloatOps.ofBits (F := Ideal) .bf16 16512#16)) (Scalar.select (IntOp.cmpi .ne (IntOp.andi c 1#32) 0#32) (FloatOps.ofBits (F := Ideal) .bf16 16448#16) (FloatOps.ofBits (F := Ideal) .bf16 16384#16))) (Scalar.select (IntOp.cmpi .ne (IntOp.andi c 2#32) 0#32) (Scalar.select (IntOp.cmpi .ne (IntOp.andi c 1#32) 0#32) (FloatOps.ofBits (F := Ideal) .bf16 16320#16) (FloatOps.ofBits (F := Ideal) .bf16 16256#16)) (Scalar.select (IntOp.cmpi .ne (IntOp.andi c 1#32) 0#32) (FloatOps.ofBits (F := Ideal) .bf16 16128#16) (FloatOps.ofBits (F := Ideal) .bf16 0#16))))) (Scalar.select (IntOp.cmpi .ne (IntOp.andi c 4#32) 0#32) (Scalar.select (IntOp.cmpi .ne (IntOp.andi c 2#32) 0#32) (Scalar.select (IntOp.cmpi .ne (IntOp.andi c 1#32) 0#32) (FloatOps.ofBits (F := Ideal) .bf16 16576#16) (FloatOps.ofBits (F := Ideal) .bf16 16512#16)) (Scalar.select (IntOp.cmpi .ne (IntOp.andi c 1#32) 0#32) (FloatOps.ofBits (F := Ideal) .bf16 16448#16) (FloatOps.ofBits (F := Ideal) .bf16 16384#16))) (Scalar.select (IntOp.cmpi .ne (IntOp.andi c 2#32) 0#32) (Scalar.select (IntOp.cmpi .ne (IntOp.andi c 1#32) 0#32) (FloatOps.ofBits (F := Ideal) .bf16 16320#16) (FloatOps.ofBits (F := Ideal) .bf16 16256#16)) (Scalar.select (IntOp.cmpi .ne (IntOp.andi c 1#32) 0#32) (FloatOps.ofBits (F := Ideal) .bf16 16128#16) (FloatOps.ofBits (F := Ideal) .bf16 0#16)))) = sel4 c := by
  simp only [selNe, ofB, negB, sel4]

/-- The gate codes' numbers. -/
theorem gateSel (x3 : IVec S4x1792x3072 8) (e : Fin 4) (n : Fin 1792) (k : Fin 3072) :
    val_main_v49 (F := Ideal) x3 (ix3 e n k) = sel4 (val_main_v4 (F := Ideal) x3 (ix3 e n k)) := by
  simp only [val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_c_1_apply, val_main_c_2_apply, val_main_c_3_apply, val_main_c_4_apply, val_main_c_5_apply, val_main_c_6_apply, val_main_c_7_apply, val_main_c_8_apply, val_main_cst_9_apply, val_main_cst_10_apply, val_main_cst_11_apply, val_main_cst_12_apply, val_main_cst_13_apply, val_main_cst_14_apply, val_main_cst_15_apply, val_main_cst_16_apply]
  generalize val_main_v4 (F := Ideal) x3 (ix3 e n k) = c
  exact sel4_raw c

/-- The up codes' numbers. -/
theorem upSel (x3 : IVec S4x1792x3072 8) (e : Fin 4) (n : Fin 1792) (k : Fin 3072) :
    val_main_v97 (F := Ideal) x3 (ix3 e n k) = sel4 (val_main_v52 (F := Ideal) x3 (ix3 e n k)) := by
  simp only [val_main_v97_apply, val_main_v96_apply, val_main_v95_apply, val_main_v94_apply, val_main_v93_apply, val_main_v92_apply, val_main_v91_apply, val_main_v90_apply, val_main_v89_apply, val_main_v88_apply, val_main_v87_apply, val_main_v86_apply, val_main_v85_apply, val_main_v84_apply, val_main_v83_apply, val_main_v82_apply, val_main_v81_apply, val_main_v80_apply, val_main_v79_apply, val_main_v78_apply, val_main_v77_apply, val_main_v76_apply, val_main_v75_apply, val_main_v74_apply, val_main_v73_apply, val_main_v72_apply, val_main_v71_apply, val_main_v70_apply, val_main_v69_apply, val_main_v68_apply, val_main_v67_apply, val_main_v66_apply, val_main_v65_apply, val_main_c_20_apply, val_main_c_21_apply, val_main_c_22_apply, val_main_c_23_apply, val_main_c_24_apply, val_main_c_25_apply, val_main_c_26_apply, val_main_c_27_apply, val_main_cst_28_apply, val_main_cst_29_apply, val_main_cst_30_apply, val_main_cst_31_apply, val_main_cst_32_apply, val_main_cst_33_apply, val_main_cst_34_apply, val_main_cst_35_apply]
  generalize val_main_v52 (F := Ideal) x3 (ix3 e n k) = c
  exact sel4_raw c

/-- The down codes' numbers. -/
theorem downSel (x6 : IVec S4x1536x1792 8) (e : Fin 4) (d : Fin 3072) (n : Fin 1792) :
    val_main_v181 (F := Ideal) x6 (ix3 e d n) = sel4 (val_main_v138 (F := Ideal) x6 (ix3 e d n)) := by
  rw [val_main_v181_apply, val_main_v180_apply, val_main_v179_apply, val_main_v178_apply, val_main_v177_apply, val_main_v176_apply, val_main_v175_apply, val_main_v174_apply, val_main_v173_apply, val_main_v172_apply, val_main_v171_apply, val_main_v170_apply, val_main_v169_apply, val_main_v168_apply, val_main_v167_apply, val_main_v166_apply, val_main_v165_apply, val_main_v164_apply, val_main_v163_apply, val_main_v162_apply, val_main_v161_apply, val_main_v160_apply, val_main_v159_apply, val_main_v158_apply, val_main_v157_apply, val_main_v156_apply, val_main_v155_apply, val_main_v154_apply, val_main_v153_apply, val_main_v152_apply, val_main_v151_apply, val_main_v150_apply, val_main_v149_apply, val_main_c_47_apply, val_main_c_48_apply, val_main_c_49_apply, val_main_c_50_apply, val_main_c_51_apply, val_main_c_52_apply, val_main_c_53_apply, val_main_c_54_apply, val_main_cst_55_apply, val_main_cst_56_apply, val_main_cst_57_apply, val_main_cst_58_apply, val_main_cst_59_apply, val_main_cst_60_apply, val_main_cst_61_apply, val_main_cst_62_apply]
  generalize val_main_v138 (F := Ideal) x6 (ix3 e d n) = c
  exact sel4_raw c

/-- The gate weights' scales. -/
theorem gateScale (x4 : IVec S4x3584x96 8) (e : Fin 4) (n : Fin 1792) (k : Fin 3072) (r : Fin 3584) (hr : r.val = 2 * n.val) (q : Fin 96) (hq : q.val = k.val / 32) :
    val_main_v16 (F := Ideal) x4 (ix3 e n k) = pw (x4 (ix3 e r q)) := by
  pointwise [val_main_v16, val_main_v15, val_main_v14, val_main_v13, val_main_v12, val_main_v11, val_main_v10, val_main_v9, val_main_v8, val_main_v7, val_main_v6, val_main_v5, val_main_v1, val_main_cst, val_main_cst_0]
  rw [sitof]
  refine congrArg (fun i => pw (x4 i)) (congr (congrArg (ix3 e) (Fin.ext ?_)) (Fin.ext ?_)) <;> simp only [] <;> omega

/-- The up weights' scales. -/
theorem upScale (x4 : IVec S4x3584x96 8) (e : Fin 4) (n : Fin 1792) (k : Fin 3072) (r : Fin 3584) (hr : r.val = 2 * n.val + 1) (q : Fin 96) (hq : q.val = k.val / 32) :
    val_main_v64 (F := Ideal) x4 (ix3 e n k) = pw (x4 (ix3 e r q)) := by
  pointwise [val_main_v64, val_main_v63, val_main_v62, val_main_v61, val_main_v60, val_main_v59, val_main_v58, val_main_v57, val_main_v56, val_main_v55, val_main_v54, val_main_v53, val_main_v1, val_main_cst_18, val_main_cst_19]
  rw [sitof]
  refine congrArg (fun i => pw (x4 i)) (congr (congrArg (ix3 e) (Fin.ext ?_)) (Fin.ext ?_)) <;> simp only [] <;> omega

/-- The down weights' scales. -/
theorem downScale (x7 : IVec S4x3072x56 8) (e : Fin 4) (d : Fin 3072) (n : Fin 1792) (q : Fin 56) (hq : q.val = n.val / 32) :
    val_main_v148 (F := Ideal) x7 (ix3 e d n) = pw (x7 (ix3 e d q)) := by
  pointwise [val_main_v148, val_main_v147, val_main_v146, val_main_v145, val_main_v144, val_main_v143, val_main_v142, val_main_v141, val_main_v140, val_main_v139, val_main_cst_45, val_main_cst_46]
  rw [sitof]
  exact congrArg (fun i => pw (x7 i)) (congrArg (ix3 e d) (Fin.ext hq.symm))

/-- The down codes, in the order of the rows. -/
theorem downInt (x6 : IVec S4x1536x1792 8) (e : Fin 4) (d : Fin 3072) (n : Fin 1792) (a : Fin 1536) (ha : a.val = d.val / 2) :
    val_main_v138 (F := Ideal) x6 (ix3 e d n) = if d.val % 2 = 0 then (x6 (ix3 e a n)).setWidth 32 &&& 15#32 else ((x6 (ix3 e a n)).setWidth 32).sshiftRight 4 := by
  pointwise [val_main_v138, val_main_v137, val_main_v136, val_main_v135, val_main_v134, val_main_v133, val_main_v132, val_main_v131, val_main_v130, val_main_c_43, val_main_c_44]
  have h : (⟨d.val / 2, by omega⟩ : Fin 1536) = a := Fin.ext ha.symm
  by_cases h2 : d.val % 2 = 0
  · rw [dif_pos (by omega), if_pos h2, h]; rfl
  · rw [dif_neg (by omega), if_neg h2, h]; rfl

/-- A gate weight: its code's number times its block's power of two. -/
theorem gateW (x3 : IVec S4x1792x3072 8) (x4 : IVec S4x3584x96 8) (e : Fin 4) (n : Fin 1792) (k : Fin 3072) (r : Fin 3584) (hr : r.val = 2 * n.val) (q : Fin 96) (hq : q.val = k.val / 32) :
    val_main_v50 (F := Ideal) x3 x4 (ix3 e n k) = num4 (lowB (x3 (ix3 e n k))) * pw (x4 (ix3 e r q)) := by
  rw [val_main_v50_apply, gateSel, gateScale x4 e n k r hr q hq, num4_low]; rfl

/-- An up weight. -/
theorem upW (x3 : IVec S4x1792x3072 8) (x4 : IVec S4x3584x96 8) (e : Fin 4) (n : Fin 1792) (k : Fin 3072) (r : Fin 3584) (hr : r.val = 2 * n.val + 1) (q : Fin 96) (hq : q.val = k.val / 32) :
    val_main_v98 (F := Ideal) x3 x4 (ix3 e n k) = num4 (highB (x3 (ix3 e n k))) * pw (x4 (ix3 e r q)) := by
  rw [val_main_v98_apply, upSel, upScale x4 e n k r hr q hq, num4_high]; rfl

/-- A down weight. -/
theorem downW (x6 : IVec S4x1536x1792 8) (x7 : IVec S4x3072x56 8) (e : Fin 4) (d : Fin 3072) (n : Fin 1792) (a : Fin 1536) (ha : a.val = d.val / 2) (q : Fin 56) (hq : q.val = n.val / 32) :
    val_main_v182 (F := Ideal) x6 x7 (ix3 e d n) = num4 (if d.val % 2 = 0 then lowB (x6 (ix3 e a n)) else highB (x6 (ix3 e a n))) * pw (x7 (ix3 e d q)) := by
  rw [val_main_v182_apply, downSel, downScale x7 e d n q hq, downInt x6 e d n a ha]
  by_cases h2 : d.val % 2 = 0
  · rw [if_pos h2, if_pos h2, num4_low]; rfl
  · rw [if_neg h2, if_neg h2, num4_high]; rfl

end Cert.ReferenceIdeal.Hand

end
-- ==== Proof.VaRefY.lean ====
module

public import proofs.«01_k».proof.Proof.VaRefW
public import proofs.«01_k».proof.Proof.VaSpec

/-! The reference's result, an element at a time. -/

@[expose] public section

set_option maxRecDepth 16384
set_option maxHeartbeats 4000000

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic
open Cert.Spec
open scoped BigOperators

/-- The gate products before the bounds. -/
theorem gateY (x0 : FVec Ideal S8x1536x3072 .bf16) (x3 : IVec S4x1792x3072 8) (x4 : IVec S4x3584x96 8) (x5 : FVec Ideal S4x3584 .bf16)
    (t : Fin 12288) (e : Fin 4) (n : Fin 1792) (r : Fin 3584) (hr : r.val = 2 * n.val) :
    val_main_v106 (F := Ideal) x0 x3 x4 x5 (ix3 t e n)
      = (∑ k : Fin 3072, val_main_v0 (F := Ideal) x0 (ix2 t k) * val_main_v50 (F := Ideal) x3 x4 (ix3 e n k)) + (x5 (ix2 e r) : EReal) := by
  have hb : val_main_v105 (F := Ideal) x5 (ix3 t e n) = (x5 (ix2 e r) : EReal) := by
    pointwise [val_main_v105, val_main_v104, val_main_v103, val_main_v102, val_main_v101, val_main_v99]
    exact congrArg x5 (congrArg (ix2 e) (Fin.ext (by simp only []; omega)))
  have hd := val_main_v100_apply x0 x3 x4 (ix3 t e n)
  rw [val_main_v106_apply, hb, hd]
  refine congrArg (fun z : EReal => z + (x5 (ix2 e r) : EReal)) (Finset.sum_congr rfl fun k _ => ?_)
  have h1 : lidx_main_v100 (ix3 t e n) k = ix2 t k := by funext a; fin_cases a <;> rfl
  have h2 : ridx_main_v100 (ix3 t e n) k = ix3 e n k := by funext a; fin_cases a <;> rfl
  rw [h1, h2]

/-- The up products before the bounds. -/
theorem upY (x0 : FVec Ideal S8x1536x3072 .bf16) (x3 : IVec S4x1792x3072 8) (x4 : IVec S4x3584x96 8) (x5 : FVec Ideal S4x3584 .bf16)
    (t : Fin 12288) (e : Fin 4) (n : Fin 1792) (r : Fin 3584) (hr : r.val = 2 * n.val + 1) :
    val_main_v113 (F := Ideal) x0 x3 x4 x5 (ix3 t e n)
      = (∑ k : Fin 3072, val_main_v0 (F := Ideal) x0 (ix2 t k) * val_main_v98 (F := Ideal) x3 x4 (ix3 e n k)) + (x5 (ix2 e r) : EReal) := by
  have hb : val_main_v112 (F := Ideal) x5 (ix3 t e n) = (x5 (ix2 e r) : EReal) := by
    pointwise [val_main_v112, val_main_v111, val_main_v110, val_main_v109, val_main_v108, val_main_v99]
    exact congrArg x5 (congrArg (ix2 e) (Fin.ext (by simp only []; omega)))
  have hd := val_main_v107_apply x0 x3 x4 (ix3 t e n)
  rw [val_main_v113_apply, hb, hd]
  refine congrArg (fun z : EReal => z + (x5 (ix2 e r) : EReal)) (Finset.sum_congr rfl fun k _ => ?_)
  have h1 : lidx_main_v107 (ix3 t e n) k = ix2 t k := by funext a; fin_cases a <;> rfl
  have h2 : ridx_main_v107 (ix3 t e n) k = ix3 e n k := by funext a; fin_cases a <;> rfl
  rw [h1, h2]

/-- The hidden activations. -/
theorem hidY (x0 : FVec Ideal S8x1536x3072 .bf16) (x3 : IVec S4x1792x3072 8) (x4 : IVec S4x3584x96 8) (x5 : FVec Ideal S4x3584 .bf16)
    (t : Fin 12288) (e : Fin 4) (n : Fin 1792) :
    val_main_v129 (F := Ideal) x0 x3 x4 x5 (ix3 t e n) = act (val_main_v106 (F := Ideal) x0 x3 x4 x5 (ix3 t e n)) (val_main_v113 (F := Ideal) x0 x3 x4 x5 (ix3 t e n)) := by
  rw [val_main_v129_apply, val_main_v128_apply, val_main_v119_apply, val_main_v118_apply, val_main_v127_apply, val_main_v125_apply, val_main_v123_apply, val_main_v122_apply, val_main_v121_apply, val_main_v115_apply,
    val_main_v116_apply, val_main_call0_v2_apply, val_main_call0_v1_apply, val_main_call0_v0_apply, val_main_call0_v4_apply, val_main_call0_v3_apply, val_main_v117_apply, val_main_v114_apply, val_main_v126_apply, val_main_v124_apply, val_main_v120_apply, val_main_cst_36_apply, val_main_cst_37_apply, val_main_cst_38_apply, val_main_cst_39_apply, val_main_cst_40_apply, val_main_cst_41_apply, val_main_cst_42_apply]
  generalize val_main_v106 (F := Ideal) x0 x3 x4 x5 (ix3 t e n) = g
  generalize val_main_v113 (F := Ideal) x0 x3 x4 x5 (ix3 t e n) = u
  have hb : ∀ b, FloatOps.ofBits (F := Ideal) .f32 b = Ideal.ofBits .f32 b := fun _ => rfl
  simp only [hb, Ideal.ofBits_one_f32, act, Ideal.logistic]
  rfl

/-- An expert's output of a token. -/
theorem outY (x0 : FVec Ideal S8x1536x3072 .bf16) (x3 : IVec S4x1792x3072 8) (x4 : IVec S4x3584x96 8) (x5 : FVec Ideal S4x3584 .bf16)
    (x6 : IVec S4x1536x1792 8) (x7 : IVec S4x3072x56 8) (x8 : FVec Ideal S4x3072 .bf16) (t : Fin 12288) (e : Fin 4) (d : Fin 3072) :
    val_main_v187 (F := Ideal) x0 x3 x4 x5 x6 x7 x8 (ix3 e t d)
      = (∑ n : Fin 1792, val_main_v129 (F := Ideal) x0 x3 x4 x5 (ix3 t e n) * val_main_v182 (F := Ideal) x6 x7 (ix3 e d n)) + (x8 (ix2 e d) : EReal) := by
  have hb : val_main_v186 (F := Ideal) x8 (ix3 e t d) = (x8 (ix2 e d) : EReal) := by
    pointwise [val_main_v186, val_main_v185, val_main_v184]
  have hd := val_main_v183_apply x0 x3 x4 x5 x6 x7 (ix3 e t d)
  rw [val_main_v187_apply, hb, hd]
  refine congrArg (fun z : EReal => z + (x8 (ix2 e d) : EReal)) (Finset.sum_congr rfl fun n _ => ?_)
  have h1 : lidx_main_v183 (ix3 e t d) n = ix3 t e n := by funext a; fin_cases a <;> rfl
  have h2 : ridx_main_v183 (ix3 e t d) n = ix3 e d n := by funext a; fin_cases a <;> rfl
  rw [h1, h2]

/-- An expert's output of a token, from the arguments. -/
theorem outYRow (x0 : FVec Ideal S8x1536x3072 .bf16) (x3 : IVec S4x1792x3072 8) (x4 : IVec S4x3584x96 8) (x5 : FVec Ideal S4x3584 .bf16)
    (x6 : IVec S4x1536x1792 8) (x7 : IVec S4x3072x56 8) (x8 : FVec Ideal S4x3072 .bf16) (t : Fin 12288) (e : Fin 4) (d : Fin 3072) :
    val_main_v187 (F := Ideal) x0 x3 x4 x5 x6 x7 x8 (ix3 e t d)
      = outRow (fun k => val_main_v0 (F := Ideal) x0 (ix2 t k))
          (fun n k => val_main_v50 (F := Ideal) x3 x4 (ix3 e n k)) (fun n k => val_main_v98 (F := Ideal) x3 x4 (ix3 e n k))
          (fun n => x5 (ix2 e ⟨2 * n.val, by omega⟩)) (fun n => x5 (ix2 e ⟨2 * n.val + 1, by omega⟩))
          (fun d n => val_main_v182 (F := Ideal) x6 x7 (ix3 e d n)) (fun d => x8 (ix2 e d)) d := by
  rw [outY]
  refine congrArg (fun z : EReal => z + (x8 (ix2 e d) : EReal)) (Finset.sum_congr rfl fun n _ => congrArg (fun z : EReal => z * val_main_v182 (F := Ideal) x6 x7 (ix3 e d n)) ?_)
  rw [hidY, gateY x0 x3 x4 x5 t e n ⟨2 * n.val, by omega⟩ rfl, upY x0 x3 x4 x5 t e n ⟨2 * n.val + 1, by omega⟩ rfl]
  rfl

/-- The selection over the experts takes the token's own. -/
theorem pick (Y : Fin 4 → EReal) (i : BitVec 32) (e : Fin 4) (h : i = BitVec.ofNat 32 e.val) :
    Scalar.select (IntOp.cmpi .eq i 0#32) (Y 0) (Scalar.select (IntOp.cmpi .eq i 1#32) (Y 1) (Scalar.select (IntOp.cmpi .eq i 2#32) (Y 2) (Y 3))) = Y e := by
  subst h
  fin_cases e <;> rfl

/-- The result: a token's two experts' outputs, weighted and added. -/
theorem outR (x0 : FVec Ideal S8x1536x3072 .bf16) (x1 : IVec S8x1536x2 32) (x2 : FVec Ideal S8x1536x2 .f32) (x3 : IVec S4x1792x3072 8) (x4 : IVec S4x3584x96 8) (x5 : FVec Ideal S4x3584 .bf16)
    (x6 : IVec S4x1536x1792 8) (x7 : IVec S4x3072x56 8) (x8 : FVec Ideal S4x3072 .bf16) (b : Fin 8) (s : Fin 1536) (d : Fin 3072) (t : Fin 12288) (ht : t.val = b.val * 1536 + s.val)
    (e0 e1 : Fin 4) (h0 : x1 (ix3 b s 0) = BitVec.ofNat 32 e0.val) (h1 : x1 (ix3 b s 1) = BitVec.ofNat 32 e1.val) :
    val_main_v236 (F := Ideal) x0 x1 x2 x3 x4 x5 x6 x7 x8 (ix3 b s d)
      = (val_main_v187 (F := Ideal) x0 x3 x4 x5 x6 x7 x8 (ix3 e0 t d) * (x2 (ix3 b s 0) : EReal) + val_main_v187 (F := Ideal) x0 x3 x4 x5 x6 x7 x8 (ix3 e1 t d) * (x2 (ix3 b s 1) : EReal) : EReal) := by
  have hi0 : val_main_v191 (F := Ideal) x1 (ix2 t d) = x1 (ix3 b s 0) := by
    pointwise [val_main_v191, val_main_v190, val_main_v188]
    refine congrArg x1 (congr (congr (congrArg ix3 (Fin.ext ?_)) (Fin.ext ?_)) rfl) <;> simp only [] <;> omega
  have hi1 : val_main_v213 (F := Ideal) x1 (ix2 t d) = x1 (ix3 b s 1) := by
    pointwise [val_main_v213, val_main_v212, val_main_v188]
    refine congrArg x1 (congr (congr (congrArg ix3 (Fin.ext ?_)) (Fin.ext ?_)) rfl) <;> simp only [] <;> omega
  have hw0 : val_main_v210 (F := Ideal) x2 (ix2 t d) = x2 (ix3 b s 0) := by
    pointwise [val_main_v210, val_main_v209, val_main_v189]
    refine congrArg x2 (congr (congr (congrArg ix3 (Fin.ext ?_)) (Fin.ext ?_)) rfl) <;> simp only [] <;> omega
  have hw1 : val_main_v232 (F := Ideal) x2 (ix2 t d) = x2 (ix3 b s 1) := by
    pointwise [val_main_v232, val_main_v231, val_main_v189]
    refine congrArg x2 (congr (congr (congrArg ix3 (Fin.ext ?_)) (Fin.ext ?_)) rfl) <;> simp only [] <;> omega
  have hi : idx_main_v235 (ix3 b s d) = ix2 t d := by
    funext a
    refine Fin.ext ?_
    fin_cases a
    · show ((b.val * 1536 + s.val) * 3072 + d.val) / 3072 = t.val
      omega
    · show ((b.val * 1536 + s.val) * 3072 + d.val) % 3072 = d.val
      omega
  have hs0 : val_main_v208 (F := Ideal) x0 x1 x3 x4 x5 x6 x7 x8 (ix2 t d) = val_main_v187 (F := Ideal) x0 x3 x4 x5 x6 x7 x8 (ix3 e0 t d) := by
    simp only [val_main_v208, val_main_v207, val_main_v206, val_main_v205, val_main_v204, val_main_v203, val_main_v202, val_main_v201, val_main_v200, val_main_v199, val_main_v198, val_main_v197, val_main_v196, val_main_v195, val_main_v194, val_main_v193, val_main_v192, val_main_c_63, val_main_c_64, val_main_c_65]
    generalize val_main_v187 (F := Ideal) x0 x3 x4 x5 x6 x7 x8 = Y at *
    generalize val_main_v191 (F := Ideal) x1 = I at *
    pointwise []
    exact pick (fun e => Y (ix3 e t d)) _ e0 (hi0.trans h0)
  have hs1 : val_main_v230 (F := Ideal) x0 x1 x3 x4 x5 x6 x7 x8 (ix2 t d) = val_main_v187 (F := Ideal) x0 x3 x4 x5 x6 x7 x8 (ix3 e1 t d) := by
    simp only [val_main_v230, val_main_v229, val_main_v228, val_main_v227, val_main_v226, val_main_v225, val_main_v224, val_main_v223, val_main_v222, val_main_v221, val_main_v220, val_main_v219, val_main_v218, val_main_v217, val_main_v216, val_main_v215, val_main_v214, val_main_c_66, val_main_c_67, val_main_c_68]
    generalize val_main_v187 (F := Ideal) x0 x3 x4 x5 x6 x7 x8 = Y at *
    generalize val_main_v213 (F := Ideal) x1 = I at *
    pointwise []
    exact pick (fun e => Y (ix3 e t d)) _ e1 (hi1.trans h1)
  rw [val_main_v236_apply, val_main_v235_apply, hi, val_main_v234_apply, val_main_v233_apply, val_main_v211_apply, hs0, hs1, hw0, hw1]
  rfl

end Cert.ReferenceIdeal.Hand

end
-- ==== Proof.VaEq.lean ====
module

public import proofs.«01_k».proof.Proof.VaKer
public import proofs.«01_k».proof.Proof.VaRefY

/-! The kernel's result is the reference's, when every expert id is below 4 and every scale byte is between 1 and 254. -/

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Cert.Spec

/-- The reference's output of an expert at a token is the expert's output of the token's row. -/
theorem refRow (a0 : FVec Ideal S8x1536x3072 .bf16) (a3 : IVec S4x1792x3072 8) (a4 : IVec S4x3584x96 8) (a5 : FVec Ideal S4x3584 .bf16) (a6 : IVec S4x1536x1792 8)
    (a7 : IVec S4x3072x56 8) (a8 : FVec Ideal S4x3072 .bf16) (h4 : ∀ i, 1 ≤ (a4 i).toNat ∧ (a4 i).toNat ≤ 254) (h7 : ∀ i, 1 ≤ (a7 i).toNat ∧ (a7 i).toNat ≤ 254)
    (t : Fin 12288) (e : Fin 4) (d : Fin 3072) :
    Cert.ReferenceIdeal.Read.val_main_v187 (F := Ideal) a0 a3 a4 a5 a6 a7 a8 (ix3 e t d)
      = expertRow (fun k => shapeCast S12288x3072 a0 shapeCasts_S8x1536x3072_S12288x3072 (ix2 t k)) a3 a4 a5 a6 a7 a8 e d := by
  rw [Cert.ReferenceIdeal.Hand.outYRow]
  unfold expertRow
  refine outRow_congr (fun k => rfl) (fun n k => ?_) (fun n k => ?_) (fun n => rfl) (fun n => rfl) (fun d n => ?_) (fun d => rfl) d
  · rw [Cert.ReferenceIdeal.Hand.gateW a3 a4 e n k ⟨2 * n.val, by omega⟩ rfl ⟨k.val / 32, by omega⟩ rfl, scl_eq _ (h4 _).1 (h4 _).2]
    rfl
  · rw [Cert.ReferenceIdeal.Hand.upW a3 a4 e n k ⟨2 * n.val + 1, by omega⟩ rfl ⟨k.val / 32, by omega⟩ rfl, scl_eq _ (h4 _).1 (h4 _).2]
    rfl
  · rw [Cert.ReferenceIdeal.Hand.downW a6 a7 e d n ⟨d.val / 2, by omega⟩ rfl ⟨n.val / 32, by omega⟩ rfl, scl_eq _ (h7 _).1 (h7 _).2]
    rfl

variable (m : (ℓ : Loc nD τ sig) → Buf (Elt Ideal) ℓ)

/-- The list of choices, at a token's first or second choice, is the token's expert id. -/
theorem ids_apply (c : Dev nD) (b : Fin 8) (s : Fin 1536) (k : Fin 2) (j : Fin 24576) (hj : j.val = 2 * (b.val * 1536 + s.val) + k.val) :
    (V m c main_v0 : IVec S24576 32) (ix1 j) = (m ((c : Thread nD τ).loc main_arg1) : IVec S8x1536x2 32) (ix3 b s k) := by
  rw [V_main_v0]
  pointwise []
  refine congrArg (m ((c : Thread nD τ).loc main_arg1) : IVec S8x1536x2 32) (congr (congr (congrArg ix3 (Fin.ext ?_)) (Fin.ext ?_)) (Fin.ext ?_)) <;> simp only [] <;> omega

/-- The kernel's result is the reference's. -/
theorem result_eq (c : Dev nD) (h1 : ∀ i, ((m ((c : Thread nD τ).loc main_arg1) : IVec S8x1536x2 32) i).toNat < 4)
    (h4 : ∀ i, 1 ≤ ((m ((c : Thread nD τ).loc main_arg4) : IVec S4x3584x96 8) i).toNat ∧ ((m ((c : Thread nD τ).loc main_arg4) : IVec S4x3584x96 8) i).toNat ≤ 254)
    (h7 : ∀ i, 1 ≤ ((m ((c : Thread nD τ).loc main_arg7) : IVec S4x3072x56 8) i).toNat ∧ ((m ((c : Thread nD τ).loc main_arg7) : IVec S4x3072x56 8) i).toNat ≤ 254) :
    (mixH (rowsH (outArr m c) (V m c main_v27)) (m ((c : Thread nD τ).loc main_arg2)) : FVec Ideal S8x1536x3072 .bf16)
      = Cert.ReferenceIdeal.Read.val_main_v236 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) := by
  set g : ℕ → ℕ := fun j => if h : j < 24576 then ((V m c main_v0 : IVec S24576 32) (ix1 ⟨j, h⟩)).toNat else 0 with hgdef
  have hgv : ∀ j (h : j < 24576), g j = ((V m c main_v0 : IVec S24576 32) (ix1 ⟨j, h⟩)).toNat := fun j h => dif_pos h
  have hsplit : ∀ j (h : j < 24576), ∃ (b : Fin 8) (s : Fin 1536) (k : Fin 2), j = 2 * (b.val * 1536 + s.val) + k.val := fun j h =>
    ⟨⟨j / 3072, by omega⟩, ⟨j / 2 % 1536, by omega⟩, ⟨j % 2, by omega⟩, by simp only []; omega⟩
  have ha : ∀ j : Fin 24576, (V m c main_v0 : IVec S24576 32) (ix1 j) = BitVec.ofNat 32 (g j.val) := fun j => by
    rw [hgv j.val j.isLt]
    exact BitVec.eq_of_toNat_eq (by rw [BitVec.toNat_ofNat]; exact (Nat.mod_eq_of_lt (BitVec.isLt _)).symm)
  have hg : ∀ j, j < 24576 → g j < 4 := fun j h => by
    obtain ⟨b, s, k, e⟩ := hsplit j h
    rw [hgv j h, ids_apply m c b s k ⟨j, h⟩ e]
    exact h1 _
  funext i
  obtain ⟨b, s, d, rfl⟩ : ∃ (b : Fin 8) (s : Fin 1536) (d : Fin 3072), i = ix3 b s d :=
    ⟨i 0, i 1, i 2, by funext a; fin_cases a <;> rfl⟩
  have l0 : 2 * (b.val * 1536 + s.val) < 24576 := by omega
  have l1 : 2 * (b.val * 1536 + s.val) + 1 < 24576 := by omega
  have e0 := ids_apply m c b s 0 ⟨_, l0⟩ rfl
  have e1 := ids_apply m c b s 1 ⟨_, l1⟩ rfl
  rw [result_apply m c g ha hg b s d ⟨g _, hg _ l0⟩ ⟨g _, hg _ l1⟩ rfl rfl]
  refine ((Cert.ReferenceIdeal.Hand.outR _ _ _ _ _ _ _ _ _ b s d ⟨b.val * 1536 + s.val, by omega⟩ rfl ⟨g _, hg _ l0⟩ ⟨g _, hg _ l1⟩
    (e0.symm.trans (ha ⟨_, l0⟩)) (e1.symm.trans (ha ⟨_, l1⟩))).trans ?_).symm
  rw [refRow _ _ _ _ _ _ _ h4 h7, refRow _ _ _ _ _ _ _ h4 h7]

end Cert.KernelIdeal.Hand

end
-- ==== Proof.VaRun.lean ====
module

public import proofs.«01_k».proof.Proof.KiFrame
public import proofs.«01_k».proof.Proof.VaEq

/-! The kernel's run, with its result named: the output array's rows, gathered, weighted and added. -/

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic Idealize.SL.Sem

variable (m : (ℓ : Loc nD τ sig) → Buf (Elt Ideal) ℓ) (ρ : Dev nD → PrngReg)

/-- The result buffer after the run's last host operations. -/
theorem result_mid (c : Dev nD) : StableHlo.after (post (F := Ideal)).flatten (Vmid m c) (Proc.devRef .tc main_v99)
    = mixH (rowsH (outArr m c) (V m c main_v27)) (m ((c : Thread nD τ).loc main_arg2)) := by
  rw [post_main_v99, Vmid_main_v77, arr7, Vmid_main_v27, Vmid_arg2]

/-- Every run ends with the result named above, and with the arguments as they were. -/
theorem valueRun : θ_run defs (onTc (τ := τ) (main (F := Ideal))) ⟨m, fun _ => 0, ρ⟩ (fun r => ∀ c : Dev nD,
      r.2.mem ((c.tc : Thread nD τ).loc main_v99) = mixH (rowsH (outArr m c) (V m c main_v27)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h.1 c main_v99 rest_main_v99).trans (result_mid m c), (h.1 c main_arg0 rest_arg0).trans ((post_arg0 _).trans (Vmid_arg0 m c)), (h.1 c main_arg1 rest_arg1).trans ((post_arg1 _).trans (Vmid_arg1 m c)), (h.1 c main_arg2 rest_arg2).trans ((post_arg2 _).trans (Vmid_arg2 m c)), (h.1 c main_arg3 rest_arg3).trans ((post_arg3 _).trans (Vmid_arg3 m c)), (h.1 c main_arg4 rest_arg4).trans ((post_arg4 _).trans (Vmid_arg4 m c)), (h.1 c main_arg5 rest_arg5).trans ((post_arg5 _).trans (Vmid_arg5 m c)), (h.1 c main_arg6 rest_arg6).trans ((post_arg6 _).trans (Vmid_arg6 m c)), (h.1 c main_arg7 rest_arg7).trans ((post_arg7 _).trans (Vmid_arg7 m c)), (h.1 c main_arg8 rest_arg8).trans ((post_arg8 _).trans (Vmid_arg8 m c))⟩) (run_main m ρ)

end Cert.KernelIdeal.Hand

end
-- ==== Proof.lean ====
module

public import proofs.«01_k».proof.Defs
public import proofs.«01_k».proof.Proof.KeFrame
public import proofs.«01_k».proof.Proof.KiFrame
public import proofs.«01_k».proof.Proof.Gen.ReferenceIdeal.Run
public import proofs.«01_k».proof.Proof.Gen.ReferenceIdeal.Read
public import proofs.«01_k».proof.Proof.VaPre
public import proofs.«01_k».proof.Proof.VaRun
public import Idealize.ShloMosaic.Lib.Bf16Pair
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were and ends with every counter at zero: it has no counters. -/
theorem frameR : quiescent_ReferenceIdeal := fun m g _ =>
  (θ_run Cert.ReferenceIdeal.defs _ _).mono (fun r h => ⟨fun c => (h c).2, sem_eq_zero_of_no_sems rfl r.2⟩)
    (Cert.ReferenceIdeal.Value.run m g)

/-- The reference's run, with its result as the reference's function of its arguments. -/
theorem runR (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v236)
        = Cert.ReferenceIdeal.Read.val_main_v236 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) :=
  (θ_run Cert.ReferenceIdeal.defs _ _).mono
    (fun r h c => ⟨(h c).1.trans (Cert.ReferenceIdeal.Read.val_main_v236_eq (StableHlo.launchContents m c)), (h c).2⟩)
    (Cert.ReferenceIdeal.Value.run m g)

/-- From arguments in range that agree, the idealized kernel and the reference end with the same result. -/
theorem value : algebraic_KernelIdeal_ReferenceIdeal_pre_in_range (hPre_in_range := Cert.Pre_in_range.Hand.facts) := fun m g m' g' hP hA =>
  ⟨fun c => Cert.ReferenceIdeal.Read.val_main_v236 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    (θ_run Cert.KernelIdeal.defs _ _).mono (fun r h c => by
      obtain ⟨h1, h4, h7⟩ := @Cert.Pre_in_range.Hand.ranges Cert.Pre_in_range.Hand.facts _ _ _ _ _ _ _ _ _ (hP c)
      exact ⟨(h c).1.trans (Cert.KernelIdeal.Hand.result_eq m c h1 h4 h7), (h c).2⟩) (Cert.KernelIdeal.Hand.valueRun m g),
    (θ_run Cert.ReferenceIdeal.defs _ _).mono (fun r h c => by
      obtain ⟨e0, e1, e2, e3, e4, e5, e6, e7, e8⟩ := hA c
      refine ⟨(h c).1.trans ?_, (h c).2⟩
      rw [e0, e1, e2, e3, e4, e5, e6, e7, e8]) (runR m' g')⟩

/-- The frames, the steps by which the idealization differs from the kernel, and the result. -/
theorem claim : Cert.Claim := ⟨Cert.Kernel.Gen.facts, Cert.KernelIdeal.Gen.facts, Cert.ReferenceIdeal.Gen.facts, Cert.Pre_in_range.Hand.facts,
  fun m g _ => Cert.Kernel.Hand.frame m g, fun m g _ => Cert.KernelIdeal.Hand.frame m g, fun m g _ => Cert.KernelIdeal.Hand.frame m g,
  frameR, fun m g _ => frameR m g trivial,
  ⟨IdealRules.bf16_pair.packStatement _, IdealRules.bf16_pair.statement _ _⟩, value⟩

end Cert.Proof

end
